-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v75_0)) (v2 : (c : Dev Cert.KernelIdeal.nD) → Buf (Elt Ideal) ((c.tc : Thread Cert.KernelIdeal.nD Cert.KernelIdeal.τ).loc Cert.KernelIdeal.main_v75_1)) (v3 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v75_0) = v1 c
          ∧ r.2.mem ((c.tc : Thread Cert.KernelIdeal.nD Cert.KernelIdeal.τ).loc Cert.KernelIdeal.main_v75_1) = v2 c
          ∧ r.2.mem ((c.tc : Thread Cert.KernelIdeal.nD Cert.KernelIdeal.τ).loc Cert.KernelIdeal.main_v82) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_v81) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v28) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v73) = v0 c
          ∧ r.2.mem ((c.tc : Thread Cert.Reference10Ideal.nD Cert.Reference10Ideal.τ).loc Cert.Reference10Ideal.main_v75) = v1 c
          ∧ r.2.mem ((c.tc : Thread Cert.Reference10Ideal.nD Cert.Reference10Ideal.τ).loc Cert.Reference10Ideal.main_v72) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x512 : Shape := ⟨2, ![16384, 512]⟩
abbrev S8x16384 : Shape := ⟨2, ![8, 16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn_part1 {F : FTy → Type} [FloatOps F] (main_arg4 : FVec F S16384x512 .f32) (main_v13 : IVec S_ 1) (main_v16 : IVec S8x16384 1) : IVec S_ 1 :=
  let main_c_5 : IVec S_ 1 := constantI S_ 1 1#1
  let main_v17 : IVec S_ 1 := (fun x v => Host.reduce IntOp.andi x v reducesTo_S8x16384_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S16384x512 .f32) (main_arg3 : FVec F S8x16384 .f32) (main_arg4 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S8x16384 .f32 := Host.absf main_arg3
  let main_cst_4 : FVec F S_ .f32 := constant S_ .f32 0x7F800000#32
  let main_v15 : FVec F S8x16384 .f32 := broadcastInDim S8x16384 ![] bcast_S_S8x16384 main_cst_4
  let main_v16 : IVec S8x16384 1 := cmpf .olt main_v14 main_v15
  fn_part1 (F := F) main_arg4 main_v13 main_v16
-- ==== Pre_finite3.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S16384x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1x1024 .f32) (main_arg2 : FVec F S1x1024 .f32) (main_arg3 : FVec F S1024x5632 .f32) (main_arg4 : FVec F S2816x1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_v13 main_v16
-- ==== Kernel.lean ====
abbrev S16384x512 : Shape := ⟨2, ![16384, 512]⟩
abbrev S8x16384 : Shape := ⟨2, ![8, 16384]⟩
abbrev S16384x8x64 : Shape := ⟨3, ![16384, 8, 64]⟩
abbrev S8x16384x64 : Shape := ⟨3, ![8, 16384, 64]⟩
abbrev S16384 : Shape := ⟨1, ![16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384x1 : Shape := ⟨2, ![16384, 1]⟩
abbrev S1x16384 : Shape := ⟨2, ![1, 16384]⟩
abbrev S16384x16384 : Shape := ⟨2, ![16384, 16384]⟩
abbrev S8x32x512 : Shape := ⟨3, ![8, 32, 512]⟩
abbrev S8x32x1 : Shape := ⟨3, ![8, 32, 1]⟩
abbrev S8x32 : Shape := ⟨2, ![8, 32]⟩
abbrev S8x16384x3 : Shape := ⟨3, ![8, 16384, 3]⟩
abbrev S8x16384x58 : Shape := ⟨3, ![8, 16384, 58]⟩
abbrev S8x16384x128 : Shape := ⟨3, ![8, 16384, 128]⟩
abbrev S8x128x16384 : Shape := ⟨3, ![8, 128, 16384]⟩
abbrev S8x80x16384 : Shape := ⟨3, ![8, 80, 16384]⟩
abbrev S2x512x128 : Shape := ⟨3, ![2, 512, 128]⟩
abbrev S2x80x512 : Shape := ⟨3, ![2, 80, 512]⟩
abbrev S2x1x16384 : Shape := ⟨3, ![2, 1, 16384]⟩
abbrev S2x128x16384 : Shape := ⟨3, ![2, 128, 16384]⟩
abbrev S512x128 : Shape := ⟨2, ![512, 128]⟩
abbrev S2x1x512 : Shape := ⟨3, ![2, 1, 512]⟩
abbrev S2x80x16384 : Shape := ⟨3, ![2, 80, 16384]⟩
abbrev S512x512 : Shape := ⟨2, ![512, 512]⟩
abbrev S80x512 : Shape := ⟨2, ![80, 512]⟩
abbrev S64x512 : Shape := ⟨2, ![64, 512]⟩
abbrev S1x512x128 : Shape := ⟨3, ![1, 512, 128]⟩
abbrev S1x128x512 : Shape := ⟨3, ![1, 128, 512]⟩
abbrev S128x512 : Shape := ⟨2, ![128, 512]⟩
abbrev S1x1 : Shape := ⟨2, ![1, 1]⟩
abbrev S1x1x512 : Shape := ⟨3, ![1, 1, 512]⟩
abbrev S1x512 : Shape := ⟨2, ![1, 512]⟩
abbrev S1x64x512 : Shape := ⟨3, ![1, 64, 512]⟩
abbrev S1x80x512 : Shape := ⟨3, ![1, 80, 512]⟩
abbrev S8x64x16384 : Shape := ⟨3, ![8, 64, 16384]⟩

abbrev nBuf : Space → Nat
  | .hbm => 105
  | .vmem => 21
  | .smem => 1
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x16384, .f32⟩
  | .hbm, ⟨4, _⟩ => ⟨S16384x512, .f32⟩
  | .hbm, ⟨5, _⟩ => ⟨S16384x8x64, .f32⟩
  | .hbm, ⟨6, _⟩ => ⟨S8x16384x64, .f32⟩
  | .hbm, ⟨7, _⟩ => ⟨S16384x8x64, .f32⟩
  | .hbm, ⟨8, _⟩ => ⟨S8x16384x64, .f32⟩
  | .hbm, ⟨9, _⟩ => ⟨S16384x8x64, .f32⟩
  | .hbm, ⟨10, _⟩ => ⟨S8x16384x64, .f32⟩
  | .hbm, ⟨11, _⟩ => ⟨S16384x8x64, .f32⟩
  | .hbm, ⟨12, _⟩ => ⟨S8x16384x64, .f32⟩
  | .hbm, ⟨13, _⟩ => ⟨S16384, .i32⟩
  | .hbm, ⟨14, _⟩ => ⟨S8x16384x16384, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x1x16384, .f32⟩
  | .hbm, ⟨22, _⟩ => ⟨S8x16384x16384, .f32⟩
  | .hbm, ⟨23, _⟩ => ⟨S8x16384x16384, .f32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S8x16384x16384, .i1⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384, .f32⟩
  | .hbm, ⟨42, _⟩ => ⟨S8x16384x1, .f32⟩
  | .hbm, ⟨43, _⟩ => ⟨S8x16384x1, .f32⟩
  | .hbm, ⟨44, _⟩ => ⟨S8x16384x1, .f32⟩
  | .hbm, ⟨45, _⟩ => ⟨S8x16384x16384, .f32⟩
  | .hbm, ⟨46, _⟩ => ⟨S8x16384x16384, .f32⟩
  | .hbm, ⟨47, _⟩ => ⟨S8x16384x64, .f32⟩
  | .hbm, ⟨48, _⟩ => ⟨S8x16384x64, .f32⟩
  | .hbm, ⟨49, _⟩ => ⟨S_, .f32⟩
  | .hbm, ⟨50, _⟩ => ⟨S8x16384, .f32⟩
  | .hbm, ⟨51, _⟩ => ⟨S8x1x16384, .f32⟩
  | .hbm, ⟨52, _⟩ => ⟨S8x1x16384, .f32⟩
  | .hbm, ⟨53, _⟩ => ⟨S8x32x512, .f32⟩
  | .hbm, ⟨54, _⟩ => ⟨S8x32x1, .f32⟩
  | .hbm, ⟨55, _⟩ => ⟨S8x32, .f32⟩
  | .hbm, ⟨56, _⟩ => ⟨S8x32x512, .f32⟩
  | .hbm, ⟨57, _⟩ => ⟨S8x32x1, .f32⟩
  | .hbm, ⟨58, _⟩ => ⟨S8x32x512, .f32⟩
  | .hbm, ⟨59, _⟩ => ⟨S8x32x512, .f32⟩
  | .hbm, ⟨60, _⟩ => ⟨S8x16384x1, .f32⟩
  | .hbm, ⟨61, _⟩ => ⟨S8x16384x1, .bf16⟩
  | .hbm, ⟨62, _⟩ => ⟨S8x16384x1, .f32⟩
  | .hbm, ⟨63, _⟩ => ⟨S8x16384x1, .f32⟩
  | .hbm, ⟨64, _⟩ => ⟨S8x16384x1, .bf16⟩
  | .hbm, ⟨65, _⟩ => ⟨S8x16384x1, .f32⟩
  | .hbm, ⟨66, _⟩ => ⟨S8x16384x1, .f32⟩
  | .hbm, ⟨67, _⟩ => ⟨S8x16384x1, .bf16⟩
  | .hbm, ⟨68, _⟩ => ⟨S_, .bf16⟩
  | .hbm, ⟨69, _⟩ => ⟨S8x16384x3, .bf16⟩
  | .hbm, ⟨70, _⟩ => ⟨S_, .bf16⟩
  | .hbm, ⟨71, _⟩ => ⟨S8x16384x58, .bf16⟩
  | .hbm, ⟨72, _⟩ => ⟨S8x16384x64, .bf16⟩
  | .hbm, ⟨73, _⟩ => ⟨S8x16384x1, .bf16⟩
  | .hbm, ⟨74, _⟩ => ⟨S8x16384x1, .bf16⟩
  | .hbm, ⟨75, _⟩ => ⟨S8x16384x1, .bf16⟩
  | .hbm, ⟨76, _⟩ => ⟨S8x16384x128, .bf16⟩
  | .hbm, ⟨77, _⟩ => ⟨S_, .f32⟩
  | .hbm, ⟨78, _⟩ => ⟨S8x16384x64, .f32⟩
  | .hbm, ⟨79, _⟩ => ⟨S8x16384x64, .f32⟩
  | .hbm, ⟨80, _⟩ => ⟨S8x16384x64, .bf16⟩
  | .hbm, ⟨81, _⟩ => ⟨S8x16384x128, .bf16⟩
  | .hbm, ⟨82, _⟩ => ⟨S_, .bf16⟩
  | .hbm, ⟨83, _⟩ => ⟨S8x16384x64, .bf16⟩
  | .hbm, ⟨84, _⟩ => ⟨S8x16384x64, .bf16⟩
  | .hbm, ⟨85, _⟩ => ⟨S8x16384x128, .bf16⟩
  | .hbm, ⟨86, _⟩ => ⟨S8x16384x64, .bf16⟩
  | .hbm, ⟨87, _⟩ => ⟨S8x16384x128, .bf16⟩
  | .hbm, ⟨88, _⟩ => ⟨S8x128x16384, .bf16⟩
  | .hbm, ⟨89, _⟩ => ⟨S8x80x16384, .bf16⟩
  | .hbm, ⟨90, _⟩ => ⟨S8x128x16384, .bf16⟩
  | .hbm, ⟨91, _⟩ => ⟨S8x128x16384, .bf16⟩
  | .hbm, ⟨92, _⟩ => ⟨S16384x512, .bf16⟩
  | .hbm, ⟨93, _⟩ => ⟨S16384x512, .bf16⟩
  | .hbm, ⟨94, _⟩ => ⟨S8x1x16384, .f32⟩
  | .hbm, ⟨95, _⟩ => ⟨S8x80x16384, .f32⟩
  | .hbm, ⟨96, _⟩ => ⟨S8x1x16384, .f32⟩
  | .hbm, ⟨97, _⟩ => ⟨S8x64x16384, .f32⟩
  | .hbm, ⟨98, _⟩ => ⟨S16384x8x64, .f32⟩
  | .hbm, ⟨99, _⟩ => ⟨S16384x512, .f32⟩
  | .hbm, ⟨100, _⟩ => ⟨S_, .f32⟩
  | .hbm, ⟨101, _⟩ => ⟨S16384x512, .f32⟩
  | .hbm, ⟨102, _⟩ => ⟨S16384x512, .f32⟩
  | .hbm, ⟨103, _⟩ => ⟨S8x1x16384, .f32⟩
  | .hbm, ⟨104, _⟩ => ⟨S8x16384, .f32⟩
  | .local _ .vmem, ⟨0, _⟩ => ⟨S2x512x128, .bf16⟩
  | .local _ .vmem, ⟨1, _⟩ => ⟨S2x512x128, .bf16⟩
  | .local _ .vmem, ⟨2, _⟩ => ⟨S2x80x512, .bf16⟩
  | .local _ .vmem, ⟨3, _⟩ => ⟨S2x80x512, .bf16⟩
  | .local _ .vmem, ⟨4, _⟩ => ⟨S2x512x128, .bf16⟩
  | .local _ .vmem, ⟨5, _⟩ => ⟨S2x512x128, .bf16⟩
  | .local _ .vmem, ⟨6, _⟩ => ⟨S2x1x16384, .f32⟩
  | .local _ .vmem, ⟨7, _⟩ => ⟨S2x1x16384, .f32⟩
  | .local _ .vmem, ⟨8, _⟩ => ⟨S2x1x16384, .f32⟩
  | .local _ .vmem, ⟨9, _⟩ => ⟨S2x1x16384, .f32⟩
  | .local _ .vmem, ⟨10, _⟩ => ⟨S2x128x16384, .bf16⟩
  | .local _ .vmem, ⟨11, _⟩ => ⟨S2x128x16384, .bf16⟩
  | .local _ .vmem, ⟨12, _⟩ => ⟨S2x128x16384, .bf16⟩
  | .local _ .vmem, ⟨13, _⟩ => ⟨S2x128x16384, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S2x1x512, .f32⟩
  | .local _ .vmem, ⟨19, _⟩ => ⟨S2x1x512, .f32⟩
  | .local _ .vmem, ⟨20, _⟩ => ⟨S2x80x16384, .f32⟩
  | .local _ .smem, ⟨0, _⟩ => ⟨S8x32, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75_0 : Ref sig .tc := ⟨.hbm, 92, rfl⟩
abbrev main_v75_1 : Ref sig .tc := ⟨.hbm, 93, rfl⟩
abbrev main_v75_2 : Ref sig .tc := ⟨.hbm, 94, rfl⟩
abbrev main_v75_3 : Ref sig .tc := ⟨.hbm, 95, rfl⟩
abbrev main_v75_4 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_8 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_6 : Index := 0#32
  let c0_7 : Index := 0#32
  let arg1 : BitVec 32 := BitVec.ofNat 32 (i 1).val
  let c512_i32 : BitVec 32 := 512#32
  let v9 : BitVec 32 := Scalar.muli arg1 c512_i32
  let v10 : BitVec 32 := v9
  let v13 : Index := Scalar.indexCast v10
  ![0, 0, v13.toNat]
def k0_off2 (i : grid0.Coords) (c0_i32_16 : BitVec 32) : Fin 2 → Nat :=
  let c2_i32 : BitVec 32 := 2#32
  let arg0 : BitVec 32 := BitVec.ofNat 32 (i 0).val
  let v26 : BitVec 32 := Scalar.muli c2_i32 arg0
  let v27 : BitVec 32 := Scalar.addi v26 c0_i32_16
  let v28 : Index := Scalar.indexCast v27
  let arg1 : BitVec 32 := BitVec.ofNat 32 (i 1).val
  let v29 : Index := Scalar.indexCast arg1
  ![v28.toNat, v29.toNat]
def k0_off3 (i : grid0.Coords) : Fin 3 → Nat :=
  let c0_19 : Index := 0#32
  let c0_20 : Index := 0#32
  let arg1 : BitVec 32 := BitVec.ofNat 32 (i 1).val
  let c512_i32 : BitVec 32 := 512#32
  let v9 : BitVec 32 := Scalar.muli arg1 c512_i32
  let v10 : BitVec 32 := v9
  let v37 : Index := Scalar.indexCast v10
  ![0, 0, v37.toNat]
def k0_off4 (i : grid0.Coords) : Fin 3 → Nat :=
  let c0_23 : Index := 0#32
  let c0_24 : Index := 0#32
  let arg1 : BitVec 32 := BitVec.ofNat 32 (i 1).val
  let c512_i32 : BitVec 32 := 512#32
  let v9 : BitVec 32 := Scalar.muli arg1 c512_i32
  let v10 : BitVec 32 := v9
  let v52 : Index := Scalar.indexCast v10
  ![0, 0, v52.toNat]
def k0_off5 (i : grid0.Coords) : Fin 3 → Nat :=
  let c0_26 : Index := 0#32
  let c0_27 : Index := 0#32
  let arg1 : BitVec 32 := BitVec.ofNat 32 (i 1).val
  let c512_i32 : BitVec 32 := 512#32
  let v9 : BitVec 32 := Scalar.muli arg1 c512_i32
  let v10 : BitVec 32 := v9
  let v58 : Index := Scalar.indexCast v10
  ![0, 0, v58.toNat]
def k0_off6 (i : grid0.Coords) : Fin 3 → Nat :=
  let c0_29 : Index := 0#32
  let c0_30 : Index := 0#32
  let arg1 : BitVec 32 := BitVec.ofNat 32 (i 1).val
  let c512_i32 : BitVec 32 := 512#32
  let v9 : BitVec 32 := Scalar.muli arg1 c512_i32
  let v10 : BitVec 32 := v9
  let v63 : Index := Scalar.indexCast v10
  ![0, 0, v63.toNat]
def k0_off7 (i : grid0.Coords) : Fin 3 → Nat :=
  let c1_39 : Index := 1#32
  let c0_40 : Index := 0#32
  let arg1 : BitVec 32 := BitVec.ofNat 32 (i 1).val
  let c512_i32 : BitVec 32 := 512#32
  let v9 : BitVec 32 := Scalar.muli arg1 c512_i32
  let v10 : BitVec 32 := v9
  let v76 : Index := Scalar.indexCast v10
  ![1, 0, v76.toNat]
def k0_off8 (i : grid0.Coords) : Fin 3 → Nat :=
  let c1_52 : Index := 1#32
  let c0_53 : Index := 0#32
  let arg1 : BitVec 32 := BitVec.ofNat 32 (i 1).val
  let c512_i32 : BitVec 32 := 512#32
  let v9 : BitVec 32 := Scalar.muli arg1 c512_i32
  let v10 : BitVec 32 := v9
  let v100 : Index := Scalar.indexCast v10
  ![1, 0, v100.toNat]
def k0_off9 (i : grid0.Coords) : Fin 3 → Nat :=
  let c1_56 : Index := 1#32
  let c0_57 : Index := 0#32
  let arg1 : BitVec 32 := BitVec.ofNat 32 (i 1).val
  let c512_i32 : BitVec 32 := 512#32
  let v9 : BitVec 32 := Scalar.muli arg1 c512_i32
  let v10 : BitVec 32 := v9
  let v115 : Index := Scalar.indexCast v10
  ![1, 0, v115.toNat]
def k0_off10 (i : grid0.Coords) : Fin 3 → Nat :=
  let c1_59 : Index := 1#32
  let c0_60 : Index := 0#32
  let arg1 : BitVec 32 := BitVec.ofNat 32 (i 1).val
  let c512_i32 : BitVec 32 := 512#32
  let v9 : BitVec 32 := Scalar.muli arg1 c512_i32
  let v10 : BitVec 32 := v9
  let v121 : Index := Scalar.indexCast v10
  ![1, 0, v121.toNat]
def k0_off11 (i : grid0.Coords) : Fin 3 → Nat :=
  let c1_62 : Index := 1#32
  let c0_63 : Index := 0#32
  let arg1 : BitVec 32 := BitVec.ofNat 32 (i 1).val
  let c512_i32 : BitVec 32 := 512#32
  let v9 : BitVec 32 := Scalar.muli arg1 c512_i32
  let v10 : BitVec 32 := v9
  let v126 : Index := Scalar.indexCast v10
  ![1, 0, v126.toNat]
@[reducible] def k0_t1_loop (i : grid0.Coords) : Scf.Loop 32 :=
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_72 : BitVec 32 := 1#32
  ⟨v137, v142, c1_i32_72⟩
def k0_mult2 (i : grid0.Coords) (k0_t1 : Fin (k0_t1_loop i).trips) : BitVec 32 :=
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  v170
def k0_off12 (i : grid0.Coords) (k0_t1 : Fin (k0_t1_loop i).trips) : Fin 3 → Nat :=
  let c0_91 : Index := 0#32
  let c0_92 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v174 : Index := Scalar.indexCast v171
  ![0, 0, v174.toNat]
def k0_off13 (i : grid0.Coords) (k0_t1 : Fin (k0_t1_loop i).trips) (c0_i32_101 : BitVec 32) : Fin 2 → Nat :=
  let c2_i32_100 : BitVec 32 := 2#32
  let arg0 : BitVec 32 := BitVec.ofNat 32 (i 0).val
  let v184 : BitVec 32 := Scalar.muli c2_i32_100 arg0
  let v185 : BitVec 32 := Scalar.addi v184 c0_i32_101
  let v186 : Index := Scalar.indexCast v185
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let v187 : Index := Scalar.indexCast arg16
  ![v186.toNat, v187.toNat]
def k0_off14 (i : grid0.Coords) (c0_i32_103 : BitVec 32) : Fin 2 → Nat :=
  let c2_i32_102 : BitVec 32 := 2#32
  let arg0 : BitVec 32 := BitVec.ofNat 32 (i 0).val
  let v189 : BitVec 32 := Scalar.muli c2_i32_102 arg0
  let v190 : BitVec 32 := Scalar.addi v189 c0_i32_103
  let v191 : Index := Scalar.indexCast v190
  let arg1 : BitVec 32 := BitVec.ofNat 32 (i 1).val
  let v192 : Index := Scalar.indexCast arg1
  ![v191.toNat, v192.toNat]
def k0_off15 (i : grid0.Coords) (k0_t1 : Fin (k0_t1_loop i).trips) : Fin 3 → Nat :=
  let c0_104 : Index := 0#32
  let c0_105 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v195 : Index := Scalar.indexCast v171
  ![0, 0, v195.toNat]
def k0_off16 (i : grid0.Coords) (k0_t1 : Fin (k0_t1_loop i).trips) : Fin 3 → Nat :=
  let c0_108 : Index := 0#32
  let c0_109 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v210 : Index := Scalar.indexCast v171
  ![0, 0, v210.toNat]
def k0_off17 (i : grid0.Coords) (k0_t1 : Fin (k0_t1_loop i).trips) : Fin 3 → Nat :=
  let c0_111 : Index := 0#32
  let c0_112 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v216 : Index := Scalar.indexCast v171
  ![0, 0, v216.toNat]
def k0_off18 (i : grid0.Coords) (k0_t1 : Fin (k0_t1_loop i).trips) : Fin 3 → Nat :=
  let c0_114 : Index := 0#32
  let c0_115 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v221 : Index := Scalar.indexCast v171
  ![0, 0, v221.toNat]
def k0_off19 (i : grid0.Coords) (k0_t1 : Fin (k0_t1_loop i).trips) : Fin 3 → Nat :=
  let c1_125 : Index := 1#32
  let c0_126 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v234 : Index := Scalar.indexCast v171
  ![1, 0, v234.toNat]
def k0_off20 (i : grid0.Coords) (k0_t1 : Fin (k0_t1_loop i).trips) : Fin 3 → Nat :=
  let c1_138 : Index := 1#32
  let c0_139 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v255 : Index := Scalar.indexCast v171
  ![1, 0, v255.toNat]
def k0_off21 (i : grid0.Coords) (k0_t1 : Fin (k0_t1_loop i).trips) : Fin 3 → Nat :=
  let c1_142 : Index := 1#32
  let c0_143 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v270 : Index := Scalar.indexCast v171
  ![1, 0, v270.toNat]
def k0_off22 (i : grid0.Coords) (k0_t1 : Fin (k0_t1_loop i).trips) : Fin 3 → Nat :=
  let c1_145 : Index := 1#32
  let c0_146 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v276 : Index := Scalar.indexCast v171
  ![1, 0, v276.toNat]
def k0_off23 (i : grid0.Coords) (k0_t1 : Fin (k0_t1_loop i).trips) : Fin 3 → Nat :=
  let c1_148 : Index := 1#32
  let c0_149 : Index := 0#32
  let arg1 : BitVec 32 := BitVec.ofNat 32 (i 1).val
  let c1_i32_70 : BitVec 32 := 1#32
  let v137 : BitVec 32 := Scalar.addi arg1 c1_i32_70
  let c1_i32_72 : BitVec 32 := 1#32
  let arg16 : BitVec 32 := Scf.iv v137 c1_i32_72 k0_t1
  let c512_i32_87 : BitVec 32 := 512#32
  let v170 : BitVec 32 := Scalar.muli arg16 c512_i32_87
  let v171 : BitVec 32 := v170
  let v281 : Index := Scalar.indexCast v171
  ![1, 0, v281.toNat]
@[reducible] def k0_t2_loop (i : grid0.Coords) : Scf.Loop 32 :=
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let v139 : BitVec 32 := Scalar.addi v137 v138
  let c1_i32_73 : BitVec 32 := 1#32
  ⟨v142, v139, c1_i32_73⟩
def k0_mult3 (i : grid0.Coords) (k0_t2 : Fin (k0_t2_loop i).trips) : BitVec 32 :=
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  v170
def k0_off24 (i : grid0.Coords) (k0_t2 : Fin (k0_t2_loop i).trips) : Fin 3 → Nat :=
  let c0_91 : Index := 0#32
  let c0_92 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v174 : Index := Scalar.indexCast v171
  ![0, 0, v174.toNat]
def k0_off25 (i : grid0.Coords) (k0_t2 : Fin (k0_t2_loop i).trips) (c0_i32_101 : BitVec 32) : Fin 2 → Nat :=
  let c2_i32_100 : BitVec 32 := 2#32
  let arg0 : BitVec 32 := BitVec.ofNat 32 (i 0).val
  let v184 : BitVec 32 := Scalar.muli c2_i32_100 arg0
  let v185 : BitVec 32 := Scalar.addi v184 c0_i32_101
  let v186 : Index := Scalar.indexCast v185
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let v187 : Index := Scalar.indexCast arg16
  ![v186.toNat, v187.toNat]
def k0_off26 (i : grid0.Coords) (c0_i32_103 : BitVec 32) : Fin 2 → Nat :=
  let c2_i32_102 : BitVec 32 := 2#32
  let arg0 : BitVec 32 := BitVec.ofNat 32 (i 0).val
  let v189 : BitVec 32 := Scalar.muli c2_i32_102 arg0
  let v190 : BitVec 32 := Scalar.addi v189 c0_i32_103
  let v191 : Index := Scalar.indexCast v190
  let arg1 : BitVec 32 := BitVec.ofNat 32 (i 1).val
  let v192 : Index := Scalar.indexCast arg1
  ![v191.toNat, v192.toNat]
def k0_off27 (i : grid0.Coords) (k0_t2 : Fin (k0_t2_loop i).trips) : Fin 3 → Nat :=
  let c0_104 : Index := 0#32
  let c0_105 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v195 : Index := Scalar.indexCast v171
  ![0, 0, v195.toNat]
def k0_off28 (i : grid0.Coords) (k0_t2 : Fin (k0_t2_loop i).trips) : Fin 3 → Nat :=
  let c0_108 : Index := 0#32
  let c0_109 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v210 : Index := Scalar.indexCast v171
  ![0, 0, v210.toNat]
def k0_off29 (i : grid0.Coords) (k0_t2 : Fin (k0_t2_loop i).trips) : Fin 3 → Nat :=
  let c0_111 : Index := 0#32
  let c0_112 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v216 : Index := Scalar.indexCast v171
  ![0, 0, v216.toNat]
def k0_off30 (i : grid0.Coords) (k0_t2 : Fin (k0_t2_loop i).trips) : Fin 3 → Nat :=
  let c0_114 : Index := 0#32
  let c0_115 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v221 : Index := Scalar.indexCast v171
  ![0, 0, v221.toNat]
def k0_off31 (i : grid0.Coords) (k0_t2 : Fin (k0_t2_loop i).trips) : Fin 3 → Nat :=
  let c1_125 : Index := 1#32
  let c0_126 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v234 : Index := Scalar.indexCast v171
  ![1, 0, v234.toNat]
def k0_off32 (i : grid0.Coords) (k0_t2 : Fin (k0_t2_loop i).trips) : Fin 3 → Nat :=
  let c1_138 : Index := 1#32
  let c0_139 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v255 : Index := Scalar.indexCast v171
  ![1, 0, v255.toNat]
def k0_off33 (i : grid0.Coords) (k0_t2 : Fin (k0_t2_loop i).trips) : Fin 3 → Nat :=
  let c1_142 : Index := 1#32
  let c0_143 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v270 : Index := Scalar.indexCast v171
  ![1, 0, v270.toNat]
def k0_off34 (i : grid0.Coords) (k0_t2 : Fin (k0_t2_loop i).trips) : Fin 3 → Nat :=
  let c1_145 : Index := 1#32
  let c0_146 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v276 : Index := Scalar.indexCast v171
  ![1, 0, v276.toNat]
def k0_off35 (i : grid0.Coords) (k0_t2 : Fin (k0_t2_loop i).trips) : Fin 3 → Nat :=
  let c1_148 : Index := 1#32
  let c0_149 : Index := 0#32
  let arg1 : BitVec 32 := BitVec.ofNat 32 (i 1).val
  let c1_i32_70 : BitVec 32 := 1#32
  let v137 : BitVec 32 := Scalar.addi arg1 c1_i32_70
  let c32_i32 : BitVec 32 := 32#32
  let v138 : BitVec 32 := Scalar.subi c32_i32 v137
  let c1_i32_71 : BitVec 32 := 1#32
  let v140 : BitVec 32 := Scalar.divsi v138 c1_i32_71
  let v141 : BitVec 32 := Scalar.muli v140 c1_i32_71
  let v142 : BitVec 32 := Scalar.addi v137 v141
  let c1_i32_73 : BitVec 32 := 1#32
  let arg16 : BitVec 32 := Scf.iv v142 c1_i32_73 k0_t2
  let c512_i32_87 : BitVec 32 := 512#32
  let v170 : BitVec 32 := Scalar.muli arg16 c512_i32_87
  let v171 : BitVec 32 := v170
  let v281 : Index := Scalar.indexCast v171
  ![1, 0, v281.toNat]
def k0_cond2 (i : grid0.Coords) : BitVec 1 :=
  let arg1 : BitVec 32 := BitVec.ofNat 32 (i 1).val
  let c31_i32 : BitVec 32 := 31#32
  let v167 : BitVec 1 := Scalar.cmpi .eq arg1 c31_i32
  let v168 : BitVec 32 := Scalar.extui v167
  let c0_i32_86 : BitVec 32 := 0#32
  let v169 : BitVec 1 := Scalar.cmpi .ne v168 c0_i32_86
  v169

def k0_off36 (i : grid0.Coords) : Fin 3 → Nat :=
  let c2_i32_87 : BitVec 32 := 2#32
  let arg0 : BitVec 32 := BitVec.ofNat 32 (i 0).val
  let v170 : BitVec 32 := Scalar.muli c2_i32_87 arg0
  let c0_i32_89_r0 : BitVec 32 := 0#32
  let c0_i32_90_r0 : BitVec 32 := 0#32
  ![v170.toNat, 0, 0]
def k0_off37 (i : grid0.Coords) : Fin 3 → Nat :=
  let c2_i32_88 : BitVec 32 := 2#32
  let arg0 : BitVec 32 := BitVec.ofNat 32 (i 0).val
  let v171 : BitVec 32 := Scalar.muli c2_i32_88 arg0
  let c0_i32_89_r1 : BitVec 32 := 0#32
  let c0_i32_90_r1 : BitVec 32 := 0#32
  ![v171.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x128x16384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S8x16384 : Shape := ⟨2, ![8, 16384]⟩
abbrev S16384 : Shape := ⟨1, ![16384]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384x1 : Shape := ⟨2, ![16384, 1]⟩
abbrev S1x16384 : Shape := ⟨2, ![1, 16384]⟩
abbrev S16384x16384 : Shape := ⟨2, ![16384, 16384]⟩
abbrev S8x64x16384 : Shape := ⟨3, ![8, 64, 16384]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x16384, .f32⟩
  | .hbm, ⟨4, _⟩ => ⟨S16384x512, .f32⟩
  | .hbm, ⟨5, _⟩ => ⟨S16384, .i32⟩
  | .hbm, ⟨6, _⟩ => ⟨S16384x8x64, .f32⟩
  | .hbm, ⟨7, _⟩ => ⟨S8x16384x64, .f32⟩
  | .hbm, ⟨8, _⟩ => ⟨S16384x8x64, .f32⟩
  | .hbm, ⟨9, _⟩ => ⟨S8x16384x64, .f32⟩
  | .hbm, ⟨10, _⟩ => ⟨S8x16384x16384, .f32⟩
  | .hbm, ⟨11, _⟩ => ⟨S_, .f32⟩
  | .hbm, ⟨12, _⟩ => ⟨S8x16384x16384, .f32⟩
  | .hbm, ⟨13, _⟩ => ⟨S8x16384x16384, .f32⟩
  | .hbm, ⟨14, _⟩ => ⟨S8x16384x1, .f32⟩
  | .hbm, ⟨15, _⟩ => ⟨S8x16384x16384, .f32⟩
  | .hbm, ⟨16, _⟩ => ⟨S8x16384x16384, .f32⟩
  | .hbm, ⟨17, _⟩ => ⟨S8x1x16384, .f32⟩
  | .hbm, ⟨18, _⟩ => ⟨S8x16384x16384, .f32⟩
  | .hbm, ⟨19, _⟩ => ⟨S8x16384x16384, .f32⟩
  | .hbm, ⟨20, _⟩ => ⟨S16384x1, .i32⟩
  | .hbm, ⟨21, _⟩ => ⟨S1x16384, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .i1⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .i1⟩
  | .hbm, ⟨46, _⟩ => ⟨S_, .f32⟩
  | .hbm, ⟨47, _⟩ => ⟨S8x16384, .f32⟩
  | .hbm, ⟨48, _⟩ => ⟨S8x16384, .i1⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S_, .f32⟩
  | .hbm, ⟨54, _⟩ => ⟨S8x16384, .f32⟩
  | .hbm, ⟨55, _⟩ => ⟨S8x16384, .f32⟩
  | .hbm, ⟨56, _⟩ => ⟨S8x16384, .f32⟩
  | .hbm, ⟨57, _⟩ => ⟨S8x16384x1, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x1, .f32⟩
  | .hbm, ⟨64, _⟩ => ⟨S8x16384x16384, .f32⟩
  | .hbm, ⟨65, _⟩ => ⟨S8x16384x16384, .f32⟩
  | .hbm, ⟨66, _⟩ => ⟨S8x16384x1, .f32⟩
  | .hbm, ⟨67, _⟩ => ⟨S_, .f32⟩
  | .hbm, ⟨68, _⟩ => ⟨S8x16384x1, .f32⟩
  | .hbm, ⟨69, _⟩ => ⟨S8x16384x1, .f32⟩
  | .hbm, ⟨70, _⟩ => ⟨S16384x8x64, .f32⟩
  | .hbm, ⟨71, _⟩ => ⟨S8x16384x64, .f32⟩
  | .hbm, ⟨72, _⟩ => ⟨S8x16384x64, .f32⟩
  | .hbm, ⟨73, _⟩ => ⟨S16384x8x64, .f32⟩
  | .hbm, ⟨74, _⟩ => ⟨S16384x512, .f32⟩
  | .hbm, ⟨75, _⟩ => ⟨S16384x8x64, .f32⟩
  | .hbm, ⟨76, _⟩ => ⟨S8x16384x64, .f32⟩
  | .hbm, ⟨77, _⟩ => ⟨S8x64x16384, .f32⟩
  | .hbm, ⟨78, _⟩ => ⟨S8x16384x64, .f32⟩
  | .hbm, ⟨79, _⟩ => ⟨S8x16384x16384, .f32⟩
  | .hbm, ⟨80, _⟩ => ⟨S16384x8x64, .f32⟩
  | .hbm, ⟨81, _⟩ => ⟨S16384x512, .f32⟩
  | .hbm, ⟨82, _⟩ => ⟨S8x16384x16384, .f32⟩
  | .hbm, ⟨83, _⟩ => ⟨S8x16384x16384, .f32⟩
  | .hbm, ⟨84, _⟩ => ⟨S8x16384x16384, .f32⟩
  | .hbm, ⟨85, _⟩ => ⟨S_, .f32⟩
  | .hbm, ⟨86, _⟩ => ⟨S8x16384, .f32⟩
  | .hbm, ⟨87, _⟩ => ⟨S8x16384x1, .f32⟩
  | .hbm, ⟨88, _⟩ => ⟨S8x16384x1, .f32⟩
  | .hbm, ⟨89, _⟩ => ⟨S8x16384x16384, .f32⟩
  | .hbm, ⟨90, _⟩ => ⟨S8x16384x16384, .f32⟩
  | .hbm, ⟨91, _⟩ => ⟨S_, .f32⟩
  | .hbm, ⟨92, _⟩ => ⟨S8x16384, .f32⟩
  | .hbm, ⟨93, _⟩ => ⟨S8x16384x16384, .f32⟩
  | .hbm, ⟨94, _⟩ => ⟨S8x16384x16384, .f32⟩
  | .hbm, ⟨95, _⟩ => ⟨S8x16384x16384, .f32⟩
  | .hbm, ⟨96, _⟩ => ⟨S_, .f32⟩
  | .hbm, ⟨97, _⟩ => ⟨S8x16384x16384, .f32⟩
  | .hbm, ⟨98, _⟩ => ⟨S8x16384x16384, .f32⟩
  | .hbm, ⟨99, _⟩ => ⟨S8x16384x16384, .f32⟩
  | .hbm, ⟨100, _⟩ => ⟨S_, .f32⟩
  | .hbm, ⟨101, _⟩ => ⟨S8x16384, .f32⟩
  | .hbm, ⟨102, _⟩ => ⟨S8x1x16384, .f32⟩
  | .hbm, ⟨103, _⟩ => ⟨S_, .f32⟩
  | .hbm, ⟨104, _⟩ => ⟨S8x16384, .f32⟩
  | .hbm, ⟨105, _⟩ => ⟨S_, .f32⟩
  | .hbm, ⟨106, _⟩ => ⟨S8x16384, .f32⟩
  | .hbm, ⟨107, _⟩ => ⟨S8x16384x1, .f32⟩
  | .hbm, ⟨108, _⟩ => ⟨S_, .f32⟩
  | .hbm, ⟨109, _⟩ => ⟨S8x16384, .f32⟩
  | .hbm, ⟨110, _⟩ => ⟨S8x16384, .f32⟩
  | .hbm, ⟨111, _⟩ => ⟨S_, .f32⟩
  | .hbm, ⟨112, _⟩ => ⟨S8x16384x16384, .f32⟩
  | .hbm, ⟨113, _⟩ => ⟨S8x16384x16384, .f32⟩
  | .hbm, ⟨114, _⟩ => ⟨S8x16384x64, .f32⟩
  | .hbm, ⟨115, _⟩ => ⟨S8x16384x64, .f32⟩
  | .hbm, ⟨116, _⟩ => ⟨S16384x8x64, .f32⟩
  | .hbm, ⟨117, _⟩ => ⟨S16384x512, .f32⟩
  | .hbm, ⟨118, _⟩ => ⟨S16384x8x64, .f32⟩
  | .hbm, ⟨119, _⟩ => ⟨S16384x512, .f32⟩
  | .hbm, ⟨120, _⟩ => ⟨S16384x512, .bf16⟩
  | .hbm, ⟨121, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S8x1024 : Shape := ⟨2, ![8, 1024]⟩
abbrev S512x1024 : Shape := ⟨2, ![512, 1024]⟩
abbrev S512x2816 : Shape := ⟨2, ![512, 2816]⟩
abbrev S512x1 : Shape := ⟨2, ![512, 1]⟩
abbrev S512x512 : Shape := ⟨2, ![512, 512]⟩
abbrev S1024x512 : Shape := ⟨2, ![1024, 512]⟩
abbrev S256x1024 : Shape := ⟨2, ![256, 1024]⟩
abbrev S512x256 : Shape := ⟨2, ![512, 256]⟩
abbrev S1024x256 : Shape := ⟨2, ![1024, 256]⟩
abbrev S1024 : Shape := ⟨1, ![1024]⟩
abbrev S512 : Shape := ⟨1, ![512]⟩

abbrev nBuf : Space → Nat
  | .hbm => 45
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | .hbm, ⟨32, _⟩ => ⟨S1024x5632, .bf16⟩
  | .hbm, ⟨33, _⟩ => ⟨S16384x5632, .f32⟩
  | .hbm, ⟨34, _⟩ => ⟨S16384x2816, .f32⟩
  | .hbm, ⟨35, _⟩ => ⟨S16384x2816, .bf16⟩
  | .hbm, ⟨36, _⟩ => ⟨S16384x2816, .f32⟩
  | .hbm, ⟨37, _⟩ => ⟨S16384x2816, .bf16⟩
  | .hbm, ⟨38, _⟩ => ⟨S1024x5632, .bf16⟩
  | .hbm, ⟨39, _⟩ => ⟨S2816x1024, .bf16⟩
  | .hbm, ⟨40, _⟩ => ⟨S16384x1024, .bf16⟩
  | .hbm, ⟨41, _⟩ => ⟨S16384x2816, .bf16⟩
  | .hbm, ⟨42, _⟩ => ⟨S16384x2816, .bf16⟩
  | .hbm, ⟨43, _⟩ => ⟨S16384x1024, .f32⟩
  | .hbm, ⟨44, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | .local _ .vmem, ⟨20, _⟩ => ⟨S1024x5632, .bf16⟩
  | .local _ .vmem, ⟨21, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384x5632 : Shape := ⟨2, ![16384, 5632]⟩
abbrev S16384 : Shape := ⟨1, ![16384]⟩
abbrev S16384x1 : Shape := ⟨2, ![16384, 1]⟩
abbrev S16384x2816 : Shape := ⟨2, ![16384, 2816]⟩
abbrev S1024 : Shape := ⟨1, ![1024]⟩
abbrev S6x1024 : Shape := ⟨2, ![6, 1024]⟩
abbrev S8x1024 : Shape := ⟨2, ![8, 1024]⟩

abbrev nBuf : Space → Nat
  | .hbm => 133
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1024x5632, .f32⟩
  | 4 => ⟨S2816x1024, .f32⟩
  | 5 => ⟨S16384x1024, .f32⟩
  | 6 => ⟨S_, .f32⟩
  | 7 => ⟨S16384x5632, .f32⟩
  | 8 => ⟨S_, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S16384x1024, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x5632, .f32⟩
  | 40 => ⟨S16384x5632, .f32⟩
  | 41 => ⟨S16384x2816, .f32⟩
  | 42 => ⟨S16384x2816, .f32⟩
  | 43 => ⟨S16384x2816, .f32⟩
  | 44 => ⟨S16384x2816, .f32⟩
  | 45 => ⟨S_, .f32⟩
  | 46 => ⟨S16384x2816, .f32⟩
  | 47 => ⟨S16384x2816, .f32⟩
  | 48 => ⟨S_, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S16384x2816, .f32⟩
  | 55 => ⟨S16384x2816, .f32⟩
  | 56 => ⟨S16384x2816, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S16384x2816, .f32⟩
  | 75 => ⟨S16384x2816, .f32⟩
  | 76 => ⟨S16384x2816, .f32⟩
  | 77 => ⟨S16384x2816, .f32⟩
  | 78 => ⟨S16384x2816, .f32⟩
  | 79 => ⟨S16384x2816, .f32⟩
  | 80 => ⟨S16384x2816, .f32⟩
  | 81 => ⟨S_, .f32⟩
  | 82 => ⟨S16384x5632, .f32⟩
  | 83 => ⟨S_, .f32⟩
  | 84 => ⟨S16384x5632, .f32⟩
  | 85 => ⟨S16384x5632, .f32⟩
  | 86 => ⟨S16384x1024, .f32⟩
  | 87 => ⟨S16384x1024, .f32⟩
  | 88 => ⟨S_, .f32⟩
  | 89 => ⟨S1024, .f32⟩
  | 90 => ⟨S1x1024, .f32⟩
  | 91 => ⟨S16384x1024, .f32⟩
  | 92 => ⟨S_, .f32⟩
  | 93 => ⟨S1024, .f32⟩
  | 94 => ⟨S1x1024, .f32⟩
  | 95 => ⟨S16384x1024, .f32⟩
  | 96 => ⟨S16384x1024, .f32⟩
  | 97 => ⟨S16384x1024, .f32⟩
  | 98 => ⟨S_, .f32⟩
  | 99 => ⟨S16384, .f32⟩
  | 100 => ⟨S16384x1, .f32⟩
  | 101 => ⟨S16384x1024, .f32⟩
  | 102 => ⟨S16384x1024, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384, .f32⟩
  | 123 => ⟨S16384x1024, .f32⟩
  | 124 => ⟨S16384x1024, .f32⟩
  | 125 => ⟨S16384x1024, .bf16⟩
  | 126 => ⟨S16384x2816, .f32⟩
  | 127 => ⟨S16384x2816, .bf16⟩
  | _ => ⟨S16384x1024, .f32⟩

abbrev hbmTy0_1 (i : Nat) : BufTy := match i % 128 with
  | 0 => ⟨S16384x2816, .f32⟩
  | 1 => ⟨S16384x2816, .bf16⟩
  | 2 => ⟨S_, .f32⟩
  | 3 => ⟨S6x1024, .f32⟩
  | 4 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v29_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v29_1 : Ref sig .tc := ⟨.hbm, 54, rfl⟩
abbrev main_v29_0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_cst_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_16 : Ref sig .tc := ⟨.hbm, 104, rfl⟩
abbrev main_v66 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_v77 : Ref sig .tc := ⟨.hbm, 119, rfl⟩
abbrev main_v78 : Ref sig .tc := ⟨.hbm, 120, rfl⟩
abbrev main_cst_20 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_21 : Ref sig .tc := ⟨.hbm, 130, rfl⟩
abbrev main_v87 : Ref sig .tc := ⟨.hbm, 131, rfl⟩
abbrev main_v88 : Ref sig .tc := ⟨.hbm, 132, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x2816, .bf16⟩
  | .hbm, ⟨4, _⟩ => ⟨S1024x2816, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1408, .bf16⟩
  | .local _ .vmem, ⟨5, _⟩ => ⟨S2048x1408, .bf16⟩
  | .local _ .vmem, ⟨6, _⟩ => ⟨S1024x1408, .f32⟩
  | .local _ .vmem, ⟨7, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16384x1024 : Shape := ⟨2, ![16384, 1024]⟩
abbrev S1x1024 : Shape := ⟨2, ![1, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x2816, .bf16⟩
  | .hbm, ⟨4, _⟩ => ⟨S_, .f32⟩
  | .hbm, ⟨5, _⟩ => ⟨S1024x2816, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x2816, .f32⟩
  | .hbm, ⟨11, _⟩ => ⟨S16384x2816, .f32⟩
  | .hbm, ⟨12, _⟩ => ⟨S2816x1024, .f32⟩
  | .hbm, ⟨13, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S16384x1024, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .f32⟩
  | .local _ .vmem, ⟨7, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S16384x1024, .bf16⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S2816x1024, .f32⟩
  | .hbm, ⟨17, _⟩ => ⟨S16384x1024, .f32⟩
  | .hbm, ⟨18, _⟩ => ⟨S16384x1024, .f32⟩
  | .hbm, ⟨19, _⟩ => ⟨S1024x2816, .f32⟩
  | .hbm, ⟨20, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S16384x2816 : Shape := ⟨2, ![16384, 2816]⟩
abbrev S16384x1 : Shape := ⟨2, ![16384, 1]⟩
abbrev S512x1024 : Shape := ⟨2, ![512, 1024]⟩
abbrev S512x2816 : Shape := ⟨2, ![512, 2816]⟩
abbrev S512x1 : Shape := ⟨2, ![512, 1]⟩
abbrev S_ : Shape := ⟨0, ![]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S16384x2816, .bf16⟩
  | .hbm, ⟨8, _⟩ => ⟨S16384x2816, .bf16⟩
  | .hbm, ⟨9, _⟩ => ⟨S16384x1024, .f32⟩
  | .hbm, ⟨10, _⟩ => ⟨S16384x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S1024x5632, .bf16⟩
  | .local _ .vmem, ⟨13, _⟩ => ⟨S2816x1024, .bf16⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x5632, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x2816, .bf16⟩
  | .hbm, ⟨50, _⟩ => ⟨S16384x2816, .bf16⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .bf16⟩
  | .hbm, ⟨4, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== Reference8Ideal.lean ====
abbrev S16384x1024 : Shape := ⟨2, ![16384, 1024]⟩
abbrev S1x1024 : Shape := ⟨2, ![1, 1024]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x1024, .bf16⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1024x1024, .f32⟩
  | .hbm, ⟨13, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel9.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S16384x1024, .f32⟩
  | .hbm, ⟨6, _⟩ => ⟨S1024x256, .f32⟩
  | .hbm, ⟨7, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S16384x512 : Shape := ⟨2, ![16384, 512]⟩
abbrev S16384x1536 : Shape := ⟨2, ![16384, 1536]⟩
abbrev S3x512 : Shape := ⟨2, ![3, 512]⟩
abbrev S1x512 : Shape := ⟨2, ![1, 512]⟩
abbrev S16384x1024 : Shape := ⟨2, ![16384, 1024]⟩
abbrev S1x1024 : Shape := ⟨2, ![1, 1024]⟩
abbrev S1024x1024 : Shape := ⟨2, ![1024, 1024]⟩
abbrev S16384x1 : Shape := ⟨2, ![16384, 1]⟩
abbrev S512x512 : Shape := ⟨2, ![512, 512]⟩
abbrev S512x1536 : Shape := ⟨2, ![512, 1536]⟩
abbrev S8x1536 : Shape := ⟨2, ![8, 1536]⟩
abbrev S512x1024 : Shape := ⟨2, ![512, 1024]⟩
abbrev S512x1 : Shape := ⟨2, ![512, 1]⟩
abbrev S520x512 : Shape := ⟨2, ![520, 512]⟩
abbrev S512 : Shape := ⟨1, ![512]⟩
abbrev S8x512 : Shape := ⟨2, ![8, 512]⟩

abbrev nBuf : Space → Nat
  | .hbm => 13
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x1536, .f32⟩
  | .hbm, ⟨2, _⟩ => ⟨S3x512, .f32⟩
  | .hbm, ⟨3, _⟩ => ⟨S1x512, .f32⟩
  | .hbm, ⟨4, _⟩ => ⟨S1x512, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S16384x1024, .bf16⟩
  | .hbm, ⟨11, _⟩ => ⟨S16384x1024, .f32⟩
  | .hbm, ⟨12, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S512x1536, .f32⟩
  | .local _ .vmem, ⟨4, _⟩ => ⟨S8x1536, .f32⟩
  | .local _ .vmem, ⟨5, _⟩ => ⟨S8x1536, .f32⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1, .f32⟩
  | .local _ .vmem, ⟨19, _⟩ => ⟨S512x1, .f32⟩
  | .local _ .vmem, ⟨20, _⟩ => ⟨S520x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S16384x512 : Shape := ⟨2, ![16384, 512]⟩
abbrev S16384x1536 : Shape := ⟨2, ![16384, 1536]⟩
abbrev S3x512 : Shape := ⟨2, ![3, 512]⟩
abbrev S1x512 : Shape := ⟨2, ![1, 512]⟩
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16386x512 : Shape := ⟨2, ![16386, 512]⟩
abbrev S512 : Shape := ⟨1, ![512]⟩
abbrev S16384 : Shape := ⟨1, ![16384]⟩
abbrev S16384x1 : Shape := ⟨2, ![16384, 1]⟩

abbrev nBuf : Space → Nat
  | .hbm => 99
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1536, .f32⟩
  | .hbm, ⟨2, _⟩ => ⟨S3x512, .f32⟩
  | .hbm, ⟨3, _⟩ => ⟨S1x512, .f32⟩
  | .hbm, ⟨4, _⟩ => ⟨S1x512, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .i32⟩
  | .hbm, ⟨14, _⟩ => ⟨S_, .f32⟩
  | .hbm, ⟨15, _⟩ => ⟨S16386x512, .f32⟩
  | .hbm, ⟨16, _⟩ => ⟨S16384x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x1024, .bf16⟩
  | .hbm, ⟨97, _⟩ => ⟨S16384x1024, .f32⟩
  | .hbm, ⟨98, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.KTrip.lean ====
/-
  The inner loop of the backward kernel, one trip at a time: what a trip reads, what it leaves in the dq accumulator and
  what it carries on, as functions of what it finds. Stated for any float instance, at the resource algebra in which
  the kernel's own copies are tracked.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic
public import Idealize.ShloMosaic.Lib.Transfers

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run: the one that also tracks the copies the kernel starts itself. -/
local notation "𝕄" => MT nD τ sig Unit (Elt F) ℕ (Pipeline.UD sig nD τ) ℕ

/-- What the loop carries: the transposed dk and dv partial sums of the two heads of the pair. -/
abbrev Acc (F : FTy → Type) : Type :=
  FVec F S80x512 .f32 × FVec F S64x512 .f32 × FVec F S80x512 .f32 × FVec F S64x512 .f32

/-- The dq accumulator, whole. -/
abbrev scM : Memref sig .tc .vmem S2x80x16384 .f32 := Memref.whole cc0_scratch0
/-- The two results the kernel copies out itself, whole. -/
abbrev dqM : Memref sig .tc .hbm S8x80x16384 .f32 := Memref.whole main_v75_3
abbrev dcM : Memref sig .tc .hbm S8x1x16384 .f32 := Memref.whole main_v75_4

/-- A memref's buffer on core `c`, whole at `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

section Trip
variable (c : Dev nD) (i : grid0.Coords)
  (arg2 : Memref sig .tc .smem S8x32 .f32) (harg2 : arg2.IsWhole)
  (arg3 : Memref sig .tc .vmem S2x512x128 .bf16) (harg3 : arg3.IsWhole)
  (arg4 : Memref sig .tc .vmem S2x80x512 .bf16) (harg4 : arg4.IsWhole)
  (arg5 : Memref sig .tc .vmem S2x512x128 .bf16) (harg5 : arg5.IsWhole)
  (arg6 : Memref sig .tc .vmem S2x1x16384 .f32) (harg6 : arg6.IsWhole)
  (arg7 : Memref sig .tc .vmem S2x1x16384 .f32) (harg7 : arg7.IsWhole)
  (arg8 : Memref sig .tc .vmem S2x128x16384 .bf16) (harg8 : arg8.IsWhole)
  (arg9 : Memref sig .tc .vmem S2x128x16384 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x1x512 .f32) (harg12 : arg12.IsWhole)
  (v172_r0 : DmaSems sig S_) (v172_r1 : DmaSems sig S_)
  (arg0 : BitVec 32) (arg1 : BitVec 32)
  (v7 : FVec F S80x512 .f32) (v8 : FVec F S64x512 .f32) (v10 : BitVec 32)
  (v57 : FVec F S64x512 .f32) (v62 : FVec F S80x512 .f32)
  (v107 : FVec F S512x512 .f32) (v112 : FVec F S512x512 .f32) (v137 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)

/-- The operands a trip only reads. -/
abbrev Ins : sProp 𝕄 :=
  iprop(pt c arg2 X2 ∗ pt c arg3 X3 ∗ pt c arg4 X4 ∗ pt c arg5 X5 ∗ pt c arg6 X6 ∗ pt c arg7 X7 ∗ pt c arg8 X8 ∗ pt c arg9 X9)

/-- One trip of the first loop: the carried value it yields and the pieces it writes into the accumulator. -/
def trip1 (k : Fin (k0_t1_loop i).trips) :
    Σ' (R : Acc F → BufTy.Contents (Elt F) scM.view.ty → Acc F),
    { L : Acc F → BufTy.Contents (Elt F) scM.view.ty → List (View.Piece (Elt F) S2x80x16384 .f32) //
      ∀ (acc : Acc F) (f : BufTy.Contents (Elt F) scM.view.ty),
        iprop(Ins c arg2 arg3 arg4 arg5 arg6 arg7 arg8 arg9 X2 X3 X4 X5 X6 X7 X8 X9 ∗ pt c scM f)
        ⊢ wp frame (wpE (defs₀ (F := F)) Variants.none (c : Thread nD τ) none) Set.univ
            (k0_t1_body (F := F) i arg2 harg2 arg3 harg3 arg4 harg4 arg5 harg5 arg6 harg6 arg7 harg7 arg8 harg8 arg9 harg9 arg10 harg10 arg11 harg11 arg12 harg12 dqM (Memref.isWhole_whole _) dcM (Memref.isWhole_whole _) scM (Memref.isWhole_whole _) v172_r0 v172_r1 arg0 arg1 v7 v8 v10 v57 v62 v107 v112 v137 k acc)
            (fun y => iprop(⌜y = R acc f⌝ ∗ Ins c arg2 arg3 arg4 arg5 arg6 arg7 arg8 arg9 X2 X3 X4 X5 X6 X7 X8 X9 ∗ pt c scM (scM.view.writes (Elt F) f (L acc f)))) } := by
  refine ⟨?_, ?_, fun acc f => ?run⟩
  case run =>
    unfold k0_t1_body
    simp only [k0_part1_eq_skeleton, k0_part2_eq_skeleton, k0_part3_eq_skeleton]
    iintro ⟨⟨H2, H3, H4, H5, H6, H7, H8, H9⟩, HS⟩
    sl_exec
    sl_step
    sl_close

/-- One trip of the second loop: the carried value it yields and the pieces it writes into the accumulator. -/
def trip2 (k : Fin (k0_t2_loop i).trips) :
    Σ' (R : Acc F → BufTy.Contents (Elt F) scM.view.ty → Acc F),
    { L : Acc F → BufTy.Contents (Elt F) scM.view.ty → List (View.Piece (Elt F) S2x80x16384 .f32) //
      ∀ (acc : Acc F) (f : BufTy.Contents (Elt F) scM.view.ty),
        iprop(Ins c arg2 arg3 arg4 arg5 arg6 arg7 arg8 arg9 X2 X3 X4 X5 X6 X7 X8 X9 ∗ pt c scM f)
        ⊢ wp frame (wpE (defs₀ (F := F)) Variants.none (c : Thread nD τ) none) Set.univ
            (k0_t2_body (F := F) i arg2 harg2 arg3 harg3 arg4 harg4 arg5 harg5 arg6 harg6 arg7 harg7 arg8 harg8 arg9 harg9 arg10 harg10 arg11 harg11 arg12 harg12 dqM (Memref.isWhole_whole _) dcM (Memref.isWhole_whole _) scM (Memref.isWhole_whole _) v172_r0 v172_r1 arg0 arg1 v7 v8 v10 v57 v62 v107 v112 v137 k acc)
            (fun y => iprop(⌜y = R acc f⌝ ∗ Ins c arg2 arg3 arg4 arg5 arg6 arg7 arg8 arg9 X2 X3 X4 X5 X6 X7 X8 X9 ∗ pt c scM (scM.view.writes (Elt F) f (L acc f)))) } := by
  refine ⟨?_, ?_, fun acc f => ?run⟩
  case run =>
    unfold k0_t2_body
    simp only [k0_part4_eq_skeleton, k0_part5_eq_skeleton, k0_part6_eq_skeleton]
    iintro ⟨⟨H2, H3, H4, H5, H6, H7, H8, H9⟩, HS⟩
    sl_exec
    sl_step
    sl_close

/-- The carried value and the accumulator before trip `k` of loop 1, from `init` and `G`. -/
def state1 (G : BufTy.Contents (Elt F) scM.view.ty) (init : Acc F) : ℕ → Acc F × List (View.Piece (Elt F) S2x80x16384 .f32)
  | 0 => (init, [])
  | k + 1 => if h : k < (k0_t1_loop i).trips then
      ((trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 ⟨k, h⟩).1 (state1 G init k).1 (scM.view.writes (Elt F) G (state1 G init k).2),
        (trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 ⟨k, h⟩).2.1 (state1 G init k).1 (scM.view.writes (Elt F) G (state1 G init k).2) ++ (state1 G init k).2)
    else state1 G init k

theorem state1_succ (G : BufTy.Contents (Elt F) scM.view.ty) (init : Acc F) (k : Fin (k0_t1_loop i).trips) :
    state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init (k.val + 1)
      = ((trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).1 (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).1 (scM.view.writes (Elt F) G (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).2),
        (trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).2.1 (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).1 (scM.view.writes (Elt F) G (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).2) ++ (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).2) := by
  conv_lhs => unfold state1
  exact dif_pos k.isLt

set_option warn.classDefReducibility false in
/-- Loop 1 by its state: before trip `k` the operands are as they were and the accumulator and the carried value
    are those of `state1`. -/
@[sl_loop] def loop1 (G : BufTy.Contents (Elt F) scM.view.ty) (init : Acc F) :
    LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 dqM (Memref.isWhole_whole _) dcM (Memref.isWhole_whole _) scM (Memref.isWhole_whole _) v172_r0 v172_r1 arg0 arg1 v7 v8 v10 v57 v62 v107 v112 v137 init where
  inv k acc := iprop(pt c arg2 X2 ∗ pt c arg3 X3 ∗ pt c arg4 X4 ∗ pt c arg5 X5 ∗ pt c arg6 X6 ∗ pt c arg7 X7 ∗ pt c arg8 X8 ∗ pt c arg9 X9
    ∗ (∃ f, pt c scM f ∗ ⌜f = scM.view.writes (Elt F) G (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k).2⌝) ∗ ⌜acc = (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k).1⌝)
  step k acc := by
    iintro ⟨H2, H3, H4, H5, H6, H7, H8, H9, ⟨%f, HS, %hf⟩, %ha⟩
    subst hf ha
    iapply (wp_wand_r Idealize.ShloMosaic.frame (wpE (defs₀ (F := F)) Variants.none (c : Thread nD τ) none) Set.univ)
    isplitl [H2 H3 H4 H5 H6 H7 H8 H9 HS]
    · iapply ((trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).2.2 _ _)
      isplitr [HS]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      iexact HS
    · iintro %y ⟨%hy, ⟨H2, H3, H4, H5, H6, H7, H8, H9⟩, HS⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      simp only [state1_succ]
      isplitl [HS]
      · iexists _; isplitl [HS]; · iexact HS
        ipureintro; rw [← View.writes_append]
      ipureintro; exact hy

/-- The carried value and the accumulator before trip `k` of loop 2, from `init` and `G`. -/
def state2 (G : BufTy.Contents (Elt F) scM.view.ty) (init : Acc F) : ℕ → Acc F × List (View.Piece (Elt F) S2x80x16384 .f32)
  | 0 => (init, [])
  | k + 1 => if h : k < (k0_t2_loop i).trips then
      ((trip2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 ⟨k, h⟩).1 (state2 G init k).1 (scM.view.writes (Elt F) G (state2 G init k).2),
        (trip2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 ⟨k, h⟩).2.1 (state2 G init k).1 (scM.view.writes (Elt F) G (state2 G init k).2) ++ (state2 G init k).2)
    else state2 G init k

theorem state2_succ (G : BufTy.Contents (Elt F) scM.view.ty) (init : Acc F) (k : Fin (k0_t2_loop i).trips) :
    state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init (k.val + 1)
      = ((trip2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).1 (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).1 (scM.view.writes (Elt F) G (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).2),
        (trip2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).2.1 (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).1 (scM.view.writes (Elt F) G (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).2) ++ (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k.val).2) := by
  conv_lhs => unfold state2
  exact dif_pos k.isLt

set_option warn.classDefReducibility false in
/-- Loop 2 by its state: before trip `k` the operands are as they were and the accumulator and the carried value
    are those of `state2`. -/
@[sl_loop] def loop2 (G : BufTy.Contents (Elt F) scM.view.ty) (init : Acc F) :
    LoopInvTy_k0_t2 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 dqM (Memref.isWhole_whole _) dcM (Memref.isWhole_whole _) scM (Memref.isWhole_whole _) v172_r0 v172_r1 arg0 arg1 v7 v8 v10 v57 v62 v107 v112 v137 init where
  inv k acc := iprop(pt c arg2 X2 ∗ pt c arg3 X3 ∗ pt c arg4 X4 ∗ pt c arg5 X5 ∗ pt c arg6 X6 ∗ pt c arg7 X7 ∗ pt c arg8 X8 ∗ pt c arg9 X9
    ∗ (∃ f, pt c scM f ∗ ⌜f = scM.view.writes (Elt F) G (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k).2⌝) ∗ ⌜acc = (state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init k).1⌝)
  step k acc := by
    iintro ⟨H2, H3, H4, H5, H6, H7, H8, H9, ⟨%f, HS, %hf⟩, %ha⟩
    subst hf ha
    iapply (wp_wand_r Idealize.ShloMosaic.frame (wpE (defs₀ (F := F)) Variants.none (c : Thread nD τ) none) Set.univ)
    isplitl [H2 H3 H4 H5 H6 H7 H8 H9 HS]
    · iapply ((trip2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).2.2 _ _)
      isplitr [HS]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      iexact HS
    · iintro %y ⟨%hy, ⟨H2, H3, H4, H5, H6, H7, H8, H9⟩, HS⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      simp only [state2_succ]
      isplitl [HS]
      · iexists _; isplitl [HS]; · iexact HS
        ipureintro; rw [← View.writes_append]
      ipureintro; exact hy

end Trip

end Cert.KernelIdeal.Hand

end
-- ==== Proof.Offs.lean ====
/-
  The offsets of the kernel's loads and stores in closed form: the diagonal tile's start at `512 * j`, a loop trip's
  at `512 * (j + 1 + k)`, for key tile `j`.
-/
module

public import proofs.«01_k».proof.Proof.KTrip
public import Idealize.ShloMosaic.Lib.Pipeline.ValueKit

@[expose] public section

set_option maxRecDepth 16384

namespace Cert.KernelIdeal.Hand

open Cert.KernelIdeal Cert.KernelIdeal.Gen
open Idealize.ShloMosaic

/-- The grid's coordinates: head pair and key tile. -/
abbrev hp (i : grid0.Coords) : Fin 4 := i 0
abbrev kt (i : grid0.Coords) : Fin 32 := i 1

theorem trips_1 (i : grid0.Coords) : (k0_t1_loop i).trips = 31 - (kt i).val :=
  (by decide +kernel : ∀ n : Fin 32, (⟨Scalar.addi (BitVec.ofNat 32 n.val) 1#32,
    Scalar.addi (Scalar.addi (BitVec.ofNat 32 n.val) 1#32) (Scalar.muli (Scalar.divsi (Scalar.subi 32#32 (Scalar.addi (BitVec.ofNat 32 n.val) 1#32)) 1#32) 1#32), 1#32⟩ : Scf.Loop 32).trips = 31 - n.val) (kt i)

theorem trips_2 (i : grid0.Coords) : (k0_t2_loop i).trips = 0 :=
  (by decide +kernel : ∀ n : Fin 32, (⟨Scalar.addi (Scalar.addi (BitVec.ofNat 32 n.val) 1#32) (Scalar.muli (Scalar.divsi (Scalar.subi 32#32 (Scalar.addi (BitVec.ofNat 32 n.val) 1#32)) 1#32) 1#32),
    Scalar.addi (Scalar.addi (BitVec.ofNat 32 n.val) 1#32) (Scalar.subi 32#32 (Scalar.addi (BitVec.ofNat 32 n.val) 1#32)), 1#32⟩ : Scf.Loop 32).trips = 0) (kt i)

theorem diag_start (i : grid0.Coords) :
    (Scalar.indexCast (Scalar.muli (BitVec.ofNat 32 (kt i).val) 512#32) : Index).toNat = 512 * (kt i).val :=
  (by decide +kernel : ∀ n : Fin 32, (Scalar.indexCast (Scalar.muli (BitVec.ofNat 32 n.val) 512#32) : Index).toNat = 512 * n.val) (kt i)

theorem head_row (i : grid0.Coords) (a : Fin 2) :
    (Scalar.indexCast (Scalar.addi (Scalar.muli 2#32 (BitVec.ofNat 32 (hp i).val)) (BitVec.ofNat 32 a.val)) : Index).toNat = 2 * (hp i).val + a.val :=
  (by decide +kernel : ∀ (n : Fin 4) (a : Fin 2), (Scalar.indexCast (Scalar.addi (Scalar.muli 2#32 (BitVec.ofNat 32 n.val)) (BitVec.ofNat 32 a.val)) : Index).toNat = 2 * n.val + a.val) (hp i) a

theorem tile_col (i : grid0.Coords) : (Scalar.indexCast (BitVec.ofNat 32 (kt i).val) : Index).toNat = (kt i).val :=
  (by decide +kernel : ∀ n : Fin 32, (Scalar.indexCast (BitVec.ofNat 32 n.val) : Index).toNat = n.val) (kt i)

theorem trip_tile (i : grid0.Coords) (k : Fin (k0_t1_loop i).trips) :
    (Scalar.indexCast (Scf.iv (Scalar.addi (BitVec.ofNat 32 (kt i).val) 1#32) 1#32 k) : Index).toNat = (kt i).val + 1 + k.val :=
  (by decide +kernel : ∀ n k : Fin 32, (Scalar.indexCast (Scf.iv (Scalar.addi (BitVec.ofNat 32 n.val) 1#32) 1#32 k) : Index).toNat = n.val + 1 + k.val)
    (kt i) ⟨k.val, lt_of_lt_of_le k.isLt (by rw [trips_1]; omega)⟩

theorem trip_start (i : grid0.Coords) (k : Fin (k0_t1_loop i).trips) :
    (Scalar.indexCast (Scalar.muli (Scf.iv (Scalar.addi (BitVec.ofNat 32 (kt i).val) 1#32) 1#32 k) 512#32) : Index).toNat = 512 * ((kt i).val + 1 + k.val) :=
  (by decide +kernel : ∀ n k : Fin 32, (Scalar.indexCast (Scalar.muli (Scf.iv (Scalar.addi (BitVec.ofNat 32 n.val) 1#32) 1#32 k) 512#32) : Index).toNat = 512 * (n.val + 1 + k.val))
    (kt i) ⟨k.val, lt_of_lt_of_le k.isLt (by rw [trips_1]; omega)⟩

theorem off1_eq (i : grid0.Coords) : k0_off1 i = ![0, 0, 512 * (kt i).val] :=
  congrArg (fun n => ![0, 0, n]) (diag_start i)
theorem off3_eq (i : grid0.Coords) : k0_off3 i = ![0, 0, 512 * (kt i).val] :=
  congrArg (fun n => ![0, 0, n]) (diag_start i)
theorem off4_eq (i : grid0.Coords) : k0_off4 i = ![0, 0, 512 * (kt i).val] :=
  congrArg (fun n => ![0, 0, n]) (diag_start i)
theorem off5_eq (i : grid0.Coords) : k0_off5 i = ![0, 0, 512 * (kt i).val] :=
  congrArg (fun n => ![0, 0, n]) (diag_start i)
theorem off6_eq (i : grid0.Coords) : k0_off6 i = ![0, 0, 512 * (kt i).val] :=
  congrArg (fun n => ![0, 0, n]) (diag_start i)
theorem off7_eq (i : grid0.Coords) : k0_off7 i = ![1, 0, 512 * (kt i).val] :=
  congrArg (fun n => ![1, 0, n]) (diag_start i)
theorem off8_eq (i : grid0.Coords) : k0_off8 i = ![1, 0, 512 * (kt i).val] :=
  congrArg (fun n => ![1, 0, n]) (diag_start i)
theorem off9_eq (i : grid0.Coords) : k0_off9 i = ![1, 0, 512 * (kt i).val] :=
  congrArg (fun n => ![1, 0, n]) (diag_start i)
theorem off10_eq (i : grid0.Coords) : k0_off10 i = ![1, 0, 512 * (kt i).val] :=
  congrArg (fun n => ![1, 0, n]) (diag_start i)
theorem off11_eq (i : grid0.Coords) : k0_off11 i = ![1, 0, 512 * (kt i).val] :=
  congrArg (fun n => ![1, 0, n]) (diag_start i)
theorem off12_eq (i : grid0.Coords) (k : Fin (k0_t1_loop i).trips) : k0_off12 i k = ![0, 0, 512 * ((kt i).val + 1 + k.val)] :=
  congrArg (fun n => ![0, 0, n]) (trip_start i k)
theorem off15_eq (i : grid0.Coords) (k : Fin (k0_t1_loop i).trips) : k0_off15 i k = ![0, 0, 512 * ((kt i).val + 1 + k.val)] :=
  congrArg (fun n => ![0, 0, n]) (trip_start i k)
theorem off16_eq (i : grid0.Coords) (k : Fin (k0_t1_loop i).trips) : k0_off16 i k = ![0, 0, 512 * ((kt i).val + 1 + k.val)] :=
  congrArg (fun n => ![0, 0, n]) (trip_start i k)
theorem off17_eq (i : grid0.Coords) (k : Fin (k0_t1_loop i).trips) : k0_off17 i k = ![0, 0, 512 * ((kt i).val + 1 + k.val)] :=
  congrArg (fun n => ![0, 0, n]) (trip_start i k)
theorem off18_eq (i : grid0.Coords) (k : Fin (k0_t1_loop i).trips) : k0_off18 i k = ![0, 0, 512 * ((kt i).val + 1 + k.val)] :=
  congrArg (fun n => ![0, 0, n]) (trip_start i k)
theorem off19_eq (i : grid0.Coords) (k : Fin (k0_t1_loop i).trips) : k0_off19 i k = ![1, 0, 512 * ((kt i).val + 1 + k.val)] :=
  congrArg (fun n => ![1, 0, n]) (trip_start i k)
theorem off20_eq (i : grid0.Coords) (k : Fin (k0_t1_loop i).trips) : k0_off20 i k = ![1, 0, 512 * ((kt i).val + 1 + k.val)] :=
  congrArg (fun n => ![1, 0, n]) (trip_start i k)
theorem off21_eq (i : grid0.Coords) (k : Fin (k0_t1_loop i).trips) : k0_off21 i k = ![1, 0, 512 * ((kt i).val + 1 + k.val)] :=
  congrArg (fun n => ![1, 0, n]) (trip_start i k)
theorem off22_eq (i : grid0.Coords) (k : Fin (k0_t1_loop i).trips) : k0_off22 i k = ![1, 0, 512 * ((kt i).val + 1 + k.val)] :=
  congrArg (fun n => ![1, 0, n]) (trip_start i k)
theorem off23_eq (i : grid0.Coords) (k : Fin (k0_t1_loop i).trips) : k0_off23 i k = ![1, 0, 512 * ((kt i).val + 1 + k.val)] :=
  congrArg (fun n => ![1, 0, n]) (trip_start i k)
theorem off2_eq (i : grid0.Coords) (a : Fin 2) : k0_off2 i (BitVec.ofNat 32 a.val) = ![2 * (hp i).val + a.val, (kt i).val] :=
  congrArg₂ (fun m n => ![m, n]) (head_row i a) (tile_col i)
theorem off13_eq (i : grid0.Coords) (k : Fin (k0_t1_loop i).trips) (a : Fin 2) :
    k0_off13 i k (BitVec.ofNat 32 a.val) = ![2 * (hp i).val + a.val, (kt i).val + 1 + k.val] :=
  congrArg₂ (fun m n => ![m, n]) (head_row i a) (trip_tile i k)
theorem off14_eq (i : grid0.Coords) (a : Fin 2) : k0_off14 i (BitVec.ofNat 32 a.val) = ![2 * (hp i).val + a.val, (kt i).val] :=
  congrArg₂ (fun m n => ![m, n]) (head_row i a) (tile_col i)

/-! A load at such an offset, read at an index. -/

variable {α : EltTy → Type} {e : EltTy}

theorem ld3 {a b c n0 n1 n2 : ℕ} (X : (⟨3, ![a, b, c]⟩ : Shape).Idx → α e) {off : Fin 3 → ℕ} {o0 o1 o2 : ℕ} (h : off = ![o0, o1, o2])
    (inb : ∀ x : Fin 3, off x + (![n0, n1, n2] : Fin 3 → ℕ) x ≤ (⟨3, ![a, b, c]⟩ : Shape).size x)
    (x0 : Fin n0) (x1 : Fin n1) (x2 : Fin n2) (y0 : Fin a) (y1 : Fin b) (y2 : Fin c)
    (h0 : y0.val = o0 + x0.val) (h1 : y1.val = o1 + x1.val) (h2 : y2.val = o2 + x2.val) :
    View.ld (Val := α) X (Rect.unit (s := ⟨3, ![a, b, c]⟩) off ![n0, n1, n2] inb) (ix3 x0 x1 x2) = X (ix3 y0 y1 y2) := by
  subst h
  refine View.ld_unit_apply_of X _ _ inb _ _ fun x => ?_
  fin_cases x
  · exact h0
  · exact h1
  · exact h2

theorem ld2 {a b n0 n1 : ℕ} (X : (⟨2, ![a, b]⟩ : Shape).Idx → α e) {off : Fin 2 → ℕ} {o0 o1 : ℕ} (h : off = ![o0, o1])
    (inb : ∀ x : Fin 2, off x + (![n0, n1] : Fin 2 → ℕ) x ≤ (⟨2, ![a, b]⟩ : Shape).size x)
    (x0 : Fin n0) (x1 : Fin n1) (y0 : Fin a) (y1 : Fin b)
    (h0 : y0.val = o0 + x0.val) (h1 : y1.val = o1 + x1.val) :
    View.ld (Val := α) X (Rect.unit (s := ⟨2, ![a, b]⟩) off ![n0, n1] inb) (ix2 x0 x1) = X (ix2 y0 y1) := by
  subst h
  refine View.ld_unit_apply_of X _ _ inb _ _ fun x => ?_
  fin_cases x
  · exact h0
  · exact h1

end Cert.KernelIdeal.Hand
-- ==== Proof.Spec.lean ====
/-
  The gradients of causal softmax attention with a per-position forget bias, as functions on the reals, and the same
  numbers in the layout the tiled kernel works with. `A : Args` holds the five arguments by head.
-/
module

public import Idealize.ShloMosaic.Lib.Pointwise
public import Idealize.ShloMosaic.Lib.Pipeline.ValueKit

@[expose] public section

noncomputable section

namespace Cert.Spec

open scoped BigOperators

/-- The arguments, by head: queries, keys, values, the cotangent of the output, and the forget bias. -/
structure Args where
  q : Fin 8 → Fin 16384 → Fin 64 → ℝ
  k : Fin 8 → Fin 16384 → Fin 64 → ℝ
  v : Fin 8 → Fin 16384 → Fin 64 → ℝ
  g : Fin 8 → Fin 16384 → Fin 64 → ℝ
  c : Fin 8 → Fin 16384 → ℝ

variable (A : Args) (h : Fin 8)

/-- The logit of query `t` and key `s`, unmasked. -/
def z (t s : Fin 16384) : ℝ := (∑ d, A.q h t d * A.k h s d) * (1 / 8) + A.c h t - A.c h s

/-- The largest logit of row `t` among the keys it sees. -/
def mx (t : Fin 16384) : ℝ := (Finset.univ.filter (· ≤ t)).sup' ⟨t, by simp⟩ (z A h t)

/-- The row's exponentials, relative to its maximum. -/
def ex (t s : Fin 16384) : ℝ := if s ≤ t then Real.exp (z A h t s - mx A h t) else 0

/-- Their sum. -/
def sm (t : Fin 16384) : ℝ := ∑ s, ex A h t s

/-- The probabilities. -/
def pr (t s : Fin 16384) : ℝ := ex A h t s / sm A h t

/-- The cotangent of a probability. -/
def dp (t s : Fin 16384) : ℝ := ∑ d, A.g h t d * A.v h s d

/-- The row's sum of probabilities times their cotangents. -/
def dl (t : Fin 16384) : ℝ := ∑ s, pr A h t s * dp A h t s

/-- The cotangent of a logit. -/
def ds (t s : Fin 16384) : ℝ := pr A h t s * (dp A h t s - dl A h t)

def dq (t : Fin 16384) (d : Fin 64) : ℝ := (∑ s, ds A h t s * A.k h s d) * (1 / 8)
def dk (s : Fin 16384) (d : Fin 64) : ℝ := (∑ t, ds A h t s * A.q h t d) * (1 / 8)
def dv (s : Fin 16384) (d : Fin 64) : ℝ := ∑ t, pr A h t s * A.g h t d
def dc (t : Fin 16384) : ℝ := ∑ s, ds A h t s - ∑ u, ds A h u t

theorem ex_nonneg (t s : Fin 16384) : 0 ≤ ex A h t s := by
  unfold ex; split
  · exact (Real.exp_pos _).le
  · exact le_rfl

theorem sm_pos (t : Fin 16384) : 0 < sm A h t := by
  refine lt_of_lt_of_le (b := ex A h t t) ?_ (Finset.single_le_sum (fun s _ => ex_nonneg A h t s) (Finset.mem_univ t))
  unfold ex; rw [if_pos le_rfl]; exact Real.exp_pos _

theorem sm_ne (t : Fin 16384) : sm A h t ≠ 0 := (sm_pos A h t).ne'

theorem ex_of_lt {t s : Fin 16384} (hs : t < s) : ex A h t s = 0 := if_neg (not_le.2 hs)
theorem pr_of_lt {t s : Fin 16384} (hs : t < s) : pr A h t s = 0 := by rw [pr, ex_of_lt A h hs, zero_div]
theorem ds_of_lt {t s : Fin 16384} (hs : t < s) : ds A h t s = 0 := by rw [ds, pr_of_lt A h hs, zero_mul]

/-- What the reference computes for the cotangent of a logit. -/
theorem ds_eq (t s : Fin 16384) :
    (dp A h t s / sm A h t + -(∑ u, dp A h t u * (1 / (sm A h t * sm A h t)) * ex A h t u)) * ex A h t s = ds A h t s := by
  have hS := sm_ne A h t
  have e : ∑ u, dp A h t u * (1 / (sm A h t * sm A h t)) * ex A h t u = dl A h t / sm A h t := by
    rw [dl, Finset.sum_div]
    refine Finset.sum_congr rfl fun u _ => ?_
    rw [pr]; field_simp
  rw [e, ds, pr]; field_simp; ring

/-- The row sum of cotangent times output is the row sum of probabilities times their cotangents. -/
theorem dl_eq (t : Fin 16384) : ∑ d, A.g h t d * (∑ s, pr A h t s * A.v h s d) = dl A h t := by
  simp only [dl, dp, Finset.mul_sum]
  rw [Finset.sum_comm]
  exact Finset.sum_congr rfl fun s _ => Finset.sum_congr rfl fun d _ => by ring

/-! The kernel's layout. -/

/-- Position `s` of tile `j`. -/
def at_ (j : ℕ) (s : Fin 512) : Fin 16384 := ⟨(j * 512 + s.val) % 16384, Nat.mod_lt _ (by norm_num)⟩

theorem at_val {j : ℕ} (hj : j < 32) (s : Fin 512) : (at_ j s).val = j * 512 + s.val := by
  unfold at_; exact Nat.mod_eq_of_lt (by omega)

theorem eq_at (t : Fin 16384) : t = at_ (t.val / 512) ⟨t.val % 512, Nat.mod_lt _ (by norm_num)⟩ := by
  have := t.isLt
  apply Fin.ext; rw [at_val (by omega)]; dsimp only; omega

theorem sum_at (f : Fin 16384 → ℝ) : ∑ j ∈ Finset.range 32, ∑ s, f (at_ j s) = ∑ t, f t := by
  rw [Finset.sum_range (fun j => ∑ s, f (at_ j s)), ← Fintype.sum_prod_type' (f := fun (j : Fin 32) (s : Fin 512) => f (at_ j.val s))]
  refine Fintype.sum_equiv (finProdFinEquiv (m := 32) (n := 512)) _ _ fun x => ?_
  congr 1; apply Fin.ext; rw [at_val x.1.isLt]; simp [finProdFinEquiv]; ring

/-- The bias of a tile's first position. -/
def r (j : ℕ) : ℝ := A.c h (at_ j 0)
/-- The bias relative to that. -/
def rel (t : Fin 16384) : ℝ := A.c h t - r A h (t.val / 512)

/-- A key's row of lanes: the key, three ones, minus the relative bias in three parts, zeros. -/
def ka (s : Fin 16384) (l : Fin 128) : ℝ :=
  if hl : l.val < 64 then A.k h s ⟨l.val, hl⟩ else if l.val < 67 then 1 else if l.val = 67 then -rel A h s else 0
/-- A query's row of lanes: the scaled query, the relative bias in three parts, three ones, zeros. -/
def qa (t : Fin 16384) (l : Fin 128) : ℝ :=
  if hl : l.val < 64 then A.q h t ⟨l.val, hl⟩ * (1 / 8) else if l.val = 64 then rel A h t else if l.val < 67 then 0
  else if l.val < 70 then 1 else 0
def va (s : Fin 16384) (l : Fin 128) : ℝ := if hl : l.val < 64 then A.v h s ⟨l.val, hl⟩ else 0
def ga (t : Fin 16384) (l : Fin 128) : ℝ := if hl : l.val < 64 then A.g h t ⟨l.val, hl⟩ else 0
/-- The row's log-sum-exp. -/
def lse (t : Fin 16384) : ℝ := mx A h t + Real.log (sm A h t)

theorem sum_lanes (f : Fin 128 → ℝ) (h70 : ∀ l : Fin 128, 70 ≤ l.val → f l = 0) :
    ∑ l, f l = (∑ d : Fin 64, f ⟨d.val, by omega⟩) + (f 64 + f 65 + f 66 + f 67 + f 68 + f 69) := by
  rw [show (∑ l, f l) = ∑ l : Fin (64 + 64), f l from rfl, Fin.sum_univ_add]
  congr 1
  rw [show (∑ l : Fin 64, f (Fin.natAdd 64 l)) = ∑ l : Fin (6 + 58), f (Fin.natAdd 64 l) from rfl, Fin.sum_univ_add,
    Finset.sum_eq_zero (s := Finset.univ) (f := fun i : Fin 58 => f (Fin.natAdd 64 (Fin.natAdd 6 i)))
      (fun i _ => h70 _ (by simp [Fin.natAdd]; omega)), add_zero, Fin.sum_univ_six]
  rfl

theorem sum_ka_qa (t s : Fin 16384) :
    ∑ l, ka A h s l * qa A h t l = (∑ d, A.q h t d * A.k h s d) * (1 / 8) + rel A h t - rel A h s := by
  rw [sum_lanes]
  · simp [ka, qa, Finset.sum_mul]
    rw [Finset.sum_congr rfl (fun d _ => show A.k h s d * (A.q h t d * 8⁻¹) = A.q h t d * A.k h s d * 8⁻¹ by ring)]
    ring
  · intro l hl
    simp only [qa, ka]
    repeat rw [dif_neg (by omega)]
    rw [if_neg (by omega), if_neg (by omega)]; simp

theorem sum_va_ga (t s : Fin 16384) : ∑ l, va A h s l * ga A h t l = dp A h t s := by
  rw [sum_lanes]
  · simp [va, ga, dp]
    exact Finset.sum_congr rfl fun d _ => mul_comm _ _
  · intro l hl
    simp only [va]; rw [dif_neg (by omega), zero_mul]

/-- The kernel's exponential is the probability, for a key the query sees. -/
theorem exp_eq {t s : Fin 16384} (hs : s ≤ t) :
    Real.exp (∑ l, ka A h s l * qa A h t l - (lse A h t - (r A h (t.val / 512) - r A h (s.val / 512)))) = pr A h t s := by
  rw [sum_ka_qa, pr, ex, if_pos hs]
  have hS := sm_pos A h t
  rw [show (∑ d, A.q h t d * A.k h s d) * (1 / 8) + rel A h t - rel A h s - (lse A h t - (r A h (t.val / 512) - r A h (s.val / 512)))
      = (z A h t s - mx A h t) - Real.log (sm A h t) by unfold rel lse z; ring, Real.exp_sub, Real.exp_log hS]

/-! Sums over tiles. -/

/-- The part of key tile `j` in row `l` of the transposed dq accumulator. -/
def dqT (j : ℕ) (l : Fin 128) (t : Fin 16384) : ℝ := ∑ s : Fin 512, ka A h (at_ j s) l * ds A h t (at_ j s)
/-- The part of query tile `i` in row `l` of the transposed dk block. -/
def dkT (i : ℕ) (l : Fin 128) (s : Fin 16384) : ℝ := ∑ u : Fin 512, qa A h (at_ i u) l * ds A h (at_ i u) s
/-- The part of query tile `i` in row `d` of the transposed dv block. -/
def dvT (i : ℕ) (d : Fin 128) (s : Fin 16384) : ℝ := ∑ u : Fin 512, ga A h (at_ i u) d * pr A h (at_ i u) s

theorem dqT_of_lt {j : ℕ} (hj : j < 32) (l : Fin 128) {t : Fin 16384} (ht : t.val / 512 < j) : dqT A h j l t = 0 :=
  Finset.sum_eq_zero fun s _ => by rw [ds_of_lt A h (by rw [Fin.lt_def, at_val hj]; omega), mul_zero]
theorem dkT_of_lt {i : ℕ} (hi : i < 32) (l : Fin 128) {s : Fin 16384} (hs : i < s.val / 512) : dkT A h i l s = 0 :=
  Finset.sum_eq_zero fun u _ => by rw [ds_of_lt A h (by rw [Fin.lt_def, at_val hi]; omega), mul_zero]
theorem dvT_of_lt {i : ℕ} (hi : i < 32) (l : Fin 128) {s : Fin 16384} (hs : i < s.val / 512) : dvT A h i l s = 0 :=
  Finset.sum_eq_zero fun u _ => by rw [pr_of_lt A h (by rw [Fin.lt_def, at_val hi]; omega), mul_zero]

theorem sum_dqT (l : Fin 128) (t : Fin 16384) : ∑ j ∈ Finset.range 32, dqT A h j l t = ∑ s, ka A h s l * ds A h t s :=
  sum_at fun s => ka A h s l * ds A h t s

theorem sum_Ico {f : ℕ → ℝ} {j : ℕ} (hj : j ≤ 32) (h0 : ∀ i < j, f i = 0) : ∑ i ∈ Finset.Ico j 32, f i = ∑ i ∈ Finset.range 32, f i := by
  rw [← Finset.sum_range_add_sum_Ico f hj, Finset.sum_eq_zero (fun i hi => h0 i (Finset.mem_range.1 hi)), zero_add]

theorem sum_dkT (l : Fin 128) (s : Fin 16384) :
    ∑ i ∈ Finset.Ico (s.val / 512) 32, dkT A h i l s = ∑ t, qa A h t l * ds A h t s := by
  rw [sum_Ico (by omega) (fun i hi => dkT_of_lt A h (by omega) l hi)]
  exact sum_at fun t => qa A h t l * ds A h t s
theorem sum_dvT (l : Fin 128) (s : Fin 16384) :
    ∑ i ∈ Finset.Ico (s.val / 512) 32, dvT A h i l s = ∑ t, ga A h t l * pr A h t s := by
  rw [sum_Ico (by omega) (fun i hi => dvT_of_lt A h (by omega) l hi)]
  exact sum_at fun t => ga A h t l * pr A h t s

/-! The results. -/

theorem dq_of (t : Fin 16384) (d : Fin 64) :
    (∑ j ∈ Finset.range 32, dqT A h j ⟨d.val, by omega⟩ t) * (1 / 8) = dq A h t d := by
  rw [sum_dqT, dq, Finset.sum_congr rfl fun s _ => show ka A h s ⟨d.val, by omega⟩ * ds A h t s = ds A h t s * A.k h s d by
    simp [ka, mul_comm]]
theorem dk_of (s : Fin 16384) (d : Fin 64) : ∑ i ∈ Finset.Ico (s.val / 512) 32, dkT A h i ⟨d.val, by omega⟩ s = dk A h s d := by
  rw [sum_dkT, dk, Finset.sum_mul]
  exact Finset.sum_congr rfl fun t _ => by simp [qa]; ring
theorem dv_of (s : Fin 16384) (d : Fin 64) : ∑ i ∈ Finset.Ico (s.val / 512) 32, dvT A h i ⟨d.val, by omega⟩ s = dv A h s d := by
  rw [sum_dvT, dv]
  exact Finset.sum_congr rfl fun t _ => by simp [ga, mul_comm]
theorem dc_of (t : Fin 16384) :
    ∑ j ∈ Finset.range 32, dqT A h j 64 t + -(∑ i ∈ Finset.Ico (t.val / 512) 32, dkT A h i 67 t) = dc A h t := by
  rw [sum_dqT, sum_dkT, dc, sub_eq_add_neg,
    Finset.sum_congr rfl fun s _ => show ka A h s 64 * ds A h t s = ds A h t s by rw [show ka A h s 64 = 1 from by simp [ka], one_mul],
    Finset.sum_congr rfl fun u _ => show qa A h u 67 * ds A h u t = ds A h u t by rw [show qa A h u 67 = 1 from by simp [qa], one_mul]]

/-! Finite sums and maxima in the extended reals. -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum over a row whose unseen keys hold `⊥`. -/
theorem fold_max (t : Fin 16384) (x : Fin 16384 → EReal) (hx : ∀ s, x s = if s ≤ t then ((z A h t s : ℝ) : EReal) else ⊥) :
    Finset.univ.fold max (⊥ : EReal) x = ((mx A h t : ℝ) : EReal) := by
  apply le_antisymm
  · refine (Finset.fold_max_le _).2 ⟨bot_le, fun s _ => ?_⟩
    rw [hx s]; split
    · next hs => exact EReal.coe_le_coe_iff.2 (Finset.le_sup' (z A h t) (by simpa using hs))
    · exact bot_le
  · obtain ⟨s, hs, e⟩ := Finset.exists_mem_eq_sup' (s := Finset.univ.filter (· ≤ t)) ⟨t, by simp⟩ (z A h t)
    refine (Finset.le_fold_max _).2 (Or.inr ⟨s, Finset.mem_univ _, ?_⟩)
    rw [hx s, if_pos (by simpa using hs), mx, e]

end Cert.Spec

end
-- ==== Proof.PayAt.lean ====
/-
  The kernel's tile computations at an index, over the extended reals: with finite operands each is the same expression
  over the reals.
-/
module

public import proofs.«01_k».proof.Proof.Gen.KernelIdeal.Skeleton
public import proofs.«01_k».proof.Proof.Spec
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen Cert.Spec
open Idealize.ShloMosaic
open scoped BigOperators

/-- A sum of products of finite elements. -/
theorem sum_mul_coe {n : ℕ} {f g : Fin n → EReal} {a b : Fin n → ℝ} (hf : ∀ x, f x = ((a x : ℝ) : EReal)) (hg : ∀ x, g x = ((b x : ℝ) : EReal)) :
    ∑ x, f x * g x = ((∑ x, a x * b x : ℝ) : EReal) := by
  rw [← coe_sum]
  exact Finset.sum_congr rfl fun x _ => by rw [hf, hg, EReal.coe_mul]

variable {v1 : FVec Ideal S512x512 .f32} {v2 : FVec Ideal S512x512 .f32} {vb : FVec Ideal S512x512 .bf16}
  {vK : Vec Ideal S1x512x128 .bf16} {vQ : Vec Ideal S1x128x512 .bf16} {x y : Elt Ideal .f32}
  {vL vM : Vec Ideal S1x1x512 .f32} {w : FVec Ideal S512x128 .bf16}
  {g64 : FVec Ideal S64x512 .f32} {g80 : FVec Ideal S80x512 .f32} {q64 : Vec Ideal S1x64x512 .bf16} {q80 : Vec Ideal S1x80x512 .bf16}
  {a80 : Vec Ideal S1x80x512 .f32}
  {K : Fin 512 → Fin 128 → ℝ} {Q : Fin 128 → Fin 512 → ℝ} {a b : ℝ} {L : Fin 512 → ℝ}
  {P D Z : Fin 512 → Fin 512 → ℝ} {G64 B64 : Fin 64 → Fin 512 → ℝ} {G80 B80 : Fin 80 → Fin 512 → ℝ}

/-- The kernel's mask: a key counts for the queries at and after it. -/
theorem see_select (s u : Fin 512) (A B : Elt Ideal .f32) :
    Scalar.select (IntOp.cmpi CmpIPredicate.sge (BitVec.ofNat 32 u.val) (BitVec.ofNat 32 s.val)) A B = if s ≤ u then A else B := by
  show (if IntOp.cmpi .sge (BitVec.ofNat 32 u.val) (BitVec.ofNat 32 s.val) = 1#1 then A else B) = _
  refine if_congr ?_ rfl rfl
  rw [WordCmp.cmpi_sge_ofNat (by have := u.isLt; norm_num; omega) (by have := s.isLt; norm_num; omega)]
  by_cases h : s.val ≤ u.val <;> simp [h, Fin.le_def]

/-- The exponential of a masked logit. -/
theorem exp_masked (c : Prop) [Decidable c] (z y : ℝ) (w : EReal) (hw : w = ((y : ℝ) : EReal)) :
    Ideal.exp ((if c then ((z : ℝ) : EReal) else ⊥) - w) = ((if c then Real.exp (z - y) else 0 : ℝ) : EReal) := by
  subst hw
  split
  · rfl
  · rw [EReal.bot_sub]; rfl

theorem pay4_at (hK : ∀ s l, vK (ix3 0 s l) = ((K s l : ℝ) : EReal)) (hQ : ∀ l u, vQ (ix3 0 l u) = ((Q l u : ℝ) : EReal)) (hx : x = ((a : ℝ) : EReal)) (hy : y = ((b : ℝ) : EReal)) (hL : ∀ u, vL (ix3 0 0 u) = ((L u : ℝ) : EReal)) (s u : Fin 512) :
    k0_pay4 vK vQ x y vL (ix2 s u) = ((Real.exp (∑ l, K s l * Q l u - (L u - (a - b))) : ℝ) : EReal) := by
  pointwise [k0_pay4]
  rw [sum_mul_coe (hK s) (fun l => hQ l u), hL, hx, hy]
  rfl

theorem pay5_at (hK : ∀ s l, vK (ix3 0 s l) = ((K s l : ℝ) : EReal)) (hQ : ∀ l u, vQ (ix3 0 l u) = ((Q l u : ℝ) : EReal)) (hM : ∀ u, vM (ix3 0 0 u) = ((L u : ℝ) : EReal)) (s u : Fin 512) :
    k0_pay5 vK vQ vM (ix2 s u) = ((∑ l, K s l * Q l u - L u : ℝ) : EReal) := by
  pointwise [k0_pay5]
  rw [sum_mul_coe (hK s) (fun l => hQ l u), hM]
  rfl

theorem pay6_at (h1 : ∀ s u, v1 (ix2 s u) = ((P s u : ℝ) : EReal)) (h2 : ∀ s u, v2 (ix2 s u) = ((Z s u : ℝ) : EReal)) (s u : Fin 512) :
    k0_pay6 v1 v2 (ix2 s u) = ((P s u * Z s u : ℝ) : EReal) := by
  pointwise [k0_pay6]
  rw [h1, h2]
  rfl

theorem pay7_at (hg : ∀ d s, g64 (ix2 d s) = ((G64 d s : ℝ) : EReal)) (hP : ∀ s u, v1 (ix2 s u) = ((P s u : ℝ) : EReal)) (hq : ∀ l u, q64 (ix3 0 l u) = ((B64 l u : ℝ) : EReal)) (d : Fin 64) (s : Fin 512) :
    k0_pay7 g64 v1 q64 (ix2 d s) = ((G64 d s + ∑ u, B64 d u * P s u : ℝ) : EReal) := by
  pointwise [k0_pay7]
  rw [sum_mul_coe (b := fun u => P s u) (hq d) (fun u => hP s u), hg]
  rfl

theorem pay8_at (hg : ∀ d s, g80 (ix2 d s) = ((G80 d s : ℝ) : EReal)) (hD : ∀ s u, k0_pay6 v1 v2 (ix2 s u) = ((D s u : ℝ) : EReal)) (hq : ∀ l u, q80 (ix3 0 l u) = ((B80 l u : ℝ) : EReal)) (d : Fin 80) (s : Fin 512) :
    k0_pay8 g80 v1 v2 q80 (ix2 d s) = ((G80 d s + ∑ u, B80 d u * D s u : ℝ) : EReal) := by
  pointwise [k0_pay8]
  rw [sum_mul_coe (b := fun u => D s u) (hq d) (fun u => hD s u), hg]
  rfl

theorem pay9_at (hg : ∀ d s, a80 (ix3 0 d s) = ((G80 d s : ℝ) : EReal)) (hD : ∀ s u, k0_pay6 v1 v2 (ix2 s u) = ((D s u : ℝ) : EReal)) (hq : ∀ l u, q80 (ix3 0 l u) = ((B80 l u : ℝ) : EReal)) (d : Fin 80) (u : Fin 512) :
    k0_pay9 v1 v2 a80 q80 (ix3 0 d u) = ((G80 d u + ∑ s, B80 d s * D s u : ℝ) : EReal) := by
  pointwise [k0_pay9]
  rw [sum_mul_coe (b := fun s => D s u) (hq d) (fun s => hD s u), hg]
  rfl

theorem pay10_at (hK : ∀ s l, vK (ix3 0 s l) = ((K s l : ℝ) : EReal)) (hQ : ∀ l u, vQ (ix3 0 l u) = ((Q l u : ℝ) : EReal)) (s u : Fin 512) :
    k0_pay10 vK vQ (ix2 s u) = ((∑ l, K s l * Q l u : ℝ) : EReal) := by
  pointwise [k0_pay10]
  rw [sum_mul_coe (hK s) (fun l => hQ l u)]

theorem pay11_at (hK : ∀ s l, vK (ix3 0 s l) = ((K s l : ℝ) : EReal)) (s : Fin 512) (l : Fin 128) :
    k0_pay11 vK (ix2 s l) = ((K s l : ℝ) : EReal) := by
  pointwise [k0_pay11]
  rw [hK]

theorem pay12_at (h1 : ∀ s u, v1 (ix2 s u) = ((Z s u : ℝ) : EReal)) (hx : x = ((a : ℝ) : EReal)) (hy : y = ((b : ℝ) : EReal)) (hL : ∀ u, vL (ix3 0 0 u) = ((L u : ℝ) : EReal)) (s u : Fin 512) :
    k0_pay12 v1 x y vL (ix2 s u) = ((Real.exp (Z s u - (L u - (a - b))) : ℝ) : EReal) := by
  pointwise [k0_pay12]
  rw [h1, hL, hx, hy]
  rfl

theorem pay13_at (hP : ∀ s u, k0_pay12 v1 x y vL (ix2 s u) = ((P s u : ℝ) : EReal)) (hw : ∀ s l, w (ix2 s l) = ((K s l : ℝ) : EReal)) (hQ : ∀ l u, vQ (ix3 0 l u) = ((Q l u : ℝ) : EReal)) (hM : ∀ u, vM (ix3 0 0 u) = ((L u : ℝ) : EReal)) (s u : Fin 512) :
    k0_pay13 v1 w vQ x y vL vM (ix2 s u) = ((P s u * (∑ l, K s l * Q l u - L u) : ℝ) : EReal) := by
  pointwise [k0_pay13]
  rw [sum_mul_coe (hw s) (fun l => hQ l u), hM, hP]
  rfl

theorem pay14_at (hg : ∀ d s, g64 (ix2 d s) = ((G64 d s : ℝ) : EReal)) (hP : ∀ s u, k0_pay12 v1 x y vL (ix2 s u) = ((P s u : ℝ) : EReal)) (hq : ∀ l u, q64 (ix3 0 l u) = ((B64 l u : ℝ) : EReal)) (d : Fin 64) (s : Fin 512) :
    k0_pay14 g64 v1 x y vL q64 (ix2 d s) = ((G64 d s + ∑ u, B64 d u * P s u : ℝ) : EReal) := by
  pointwise [k0_pay14]
  rw [sum_mul_coe (b := fun u => P s u) (hq d) (fun u => hP s u), hg]
  rfl

theorem pay15_at (hg : ∀ d s, g80 (ix2 d s) = ((G80 d s : ℝ) : EReal)) (hD : ∀ s u, k0_pay13 v1 w vQ x y vL vM (ix2 s u) = ((D s u : ℝ) : EReal)) (hq : ∀ l u, q80 (ix3 0 l u) = ((B80 l u : ℝ) : EReal)) (d : Fin 80) (s : Fin 512) :
    k0_pay15 g80 v1 w vQ x y vL vM q80 (ix2 d s) = ((G80 d s + ∑ u, B80 d u * D s u : ℝ) : EReal) := by
  pointwise [k0_pay15]
  rw [sum_mul_coe (b := fun u => D s u) (hq d) (fun u => hD s u), hg]
  rfl

theorem pay16_at (hg : ∀ d s, a80 (ix3 0 d s) = ((G80 d s : ℝ) : EReal)) (d : Fin 80) (u : Fin 512) :
    k0_pay16 a80 (ix2 d u) = ((G80 d u : ℝ) : EReal) := by
  pointwise [k0_pay16]
  rw [hg]

theorem pay48_at (hg : ∀ d s, g80 (ix2 d s) = ((G80 d s : ℝ) : EReal)) (hD : ∀ s u, vb (ix2 s u) = ((D s u : ℝ) : EReal)) (hq : ∀ l u, q80 (ix3 0 l u) = ((B80 l u : ℝ) : EReal)) (d : Fin 80) (u : Fin 512) :
    k0_pay48 vb g80 q80 (ix3 0 d u) = ((G80 d u + ∑ s, B80 d s * D s u : ℝ) : EReal) := by
  pointwise [k0_pay48]
  rw [sum_mul_coe (b := fun s => D s u) (hq d) (fun s => hD s u), hg]
  rfl

theorem pay35_at (hK : ∀ s l, vK (ix3 0 s l) = ((K s l : ℝ) : EReal)) (hQ : ∀ l u, vQ (ix3 0 l u) = ((Q l u : ℝ) : EReal)) (s u : Fin 512) :
    k0_pay35 vK vQ (ix2 s u) = ((∑ l, K s l * Q l u : ℝ) : EReal) := by
  pointwise [k0_pay35]
  rw [sum_mul_coe (hK s) (fun l => hQ l u)]

theorem pay36_at (hK : ∀ s l, vK (ix3 0 s l) = ((K s l : ℝ) : EReal)) (hQ : ∀ l u, vQ (ix3 0 l u) = ((Q l u : ℝ) : EReal)) (s u : Fin 512) :
    k0_pay36 vK vQ (ix2 s u) = if s ≤ u then ((∑ l, K s l * Q l u : ℝ) : EReal) else ⊥ := by
  pointwise [k0_pay36]
  rw [sum_mul_coe (hK s) (fun l => hQ l u), see_select, IdealRules.named_const.ideal_named_scalar _ _ _ _ rfl]

theorem pay37_at (h1 : ∀ s u, v1 (ix2 s u) = if s ≤ u then ((Z s u : ℝ) : EReal) else ⊥) (hx : x = ((a : ℝ) : EReal)) (hy : y = ((b : ℝ) : EReal)) (hL : ∀ u, vL (ix3 0 0 u) = ((L u : ℝ) : EReal)) (s u : Fin 512) :
    k0_pay37 v1 x y vL (ix2 s u) = ((if s ≤ u then Real.exp (Z s u - (L u - (a - b))) else 0 : ℝ) : EReal) := by
  pointwise [k0_pay37]
  rw [h1, hL, hx, hy]
  exact exp_masked _ _ _ _ rfl

theorem pay38_at (h2 : ∀ s u, v2 (ix2 s u) = ((Z s u : ℝ) : EReal)) (hP : ∀ s u, k0_pay37 v1 x y vL (ix2 s u) = ((P s u : ℝ) : EReal)) (hM : ∀ u, vM (ix3 0 0 u) = ((L u : ℝ) : EReal)) (s u : Fin 512) :
    k0_pay38 v2 v1 x y vL vM (ix2 s u) = ((P s u * (Z s u - L u) : ℝ) : EReal) := by
  pointwise [k0_pay38]
  rw [h2, hM, hP]
  rfl

theorem pay39_at (hg : ∀ d s, g64 (ix2 d s) = ((G64 d s : ℝ) : EReal)) (hP : ∀ s u, k0_pay37 v1 x y vL (ix2 s u) = ((P s u : ℝ) : EReal)) (hq : ∀ l u, q64 (ix3 0 l u) = ((B64 l u : ℝ) : EReal)) (d : Fin 64) (s : Fin 512) :
    k0_pay39 g64 v1 x y vL q64 (ix2 d s) = ((G64 d s + ∑ u, B64 d u * P s u : ℝ) : EReal) := by
  pointwise [k0_pay39]
  rw [sum_mul_coe (b := fun u => P s u) (hq d) (fun u => hP s u), hg]
  rfl

theorem pay40_at (hg : ∀ d s, g80 (ix2 d s) = ((G80 d s : ℝ) : EReal)) (hD : ∀ s u, k0_pay38 v2 v1 x y vL vM (ix2 s u) = ((D s u : ℝ) : EReal)) (hq : ∀ l u, q80 (ix3 0 l u) = ((B80 l u : ℝ) : EReal)) (d : Fin 80) (s : Fin 512) :
    k0_pay40 g80 v2 v1 x y vL vM q80 (ix2 d s) = ((G80 d s + ∑ u, B80 d u * D s u : ℝ) : EReal) := by
  pointwise [k0_pay40]
  rw [sum_mul_coe (b := fun u => D s u) (hq d) (fun u => hD s u), hg]
  rfl

theorem pay41_at (hg : ∀ d s, a80 (ix3 0 d s) = ((G80 d s : ℝ) : EReal)) (hD : ∀ s u, k0_pay38 v2 v1 x y vL vM (ix2 s u) = ((D s u : ℝ) : EReal)) (hq : ∀ l u, q80 (ix3 0 l u) = ((B80 l u : ℝ) : EReal)) (d : Fin 80) (u : Fin 512) :
    k0_pay41 v2 v1 x y vL vM a80 q80 (ix3 0 d u) = ((G80 d u + ∑ s, B80 d s * D s u : ℝ) : EReal) := by
  pointwise [k0_pay41]
  rw [sum_mul_coe (b := fun s => D s u) (hq d) (fun s => hD s u), hg]
  rfl

theorem pay42_at (hK : ∀ s l, vK (ix3 0 s l) = ((K s l : ℝ) : EReal)) (hQ : ∀ l u, vQ (ix3 0 l u) = ((Q l u : ℝ) : EReal)) (hx : x = ((a : ℝ) : EReal)) (hy : y = ((b : ℝ) : EReal)) (hL : ∀ u, vL (ix3 0 0 u) = ((L u : ℝ) : EReal)) (s u : Fin 512) :
    k0_pay42 (iota .tc S512x512 32 [0] iota_S512x512_d0_w32) (iota .tc S512x512 32 [1] iota_S512x512_d1_w32) vK vQ x y vL (ix2 s u) = ((if s ≤ u then Real.exp (∑ l, K s l * Q l u - (L u - (a - b))) else 0 : ℝ) : EReal) := by
  pointwise [k0_pay42]
  rw [sum_mul_coe (hK s) (fun l => hQ l u), see_select, IdealRules.named_const.ideal_named_scalar _ _ _ _ rfl, hL, hx, hy]
  exact exp_masked _ _ _ _ rfl

theorem pay43_at (hK : ∀ s l, vK (ix3 0 s l) = ((K s l : ℝ) : EReal)) (hQ : ∀ l u, vQ (ix3 0 l u) = ((Q l u : ℝ) : EReal)) (hM : ∀ u, vM (ix3 0 0 u) = ((L u : ℝ) : EReal)) (s u : Fin 512) :
    k0_pay43 vK vQ vM (ix2 s u) = ((∑ l, K s l * Q l u - L u : ℝ) : EReal) := by
  pointwise [k0_pay43]
  rw [sum_mul_coe (hK s) (fun l => hQ l u), hM]
  rfl

theorem pay44_at (h1 : ∀ s u, v1 (ix2 s u) = ((P s u : ℝ) : EReal)) (h2 : ∀ s u, v2 (ix2 s u) = ((Z s u : ℝ) : EReal)) (s u : Fin 512) :
    k0_pay44 v1 v2 (ix2 s u) = ((P s u * Z s u : ℝ) : EReal) := by
  pointwise [k0_pay44]
  rw [h1, h2]
  rfl

theorem pay45_at (hg : ∀ d s, g64 (ix2 d s) = ((G64 d s : ℝ) : EReal)) (hP : ∀ s u, v1 (ix2 s u) = ((P s u : ℝ) : EReal)) (hq : ∀ l u, q64 (ix3 0 l u) = ((B64 l u : ℝ) : EReal)) (d : Fin 64) (s : Fin 512) :
    k0_pay45 g64 v1 q64 (ix2 d s) = ((G64 d s + ∑ u, B64 d u * P s u : ℝ) : EReal) := by
  pointwise [k0_pay45]
  rw [sum_mul_coe (b := fun u => P s u) (hq d) (fun u => hP s u), hg]
  rfl

theorem pay46_at (hg : ∀ d s, g80 (ix2 d s) = ((G80 d s : ℝ) : EReal)) (hD : ∀ s u, k0_pay44 v1 v2 (ix2 s u) = ((D s u : ℝ) : EReal)) (hq : ∀ l u, q80 (ix3 0 l u) = ((B80 l u : ℝ) : EReal)) (d : Fin 80) (s : Fin 512) :
    k0_pay46 g80 v1 v2 q80 (ix2 d s) = ((G80 d s + ∑ u, B80 d u * D s u : ℝ) : EReal) := by
  pointwise [k0_pay46]
  rw [sum_mul_coe (b := fun u => D s u) (hq d) (fun u => hD s u), hg]
  rfl

theorem pay47_at (hg : ∀ d s, a80 (ix3 0 d s) = ((G80 d s : ℝ) : EReal)) (hD : ∀ s u, k0_pay44 v1 v2 (ix2 s u) = ((D s u : ℝ) : EReal)) (hq : ∀ l u, q80 (ix3 0 l u) = ((B80 l u : ℝ) : EReal)) (d : Fin 80) (u : Fin 512) :
    k0_pay47 v1 v2 a80 q80 (ix3 0 d u) = ((G80 d u + ∑ s, B80 d s * D s u : ℝ) : EReal) := by
  pointwise [k0_pay47]
  rw [sum_mul_coe (b := fun s => D s u) (hq d) (fun s => hD s u), hg]
  rfl

theorem pay31_at  (d : Fin 80) (s : Fin 512) :
    k0_pay31 (F := Ideal) (ix2 d s) = ((0 : ℝ) : EReal) := by
  pointwise [k0_pay31]
  rfl

theorem pay32_at  (d : Fin 64) (s : Fin 512) :
    k0_pay32 (F := Ideal) (ix2 d s) = ((0 : ℝ) : EReal) := by
  pointwise [k0_pay32]
  rfl

theorem pay33_at  (d : Fin 80) (s : Fin 512) :
    k0_pay33 (F := Ideal) (ix2 d s) = ((0 : ℝ) : EReal) := by
  pointwise [k0_pay33]
  rfl

theorem pay34_at  (d : Fin 64) (s : Fin 512) :
    k0_pay34 (F := Ideal) (ix2 d s) = ((0 : ℝ) : EReal) := by
  pointwise [k0_pay34]
  rfl

theorem pay30_at  (e : Fin 2) (d : Fin 80) (t : Fin 16384) :
    k0_pay30 (F := Ideal) (ix3 e d t) = ((0 : ℝ) : EReal) := by
  pointwise [k0_pay30]
  rfl

end Cert.KernelIdeal.Hand
-- ==== Proof.TripAt.lean ====
/-
  One trip of the kernel's inner loop, over the reals: the tiles it adds to the dk and dv sums it carries and to the dq
  accumulator.
-/
module

public import proofs.«01_k».proof.Proof.Offs
public import proofs.«01_k».proof.Proof.PayAt
public import Idealize.ShloMosaic.Lib.WritesUnit

@[expose] public section

set_option maxRecDepth 16384
set_option maxHeartbeats 1000000

noncomputable section

namespace Cert.KernelIdeal.Hand

open Cert.KernelIdeal Cert.KernelIdeal.Gen Cert.Spec
open Idealize.ShloMosaic Idealize.ShloMosaic.TcCoe
open scoped BigOperators

/-- Head `a` of the pair of a grid point. -/
def hd (i : grid0.Coords) (a : Fin 2) : Fin 8 := ⟨2 * (hp i).val + a.val, by have := (hp i).isLt; omega⟩

/-- What a grid point finds in its operands. -/
structure Blocks (A : Args) (i : grid0.Coords)
    (arg2 : Memref sig .tc .smem S8x32 .f32) (arg3 : Memref sig .tc .vmem S2x512x128 .bf16) (arg4 : Memref sig .tc .vmem S2x80x512 .bf16)
    (arg5 : Memref sig .tc .vmem S2x512x128 .bf16) (arg6 : Memref sig .tc .vmem S2x1x16384 .f32) (arg7 : Memref sig .tc .vmem S2x1x16384 .f32)
    (arg8 : Memref sig .tc .vmem S2x128x16384 .bf16) (arg9 : Memref sig .tc .vmem S2x128x16384 .bf16)
    (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty)
    (X8 : BufTy.Contents (Elt Ideal) arg8.view.ty) (X9 : BufTy.Contents (Elt Ideal) arg9.view.ty) : Prop where
  r : ∀ (h : Fin 8) (n : Fin 32), arg2.view.read (Elt Ideal) X2 (ix2 h n) = ((r A h n.val : ℝ) : EReal)
  ka : ∀ (a : Fin 2) (s : Fin 512) (l : Fin 128), arg3.view.read (Elt Ideal) X3 (ix3 a s l) = ((ka A (hd i a) (at_ (kt i).val s) l : ℝ) : EReal)
  kat : ∀ (a : Fin 2) (l : Fin 80) (s : Fin 512), arg4.view.read (Elt Ideal) X4 (ix3 a l s) = ((Cert.Spec.ka A (hd i a) (at_ (kt i).val s) ⟨l.val, by omega⟩ : ℝ) : EReal)
  va : ∀ (a : Fin 2) (s : Fin 512) (l : Fin 128), arg5.view.read (Elt Ideal) X5 (ix3 a s l) = ((va A (hd i a) (at_ (kt i).val s) l : ℝ) : EReal)
  lse : ∀ (a : Fin 2) (t : Fin 16384), arg6.view.read (Elt Ideal) X6 (ix3 a 0 t) = ((lse A (hd i a) t : ℝ) : EReal)
  dl : ∀ (a : Fin 2) (t : Fin 16384), arg7.view.read (Elt Ideal) X7 (ix3 a 0 t) = ((dl A (hd i a) t : ℝ) : EReal)
  qa : ∀ (a : Fin 2) (l : Fin 128) (t : Fin 16384), arg8.view.read (Elt Ideal) X8 (ix3 a l t) = ((qa A (hd i a) t l : ℝ) : EReal)
  ga : ∀ (a : Fin 2) (l : Fin 128) (t : Fin 16384), arg9.view.read (Elt Ideal) X9 (ix3 a l t) = ((ga A (hd i a) t l : ℝ) : EReal)

/-- The dq accumulator holds `F`, by head of the pair, row and query. -/
def ScIs (F : Fin 2 → Fin 128 → Fin 16384 → ℝ) (f : BufTy.Contents (Elt Ideal) scM.view.ty) : Prop :=
  ∀ (a : Fin 2) (l : Fin 80) (t : Fin 16384), scM.view.read (Elt Ideal) f (ix3 a l t) = ((F a ⟨l.val, by omega⟩ t : ℝ) : EReal)

/-- The carried sums are `f` (dk) and `g` (dv), by head of the pair, row and key. -/
structure AccIs (f g : Fin 2 → Fin 128 → Fin 512 → ℝ) (acc : Acc Ideal) : Prop where
  k0 : ∀ (l : Fin 80) (s : Fin 512), acc.1 (ix2 l s) = ((f 0 ⟨l.val, by omega⟩ s : ℝ) : EReal)
  v0 : ∀ (d : Fin 64) (s : Fin 512), acc.2.1 (ix2 d s) = ((g 0 ⟨d.val, by omega⟩ s : ℝ) : EReal)
  k1 : ∀ (l : Fin 80) (s : Fin 512), acc.2.2.1 (ix2 l s) = ((f 1 ⟨l.val, by omega⟩ s : ℝ) : EReal)
  v1 : ∀ (d : Fin 64) (s : Fin 512), acc.2.2.2 (ix2 d s) = ((g 1 ⟨d.val, by omega⟩ s : ℝ) : EReal)

/-- A tile's column among all. -/
theorem at_of {q : ℕ} (hq : q < 32) (u : Fin 512) : (at_ q u).val = 512 * q + u.val := by rw [at_val hq]; omega

theorem at_div {q : ℕ} (hq : q < 32) (u : Fin 512) : (at_ q u).val / 512 = q := by rw [at_val hq]; omega

theorem exp_tile (A : Args) (h : Fin 8) {q j : ℕ} (hq : q < 32) (hj : j < 32) {u s : Fin 512} (hs : at_ j s ≤ at_ q u) :
    Real.exp (∑ l, ka A h (at_ j s) l * qa A h (at_ q u) l - (lse A h (at_ q u) - (r A h q - r A h j))) = pr A h (at_ q u) (at_ j s) := by
  have := exp_eq A h hs
  rwa [at_div hq, at_div hj] at this

/-- Two tiles stored, one for each head of the pair, over an accumulator that holds `F`. -/
theorem sc_store {F : Fin 2 → Fin 128 → Fin 16384 → ℝ} {f : BufTy.Contents (Elt Ideal) scM.view.ty} (hF : ScIs F f) {q : ℕ} (hq : q < 32)
    (T : Fin 2 → Fin 128 → Fin 16384 → ℝ) {o1 o0 : Fin 3 → ℕ} (e1 : o1 = ![1, 0, 512 * q]) (e0 : o0 = ![0, 0, 512 * q])
    (inb1 : ∀ a : Fin 3, o1 a + S1x80x512.size a ≤ S2x80x16384.size a) (inb0 : ∀ a : Fin 3, o0 a + S1x80x512.size a ≤ S2x80x16384.size a)
    (w1 w0 : S1x80x512.Idx → Elt Ideal .f32)
    (h1 : ∀ (l : Fin 80) (u : Fin 512), w1 (ix3 0 l u) = ((F 1 ⟨l.val, by omega⟩ (at_ q u) + T 1 ⟨l.val, by omega⟩ (at_ q u) : ℝ) : EReal))
    (h0 : ∀ (l : Fin 80) (u : Fin 512), w0 (ix3 0 l u) = ((F 0 ⟨l.val, by omega⟩ (at_ q u) + T 0 ⟨l.val, by omega⟩ (at_ q u) : ℝ) : EReal)) :
    ScIs (fun a l t => F a l t + if t.val / 512 = q then T a l t else 0)
      (scM.view.writes (Elt Ideal) f [⟨Rect.unit (s := S2x80x16384) o1 S1x80x512.size inb1, w1⟩, ⟨Rect.unit (s := S2x80x16384) o0 S1x80x512.size inb0, w0⟩]) := by
  intro a l t
  beta_reduce
  by_cases ht : t.val / 512 = q
  · have e : t = at_ q ⟨t.val % 512, Nat.mod_lt _ (by norm_num)⟩ := by
      conv_lhs => rw [eq_at t]
      rw [ht]
    rw [if_pos ht]
    fin_cases a
    · rw [View.read_writes_cons_unit_of_not_mem (Val := Elt Ideal) scM.view f inb1 w1 _ _ e1 (0 : Fin 3) (Or.inl (show 0 < 1 by norm_num)),
        View.read_writes_cons_unit_of_mem (Val := Elt Ideal) scM.view f inb0 w0 [] _ (ix3 0 l ⟨t.val % 512, Nat.mod_lt _ (by norm_num)⟩) e0 (by
          intro x; fin_cases x
          · rfl
          · exact (Nat.zero_add _).symm
          · show t.val = 512 * q + t.val % 512; omega), h0, ← e]
      rfl
    · rw [View.read_writes_cons_unit_of_mem (Val := Elt Ideal) scM.view f inb1 w1 _ _ (ix3 0 l ⟨t.val % 512, Nat.mod_lt _ (by norm_num)⟩) e1 (by
          intro x; fin_cases x
          · rfl
          · exact (Nat.zero_add _).symm
          · show t.val = 512 * q + t.val % 512; omega), h1, ← e]
      rfl
  · rw [if_neg ht, add_zero,
      View.read_writes_cons_unit_of_not_mem (Val := Elt Ideal) scM.view f inb1 w1 _ _ e1 (2 : Fin 3) (by
        show t.val < 512 * q ∨ 512 * q + 512 ≤ t.val; omega),
      View.read_writes_cons_unit_of_not_mem (Val := Elt Ideal) scM.view f inb0 w0 _ _ e0 (2 : Fin 3) (by
        show t.val < 512 * q ∨ 512 * q + 512 ≤ t.val; omega), View.writes_nil]
    exact hF a l t

/-- A one-element load. -/
theorem ldf {α : EltTy → Type} {e : EltTy} {a b : ℕ} (X : (⟨2, ![a, b]⟩ : Shape).Idx → α e) {off : Fin 2 → ℕ} {o0 o1 : ℕ} (h : off = ![o0, o1])
    (inb : ∀ x : Fin 2, off x + (![1, 1] : Fin 2 → ℕ) x ≤ (⟨2, ![a, b]⟩ : Shape).size x) (hn)
    (y0 : Fin a) (y1 : Fin b) (h0 : y0.val = o0) (h1 : y1.val = o1) :
    View.ld (Val := α) X (Rect.unit (s := ⟨2, ![a, b]⟩) off ![1, 1] inb) (Shape.Idx.first hn) = X (ix2 y0 y1) := by
  subst h
  refine View.ld_unit_apply_of X _ _ inb _ _ fun x => ?_
  fin_cases x
  · exact h0
  · exact h1

section Trip
variable (c : Dev nD) (i : grid0.Coords)
  (arg2 : Memref sig .tc .smem S8x32 .f32) (harg2 : arg2.IsWhole)
  (arg3 : Memref sig .tc .vmem S2x512x128 .bf16) (harg3 : arg3.IsWhole)
  (arg4 : Memref sig .tc .vmem S2x80x512 .bf16) (harg4 : arg4.IsWhole)
  (arg5 : Memref sig .tc .vmem S2x512x128 .bf16) (harg5 : arg5.IsWhole)
  (arg6 : Memref sig .tc .vmem S2x1x16384 .f32) (harg6 : arg6.IsWhole)
  (arg7 : Memref sig .tc .vmem S2x1x16384 .f32) (harg7 : arg7.IsWhole)
  (arg8 : Memref sig .tc .vmem S2x128x16384 .bf16) (harg8 : arg8.IsWhole)
  (arg9 : Memref sig .tc .vmem S2x128x16384 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x1x512 .f32) (harg12 : arg12.IsWhole)
  (v172_r0 : DmaSems sig S_) (v172_r1 : DmaSems sig S_)
  (arg0 : BitVec 32) (arg1 : BitVec 32)
  (v7 : FVec Ideal S80x512 .f32) (v8 : FVec Ideal S64x512 .f32) (v10 : BitVec 32)
  (v57 : FVec Ideal S64x512 .f32) (v62 : FVec Ideal S80x512 .f32)
  (v107 : FVec Ideal S512x512 .f32) (v112 : FVec Ideal S512x512 .f32) (v137 : BitVec 32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty)
  {A : Args} (hB : Blocks A i arg2 arg3 arg4 arg5 arg6 arg7 arg8 arg9 X2 X3 X4 X5 X6 X7 X8 X9)
  (k : Fin (k0_t1_loop i).trips)

/-- The query tile of a trip. -/
abbrev qt (i : grid0.Coords) (k : Fin (k0_t1_loop i).trips) : ℕ := (kt i).val + 1 + k.val

theorem qt_lt : qt i k < 32 := by
  have h := k.isLt
  have e := trips_1 i
  have := (kt i).isLt
  unfold qt
  omega

theorem key_le (s u : Fin 512) : at_ (kt i).val s ≤ at_ (qt i k) u := by
  rw [Fin.le_def, at_val (kt i).isLt, at_val (qt_lt i k)]
  have := s.isLt
  show (kt i).val * 512 + s.val ≤ ((kt i).val + 1 + k.val) * 512 + u.val
  omega

include hB

theorem r_at : trip1.sl.r i arg2 X2 k = ((r A (hd i 0) (qt i k) : ℝ) : EReal) :=
  (ldf (arg2.view.read (Elt Ideal) X2) (off13_eq i k 0) _ _ (hd i 0) ⟨qt i k, qt_lt i k⟩ rfl rfl).trans (hB.r _ _)

theorem r_9_at : trip1.sl.r_9 i arg2 X2 k = ((r A (hd i 1) (qt i k) : ℝ) : EReal) :=
  (ldf (arg2.view.read (Elt Ideal) X2) (off13_eq i k 1) _ _ (hd i 1) ⟨qt i k, qt_lt i k⟩ rfl rfl).trans (hB.r _ _)

theorem r_1_at : trip1.sl.r_1 i arg2 X2 = ((r A (hd i 0) ((kt i).val) : ℝ) : EReal) :=
  (ldf (arg2.view.read (Elt Ideal) X2) (off14_eq i 0) _ _ (hd i 0) (kt i) rfl rfl).trans (hB.r _ _)

theorem r_10_at : trip1.sl.r_10 i arg2 X2 = ((r A (hd i 1) ((kt i).val) : ℝ) : EReal) :=
  (ldf (arg2.view.read (Elt Ideal) X2) (off14_eq i 1) _ _ (hd i 1) (kt i) rfl rfl).trans (hB.r _ _)

theorem p0_at (s u : Fin 512) : trip1.sl.r_2 i arg2 arg3 arg6 arg8 X2 X3 X6 X8 k (ix2 s u) = ((pr A (hd i 0) (at_ (qt i k) u) (at_ (kt i).val s) : ℝ) : EReal) := by
  refine (pay4_at (fun s l => (ld3 (arg3.view.read (Elt Ideal) X3) rfl _ 0 s l 0 s l (by first | rfl | decide) (Nat.zero_add _).symm (Nat.zero_add _).symm).trans (hB.ka 0 s l)) (fun l u => (ld3 (arg8.view.read (Elt Ideal) X8) (off12_eq i k) _ 0 l u 0 l (at_ (qt i k) u) rfl (Nat.zero_add _).symm (at_of (qt_lt i k) u)).trans (hB.qa 0 l _))
    (r_at i arg2 arg3 arg4 arg5 arg6 arg7 arg8 arg9 X2 X3 X4 X5 X6 X7 X8 X9 hB k) (r_1_at i arg2 arg3 arg4 arg5 arg6 arg7 arg8 arg9 X2 X3 X4 X5 X6 X7 X8 X9 hB)
    (fun u => (ld3 (arg6.view.read (Elt Ideal) X6) (off15_eq i k) _ 0 0 u 0 0 (at_ (qt i k) u) rfl rfl (at_of (qt_lt i k) u)).trans (hB.lse 0 _)) s u).trans ?_
  rw [exp_tile A _ (qt_lt i k) (kt i).isLt (key_le i k s u)]

theorem e0_at (s u : Fin 512) : trip1.sl.r_3 i arg5 arg7 arg9 X5 X7 X9 k (ix2 s u)
    = ((dp A (hd i 0) (at_ (qt i k) u) (at_ (kt i).val s) - dl A (hd i 0) (at_ (qt i k) u) : ℝ) : EReal) := by
  refine (pay5_at (fun s l => (ld3 (arg5.view.read (Elt Ideal) X5) rfl _ 0 s l 0 s l (by first | rfl | decide) (Nat.zero_add _).symm (Nat.zero_add _).symm).trans (hB.va 0 s l)) (fun l u => (ld3 (arg9.view.read (Elt Ideal) X9) (off12_eq i k) _ 0 l u 0 l (at_ (qt i k) u) rfl (Nat.zero_add _).symm (at_of (qt_lt i k) u)).trans (hB.ga 0 l _)) (fun u => (ld3 (arg7.view.read (Elt Ideal) X7) (off15_eq i k) _ 0 0 u 0 0 (at_ (qt i k) u) rfl rfl (at_of (qt_lt i k) u)).trans (hB.dl 0 _)) s u).trans ?_
  rw [sum_va_ga]

theorem d0_at (s u : Fin 512) : k0_pay6 (trip1.sl.r_2 i arg2 arg3 arg6 arg8 X2 X3 X6 X8 k) (trip1.sl.r_3 i arg5 arg7 arg9 X5 X7 X9 k) (ix2 s u) = ((ds A (hd i 0) (at_ (qt i k) u) (at_ (kt i).val s) : ℝ) : EReal) :=
  pay6_at (p0_at i arg2 arg3 arg4 arg5 arg6 arg7 arg8 arg9 X2 X3 X4 X5 X6 X7 X8 X9 hB k) (e0_at i arg2 arg3 arg4 arg5 arg6 arg7 arg8 arg9 X2 X3 X4 X5 X6 X7 X8 X9 hB k) s u

theorem p1_at (s u : Fin 512) : k0_pay12 (trip1.sl.r_6 i arg3 arg8 X3 X8 k) (trip1.sl.r_9 i arg2 X2 k) (trip1.sl.r_10 i arg2 X2)
    (View.readAt (Elt Ideal) arg6.view (Rect.unit (s := S2x1x16384) (k0_off20 i k) S1x1x512.size (k0_off20_inb i k)).toLoadRect X6) (ix2 s u) = ((pr A (hd i 1) (at_ (qt i k) u) (at_ (kt i).val s) : ℝ) : EReal) := by
  refine (pay12_at (pay10_at (fun s l => (ld3 (arg3.view.read (Elt Ideal) X3) rfl _ 0 s l 1 s l (by first | rfl | decide) (Nat.zero_add _).symm (Nat.zero_add _).symm).trans (hB.ka 1 s l)) (fun l u => (ld3 (arg8.view.read (Elt Ideal) X8) (off19_eq i k) _ 0 l u 1 l (at_ (qt i k) u) rfl (Nat.zero_add _).symm (at_of (qt_lt i k) u)).trans (hB.qa 1 l _)))
    (r_9_at i arg2 arg3 arg4 arg5 arg6 arg7 arg8 arg9 X2 X3 X4 X5 X6 X7 X8 X9 hB k) (r_10_at i arg2 arg3 arg4 arg5 arg6 arg7 arg8 arg9 X2 X3 X4 X5 X6 X7 X8 X9 hB)
    (fun u => (ld3 (arg6.view.read (Elt Ideal) X6) (off20_eq i k) _ 0 0 u 1 0 (at_ (qt i k) u) rfl rfl (at_of (qt_lt i k) u)).trans (hB.lse 1 _)) s u).trans ?_
  rw [exp_tile A _ (qt_lt i k) (kt i).isLt (key_le i k s u)]

theorem d1_at (s u : Fin 512) : trip1.sl.r_11 i arg2 arg3 arg5 arg6 arg7 arg8 arg9 X2 X3 X5 X6 X7 X8 X9 k (ix2 s u) = ((ds A (hd i 1) (at_ (qt i k) u) (at_ (kt i).val s) : ℝ) : EReal) := by
  refine (pay13_at (p1_at i arg2 arg3 arg4 arg5 arg6 arg7 arg8 arg9 X2 X3 X4 X5 X6 X7 X8 X9 hB k) (pay11_at (fun s l => (ld3 (arg5.view.read (Elt Ideal) X5) rfl _ 0 s l 1 s l (by first | rfl | decide) (Nat.zero_add _).symm (Nat.zero_add _).symm).trans (hB.va 1 s l))) (fun l u => (ld3 (arg9.view.read (Elt Ideal) X9) (off19_eq i k) _ 0 l u 1 l (at_ (qt i k) u) rfl (Nat.zero_add _).symm (at_of (qt_lt i k) u)).trans (hB.ga 1 l _))
    (fun u => (ld3 (arg7.view.read (Elt Ideal) X7) (off20_eq i k) _ 0 0 u 1 0 (at_ (qt i k) u) rfl rfl (at_of (qt_lt i k) u)).trans (hB.dl 1 _)) s u).trans ?_
  rw [sum_va_ga]; rfl

/-- What the trip carries on. -/
theorem trip1_acc {f g : Fin 2 → Fin 128 → Fin 512 → ℝ} {acc : Acc Ideal} (h : AccIs f g acc) (G : BufTy.Contents (Elt Ideal) scM.view.ty) :
    AccIs (fun a l s => f a l s + dkT A (hd i a) (qt i k) l (at_ (kt i).val s)) (fun a l s => g a l s + dvT A (hd i a) (qt i k) l (at_ (kt i).val s))
      ((trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).1 acc G) where
  k0 := pay8_at h.k0 (d0_at i arg2 arg3 arg4 arg5 arg6 arg7 arg8 arg9 X2 X3 X4 X5 X6 X7 X8 X9 hB k) (fun l u => (ld3 (arg8.view.read (Elt Ideal) X8) (off17_eq i k) _ 0 l u 0 ⟨l.val, by omega⟩ (at_ (qt i k) u) rfl (Nat.zero_add _).symm (at_of (qt_lt i k) u)).trans (hB.qa 0 ⟨l.val, by omega⟩ _))
  v0 := pay7_at h.v0 (p0_at i arg2 arg3 arg4 arg5 arg6 arg7 arg8 arg9 X2 X3 X4 X5 X6 X7 X8 X9 hB k) (fun l u => (ld3 (arg9.view.read (Elt Ideal) X9) (off16_eq i k) _ 0 l u 0 ⟨l.val, by omega⟩ (at_ (qt i k) u) rfl (Nat.zero_add _).symm (at_of (qt_lt i k) u)).trans (hB.ga 0 ⟨l.val, by omega⟩ _))
  k1 := pay15_at h.k1 (d1_at i arg2 arg3 arg4 arg5 arg6 arg7 arg8 arg9 X2 X3 X4 X5 X6 X7 X8 X9 hB k) (fun l u => (ld3 (arg8.view.read (Elt Ideal) X8) (off22_eq i k) _ 0 l u 1 ⟨l.val, by omega⟩ (at_ (qt i k) u) rfl (Nat.zero_add _).symm (at_of (qt_lt i k) u)).trans (hB.qa 1 ⟨l.val, by omega⟩ _))
  v1 := pay14_at h.v1 (p1_at i arg2 arg3 arg4 arg5 arg6 arg7 arg8 arg9 X2 X3 X4 X5 X6 X7 X8 X9 hB k) (fun l u => (ld3 (arg9.view.read (Elt Ideal) X9) (off21_eq i k) _ 0 l u 1 ⟨l.val, by omega⟩ (at_ (qt i k) u) rfl (Nat.zero_add _).symm (at_of (qt_lt i k) u)).trans (hB.ga 1 ⟨l.val, by omega⟩ _))

/-- What the trip leaves in the accumulator. -/
theorem trip1_sc {F : Fin 2 → Fin 128 → Fin 16384 → ℝ} {G : BufTy.Contents (Elt Ideal) scM.view.ty} (hG : ScIs F G) (acc : Acc Ideal) :
    ScIs (fun a l t => F a l t + if t.val / 512 = qt i k then dqT A (hd i a) (kt i).val l t else 0)
      (scM.view.writes (Elt Ideal) G ((trip1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 k).2.1 acc G)) :=
  sc_store hG (qt_lt i k) (fun a l t => dqT A (hd i a) (kt i).val l t) (off23_eq i k) (off18_eq i k) _ _ _ _
    (pay48_at (pay16_at (fun l u => (ld3 (scM.view.read (Elt Ideal) G) (off23_eq i k) _ 0 l u 1 l (at_ (qt i k) u) rfl (Nat.zero_add _).symm (at_of (qt_lt i k) u)).trans (hG 1 l _))) (d1_at i arg2 arg3 arg4 arg5 arg6 arg7 arg8 arg9 X2 X3 X4 X5 X6 X7 X8 X9 hB k) (fun l s => (ld3 (arg4.view.read (Elt Ideal) X4) rfl _ 0 l s 1 l s (by first | rfl | decide) (Nat.zero_add _).symm (Nat.zero_add _).symm).trans (hB.kat 1 l s)))
    (pay9_at (fun l u => (ld3 (scM.view.read (Elt Ideal) G) (off18_eq i k) _ 0 l u 0 l (at_ (qt i k) u) rfl (Nat.zero_add _).symm (at_of (qt_lt i k) u)).trans (hG 0 l _)) (d0_at i arg2 arg3 arg4 arg5 arg6 arg7 arg8 arg9 X2 X3 X4 X5 X6 X7 X8 X9 hB k) (fun l s => (ld3 (arg4.view.read (Elt Ideal) X4) rfl _ 0 l s 0 l s (by first | rfl | decide) (Nat.zero_add _).symm (Nat.zero_add _).symm).trans (hB.kat 0 l s)))

end Trip

end Cert.KernelIdeal.Hand
-- ==== Proof.KBody.lean ====
/-
  One grid point of the backward kernel: the accumulator is cleared on the first key tile of a head pair, the diagonal
  tile and the tiles to its right are accumulated, the three windows are stored, and after the last key tile the kernel
  copies its accumulator out.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic
public import Idealize.ShloMosaic.Lib.WritesUnit
public import Idealize.ShloMosaic.Lib.Transfers
public import proofs.«01_k».proof.Proof.KTrip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run: the one that also tracks the copies the kernel starts itself. -/
local notation "𝕄" => MT nD τ sig Unit (Elt F) ℕ (Pipeline.UD sig nD τ) ℕ

/-- The accumulator's contents once it is cleared. -/
def zeroAcc : BufTy.Contents (Elt F) scM.view.ty := k0_pay30 (F := F)

/-- The accumulator after the first statement of the body, found at `f`. -/
def start (i : grid0.Coords) (f : BufTy.Contents (Elt F) scM.view.ty) : BufTy.Contents (Elt F) scM.view.ty :=
  if (i 1).val = 0 then zeroAcc else f

theorem start_pos {i : grid0.Coords} (h : (i 1).val = 0) (f : BufTy.Contents (Elt F) scM.view.ty) : start i f = zeroAcc := if_pos h
theorem start_neg {i : grid0.Coords} (h : ¬ (i 1).val = 0) (f : BufTy.Contents (Elt F) scM.view.ty) : start i f = f := if_neg h

/-- The kernel's test for the first key tile, as the printed words spell it. -/
theorem clear_iff (i : grid0.Coords) :
    Scalar.cmpi .ne (Scalar.extui (Scalar.cmpi .eq (BitVec.ofNat 32 (i 1).val) 0#32)) 0#32 = 1#1 ↔ (i 1).val = 0 := by
  have key : ∀ n : Fin 32, Scalar.cmpi .ne (Scalar.extui (Scalar.cmpi .eq (BitVec.ofNat 32 n.val) 0#32)) 0#32 = 1#1 ↔ n.val = 0 := by
    decide +kernel
  exact key (i 1)

/-- Clearing the accumulator leaves nothing of what it held. -/
theorem writes_clear (f : BufTy.Contents (Elt F) scM.view.ty) :
    scM.view.writes (Elt F) f [⟨Rect.unit (s := S2x80x16384) ![0, 0, 0] S2x80x16384.size inb_S2x80x16384_S2x80x16384_0_0_0, k0_pay30 (F := F)⟩]
      = zeroAcc := by
  refine (View.read_whole (Val := Elt F) cc0_scratch0 _).symm.trans ?_
  funext y
  have h0 : ∀ a : Fin 3, (y a).val = (![0, 0, 0] : Fin 3 → ℕ) a + (y a).val := fun a => by
    have e : (![0, 0, 0] : Fin 3 → ℕ) a = 0 := by revert a; decide
    rw [e, Nat.zero_add]
  have h := View.read_writes_cons_unit_of_mem (Val := Elt F) scM.view f inb_S2x80x16384_S2x80x16384_0_0_0 (k0_pay30 (F := F)) [] y y rfl h0
  exact h

section Body
variable (c : Dev nD) (i : grid0.Coords)
  (arg2 : Memref sig .tc .smem S8x32 .f32) (harg2 : arg2.IsWhole)
  (arg3 : Memref sig .tc .vmem S2x512x128 .bf16) (harg3 : arg3.IsWhole)
  (arg4 : Memref sig .tc .vmem S2x80x512 .bf16) (harg4 : arg4.IsWhole)
  (arg5 : Memref sig .tc .vmem S2x512x128 .bf16) (harg5 : arg5.IsWhole)
  (arg6 : Memref sig .tc .vmem S2x1x16384 .f32) (harg6 : arg6.IsWhole)
  (arg7 : Memref sig .tc .vmem S2x1x16384 .f32) (harg7 : arg7.IsWhole)
  (arg8 : Memref sig .tc .vmem S2x128x16384 .bf16) (harg8 : arg8.IsWhole)
  (arg9 : Memref sig .tc .vmem S2x128x16384 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x1x512 .f32) (harg12 : arg12.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)

/-- The first part's values: everything it computes, as a function of what it loads. -/
def part7 :
    { R : (Σ' (arg0 : BitVec 32) (arg1 : BitVec 32) (v3 : IVec S512x512 32) (v4 : IVec S512x512 32) (v5 : FVec F S80x512 .f32) (v6 : FVec F S64x512 .f32) (v7 : FVec F S80x512 .f32) (v8 : FVec F S64x512 .f32) (v10 : BitVec 32) (v22 : FVec F S512x512 .f32) (v25 : FVec F S512x512 .f32) (v30 : Elt F .f32), BitVec 32) // ∀ (f : BufTy.Contents (Elt F) scM.view.ty),
        iprop(Ins c arg2 arg3 arg4 arg5 arg6 arg7 arg8 arg9 X2 X3 X4 X5 X6 X7 X8 X9 ∗ pt c scM f)
        ⊢ wp frame (wpE (defs₀ (F := F)) Variants.none (c : Thread nD τ) none) Set.univ
            (k0_part7 (F := F) i arg2 harg2 arg3 harg3 arg4 harg4 arg5 harg5 arg6 harg6 arg7 harg7 arg8 harg8 arg9 harg9 arg10 harg10 arg11 harg11 arg12 harg12 dqM (Memref.isWhole_whole _) dcM (Memref.isWhole_whole _) scM (Memref.isWhole_whole _) cc0_scoped0 cc0_scoped1)
            (fun y => iprop(⌜y = R⌝ ∗ Ins c arg2 arg3 arg4 arg5 arg6 arg7 arg8 arg9 X2 X3 X4 X5 X6 X7 X8 X9 ∗ pt c scM (start i f))) } := by
  refine ⟨?_, fun f => ?run⟩
  case run =>
    simp only [k0_part7_eq_skeleton]
    unfold k0_part7_skel
    iintro ⟨⟨H2, H3, H4, H5, H6, H7, H8, H9⟩, HS⟩
    by_cases h : (i 1).val = 0
    · have hc : Scalar.cmpi .ne (Scalar.extui (Scalar.cmpi .eq (BitVec.ofNat 32 (i 1).val) 0#32)) 0#32 = 1#1 := (clear_iff i).mpr h
      rw [start_pos h]
      rw [← writes_clear f]
      sl_exec
      sl_step
      sl_close
    · have hc : ¬ Scalar.cmpi .ne (Scalar.extui (Scalar.cmpi .eq (BitVec.ofNat 32 (i 1).val) 0#32)) 0#32 = 1#1 := fun e => h ((clear_iff i).mp e)
      rw [start_neg h]
      sl_exec
      sl_step
      sl_close

/-- An HBM buffer of core `c`, whole at `f`. -/
abbrev hb (c : Dev nD) {S : Shape} {e : EltTy} (M : Memref sig .tc .hbm S e) (f : Buf (Elt F) (M.view.loc (c : Thread nD τ))) : sProp 𝕄 :=
  M.view.loc (c : Thread nD τ) ↦{fullShare} f

/-- The body run once: what it stores through the three windows, what it leaves in the accumulator and in the two
    results it copies out, as functions of the accumulator it starts from. -/
def bodyRun :
    Σ' (L10 : BufTy.Contents (Elt F) scM.view.ty → List (View.Piece (Elt F) S512x128 .bf16))
       (L11 : BufTy.Contents (Elt F) scM.view.ty → List (View.Piece (Elt F) S512x128 .bf16))
       (L12 : BufTy.Contents (Elt F) scM.view.ty → List (View.Piece (Elt F) S2x1x512 .f32))
       (Q13 : Buf (Elt F) (dqM.view.loc (c : Thread nD τ)) → BufTy.Contents (Elt F) scM.view.ty → Buf (Elt F) (dqM.view.loc (c : Thread nD τ)))
       (Q14 : Buf (Elt F) (dcM.view.loc (c : Thread nD τ)) → BufTy.Contents (Elt F) scM.view.ty → Buf (Elt F) (dcM.view.loc (c : Thread nD τ))),
    { N : BufTy.Contents (Elt F) scM.view.ty → BufTy.Contents (Elt F) scM.view.ty //
      ∀ (f : BufTy.Contents (Elt F) scM.view.ty) (f10 : BufTy.Contents (Elt F) arg10.view.ty) (f11 : BufTy.Contents (Elt F) arg11.view.ty) (f12 : BufTy.Contents (Elt F) arg12.view.ty)
        (g13 : Buf (Elt F) (dqM.view.loc (c : Thread nD τ))) (g14 : Buf (Elt F) (dcM.view.loc (c : Thread nD τ))) (W : Waits sig Unit) (K : PUnit → sProp 𝕄),
        iprop(Ins c arg2 arg3 arg4 arg5 arg6 arg7 arg8 arg9 X2 X3 X4 X5 X6 X7 X8 X9 ∗ pt c arg10 f10 ∗ pt c arg11 f11 ∗ pt c arg12 f12 ∗ pt c scM f
          ∗ hb c dqM g13 ∗ hb c dcM g14 ∗ semVal ((c : Thread nD τ), SemLoc.dma 21) 0 ∗ semVal ((c : Thread nD τ), SemLoc.dma 22) 0 ∗ owes (c : Thread nD τ) 0 W
          ∗ (iprop(Ins c arg2 arg3 arg4 arg5 arg6 arg7 arg8 arg9 X2 X3 X4 X5 X6 X7 X8 X9
              ∗ pt c arg10 (arg10.view.writes (Elt F) f10 (L10 (start i f))) ∗ pt c arg11 (arg11.view.writes (Elt F) f11 (L11 (start i f)))
              ∗ pt c arg12 (arg12.view.writes (Elt F) f12 (L12 (start i f))) ∗ pt c scM (N (start i f))
              ∗ hb c dqM (Q13 g13 (start i f)) ∗ hb c dcM (Q14 g14 (start i f)) ∗ semVal ((c : Thread nD τ), SemLoc.dma 21) 0 ∗ semVal ((c : Thread nD τ), SemLoc.dma 22) 0
              ∗ ∃ W', owes (c : Thread nD τ) 0 W') -∗ K ⟨⟩))
        ⊢ wp frame (wpE (defs₀ (F := F)) Variants.none (c : Thread nD τ) none) Set.univ
            (cc0_attn_bwd (F := F) i arg2 harg2 arg3 harg3 arg4 harg4 arg5 harg5 arg6 harg6 arg7 harg7 arg8 harg8 arg9 harg9 arg10 harg10 arg11 harg11 arg12 harg12 dqM (Memref.isWhole_whole _) dcM (Memref.isWhole_whole _) scM (Memref.isWhole_whole _) cc0_scoped0 cc0_scoped1) K } := by
  refine ⟨?_, ?_, ?_, ?_, ?_, ?_, fun f f10 f11 f12 g13 g14 W K => ?run⟩
  case run =>
    simp only [cc0_attn_bwd_eq_skeleton]
    unfold cc0_attn_bwd_skel
    iintro ⟨⟨H2, H3, H4, H5, H6, H7, H8, H9⟩, H10, H11, H12, HS, Hq, Hd, Hs0, Hs1, HW, Hk⟩
    rw [wp_bind]
    iapply (wp_wand_r Idealize.ShloMosaic.frame (wpE (defs₀ (F := F)) Variants.none (c : Thread nD τ) none) Set.univ)
    isplitl [H2 H3 H4 H5 H6 H7 H8 H9 HS]
    · iapply ((part7 (F := F) c i arg2 harg2 arg3 harg3 arg4 harg4 arg5 harg5 arg6 harg6 arg7 harg7 arg8 harg8 arg9 harg9 arg10 harg10 arg11 harg11 arg12 harg12 X2 X3 X4 X5 X6 X7 X8 X9).2 f)
      isplitr [HS]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      iexact HS
    iintro %y ⟨%hy, ⟨H2, H3, H4, H5, H6, H7, H8, H9⟩, HS⟩
    subst hy
    obtain ⟨f0, hf0⟩ : ∃ f0, f0 = start i f := ⟨_, rfl⟩
    rw [← hf0]
    simp only [k0_part8_eq_skeleton, k0_part9_eq_skeleton, k0_part10_eq_skeleton]
    sl_exec
    sl_step
    iapply Hk
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11]; · iexact H11
    isplitl [H12]; · iexact H12
    isplitl [HS]; · iexact HS
    isplitl [Hq]; · iexact Hq
    isplitl [Hd]; · iexact Hd
    isplitl [Hs0]; · iexact Hs0
    isplitl [Hs1]; · iexact Hs1
    iexists _; iexact HW

end Body

end Cert.KernelIdeal.Hand

end
-- ==== Proof.BodyAt.lean ====
/-
  One grid point of the kernel, over the reals: the diagonal tile, the loop over the tiles to its right, and what is left
  in the three stored blocks and in the dq accumulator.
-/
module

public import proofs.«01_k».proof.Proof.TripAt
public import proofs.«01_k».proof.Proof.KBody

@[expose] public section

set_option maxRecDepth 16384
set_option maxHeartbeats 2000000

noncomputable section

namespace Cert.KernelIdeal.Hand

open Cert.KernelIdeal Cert.KernelIdeal.Gen Cert.Spec
open Idealize.ShloMosaic Idealize.ShloMosaic.TcCoe
open scoped BigOperators

theorem AccIs.congr {f g f' g' : Fin 2 → Fin 128 → Fin 512 → ℝ} {acc : Acc Ideal} (h : AccIs f g acc) (hf : f = f') (hg : g = g') : AccIs f' g' acc := by
  subst hf; subst hg; exact h

theorem ScIs.congr {F F' : Fin 2 → Fin 128 → Fin 16384 → ℝ} {f : BufTy.Contents (Elt Ideal) scM.view.ty} (h : ScIs F f) (hF : F = F') : ScIs F' f := by
  subst hF; exact h

/-- The diagonal tile's probabilities. -/
theorem exp_diag (A : Args) (h : Fin 8) {q : ℕ} (hq : q < 32) (u s : Fin 512) :
    (if s ≤ u then Real.exp (∑ l, ka A h (at_ q s) l * qa A h (at_ q u) l - (lse A h (at_ q u) - (r A h q - r A h q))) else 0) = pr A h (at_ q u) (at_ q s) := by
  by_cases hs : s ≤ u
  · rw [if_pos hs]
    exact exp_tile A h hq hq (by rw [Fin.le_def, at_val hq, at_val hq]; have := Fin.le_def.1 hs; omega)
  · rw [if_neg hs]
    exact (pr_of_lt A h (by rw [Fin.lt_def, at_val hq, at_val hq]; have := Fin.lt_def.1 (not_le.1 hs); omega)).symm

section Body
variable (c : Dev nD) (i : grid0.Coords)
  (arg2 : Memref sig .tc .smem S8x32 .f32) (harg2 : arg2.IsWhole)
  (arg3 : Memref sig .tc .vmem S2x512x128 .bf16) (harg3 : arg3.IsWhole)
  (arg4 : Memref sig .tc .vmem S2x80x512 .bf16) (harg4 : arg4.IsWhole)
  (arg5 : Memref sig .tc .vmem S2x512x128 .bf16) (harg5 : arg5.IsWhole)
  (arg6 : Memref sig .tc .vmem S2x1x16384 .f32) (harg6 : arg6.IsWhole)
  (arg7 : Memref sig .tc .vmem S2x1x16384 .f32) (harg7 : arg7.IsWhole)
  (arg8 : Memref sig .tc .vmem S2x128x16384 .bf16) (harg8 : arg8.IsWhole)
  (arg9 : Memref sig .tc .vmem S2x128x16384 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x1x512 .f32) (harg12 : arg12.IsWhole)
  (v172_r0 : DmaSems sig S_) (v172_r1 : DmaSems sig S_)
  (arg0 : BitVec 32) (arg1 : BitVec 32)
  (v7 : FVec Ideal S80x512 .f32) (v8 : FVec Ideal S64x512 .f32) (v10 : BitVec 32)
  (v57 : FVec Ideal S64x512 .f32) (v62 : FVec Ideal S80x512 .f32)
  (v107 : FVec Ideal S512x512 .f32) (v112 : FVec Ideal S512x512 .f32) (v137 : BitVec 32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty)

  {A : Args} (hB : Blocks A i arg2 arg3 arg4 arg5 arg6 arg7 arg8 arg9 X2 X3 X4 X5 X6 X7 X8 X9)

/-- The second loop makes no trip. -/
theorem state2_trips (G : BufTy.Contents (Elt Ideal) scM.view.ty) (init : Acc Ideal) :
    state2 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init (Scf.trips (k0_t2_loop i).lb (k0_t2_loop i).ub (k0_t2_loop i).st) = (init, []) := by
  rw [show Scf.trips (k0_t2_loop i).lb (k0_t2_loop i).ub (k0_t2_loop i).st = 0 from trips_2 i]
  rfl

/-- The pieces of the diagonal tile. -/
def diagL (f0 : BufTy.Contents (Elt Ideal) scM.view.ty) : List (View.Piece (Elt Ideal) S2x80x16384 .f32) :=
  [⟨Rect.unit (s := S2x80x16384) (k0_off11 i) S1x80x512.size (k0_off11_inb i), k0_pay47 (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_5 i arg5 arg7 arg9 X5 X7 X9) (bodyRun.sl.v127 i f0)
      (View.readAt (Elt Ideal) arg4.view (Rect.unit (s := S2x80x512) (![1, 0, 0]) S1x80x512.size (inb_S2x80x512_S1x80x512_1_0_0)).toLoadRect X4)⟩,
    ⟨Rect.unit (s := S2x80x16384) (k0_off6 i) S1x80x512.size (k0_off6_inb i), k0_pay41 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.2.2.1
      (bodyRun.sl.r i arg2 X2)
      (View.readAt (Elt Ideal) arg6.view (Rect.unit (s := S2x1x16384) (k0_off3 i) S1x1x512.size (k0_off3_inb i)).toLoadRect X6)
      (View.readAt (Elt Ideal) arg7.view (Rect.unit (s := S2x1x16384) (k0_off3 i) S1x1x512.size (k0_off3_inb i)).toLoadRect X7)
      (View.readAt (Elt Ideal) scM.view (Rect.unit (s := S2x80x16384) (k0_off6 i) S1x80x512.size (k0_off6_inb i)).toLoadRect f0)
      (View.readAt (Elt Ideal) arg4.view (Rect.unit (s := S2x80x512) (![0, 0, 0]) S1x80x512.size (inb_S2x80x512_S1x80x512_0_0_0)).toLoadRect X4)⟩]

/-- The sums after the diagonal tile. -/
def diagAcc : Acc Ideal :=
  ((bodyRun.sl.r_2 c i arg2 harg2 arg3 harg3 arg4 harg4 arg5 harg5 arg6 harg6 arg7 harg7 arg8 harg8 arg9 harg9 arg10 harg10 arg11 harg11 arg12 harg12 X2 X3 X4 X5 X6 X7 X8 X9), (bodyRun.sl.r_1 c i arg2 harg2 arg3 harg3 arg4 harg4 arg5 harg5 arg6 harg6 arg7 harg7 arg8 harg8 arg9 harg9 arg10 harg10 arg11 harg11 arg12 harg12 X2 X3 X4 X5 X6 X7 X8 X9), k0_pay46 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.1 (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_5 i arg5 arg7 arg9 X5 X7 X9)
      (View.readAt (Elt Ideal) arg8.view (Rect.unit (s := S2x128x16384) (k0_off10 i) S1x80x512.size (k0_off10_inb i)).toLoadRect X8),
    k0_pay45 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.1 (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (View.readAt (Elt Ideal) arg9.view (Rect.unit (s := S2x128x16384) (k0_off9 i) S1x64x512.size (k0_off9_inb i)).toLoadRect X9))

/-- The state after the loop. -/
def loopEnd (f0 : BufTy.Contents (Elt Ideal) scM.view.ty) : Acc Ideal × List (View.Piece (Elt Ideal) S2x80x16384 .f32) :=
  (state1 c i arg2 harg2 arg3 harg3 arg4 harg4 arg5 harg5 arg6 harg6 arg7 harg7 arg8 harg8 arg9 harg9 arg10 harg10 arg11 harg11 arg12 harg12 cc0_scoped0 cc0_scoped1 (part7 c i arg2 harg2 arg3 harg3 arg4 harg4 arg5 harg5 arg6 harg6 arg7 harg7 arg8 harg8 arg9 harg9 arg10 harg10 arg11 harg11 arg12 harg12 X2 X3 X4 X5 X6 X7 X8 X9).1.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.1 (bodyRun.sl.r_1 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_2 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_5 i arg5 arg7 arg9 X5 X7 X9) (bodyRun.sl.v137 c i arg2 harg2 arg3 harg3 arg4 harg4 arg5 harg5 arg6 harg6 arg7 harg7 arg8 harg8 arg9 harg9 arg10 harg10 arg11 harg11 arg12 harg12 X2 X3 X4 X5 X6 X7 X8 X9) X2 X3 X4 X5 X6 X7 X8 X9 (scM.view.writes (Elt Ideal) f0 (diagL c i arg2 harg2 arg3 harg3 arg4 harg4 arg5 harg5 arg6 harg6 arg7 harg7 arg8 harg8 arg9 harg9 arg10 harg10 arg11 harg11 arg12 harg12 X2 X3 X4 X5 X6 X7 X8 X9 f0)) (diagAcc c i arg2 harg2 arg3 harg3 arg4 harg4 arg5 harg5 arg6 harg6 arg7 harg7 arg8 harg8 arg9 harg9 arg10 harg10 arg11 harg11 arg12 harg12 X2 X3 X4 X5 X6 X7 X8 X9) (k0_t1_loop i).trips)

/-- The accumulator after the point. -/
theorem run_N (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.2.1 f0
      = scM.view.writes (Elt Ideal) (scM.view.writes (Elt Ideal) f0 (diagL c i arg2 harg2 arg3 harg3 arg4 harg4 arg5 harg5 arg6 harg6 arg7 harg7 arg8 harg8 arg9 harg9 arg10 harg10 arg11 harg11 arg12 harg12 X2 X3 X4 X5 X6 X7 X8 X9 f0)) (loopEnd c i arg2 harg2 arg3 harg3 arg4 harg4 arg5 harg5 arg6 harg6 arg7 harg7 arg8 harg8 arg9 harg9 arg10 harg10 arg11 harg11 arg12 harg12 X2 X3 X4 X5 X6 X7 X8 X9 f0).2 := by
  refine Eq.trans (b := scM.view.writes (Elt Ideal) f0 ((state2 c i arg2 harg2 arg3 harg3 arg4 harg4 arg5 harg5 arg6 harg6 arg7 harg7 arg8 harg8 arg9 harg9 arg10 harg10 arg11 harg11 arg12 harg12 cc0_scoped0 cc0_scoped1 (part7 c i arg2 harg2 arg3 harg3 arg4 harg4 arg5 harg5 arg6 harg6 arg7 harg7 arg8 harg8 arg9 harg9 arg10 harg10 arg11 harg11 arg12 harg12 X2 X3 X4 X5 X6 X7 X8 X9).1.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.1 (bodyRun.sl.r_1 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_2 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_5 i arg5 arg7 arg9 X5 X7 X9) (bodyRun.sl.v142 c i arg2 harg2 arg3 harg3 arg4 harg4 arg5 harg5 arg6 harg6 arg7 harg7 arg8 harg8 arg9 harg9 arg10 harg10 arg11 harg11 arg12 harg12 X2 X3 X4 X5 X6 X7 X8 X9) X2 X3 X4 X5 X6 X7 X8 X9
    (scM.view.writes (Elt Ideal) f0 ((loopEnd c i arg2 harg2 arg3 harg3 arg4 harg4 arg5 harg5 arg6 harg6 arg7 harg7 arg8 harg8 arg9 harg9 arg10 harg10 arg11 harg11 arg12 harg12 X2 X3 X4 X5 X6 X7 X8 X9 f0).2 ++ diagL c i arg2 harg2 arg3 harg3 arg4 harg4 arg5 harg5 arg6 harg6 arg7 harg7 arg8 harg8 arg9 harg9 arg10 harg10 arg11 harg11 arg12 harg12 X2 X3 X4 X5 X6 X7 X8 X9 f0)) (loopEnd c i arg2 harg2 arg3 harg3 arg4 harg4 arg5 harg5 arg6 harg6 arg7 harg7 arg8 harg8 arg9 harg9 arg10 harg10 arg11 harg11 arg12 harg12 X2 X3 X4 X5 X6 X7 X8 X9 f0).1 (Scf.trips (k0_t2_loop i).lb (k0_t2_loop i).ub (k0_t2_loop i).st)).2 ++ ((loopEnd c i arg2 harg2 arg3 harg3 arg4 harg4 arg5 harg5 arg6 harg6 arg7 harg7 arg8 harg8 arg9 harg9 arg10 harg10 arg11 harg11 arg12 harg12 X2 X3 X4 X5 X6 X7 X8 X9 f0).2 ++ diagL c i arg2 harg2 arg3 harg3 arg4 harg4 arg5 harg5 arg6 harg6 arg7 harg7 arg8 harg8 arg9 harg9 arg10 harg10 arg11 harg11 arg12 harg12 X2 X3 X4 X5 X6 X7 X8 X9 f0))) rfl ?_
  rw [state2_trips, List.nil_append, View.writes_append]

/-- The stored dk block. -/
theorem run_L10 (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).1 f0
      = [⟨Rect.unit (s := S512x128) ![0, 0] ![512, 128] inb_S512x128_S512x128_0_0, k0_pay50 (loopEnd c i arg2 harg2 arg3 harg3 arg4 harg4 arg5 harg5 arg6 harg6 arg7 harg7 arg8 harg8 arg9 harg9 arg10 harg10 arg11 harg11 arg12 harg12 X2 X3 X4 X5 X6 X7 X8 X9 f0).1.1 (loopEnd c i arg2 harg2 arg3 harg3 arg4 harg4 arg5 harg5 arg6 harg6 arg7 harg7 arg8 harg8 arg9 harg9 arg10 harg10 arg11 harg11 arg12 harg12 X2 X3 X4 X5 X6 X7 X8 X9 f0).1.2.2.1⟩] := by
  refine Eq.trans (b := [⟨Rect.unit (s := S512x128) ![0, 0] ![512, 128] inb_S512x128_S512x128_0_0, bodyRun.sl.r_10 c i arg2 harg2 arg3 harg3 arg4 harg4 arg5 harg5 arg6 harg6 arg7 harg7 arg8 harg8 arg9 harg9 arg10 harg10 arg11 harg11 arg12 harg12 X2 X3 X4 X5 X6 X7 X8 X9 f0⟩]) rfl ?_
  unfold bodyRun.sl.r_10
  rw [state2_trips]
  rfl

/-- The stored dv block. -/
theorem run_L11 (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.1 f0
      = [⟨Rect.unit (s := S512x128) ![0, 0] ![512, 128] inb_S512x128_S512x128_0_0, k0_pay1 (loopEnd c i arg2 harg2 arg3 harg3 arg4 harg4 arg5 harg5 arg6 harg6 arg7 harg7 arg8 harg8 arg9 harg9 arg10 harg10 arg11 harg11 arg12 harg12 X2 X3 X4 X5 X6 X7 X8 X9 f0).1.2.1 (loopEnd c i arg2 harg2 arg3 harg3 arg4 harg4 arg5 harg5 arg6 harg6 arg7 harg7 arg8 harg8 arg9 harg9 arg10 harg10 arg11 harg11 arg12 harg12 X2 X3 X4 X5 X6 X7 X8 X9 f0).1.2.2.2⟩] := by
  refine Eq.trans (b := [⟨Rect.unit (s := S512x128) ![0, 0] ![512, 128] inb_S512x128_S512x128_0_0, k0_pay1 (bodyRun.sl.r_7 c i arg2 harg2 arg3 harg3 arg4 harg4 arg5 harg5 arg6 harg6 arg7 harg7 arg8 harg8 arg9 harg9 arg10 harg10 arg11 harg11 arg12 harg12 X2 X3 X4 X5 X6 X7 X8 X9 f0) (bodyRun.sl.r_9 c i arg2 harg2 arg3 harg3 arg4 harg4 arg5 harg5 arg6 harg6 arg7 harg7 arg8 harg8 arg9 harg9 arg10 harg10 arg11 harg11 arg12 harg12 X2 X3 X4 X5 X6 X7 X8 X9 f0)⟩]) rfl ?_
  unfold bodyRun.sl.r_7 bodyRun.sl.r_9
  rw [state2_trips]
  rfl

/-- The stored block of key-side bias terms. -/
theorem run_L12 (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.2.1 f0
      = [⟨Rect.unit (s := S2x1x512) ![1, 0, 0] ![1, 1, 512] inb_S2x1x512_S1x1x512_1_0_0, k0_pay3 (loopEnd c i arg2 harg2 arg3 harg3 arg4 harg4 arg5 harg5 arg6 harg6 arg7 harg7 arg8 harg8 arg9 harg9 arg10 harg10 arg11 harg11 arg12 harg12 X2 X3 X4 X5 X6 X7 X8 X9 f0).1.2.2.1⟩,
        ⟨Rect.unit (s := S2x1x512) ![0, 0, 0] ![1, 1, 512] inb_S2x1x512_S1x1x512_0_0_0, k0_pay2 (loopEnd c i arg2 harg2 arg3 harg3 arg4 harg4 arg5 harg5 arg6 harg6 arg7 harg7 arg8 harg8 arg9 harg9 arg10 harg10 arg11 harg11 arg12 harg12 X2 X3 X4 X5 X6 X7 X8 X9 f0).1.1⟩] := by
  refine Eq.trans (b := [⟨Rect.unit (s := S2x1x512) ![1, 0, 0] ![1, 1, 512] inb_S2x1x512_S1x1x512_1_0_0, k0_pay3 (bodyRun.sl.r_8 c i arg2 harg2 arg3 harg3 arg4 harg4 arg5 harg5 arg6 harg6 arg7 harg7 arg8 harg8 arg9 harg9 arg10 harg10 arg11 harg11 arg12 harg12 X2 X3 X4 X5 X6 X7 X8 X9 f0)⟩,
        ⟨Rect.unit (s := S2x1x512) ![0, 0, 0] ![1, 1, 512] inb_S2x1x512_S1x1x512_0_0_0, k0_pay2 (bodyRun.sl.r_6 c i arg2 harg2 arg3 harg3 arg4 harg4 arg5 harg5 arg6 harg6 arg7 harg7 arg8 harg8 arg9 harg9 arg10 harg10 arg11 harg11 arg12 harg12 X2 X3 X4 X5 X6 X7 X8 X9 f0)⟩]) rfl ?_
  unfold bodyRun.sl.r_8 bodyRun.sl.r_6
  rw [state2_trips]
  rfl

include hB

/-- The loop's state after `n` trips. -/
theorem state1_at {F : Fin 2 → Fin 128 → Fin 16384 → ℝ} {G : BufTy.Contents (Elt Ideal) scM.view.ty} (hG : ScIs F G)
    {f g : Fin 2 → Fin 128 → Fin 512 → ℝ} {init : Acc Ideal} (h : AccIs f g init) (n : ℕ) (hn : n ≤ (k0_t1_loop i).trips) :
    AccIs (fun a l s => f a l s + ∑ q ∈ Finset.Ico ((kt i).val + 1) ((kt i).val + 1 + n), dkT A (hd i a) q l (at_ (kt i).val s))
        (fun a l s => g a l s + ∑ q ∈ Finset.Ico ((kt i).val + 1) ((kt i).val + 1 + n), dvT A (hd i a) q l (at_ (kt i).val s))
        (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init n).1
    ∧ ScIs (fun a l t => F a l t + if (kt i).val + 1 ≤ t.val / 512 ∧ t.val / 512 < (kt i).val + 1 + n then dqT A (hd i a) (kt i).val l t else 0)
        (scM.view.writes (Elt Ideal) G (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init n).2) := by
  induction n with
  | zero =>
    refine ⟨h.congr ?_ ?_, hG.congr ?_⟩
    · funext a l s; rw [Nat.add_zero, Finset.Ico_self, Finset.sum_empty, add_zero]
    · funext a l s; rw [Nat.add_zero, Finset.Ico_self, Finset.sum_empty, add_zero]
    · funext a l t; rw [if_neg (by omega), add_zero]
  | succ n ih =>
    obtain ⟨h1, h2⟩ := ih (Nat.le_of_succ_le hn)
    have e := state1_succ c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init ⟨n, hn⟩
    have t1 := trip1_acc c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 hB ⟨n, hn⟩ h1 (scM.view.writes (Elt Ideal) G (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init n).2)
    have t2 := trip1_sc c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 hB ⟨n, hn⟩ h2 (state1 c i arg2 harg2 arg3 harg3 arg4 harg4 arg5 harg5 arg6 harg6 arg7 harg7 arg8 harg8 arg9 harg9 arg10 harg10 arg11 harg11 arg12 harg12 v172_r0 v172_r1 arg0 arg1 v7 v8 v10 v57 v62 v107 v112 v137 X2 X3 X4 X5 X6 X7 X8 X9 G init n).1
    rw [show n + 1 = (⟨n, hn⟩ : Fin (k0_t1_loop i).trips).val + 1 from rfl, e]
    refine ⟨t1.congr ?_ ?_, ?_⟩
    · funext a l s
      rw [add_assoc]; congr 1
      exact (Finset.sum_Ico_succ_top (f := fun q => dkT A (hd i a) q l (at_ (kt i).val s)) (by omega : (kt i).val + 1 ≤ (kt i).val + 1 + n)).symm
    · funext a l s
      rw [add_assoc]; congr 1
      exact (Finset.sum_Ico_succ_top (f := fun q => dvT A (hd i a) q l (at_ (kt i).val s)) (by omega : (kt i).val + 1 ≤ (kt i).val + 1 + n)).symm
    · dsimp only
      rw [View.writes_append]
      refine t2.congr ?_
      funext a l t
      rw [add_assoc]; congr 1
      unfold qt
      dsimp only
      by_cases h1 : t.val / 512 = (kt i).val + 1 + n
      · rw [if_neg (by omega), if_pos h1, if_pos (by omega), zero_add]
      · rw [if_neg h1, add_zero]
        exact if_congr (by omega) rfl rfl

/-! The diagonal tile. -/

theorem r_diag0 : bodyRun.sl.r i arg2 X2 = ((r A (hd i 0) (kt i).val : ℝ) : EReal) :=
  (ldf (arg2.view.read (Elt Ideal) X2) (off2_eq i 0) _ _ (hd i 0) (kt i) rfl rfl).trans (hB.r _ _)
theorem r_diag1 : bodyRun.sl.r_3 i arg2 X2 = ((r A (hd i 1) (kt i).val : ℝ) : EReal) :=
  (ldf (arg2.view.read (Elt Ideal) X2) (off2_eq i 1) _ _ (hd i 1) (kt i) rfl rfl).trans (hB.r _ _)

theorem pd0_at (s u : Fin 512) : k0_pay37 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.2.2.1 (bodyRun.sl.r i arg2 X2)
    (View.readAt (Elt Ideal) arg6.view (Rect.unit (s := S2x1x16384) (k0_off3 i) S1x1x512.size (k0_off3_inb i)).toLoadRect X6) (ix2 s u) = ((pr A (hd i 0) (at_ (kt i).val u) (at_ (kt i).val s) : ℝ) : EReal) := by
  refine (pay37_at (pay36_at (fun s l => (ld3 (arg3.view.read (Elt Ideal) X3) rfl _ 0 s l 0 s l (by first | rfl | decide) (Nat.zero_add _).symm (Nat.zero_add _).symm).trans (hB.ka 0 s l)) (fun l u => (ld3 (arg8.view.read (Elt Ideal) X8) (off1_eq i) _ 0 l u 0 l (at_ (kt i).val u) rfl (Nat.zero_add _).symm (at_of (kt i).isLt u)).trans (hB.qa 0 l _)))
    (r_diag0 i arg2 arg3 arg4 arg5 arg6 arg7 arg8 arg9 X2 X3 X4 X5 X6 X7 X8 X9 hB) (r_diag0 i arg2 arg3 arg4 arg5 arg6 arg7 arg8 arg9 X2 X3 X4 X5 X6 X7 X8 X9 hB) (fun u => (ld3 (arg6.view.read (Elt Ideal) X6) (off3_eq i) _ 0 0 u 0 0 (at_ (kt i).val u) rfl rfl (at_of (kt i).isLt u)).trans (hB.lse 0 _)) s u).trans ?_
  rw [exp_diag A _ (kt i).isLt u s]

theorem dd0_at (s u : Fin 512) : k0_pay38 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.2.1 (part7 c i arg2 harg2 arg3 harg3 arg4 harg4 arg5 harg5 arg6 harg6 arg7 harg7 arg8 harg8 arg9 harg9 arg10 harg10 arg11 harg11 arg12 harg12 X2 X3 X4 X5 X6 X7 X8 X9).1.2.2.2.2.2.2.2.2.2.2.2.1 (bodyRun.sl.r i arg2 X2)
    (View.readAt (Elt Ideal) arg6.view (Rect.unit (s := S2x1x16384) (k0_off3 i) S1x1x512.size (k0_off3_inb i)).toLoadRect X6) (View.readAt (Elt Ideal) arg7.view (Rect.unit (s := S2x1x16384) (k0_off3 i) S1x1x512.size (k0_off3_inb i)).toLoadRect X7) (ix2 s u) = ((ds A (hd i 0) (at_ (kt i).val u) (at_ (kt i).val s) : ℝ) : EReal) := by
  refine (pay38_at (pay35_at (fun s l => (ld3 (arg5.view.read (Elt Ideal) X5) rfl _ 0 s l 0 s l (by first | rfl | decide) (Nat.zero_add _).symm (Nat.zero_add _).symm).trans (hB.va 0 s l)) (fun l u => (ld3 (arg9.view.read (Elt Ideal) X9) (off1_eq i) _ 0 l u 0 l (at_ (kt i).val u) rfl (Nat.zero_add _).symm (at_of (kt i).isLt u)).trans (hB.ga 0 l _))) (pd0_at c i arg2 harg2 arg3 harg3 arg4 harg4 arg5 harg5 arg6 harg6 arg7 harg7 arg8 harg8 arg9 harg9 arg10 harg10 arg11 harg11 arg12 harg12 X2 X3 X4 X5 X6 X7 X8 X9 hB) (fun u => (ld3 (arg7.view.read (Elt Ideal) X7) (off3_eq i) _ 0 0 u 0 0 (at_ (kt i).val u) rfl rfl (at_of (kt i).isLt u)).trans (hB.dl 0 _)) s u).trans ?_
  rw [sum_va_ga]; rfl

theorem pd1_at (s u : Fin 512) : (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (ix2 s u) = ((pr A (hd i 1) (at_ (kt i).val u) (at_ (kt i).val s) : ℝ) : EReal) := by
  refine (pay42_at (fun s l => (ld3 (arg3.view.read (Elt Ideal) X3) rfl _ 0 s l 1 s l (by first | rfl | decide) (Nat.zero_add _).symm (Nat.zero_add _).symm).trans (hB.ka 1 s l)) (fun l u => (ld3 (arg8.view.read (Elt Ideal) X8) (off7_eq i) _ 0 l u 1 l (at_ (kt i).val u) rfl (Nat.zero_add _).symm (at_of (kt i).isLt u)).trans (hB.qa 1 l _)) (r_diag1 i arg2 arg3 arg4 arg5 arg6 arg7 arg8 arg9 X2 X3 X4 X5 X6 X7 X8 X9 hB) (r_diag1 i arg2 arg3 arg4 arg5 arg6 arg7 arg8 arg9 X2 X3 X4 X5 X6 X7 X8 X9 hB) (fun u => (ld3 (arg6.view.read (Elt Ideal) X6) (off8_eq i) _ 0 0 u 1 0 (at_ (kt i).val u) rfl rfl (at_of (kt i).isLt u)).trans (hB.lse 1 _)) s u).trans ?_
  rw [exp_diag A _ (kt i).isLt u s]

theorem ed1_at (s u : Fin 512) : bodyRun.sl.r_5 i arg5 arg7 arg9 X5 X7 X9 (ix2 s u)
    = ((dp A (hd i 1) (at_ (kt i).val u) (at_ (kt i).val s) - dl A (hd i 1) (at_ (kt i).val u) : ℝ) : EReal) := by
  refine (pay43_at (fun s l => (ld3 (arg5.view.read (Elt Ideal) X5) rfl _ 0 s l 1 s l (by first | rfl | decide) (Nat.zero_add _).symm (Nat.zero_add _).symm).trans (hB.va 1 s l)) (fun l u => (ld3 (arg9.view.read (Elt Ideal) X9) (off7_eq i) _ 0 l u 1 l (at_ (kt i).val u) rfl (Nat.zero_add _).symm (at_of (kt i).isLt u)).trans (hB.ga 1 l _)) (fun u => (ld3 (arg7.view.read (Elt Ideal) X7) (off8_eq i) _ 0 0 u 1 0 (at_ (kt i).val u) rfl rfl (at_of (kt i).isLt u)).trans (hB.dl 1 _)) s u).trans ?_
  rw [sum_va_ga]

theorem dd1_at (s u : Fin 512) : k0_pay44 (bodyRun.sl.r_4 c i arg2 harg2 arg3 harg3 arg4 harg4 arg5 harg5 arg6 harg6 arg7 harg7 arg8 harg8 arg9 harg9 arg10 harg10 arg11 harg11 arg12 harg12 X2 X3 X4 X5 X6 X7 X8 X9) (bodyRun.sl.r_5 i arg5 arg7 arg9 X5 X7 X9) (ix2 s u) = ((ds A (hd i 1) (at_ (kt i).val u) (at_ (kt i).val s) : ℝ) : EReal) :=
  pay44_at (pd1_at c i arg2 harg2 arg3 harg3 arg4 harg4 arg5 harg5 arg6 harg6 arg7 harg7 arg8 harg8 arg9 harg9 arg10 harg10 arg11 harg11 arg12 harg12 X2 X3 X4 X5 X6 X7 X8 X9 hB) (ed1_at i arg2 arg3 arg4 arg5 arg6 arg7 arg8 arg9 X2 X3 X4 X5 X6 X7 X8 X9 hB) s u

theorem diag_acc : AccIs (fun a l s => 0 + dkT A (hd i a) (kt i).val l (at_ (kt i).val s)) (fun a l s => 0 + dvT A (hd i a) (kt i).val l (at_ (kt i).val s))
    (diagAcc c i arg2 harg2 arg3 harg3 arg4 harg4 arg5 harg5 arg6 harg6 arg7 harg7 arg8 harg8 arg9 harg9 arg10 harg10 arg11 harg11 arg12 harg12 X2 X3 X4 X5 X6 X7 X8 X9) where
  k0 := pay40_at pay31_at (dd0_at c i arg2 harg2 arg3 harg3 arg4 harg4 arg5 harg5 arg6 harg6 arg7 harg7 arg8 harg8 arg9 harg9 arg10 harg10 arg11 harg11 arg12 harg12 X2 X3 X4 X5 X6 X7 X8 X9 hB) (fun l u => (ld3 (arg8.view.read (Elt Ideal) X8) (off5_eq i) _ 0 l u 0 ⟨l.val, by omega⟩ (at_ (kt i).val u) rfl (Nat.zero_add _).symm (at_of (kt i).isLt u)).trans (hB.qa 0 ⟨l.val, by omega⟩ _))
  v0 := pay39_at pay32_at (pd0_at c i arg2 harg2 arg3 harg3 arg4 harg4 arg5 harg5 arg6 harg6 arg7 harg7 arg8 harg8 arg9 harg9 arg10 harg10 arg11 harg11 arg12 harg12 X2 X3 X4 X5 X6 X7 X8 X9 hB) (fun l u => (ld3 (arg9.view.read (Elt Ideal) X9) (off4_eq i) _ 0 l u 0 ⟨l.val, by omega⟩ (at_ (kt i).val u) rfl (Nat.zero_add _).symm (at_of (kt i).isLt u)).trans (hB.ga 0 ⟨l.val, by omega⟩ _))
  k1 := pay46_at pay33_at (dd1_at c i arg2 harg2 arg3 harg3 arg4 harg4 arg5 harg5 arg6 harg6 arg7 harg7 arg8 harg8 arg9 harg9 arg10 harg10 arg11 harg11 arg12 harg12 X2 X3 X4 X5 X6 X7 X8 X9 hB) (fun l u => (ld3 (arg8.view.read (Elt Ideal) X8) (off10_eq i) _ 0 l u 1 ⟨l.val, by omega⟩ (at_ (kt i).val u) rfl (Nat.zero_add _).symm (at_of (kt i).isLt u)).trans (hB.qa 1 ⟨l.val, by omega⟩ _))
  v1 := pay45_at pay34_at (pd1_at c i arg2 harg2 arg3 harg3 arg4 harg4 arg5 harg5 arg6 harg6 arg7 harg7 arg8 harg8 arg9 harg9 arg10 harg10 arg11 harg11 arg12 harg12 X2 X3 X4 X5 X6 X7 X8 X9 hB) (fun l u => (ld3 (arg9.view.read (Elt Ideal) X9) (off9_eq i) _ 0 l u 1 ⟨l.val, by omega⟩ (at_ (kt i).val u) rfl (Nat.zero_add _).symm (at_of (kt i).isLt u)).trans (hB.ga 1 ⟨l.val, by omega⟩ _))

theorem diag_sc {F : Fin 2 → Fin 128 → Fin 16384 → ℝ} {G : BufTy.Contents (Elt Ideal) scM.view.ty} (hG : ScIs F G) :
    ScIs (fun a l t => F a l t + if t.val / 512 = (kt i).val then dqT A (hd i a) (kt i).val l t else 0)
      (scM.view.writes (Elt Ideal) G (diagL c i arg2 harg2 arg3 harg3 arg4 harg4 arg5 harg5 arg6 harg6 arg7 harg7 arg8 harg8 arg9 harg9 arg10 harg10 arg11 harg11 arg12 harg12 X2 X3 X4 X5 X6 X7 X8 X9 G)) :=
  sc_store hG (kt i).isLt (fun a l t => dqT A (hd i a) (kt i).val l t) (off11_eq i) (off6_eq i) _ _ _ _
    (pay47_at (fun l u => (ld3 (scM.view.read (Elt Ideal) G) (off11_eq i) _ 0 l u 1 l (at_ (kt i).val u) rfl (Nat.zero_add _).symm (at_of (kt i).isLt u)).trans (hG 1 l _)) (dd1_at c i arg2 harg2 arg3 harg3 arg4 harg4 arg5 harg5 arg6 harg6 arg7 harg7 arg8 harg8 arg9 harg9 arg10 harg10 arg11 harg11 arg12 harg12 X2 X3 X4 X5 X6 X7 X8 X9 hB) (fun l s => (ld3 (arg4.view.read (Elt Ideal) X4) rfl _ 0 l s 1 l s (by first | rfl | decide) (Nat.zero_add _).symm (Nat.zero_add _).symm).trans (hB.kat 1 l s)))
    (pay41_at (fun l u => (ld3 (scM.view.read (Elt Ideal) G) (off6_eq i) _ 0 l u 0 l (at_ (kt i).val u) rfl (Nat.zero_add _).symm (at_of (kt i).isLt u)).trans (hG 0 l _)) (dd0_at c i arg2 harg2 arg3 harg3 arg4 harg4 arg5 harg5 arg6 harg6 arg7 harg7 arg8 harg8 arg9 harg9 arg10 harg10 arg11 harg11 arg12 harg12 X2 X3 X4 X5 X6 X7 X8 X9 hB) (fun l s => (ld3 (arg4.view.read (Elt Ideal) X4) rfl _ 0 l s 0 l s (by first | rfl | decide) (Nat.zero_add _).symm (Nat.zero_add _).symm).trans (hB.kat 0 l s)))

/-! The point. -/

/-- The sums the point ends with. -/
theorem end_acc {F : Fin 2 → Fin 128 → Fin 16384 → ℝ} {G : BufTy.Contents (Elt Ideal) scM.view.ty} (hG : ScIs F G) :
    AccIs (fun a l s => ∑ q ∈ Finset.Ico (kt i).val 32, dkT A (hd i a) q l (at_ (kt i).val s)) (fun a l s => ∑ q ∈ Finset.Ico (kt i).val 32, dvT A (hd i a) q l (at_ (kt i).val s))
      (loopEnd c i arg2 harg2 arg3 harg3 arg4 harg4 arg5 harg5 arg6 harg6 arg7 harg7 arg8 harg8 arg9 harg9 arg10 harg10 arg11 harg11 arg12 harg12 X2 X3 X4 X5 X6 X7 X8 X9 G).1 := by
  have hk := (kt i).isLt
  have e : (kt i).val + 1 + (k0_t1_loop i).trips = 32 := by rw [trips_1]; omega
  refine (state1_at c i arg2 harg2 arg3 harg3 arg4 harg4 arg5 harg5 arg6 harg6 arg7 harg7 arg8 harg8 arg9 harg9 arg10 harg10 arg11 harg11 arg12 harg12 cc0_scoped0 cc0_scoped1 _ _ _ _ _ _ _ _ _ _ X2 X3 X4 X5 X6 X7 X8 X9 hB (diag_sc c i arg2 harg2 arg3 harg3 arg4 harg4 arg5 harg5 arg6 harg6 arg7 harg7 arg8 harg8 arg9 harg9 arg10 harg10 arg11 harg11 arg12 harg12 X2 X3 X4 X5 X6 X7 X8 X9 hB hG) (diag_acc c i arg2 harg2 arg3 harg3 arg4 harg4 arg5 harg5 arg6 harg6 arg7 harg7 arg8 harg8 arg9 harg9 arg10 harg10 arg11 harg11 arg12 harg12 X2 X3 X4 X5 X6 X7 X8 X9 hB) _ le_rfl).1.congr ?_ ?_
  · funext a l s
    rw [e, zero_add]
    exact (Finset.sum_eq_sum_Ico_succ_bot (f := fun q => dkT A (hd i a) q l (at_ (kt i).val s)) hk).symm
  · funext a l s
    rw [e, zero_add]
    exact (Finset.sum_eq_sum_Ico_succ_bot (f := fun q => dvT A (hd i a) q l (at_ (kt i).val s)) hk).symm

/-- The accumulator the point ends with. -/
theorem end_sc {F : Fin 2 → Fin 128 → Fin 16384 → ℝ} {G : BufTy.Contents (Elt Ideal) scM.view.ty} (hG : ScIs F G) :
    ScIs (fun a l t => F a l t + dqT A (hd i a) (kt i).val l t) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.2.1 G) := by
  have hk := (kt i).isLt
  have e : (kt i).val + 1 + (k0_t1_loop i).trips = 32 := by rw [trips_1]; omega
  rw [run_N]
  refine (state1_at c i arg2 harg2 arg3 harg3 arg4 harg4 arg5 harg5 arg6 harg6 arg7 harg7 arg8 harg8 arg9 harg9 arg10 harg10 arg11 harg11 arg12 harg12 cc0_scoped0 cc0_scoped1 _ _ _ _ _ _ _ _ _ _ X2 X3 X4 X5 X6 X7 X8 X9 hB (diag_sc c i arg2 harg2 arg3 harg3 arg4 harg4 arg5 harg5 arg6 harg6 arg7 harg7 arg8 harg8 arg9 harg9 arg10 harg10 arg11 harg11 arg12 harg12 X2 X3 X4 X5 X6 X7 X8 X9 hB hG) (diag_acc c i arg2 harg2 arg3 harg3 arg4 harg4 arg5 harg5 arg6 harg6 arg7 harg7 arg8 harg8 arg9 harg9 arg10 harg10 arg11 harg11 arg12 harg12 X2 X3 X4 X5 X6 X7 X8 X9 hB) _ le_rfl).2.congr ?_
  funext a l t
  have ht := t.isLt
  rw [e, add_assoc]; congr 1
  rcases lt_trichotomy (t.val / 512) (kt i).val with h | h | h
  · rw [if_neg (by omega), if_neg (by omega), add_zero]
    exact (dqT_of_lt A _ hk l h).symm
  · rw [if_pos h, if_neg (by omega), add_zero]
  · rw [if_neg (by omega), if_pos (by omega), zero_add]

end Body

end Cert.KernelIdeal.Hand
-- ==== Proof.Outs.lean ====
/-
  What one grid point stores and copies out, at an index: the dk and dv blocks, the key-side bias terms, and the two
  results the kernel copies from its accumulator after the last key tile.
-/
module

public import proofs.«01_k».proof.Proof.BodyAt

@[expose] public section

set_option maxRecDepth 16384
set_option maxHeartbeats 2000000

noncomputable section

namespace Cert.KernelIdeal.Hand

open Cert.KernelIdeal Cert.KernelIdeal.Gen Cert.Spec
open Idealize.ShloMosaic Idealize.ShloMosaic.TcCoe
open scoped BigOperators

/-! The payloads of the stores. -/

theorem pay50_at0 (x y : FVec Ideal S80x512 .f32) (s : Fin 512) (d : Fin 64) :
    k0_pay50 x y (ix2 s ⟨0 * 64 + d.val, by omega⟩) = x (ix2 ⟨d.val, by omega⟩ s) := by
  pointwise [k0_pay50]

theorem pay50_at1 (x y : FVec Ideal S80x512 .f32) (s : Fin 512) (d : Fin 64) :
    k0_pay50 x y (ix2 s ⟨1 * 64 + d.val, by omega⟩) = y (ix2 ⟨d.val, by omega⟩ s) := by
  pointwise [k0_pay50]

theorem pay1_at0 (x y : FVec Ideal S64x512 .f32) (s : Fin 512) (d : Fin 64) :
    k0_pay1 x y (ix2 s ⟨0 * 64 + d.val, by omega⟩) = x (ix2 d s) := by
  pointwise [k0_pay1]

theorem pay1_at1 (x y : FVec Ideal S64x512 .f32) (s : Fin 512) (d : Fin 64) :
    k0_pay1 x y (ix2 s ⟨1 * 64 + d.val, by omega⟩) = y (ix2 d s) := by
  pointwise [k0_pay1]

theorem pay2_at (x : FVec Ideal S80x512 .f32) (s : Fin 512) : k0_pay2 x (ix3 0 0 s) = (0 : EReal) - x (ix2 67 s) := by
  pointwise [k0_pay2]

theorem pay3_at (x : FVec Ideal S80x512 .f32) (s : Fin 512) : k0_pay3 x (ix3 0 0 s) = (0 : EReal) - x (ix2 67 s) := by
  pointwise [k0_pay3]

theorem neg_row {x : EReal} {y : ℝ} (h : x = (y : EReal)) : (0 : EReal) - x = ((-y : ℝ) : EReal) := by
  rw [h, EReal.coe_neg, sub_eq_add_neg, zero_add]

/-! The copies. -/

theorem cond2_iff (i : grid0.Coords) : k0_cond2 i = 1#1 ↔ (kt i).val = 31 :=
  (by decide +kernel : ∀ n : Fin 32, Scalar.cmpi .ne (Scalar.extui (Scalar.cmpi .eq (BitVec.ofNat 32 n.val) 31#32) : BitVec 32) 0#32 = 1#1 ↔ n.val = 31) (kt i)

theorem pair_row (i : grid0.Coords) : (Scalar.muli 2#32 (BitVec.ofNat 32 (hp i).val)).toNat = 2 * (hp i).val :=
  (by decide +kernel : ∀ n : Fin 4, (Scalar.muli 2#32 (BitVec.ofNat 32 n.val)).toNat = 2 * n.val) (hp i)

theorem off36_eq (i : grid0.Coords) : k0_off36 i = ![2 * (hp i).val, 0, 0] := congrArg (fun n => ![n, 0, 0]) (pair_row i)
theorem off37_eq (i : grid0.Coords) : k0_off37 i = ![2 * (hp i).val, 0, 0] := congrArg (fun n => ![n, 0, 0]) (pair_row i)

section Body
variable (c : Dev nD) (i : grid0.Coords)
  (arg2 : Memref sig .tc .smem S8x32 .f32) (harg2 : arg2.IsWhole)
  (arg3 : Memref sig .tc .vmem S2x512x128 .bf16) (harg3 : arg3.IsWhole)
  (arg4 : Memref sig .tc .vmem S2x80x512 .bf16) (harg4 : arg4.IsWhole)
  (arg5 : Memref sig .tc .vmem S2x512x128 .bf16) (harg5 : arg5.IsWhole)
  (arg6 : Memref sig .tc .vmem S2x1x16384 .f32) (harg6 : arg6.IsWhole)
  (arg7 : Memref sig .tc .vmem S2x1x16384 .f32) (harg7 : arg7.IsWhole)
  (arg8 : Memref sig .tc .vmem S2x128x16384 .bf16) (harg8 : arg8.IsWhole)
  (arg9 : Memref sig .tc .vmem S2x128x16384 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x1x512 .f32) (harg12 : arg12.IsWhole)
  (v172_r0 : DmaSems sig S_) (v172_r1 : DmaSems sig S_)
  (arg0 : BitVec 32) (arg1 : BitVec 32)
  (v7 : FVec Ideal S80x512 .f32) (v8 : FVec Ideal S64x512 .f32) (v10 : BitVec 32)
  (v57 : FVec Ideal S64x512 .f32) (v62 : FVec Ideal S80x512 .f32)
  (v107 : FVec Ideal S512x512 .f32) (v112 : FVec Ideal S512x512 .f32) (v137 : BitVec 32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty)

theorem run_Q13_neg (h : ¬ (kt i).val = 31) (g : Buf (Elt Ideal) (dqM.view.loc (c : Thread nD τ))) (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.1 g f0 = g := by
  have hc : ¬ k0_cond2 i = 1#1 := fun e => h ((cond2_iff i).1 e)
  exact dif_neg hc

theorem run_Q13_pos (h : (kt i).val = 31) (g : Buf (Elt Ideal) (dqM.view.loc (c : Thread nD τ))) (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.1 g f0
      = dqM.view.writes (Elt Ideal) g [⟨Rect.unit (s := S8x80x16384) (k0_off36 i) ![2, 80, 16384] (k0_off36_inb i ((cond2_iff i).2 h)), scM.view.read (Elt Ideal) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.2.1 f0)⟩] := by
  have hc : k0_cond2 i = 1#1 := (cond2_iff i).2 h
  exact dif_pos hc

theorem run_Q14_neg (h : ¬ (kt i).val = 31) (g : Buf (Elt Ideal) (dcM.view.loc (c : Thread nD τ))) (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.1 g f0 = g := by
  have hc : ¬ k0_cond2 i = 1#1 := fun e => h ((cond2_iff i).1 e)
  exact dif_neg hc

theorem run_Q14_pos (h : (kt i).val = 31) (g : Buf (Elt Ideal) (dcM.view.loc (c : Thread nD τ))) (f0 : BufTy.Contents (Elt Ideal) scM.view.ty) :
    (bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.1 g f0
      = dcM.view.writes (Elt Ideal) g [⟨Rect.unit (s := S8x1x16384) (k0_off37 i) ![2, 1, 16384] (k0_off37_inb i ((cond2_iff i).2 h)),
          View.ld (scM.view.read (Elt Ideal) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.2.1 f0)) (Rect.unit (s := S2x80x16384) ![0, 64, 0] ![2, 1, 16384] inb_S2x80x16384_S2x1x16384_0_64_0)⟩] := by
  have hc : k0_cond2 i = 1#1 := (cond2_iff i).2 h
  exact dif_pos hc

theorem keep13 (h : (kt i).val = 31) (G : BufTy.Contents (Elt Ideal) scM.view.ty)
    (g : Buf (Elt Ideal) (dqM.view.loc (c : Thread nD τ))) (n : Fin 8) (hn : n.val < 2 * (hp i).val) (l : Fin 80) (t : Fin 16384) :
    dqM.view.read (Elt Ideal) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.1 g G) (ix3 n l t) = dqM.view.read (Elt Ideal) g (ix3 n l t) := by
  rw [run_Q13_pos c i arg2 harg2 arg3 harg3 arg4 harg4 arg5 harg5 arg6 harg6 arg7 harg7 arg8 harg8 arg9 harg9 arg10 harg10 arg11 harg11 arg12 harg12 X2 X3 X4 X5 X6 X7 X8 X9 h]
  rw [View.read_writes_cons_unit_of_not_mem (Val := Elt Ideal) _ _ _ _ _ _ (off36_eq i) 0 (Or.inl hn)]
  rfl

theorem keep14 (h : (kt i).val = 31) (G : BufTy.Contents (Elt Ideal) scM.view.ty)
    (g : Buf (Elt Ideal) (dcM.view.loc (c : Thread nD τ))) (n : Fin 8) (hn : n.val < 2 * (hp i).val) (t : Fin 16384) :
    dcM.view.read (Elt Ideal) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.1 g G) (ix3 n 0 t) = dcM.view.read (Elt Ideal) g (ix3 n 0 t) := by
  rw [run_Q14_pos c i arg2 harg2 arg3 harg3 arg4 harg4 arg5 harg5 arg6 harg6 arg7 harg7 arg8 harg8 arg9 harg9 arg10 harg10 arg11 harg11 arg12 harg12 X2 X3 X4 X5 X6 X7 X8 X9 h]
  rw [View.read_writes_cons_unit_of_not_mem (Val := Elt Ideal) _ _ _ _ _ _ (off37_eq i) 0 (Or.inl hn)]
  rfl

variable {A : Args} (hB : Blocks A i arg2 arg3 arg4 arg5 arg6 arg7 arg8 arg9 X2 X3 X4 X5 X6 X7 X8 X9)

include hB

theorem body10 {F : Fin 2 → Fin 128 → Fin 16384 → ℝ} {G : BufTy.Contents (Elt Ideal) scM.view.ty} (hG : ScIs F G) (f : BufTy.Contents (Elt Ideal) arg10.view.ty)
    (a : Fin 2) (s : Fin 512) (d : Fin 64) (y : S512x128.Idx) (hy : y = ix2 s ⟨a.val * 64 + d.val, by omega⟩) :
    (arg10.view.read (Elt Ideal) (arg10.view.writes (Elt Ideal) f ((bodyRun c i arg2 harg2 arg3 harg3 arg4 harg4 arg5 harg5 arg6 harg6 arg7 harg7 arg8 harg8 arg9 harg9 arg10 harg10 arg11 harg11 arg12 harg12 X2 X3 X4 X5 X6 X7 X8 X9).1 G)) y : EReal)
      = ((∑ q ∈ Finset.Ico (kt i).val 32, dkT A (hd i a) q ⟨d.val, by omega⟩ (at_ (kt i).val s) : ℝ) : EReal) := by
  subst hy
  have hE := end_acc c i arg2 harg2 arg3 harg3 arg4 harg4 arg5 harg5 arg6 harg6 arg7 harg7 arg8 harg8 arg9 harg9 arg10 harg10 arg11 harg11 arg12 harg12 X2 X3 X4 X5 X6 X7 X8 X9 hB hG
  rw [run_L10]
  rw [View.read_writes_cons_unit_of_mem (Val := Elt Ideal) _ _ _ _ _ _ (ix2 s ⟨a.val * 64 + d.val, by omega⟩) rfl (by intro x; fin_cases x <;> first | rfl | exact (Nat.zero_add _).symm)]
  fin_cases a
  · exact (pay50_at0 _ _ s d).trans (hE.k0 ⟨d.val, by omega⟩ s)
  · exact (pay50_at1 _ _ s d).trans (hE.k1 ⟨d.val, by omega⟩ s)

theorem body11 {F : Fin 2 → Fin 128 → Fin 16384 → ℝ} {G : BufTy.Contents (Elt Ideal) scM.view.ty} (hG : ScIs F G) (f : BufTy.Contents (Elt Ideal) arg11.view.ty)
    (a : Fin 2) (s : Fin 512) (d : Fin 64) (y : S512x128.Idx) (hy : y = ix2 s ⟨a.val * 64 + d.val, by omega⟩) :
    (arg11.view.read (Elt Ideal) (arg11.view.writes (Elt Ideal) f ((bodyRun c i arg2 harg2 arg3 harg3 arg4 harg4 arg5 harg5 arg6 harg6 arg7 harg7 arg8 harg8 arg9 harg9 arg10 harg10 arg11 harg11 arg12 harg12 X2 X3 X4 X5 X6 X7 X8 X9).2.1 G)) y : EReal)
      = ((∑ q ∈ Finset.Ico (kt i).val 32, dvT A (hd i a) q ⟨d.val, by omega⟩ (at_ (kt i).val s) : ℝ) : EReal) := by
  subst hy
  have hE := end_acc c i arg2 harg2 arg3 harg3 arg4 harg4 arg5 harg5 arg6 harg6 arg7 harg7 arg8 harg8 arg9 harg9 arg10 harg10 arg11 harg11 arg12 harg12 X2 X3 X4 X5 X6 X7 X8 X9 hB hG
  rw [run_L11]
  rw [View.read_writes_cons_unit_of_mem (Val := Elt Ideal) _ _ _ _ _ _ (ix2 s ⟨a.val * 64 + d.val, by omega⟩) rfl (by intro x; fin_cases x <;> first | rfl | exact (Nat.zero_add _).symm)]
  fin_cases a
  · exact (pay1_at0 _ _ s d).trans (hE.v0 d s)
  · exact (pay1_at1 _ _ s d).trans (hE.v1 d s)

theorem body12 {F : Fin 2 → Fin 128 → Fin 16384 → ℝ} {G : BufTy.Contents (Elt Ideal) scM.view.ty} (hG : ScIs F G) (f : BufTy.Contents (Elt Ideal) arg12.view.ty)
    (a : Fin 2) (s : Fin 512) (y : S2x1x512.Idx) (hy : y = ix3 a 0 s) :
    (arg12.view.read (Elt Ideal) (arg12.view.writes (Elt Ideal) f ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.1 G)) y : EReal)
      = ((-∑ q ∈ Finset.Ico (kt i).val 32, dkT A (hd i a) q 67 (at_ (kt i).val s) : ℝ) : EReal) := by
  subst hy
  have hE := end_acc c i arg2 harg2 arg3 harg3 arg4 harg4 arg5 harg5 arg6 harg6 arg7 harg7 arg8 harg8 arg9 harg9 arg10 harg10 arg11 harg11 arg12 harg12 X2 X3 X4 X5 X6 X7 X8 X9 hB hG
  rw [run_L12]
  fin_cases a
  · rw [View.read_writes_cons_unit_of_not_mem (Val := Elt Ideal) _ _ _ _ _ _ rfl 0 (Or.inl (show (0 : ℕ) < 1 from Nat.zero_lt_one))]
    rw [View.read_writes_cons_unit_of_mem (Val := Elt Ideal) _ _ _ _ _ _ (ix3 0 0 s) rfl (by intro x; fin_cases x <;> first | rfl | exact (Nat.zero_add _).symm)]
    exact (pay2_at _ s).trans (neg_row (hE.k0 67 s))
  · rw [View.read_writes_cons_unit_of_mem (Val := Elt Ideal) _ _ _ _ _ _ (ix3 0 0 s) rfl (by intro x; fin_cases x <;> first | rfl | exact (Nat.zero_add _).symm)]
    exact (pay3_at _ s).trans (neg_row (hE.k1 67 s))

/-- The copied rows: those of the pair's heads hold the accumulator, the others what they held. -/
theorem copy13 (h : (kt i).val = 31) {F : Fin 2 → Fin 128 → Fin 16384 → ℝ} {G : BufTy.Contents (Elt Ideal) scM.view.ty} (hG : ScIs F G)
    (g : Buf (Elt Ideal) (dqM.view.loc (c : Thread nD τ))) (a : Fin 2) (l : Fin 80) (t : Fin 16384) :
    (dqM.view.read (Elt Ideal) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.1 g G) (ix3 (hd i a) l t) : EReal)
      = ((F a ⟨l.val, by omega⟩ t + dqT A (hd i a) (kt i).val ⟨l.val, by omega⟩ t : ℝ) : EReal) := by
  rw [run_Q13_pos c i arg2 harg2 arg3 harg3 arg4 harg4 arg5 harg5 arg6 harg6 arg7 harg7 arg8 harg8 arg9 harg9 arg10 harg10 arg11 harg11 arg12 harg12 X2 X3 X4 X5 X6 X7 X8 X9 h]
  rw [View.read_writes_cons_unit_of_mem (Val := Elt Ideal) _ _ _ _ _ _ (ix3 a l t) (off36_eq i) (by intro x; fin_cases x <;> first | rfl | exact (Nat.zero_add _).symm)]
  exact end_sc c i arg2 harg2 arg3 harg3 arg4 harg4 arg5 harg5 arg6 harg6 arg7 harg7 arg8 harg8 arg9 harg9 arg10 harg10 arg11 harg11 arg12 harg12 X2 X3 X4 X5 X6 X7 X8 X9 hB hG a l t

theorem copy14 (h : (kt i).val = 31) {F : Fin 2 → Fin 128 → Fin 16384 → ℝ} {G : BufTy.Contents (Elt Ideal) scM.view.ty} (hG : ScIs F G)
    (g : Buf (Elt Ideal) (dcM.view.loc (c : Thread nD τ))) (a : Fin 2) (t : Fin 16384) :
    (dcM.view.read (Elt Ideal) ((bodyRun c i arg2 harg2 arg3 harg3 arg4 harg4 arg5 harg5 arg6 harg6 arg7 harg7 arg8 harg8 arg9 harg9 arg10 harg10 arg11 harg11 arg12 harg12 X2 X3 X4 X5 X6 X7 X8 X9).2.2.2.2.1 g G) (ix3 (hd i a) 0 t) : EReal)
      = ((F a 64 t + dqT A (hd i a) (kt i).val 64 t : ℝ) : EReal) := by
  rw [run_Q14_pos c i arg2 harg2 arg3 harg3 arg4 harg4 arg5 harg5 arg6 harg6 arg7 harg7 arg8 harg8 arg9 harg9 arg10 harg10 arg11 harg11 arg12 harg12 X2 X3 X4 X5 X6 X7 X8 X9 h]
  rw [View.read_writes_cons_unit_of_mem (Val := Elt Ideal) _ _ _ _ _ _ (ix3 a 0 t) (off37_eq i) (by intro x; fin_cases x <;> first | rfl | exact (Nat.zero_add _).symm)]
  exact (ld3 _ rfl _ a 0 t a 64 t (Nat.zero_add _).symm rfl (Nat.zero_add _).symm).trans (end_sc c i arg2 harg2 arg3 harg3 arg4 harg4 arg5 harg5 arg6 harg6 arg7 harg7 arg8 harg8 arg9 harg9 arg10 harg10 arg11 harg11 arg12 harg12 X2 X3 X4 X5 X6 X7 X8 X9 hB hG a 64 t)

end Body

end Cert.KernelIdeal.Hand
-- ==== Proof.KFrame.lean ====
/-
  The launch of the backward kernel: what each point of the grid finds and leaves, and the run of the whole call.
  The dq accumulator is carried from point to point; the two results the kernel copies out itself are carried in
  the invariant, every other array is the pipeline's.
-/
module

public import proofs.«01_k».proof.Proof.KBody
public import proofs.«01_k».proof.Proof.Gen.KernelIdeal.Points
public import Idealize.ShloMosaic.Lib.Pipeline.Frame
public import Idealize.ShloMosaic.Lib.Pipeline.FrameBody
public import Idealize.ShloMosaic.Lib.Pipeline.FrameSuffixV
public import Idealize.ShloMosaic.Lib.Tactic
public import Idealize.ShloMosaic.Lib.Transfers

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄" => MT nD τ sig Unit (Elt F) ℕ (Pipeline.UD sig nD τ) ℕ

/-! ## The launch facts -/

/-- The cells of the kernel's own two copies. -/
abbrev osem0 : Fin 2 → SemLoc sig := fun j => (![SemLoc.dma 21, SemLoc.dma 22] : Fin 2 → SemLoc sig) j

theorem ownSemFacts0 : Pipeline.OwnSemFacts spec0 osem0 := by decide

/-- The results written by the kernel's own copies. -/
abbrev R0 : Finset (Ref sig .tc) := {main_v75_3, main_v75_4}
abbrev H0 : Finset (Ref sig .tc) := ∅

theorem H0_sub : H0 ⊆ Pipeline.restRefs sig spec0 := Finset.empty_subset _
theorem R0_sub : R0 ⊆ Pipeline.restRefs sig spec0 \ H0 := by
  intro b hb
  simp only [H0, Finset.sdiff_empty]
  simp only [R0, Finset.mem_insert, Finset.mem_singleton] at hb
  rcases hb with rfl | rfl
  · exact Pipeline.mem_restRefs_of main_v75_3 (by decide) (by decide)
  · exact Pipeline.mem_restRefs_of main_v75_4 (by decide) (by decide)

theorem ownSems00_eq (c : Dev nD) :
    (Pipeline.ownSems0 osem0 c : sProp 𝕄) = iprop(semVal ((c : Thread nD τ), SemLoc.dma 21) 0 ∗ semVal ((c : Thread nD τ), SemLoc.dma 22) 0) := by
  rw [Pipeline.ownSems0_eq_of_list c osem0 [0, 1] (by decide) (by decide)]; rfl

theorem bigSep_R0 (Φ : Ref sig .tc → sProp 𝕄) : bigSep R0 Φ = iprop(Φ main_v75_3 ∗ Φ main_v75_4) := by
  rw [BI.bigSep_eq_bigSepL_of_eq [main_v75_3, main_v75_4] (by decide) (by decide)]; rfl

variable (m : (ℓ : Loc nD τ sig) → Buf (Elt F) ℓ) (ρ : Dev nD → PrngReg)

/-! ## What each point finds and leaves -/
/-- The raw contents of operand 0's staging buffer at a point. -/
def inC0 (c : Dev nD) (t : Fin cfg0.N) : BufTy.Contents (Elt F) (st0_0 t).view.ty :=
  Memref.IsWhole.unread (m := st0_0 t) (hstage0_0 ((cfg0.slots t 0).cast nbuf0_0)) (iblk m c 0 t)
/-- The raw contents of operand 1's staging buffer at a point. -/
def inC1 (c : Dev nD) (t : Fin cfg0.N) : BufTy.Contents (Elt F) (st0_1 t).view.ty :=
  Memref.IsWhole.unread (m := st0_1 t) (hstage0_1 ((cfg0.slots t 1).cast nbuf0_1)) (iblk m c 1 t)
/-- The raw contents of operand 2's staging buffer at a point. -/
def inC2 (c : Dev nD) (t : Fin cfg0.N) : BufTy.Contents (Elt F) (st0_2 t).view.ty :=
  Memref.IsWhole.unread (m := st0_2 t) (hstage0_2 ((cfg0.slots t 2).cast nbuf0_2)) (iblk m c 2 t)
/-- The raw contents of operand 3's staging buffer at a point. -/
def inC3 (c : Dev nD) (t : Fin cfg0.N) : BufTy.Contents (Elt F) (st0_3 t).view.ty :=
  Memref.IsWhole.unread (m := st0_3 t) (hstage0_3 ((cfg0.slots t 3).cast nbuf0_3)) (iblk m c 3 t)
/-- The raw contents of operand 4's staging buffer at a point. -/
def inC4 (c : Dev nD) (t : Fin cfg0.N) : BufTy.Contents (Elt F) (st0_4 t).view.ty :=
  Memref.IsWhole.unread (m := st0_4 t) (hstage0_4 ((cfg0.slots t 4).cast nbuf0_4)) (iblk m c 4 t)
/-- The raw contents of operand 5's staging buffer at a point. -/
def inC5 (c : Dev nD) (t : Fin cfg0.N) : BufTy.Contents (Elt F) (st0_5 t).view.ty :=
  Memref.IsWhole.unread (m := st0_5 t) (hstage0_5 ((cfg0.slots t 5).cast nbuf0_5)) (iblk m c 5 t)
/-- The raw contents of operand 6's staging buffer at a point. -/
def inC6 (c : Dev nD) (t : Fin cfg0.N) : BufTy.Contents (Elt F) (st0_6 t).view.ty :=
  Memref.IsWhole.unread (m := st0_6 t) (hstage0_6 ((cfg0.slots t 6).cast nbuf0_6)) (iblk m c 6 t)
/-- The raw contents of operand 7's staging buffer at a point. -/
def inC7 (c : Dev nD) (t : Fin cfg0.N) : BufTy.Contents (Elt F) (st0_7 t).view.ty :=
  Memref.IsWhole.unread (m := st0_7 t) (hstage0_7 ((cfg0.slots t 7).cast nbuf0_7)) (iblk m c 7 t)
/-- The run of the body at a point. -/
abbrev pointRun (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (inC0 m c t) (inC1 m c t) (inC2 m c t) (inC3 m c t) (inC4 m c t) (inC5 m c t) (inC6 m c t) (inC7 m c t)

/-- What a point carries on: the accumulator, and the two results. -/
abbrev Carry (F : FTy → Type) (c : Dev nD) : Type :=
  BufTy.Contents (Elt F) scM.view.ty × Buf (Elt F) (dqM.view.loc (c : Thread nD τ)) × Buf (Elt F) (dcM.view.loc (c : Thread nD τ))

/-- One point's step on what is carried. -/
def stepAt (c : Dev nD) (t : Fin cfg0.N) (s : Carry F c) : Carry F c :=
  ((pointRun m c t).2.2.2.2.2.1 (start (grid0.coords t) s.1),
   (pointRun m c t).2.2.2.1 s.2.1 (start (grid0.coords t) s.1),
   (pointRun m c t).2.2.2.2.1 s.2.2 (start (grid0.coords t) s.1))

/-- What is carried before point `n`. -/
def carryAt (c : Dev nD) : ℕ → Carry F c
  | 0 => (zeroAcc, V m c main_v75_3, V m c main_v75_4)
  | n + 1 => if h : n < cfg0.N then stepAt m c ⟨n, h⟩ (carryAt c n) else carryAt c n

theorem carryAt_succ (c : Dev nD) (t : Fin cfg0.N) : carryAt m c (t.val + 1) = stepAt m c t (carryAt m c t.val) := by
  show (if h : t.val < cfg0.N then stepAt m c ⟨t.val, h⟩ (carryAt m c t.val) else carryAt m c t.val) = _
  rw [dif_pos t.isLt]

/-- The accumulator a point works on. -/
abbrev accIn (c : Dev nD) (t : Fin cfg0.N) : BufTy.Contents (Elt F) scM.view.ty := start (grid0.coords t) (carryAt m c t.val).1
theorem cover8 (c : Dev nD) (t : Fin cfg0.N) (f : BufTy.Contents (Elt F) scM.view.ty) (y : S512x128.Idx) :
    ∃ pc ∈ (pointRun m c t).1 f, y ∈ pc.1.set :=
  View.cover_of_tiledL ((pointRun m c t).1 f) S512x128.size (by sl_kernel_rfl) y

/-- What a point leaves in the staging buffer of output 0. -/
def out8 (c : Dev nD) (t : Fin cfg0.N) : S512x128.Idx → Elt F .bf16 :=
  (st0_8 t).view.read (Elt F) ((st0_8 t).view.writes (Elt F) (st0_8 t).view.junk ((pointRun m c t).1 (accIn m c t)))
theorem cover9 (c : Dev nD) (t : Fin cfg0.N) (f : BufTy.Contents (Elt F) scM.view.ty) (y : S512x128.Idx) :
    ∃ pc ∈ (pointRun m c t).2.1 f, y ∈ pc.1.set :=
  View.cover_of_tiledL ((pointRun m c t).2.1 f) S512x128.size (by sl_kernel_rfl) y

/-- What a point leaves in the staging buffer of output 1. -/
def out9 (c : Dev nD) (t : Fin cfg0.N) : S512x128.Idx → Elt F .bf16 :=
  (st0_9 t).view.read (Elt F) ((st0_9 t).view.writes (Elt F) (st0_9 t).view.junk ((pointRun m c t).2.1 (accIn m c t)))
theorem cover10 (c : Dev nD) (t : Fin cfg0.N) (f : BufTy.Contents (Elt F) scM.view.ty) (y : S2x1x512.Idx) :
    ∃ pc ∈ (pointRun m c t).2.2.1 f, y ∈ pc.1.set :=
  View.cover_of_tiledL ((pointRun m c t).2.2.1 f) S1x1x512.size (by sl_kernel_rfl) y

/-- What a point leaves in the staging buffer of output 2. -/
def out10 (c : Dev nD) (t : Fin cfg0.N) : S2x1x512.Idx → Elt F .f32 :=
  (st0_10 t).view.read (Elt F) ((st0_10 t).view.writes (Elt F) (st0_10 t).view.junk ((pointRun m c t).2.2.1 (accIn m c t)))
/-- The invariant before point `n`: the accumulator as carried (except at the points that begin by clearing it),
    the copies' cells at rest, and the two results as copied so far. -/
def PhiS (c : Dev nD) (n : ℕ) : sProp 𝕄 :=
  iprop((∃ f : BufTy.Contents (Elt F) scM.view.ty, ⌜n % 32 ≠ 0 → f = (carryAt m c n).1⌝ ∗ pt c scM f)
    ∗ (semVal ((c : Thread nD τ), SemLoc.dma 21) 0 ∗ semVal ((c : Thread nD τ), SemLoc.dma 22) 0)
    ∗ hb c dqM (carryAt m c n).2.1 ∗ hb c dcM (carryAt m c n).2.2)

/-- The proof data of the call on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => out10 m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]

theorem coords1 : ∀ t : Fin cfg0.N, ((grid0.coords t) 1).val = t.val % 32 :=
  (by decide +kernel : ∀ t : Fin grid0.N, ((grid0.coords t) 1).val = t.val % 32)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = PhiS m c (t.val + 1) from rfl, show (dats m 0 c).Φ t.castSucc = PhiS m c t.val from rfl]
  unfold Dat.owesAt Pipeline.owesWithin
  rw [show (dats m 0 c).owed t.castSucc = 0 from rfl, show (dats m 0 c).owed t.succ = 0 from rfl]
  simp only [before0_0, before0_1, before0_2, before0_3, before0_4, before0_5, before0_6, before0_7, after0_0, after0_1, after0_2, after0_3, after0_4, after0_5, after0_6, after0_7, after0_8, after0_9, after0_10]
  unfold PhiS
  unfold owns
  iintro ⟨⟨⟨%f, %hf, HS⟩, ⟨Hs0, Hs1⟩, Hq, Hd⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩⟩
  have x0 : g0 = inC0 m c t := Memref.IsWhole.eq_unread (m := st0_0 t) (hstage0_0 ((cfg0.slots t 0).cast nbuf0_0)) e0
  subst x0
  have x1 : g1 = inC1 m c t := Memref.IsWhole.eq_unread (m := st0_1 t) (hstage0_1 ((cfg0.slots t 1).cast nbuf0_1)) e1
  subst x1
  have x2 : g2 = inC2 m c t := Memref.IsWhole.eq_unread (m := st0_2 t) (hstage0_2 ((cfg0.slots t 2).cast nbuf0_2)) e2
  subst x2
  have x3 : g3 = inC3 m c t := Memref.IsWhole.eq_unread (m := st0_3 t) (hstage0_3 ((cfg0.slots t 3).cast nbuf0_3)) e3
  subst x3
  have x4 : g4 = inC4 m c t := Memref.IsWhole.eq_unread (m := st0_4 t) (hstage0_4 ((cfg0.slots t 4).cast nbuf0_4)) e4
  subst x4
  have x5 : g5 = inC5 m c t := Memref.IsWhole.eq_unread (m := st0_5 t) (hstage0_5 ((cfg0.slots t 5).cast nbuf0_5)) e5
  subst x5
  have x6 : g6 = inC6 m c t := Memref.IsWhole.eq_unread (m := st0_6 t) (hstage0_6 ((cfg0.slots t 6).cast nbuf0_6)) e6
  subst x6
  have x7 : g7 = inC7 m c t := Memref.IsWhole.eq_unread (m := st0_7 t) (hstage0_7 ((cfg0.slots t 7).cast nbuf0_7)) e7
  subst x7
  have hst : start (grid0.coords t) f = accIn m c t := by
    by_cases h0 : t.val % 32 = 0
    · rw [start_pos ((coords1 t).trans h0)]; exact (start_pos ((coords1 t).trans h0) _).symm
    · rw [hf h0]
  iapply ((pointRun m c t).2.2.2.2.2.2 f g8 g9 g10 (carryAt m c t.val).2.1 (carryAt m c t.val).2.2 W _)
  rw [hst]
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [HS]; · iexact HS
  isplitl [Hq]; · iexact Hq
  isplitl [Hd]; · iexact Hd
  isplitl [Hs0]; · iexact Hs0
  isplitl [Hs1]; · iexact Hs1
  isplitl [HW]; · iexact HW
  iintro ⟨⟨H0, H1, H2, H3, H4, H5, H6, H7⟩, H8, H9, H10, HS, Hq, Hd, Hs0, Hs1, ⟨%W', HW⟩⟩
  isplitl [HS Hq Hd Hs0 Hs1]
  · isplitl [HS]
    · iexists _; isplitr; swap; · iexact HS
      ipureintro; intro _; rw [carryAt_succ]; rfl
    isplitl [Hs0 Hs1]
    · isplitl [Hs0]; · iexact Hs0
      iexact Hs1
    isplitl [Hq]
    · rw [carryAt_succ]; iexact Hq
    rw [carryAt_succ]; iexact Hd
  isplitl [HW]
  · iexists W'; isplitr; · ipureintro; exact fun _ _ => Or.inl trivial
    iexact HW
  isplitl [H0]
  · iexists _; isplitr; swap; · iexact H0
    ipureintro; exact Memref.IsWhole.read_unread (m := st0_0 t) (hstage0_0 ((cfg0.slots t 0).cast nbuf0_0)) _
  isplitl [H1]
  · iexists _; isplitr; swap; · iexact H1
    ipureintro; exact Memref.IsWhole.read_unread (m := st0_1 t) (hstage0_1 ((cfg0.slots t 1).cast nbuf0_1)) _
  isplitl [H2]
  · iexists _; isplitr; swap; · iexact H2
    ipureintro; exact Memref.IsWhole.read_unread (m := st0_2 t) (hstage0_2 ((cfg0.slots t 2).cast nbuf0_2)) _
  isplitl [H3]
  · iexists _; isplitr; swap; · iexact H3
    ipureintro; exact Memref.IsWhole.read_unread (m := st0_3 t) (hstage0_3 ((cfg0.slots t 3).cast nbuf0_3)) _
  isplitl [H4]
  · iexists _; isplitr; swap; · iexact H4
    ipureintro; exact Memref.IsWhole.read_unread (m := st0_4 t) (hstage0_4 ((cfg0.slots t 4).cast nbuf0_4)) _
  isplitl [H5]
  · iexists _; isplitr; swap; · iexact H5
    ipureintro; exact Memref.IsWhole.read_unread (m := st0_5 t) (hstage0_5 ((cfg0.slots t 5).cast nbuf0_5)) _
  isplitl [H6]
  · iexists _; isplitr; swap; · iexact H6
    ipureintro; exact Memref.IsWhole.read_unread (m := st0_6 t) (hstage0_6 ((cfg0.slots t 6).cast nbuf0_6)) _
  isplitl [H7]
  · iexists _; isplitr; swap; · iexact H7
    ipureintro; exact Memref.IsWhole.read_unread (m := st0_7 t) (hstage0_7 ((cfg0.slots t 7).cast nbuf0_7)) _
  isplitl [H8]
  · iexists _; isplitr; swap; · iexact H8
    ipureintro; exact View.read_writes_of_cover _ _ _ _ _ (cover8 m c t _)
  isplitl [H9]
  · iexists _; isplitr; swap; · iexact H9
    ipureintro; exact View.read_writes_of_cover _ _ _ _ _ (cover9 m c t _)
  iexists _; isplitr; swap; · iexact H10
  ipureintro; exact View.read_writes_of_cover _ _ _ _ _ (cover10 m c t _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the two results the kernel copies out hold at the end. -/
def G (c : Dev nD) (b : Ref sig .tc) : Buf (Elt F) ((c : Thread nD τ).loc b) :=
  if h : b = main_v75_3 then h ▸ (carryAt m c cfg0.N).2.1
  else if h : b = main_v75_4 then h ▸ (carryAt m c cfg0.N).2.2
  else V m c b

theorem G_3 (c : Dev nD) : G m c main_v75_3 = (carryAt m c cfg0.N).2.1 := by
  unfold G; rw [dif_pos rfl]
theorem G_4 (c : Dev nD) : G m c main_v75_4 = (carryAt m c cfg0.N).2.2 := by
  unfold G; rw [dif_neg (by decide), dif_pos rfl]

theorem PhiV_eq (c : Dev nD) (g : (c : Dev nD) → (b : Ref sig .tc) → Buf (Elt F) ((c : Thread nD τ).loc b)) :
    (Pipeline.ΦDRV osem0 spec0 H0 R0 (V m) g c : sProp 𝕄)
      = iprop((∃ f : Buf (Elt F) ((c : Thread nD τ).loc cc0_scratch0), ((c : Thread nD τ).loc cc0_scratch0) ↦{fullShare} f)
          ∗ (semVal ((c : Thread nD τ), SemLoc.dma 21) 0 ∗ semVal ((c : Thread nD τ), SemLoc.dma 22) 0)
          ∗ emp
          ∗ ((((c : Thread nD τ).loc main_v75_3) ↦{fullShare} g c main_v75_3) ∗ (((c : Thread nD τ).loc main_v75_4) ↦{fullShare} g c main_v75_4))) := by
  unfold Pipeline.ΦDRV
  rw [scopedRest0_eq, ownSems00_eq, bigSep_R0, bigSep_empty]; rfl

theorem hin (c : Dev nD) : Pipeline.ΦDRV osem0 spec0 H0 R0 (V m) (V m) c ⊢ ((dats m 0 c).Φ 0 : sProp 𝕄) := by
  rw [PhiV_eq, show (dats m 0 c).Φ 0 = PhiS m c 0 from rfl]
  unfold PhiS
  simp only [pt, Memref.view_whole, View.set_whole]
  iintro ⟨⟨%f, HS⟩, Hs, -, Hq, Hd⟩
  isplitl [HS]
  · iexists f; isplitr; · ipureintro; exact fun h => absurd rfl h
    iexact HS
  isplitl [Hs]; · iexact Hs
  isplitl [Hq]; · iexact Hq
  iexact Hd

theorem hout (c : Dev nD) : ((dats m 0 c).Φ (Fin.last cfg0.N) : sProp 𝕄) ⊢ Pipeline.ΦDRV osem0 spec0 H0 R0 (V m) (G m) c := by
  rw [PhiV_eq, show (dats m 0 c).Φ (Fin.last cfg0.N) = PhiS m c cfg0.N from rfl, G_3, G_4]
  unfold PhiS
  simp only [pt, Memref.view_whole, View.set_whole]
  iintro ⟨⟨%f, -, HS⟩, Hs, Hq, Hd⟩
  isplitl [HS]; · iexists f; iexact HS
  isplitl [Hs]; · iexact Hs
  isplitr; · iempintro
  isplitl [Hq]; · iexact Hq
  iexact Hd

set_option maxHeartbeats 8000000 in
/-- @main around the region: it reduces to the region continued by the later host lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- What the buffers no window stages hold at the end: the last host lines run on the arrays the call leaves. -/
abbrev endV (c : Dev nD) : Valuation τ sig (Elt F) :=
  StableHlo.after (List.flatten [hostOps1]) (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = endV m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m Variants.none) (hA := A_eq m)
    (hin := hin m) (hout := hout m)

theorem endV_arg0 (c : Dev nD) : endV m c (Proc.devRef .tc main_arg0) = m ((c : Thread nD τ).loc main_arg0) := by
  unfold endV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c

theorem endV_arg1 (c : Dev nD) : endV m c (Proc.devRef .tc main_arg1) = m ((c : Thread nD τ).loc main_arg1) := by
  unfold endV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ _ _ _ main_arg1 (by decide)]
  exact V_main_arg1 m c

theorem endV_arg2 (c : Dev nD) : endV m c (Proc.devRef .tc main_arg2) = m ((c : Thread nD τ).loc main_arg2) := by
  unfold endV
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ _ _ _ main_arg2 (by decide)]
  exact V_main_arg2 m c

theorem endV_arg3 (c : Dev nD) : endV m c (Proc.devRef .tc main_arg3) = m ((c : Thread nD τ).loc main_arg3) := by
  unfold endV
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3)),
    Pipeline.withR_of_not_mem _ _ _ _ main_arg3 (by decide)]
  exact V_main_arg3 m c

theorem endV_arg4 (c : Dev nD) : endV m c (Proc.devRef .tc main_arg4) = m ((c : Thread nD τ).loc main_arg4) := by
  unfold endV
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg4 (by exact (by decide : ∀ w, Pipeline.arrRef spec0 w ≠ main_arg4)),
    Pipeline.withR_of_not_mem _ _ _ _ main_arg4 (by decide)]
  exact V_main_arg4 m c

/-- Every run ends with the arguments as launched. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (endV_arg0 m c), ((h.1 c).2 main_arg1 (Pipeline.mem_restRefs_of main_arg1 (by decide) (by decide))).trans (endV_arg1 m c), ((h.1 c).2 main_arg2 (Pipeline.mem_restRefs_of main_arg2 (by decide) (by decide))).trans (endV_arg2 m c), ((h.1 c).2 main_arg3 (Pipeline.mem_restRefs_of main_arg3 (by decide) (by decide))).trans (endV_arg3 m c), ((h.1 c).2 main_arg4 (Pipeline.mem_restRefs_of main_arg4 (by decide) (by decide))).trans (endV_arg4 m c)⟩, h.2⟩) (run_main m ρ)

end Cert.KernelIdeal.Hand

end
-- ==== Proof.Carry.lean ====
/-
  What the grid carries from point to point, over the reals: the dq accumulator after some key tiles of a head pair, the
  finished dq rows and query-side bias terms of the earlier pairs, and what a point leaves in its three output blocks.
-/
module

public import proofs.«01_k».proof.Proof.Outs
public import proofs.«01_k».proof.Proof.KFrame

@[expose] public section

set_option maxRecDepth 16384
set_option maxHeartbeats 2000000

noncomputable section

namespace Cert.KernelIdeal.Hand

open Cert.KernelIdeal Cert.KernelIdeal.Gen Cert.Spec
open Idealize.ShloMosaic Idealize.ShloMosaic.TcCoe
open scoped BigOperators

variable (m : (ℓ : Loc nD τ sig) → Buf (Elt Ideal) ℓ)

theorem coords0 : ∀ t : Fin cfg0.N, ((grid0.coords t) 0).val = t.val / 32 :=
  (by decide +kernel : ∀ t : Fin grid0.N, ((grid0.coords t) 0).val = t.val / 32)

theorem kt_val (t : Fin cfg0.N) : (kt (grid0.coords t)).val = t.val % 32 := coords1 t
theorem hp_val (t : Fin cfg0.N) : (hp (grid0.coords t)).val = t.val / 32 := coords0 t

/-- Head `a` of pair `p`. -/
def hh (p : ℕ) (a : Fin 2) : Fin 8 := ⟨(2 * p + a.val) % 8, Nat.mod_lt _ (by norm_num)⟩

theorem hd_eq (t : Fin cfg0.N) (a : Fin 2) : hd (grid0.coords t) a = hh (t.val / 32) a := by
  apply Fin.ext
  have h1 := hp_val t
  have h2 := (hp (grid0.coords t)).isLt
  have h3 := (hd (grid0.coords t) a).isLt
  have h4 : (hd (grid0.coords t) a).val = 2 * (hp (grid0.coords t)).val + a.val := rfl
  show _ = (2 * (t.val / 32) + a.val) % 8
  omega

/-- A grid point finds the operands of `A` in its blocks. -/
def Finds (A : Args) (c : Dev nD) (t : Fin cfg0.N) : Prop :=
  Blocks A (grid0.coords t) (st0_0 t) (st0_1 t) (st0_2 t) (st0_3 t) (st0_4 t) (st0_5 t) (st0_6 t) (st0_7 t) (inC0 m c t) (inC1 m c t) (inC2 m c t) (inC3 m c t) (inC4 m c t) (inC5 m c t) (inC6 m c t) (inC7 m c t)

/-- The accumulator before point `n`: the key tiles so far of the current pair. -/
def soFar (A : Args) (n : ℕ) : Fin 2 → Fin 128 → Fin 16384 → ℝ := fun a l t => ∑ j ∈ Finset.range (n % 32), dqT A (hh (n / 32) a) j l t

/-- What is carried before point `n`. -/
structure CarryIs (A : Args) (c : Dev nD) (n : ℕ) : Prop where
  acc : n % 32 ≠ 0 → ScIs (soFar A n) (carryAt m c n).1
  dq : ∀ h : Fin 8, h.val / 2 < n / 32 → ∀ (l : Fin 80) (t : Fin 16384),
    (dqM.view.read (Elt Ideal) (carryAt m c n).2.1 (ix3 h l t) : EReal) = ((∑ j ∈ Finset.range 32, dqT A h j ⟨l.val, by omega⟩ t : ℝ) : EReal)
  dc : ∀ h : Fin 8, h.val / 2 < n / 32 → ∀ (t : Fin 16384),
    (dcM.view.read (Elt Ideal) (carryAt m c n).2.2 (ix3 h 0 t) : EReal) = ((∑ j ∈ Finset.range 32, dqT A h j 64 t : ℝ) : EReal)

section

variable (c : Dev nD)

/-- What holds of any buffers holds of the point's. -/
theorem at_point (t : Fin cfg0.N) {P : ∀ (i : grid0.Coords)
  (arg2 : Memref sig .tc .smem S8x32 .f32) (harg2 : arg2.IsWhole)
  (arg3 : Memref sig .tc .vmem S2x512x128 .bf16) (harg3 : arg3.IsWhole)
  (arg4 : Memref sig .tc .vmem S2x80x512 .bf16) (harg4 : arg4.IsWhole)
  (arg5 : Memref sig .tc .vmem S2x512x128 .bf16) (harg5 : arg5.IsWhole)
  (arg6 : Memref sig .tc .vmem S2x1x16384 .f32) (harg6 : arg6.IsWhole)
  (arg7 : Memref sig .tc .vmem S2x1x16384 .f32) (harg7 : arg7.IsWhole)
  (arg8 : Memref sig .tc .vmem S2x128x16384 .bf16) (harg8 : arg8.IsWhole)
  (arg9 : Memref sig .tc .vmem S2x128x16384 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S2x1x512 .f32) (harg12 : arg12.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty), Prop}
    (h : ∀ i arg2 harg2 arg3 harg3 arg4 harg4 arg5 harg5 arg6 harg6 arg7 harg7 arg8 harg8 arg9 harg9 arg10 harg10 arg11 harg11 arg12 harg12 X2 X3 X4 X5 X6 X7 X8 X9, P i arg2 harg2 arg3 harg3 arg4 harg4 arg5 harg5 arg6 harg6 arg7 harg7 arg8 harg8 arg9 harg9 arg10 harg10 arg11 harg11 arg12 harg12 X2 X3 X4 X5 X6 X7 X8 X9) :
    P (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (inC0 m c t) (inC1 m c t) (inC2 m c t) (inC3 m c t) (inC4 m c t) (inC5 m c t) (inC6 m c t) (inC7 m c t) :=
  h ..

end

variable {m} {A : Args} {c : Dev nD}

theorem accIn_is (t : Fin cfg0.N) (h : CarryIs m A c t.val) : ScIs (soFar A t.val) (accIn m c t) := by
  by_cases h0 : t.val % 32 = 0
  · rw [show accIn m c t = zeroAcc from start_pos ((coords1 t).trans h0) _]
    intro a l u
    unfold soFar
    rw [h0, Finset.range_zero, Finset.sum_empty]
    exact pay30_at a l u
  · rw [show accIn m c t = (carryAt m c t.val).1 from start_neg (fun e => h0 ((coords1 t).symm.trans e)) _]
    exact h.acc h0

theorem out8_at (t : Fin cfg0.N) (hF : Finds m A c t) (h : CarryIs m A c t.val) (a : Fin 2) (s : Fin 512) (d : Fin 64) :
    (out8 m c t (ix2 s ⟨a.val * 64 + d.val, by omega⟩) : EReal)
      = ((∑ q ∈ Finset.Ico (t.val % 32) 32, dkT A (hh (t.val / 32) a) q ⟨d.val, by omega⟩ (at_ (t.val % 32) s) : ℝ) : EReal) := by
  have e := at_point m c t (body10 c) hF (accIn_is t h) (st0_8 t).view.junk a s d _ rfl
  rw [hd_eq, kt_val] at e
  exact e

theorem out9_at (t : Fin cfg0.N) (hF : Finds m A c t) (h : CarryIs m A c t.val) (a : Fin 2) (s : Fin 512) (d : Fin 64) :
    (out9 m c t (ix2 s ⟨a.val * 64 + d.val, by omega⟩) : EReal)
      = ((∑ q ∈ Finset.Ico (t.val % 32) 32, dvT A (hh (t.val / 32) a) q ⟨d.val, by omega⟩ (at_ (t.val % 32) s) : ℝ) : EReal) := by
  have e := at_point m c t (body11 c) hF (accIn_is t h) (st0_9 t).view.junk a s d _ rfl
  rw [hd_eq, kt_val] at e
  exact e

theorem out10_at (t : Fin cfg0.N) (hF : Finds m A c t) (h : CarryIs m A c t.val) (a : Fin 2) (s : Fin 512) :
    (out10 m c t (ix3 a 0 s) : EReal)
      = ((-∑ q ∈ Finset.Ico (t.val % 32) 32, dkT A (hh (t.val / 32) a) q 67 (at_ (t.val % 32) s) : ℝ) : EReal) := by
  have e := at_point m c t (body12 c) hF (accIn_is t h) (st0_10 t).view.junk a s _ rfl
  rw [hd_eq, kt_val] at e
  exact e

theorem soFar_add (t : ℕ) (a : Fin 2) (l : Fin 128) (u : Fin 16384) :
    soFar A t a l u + dqT A (hh (t / 32) a) (t % 32) l u = ∑ j ∈ Finset.range (t % 32 + 1), dqT A (hh (t / 32) a) j l u :=
  (Finset.sum_range_succ _ _).symm

theorem carry_step (t : Fin cfg0.N) (hF : Finds m A c t) (h : CarryIs m A c t.val) : CarryIs m A c (t.val + 1) := by
  have hA := accIn_is t h
  have hN : t.val < 128 := t.isLt
  have hk := kt_val t
  have hpv := hp_val t
  refine ⟨?_, ?_, ?_⟩
  · intro hn
    rw [carryAt_succ]
    have e := at_point m c t (end_sc c) hF hA
    rw [hk] at e
    refine ScIs.congr e ?_
    funext a l u
    rw [hd_eq, soFar_add]
    unfold soFar
    rw [show (t.val + 1) % 32 = t.val % 32 + 1 by omega, show (t.val + 1) / 32 = t.val / 32 by omega]
  · intro n hn l u
    rw [carryAt_succ]
    by_cases hl : t.val % 32 = 31
    · by_cases hc : n.val / 2 = t.val / 32
      · have e := at_point m c t (copy13 c) hF (hk.trans hl) hA (carryAt m c t.val).2.1 ⟨n.val % 2, Nat.mod_lt _ (by norm_num)⟩ l u
        have en : hh (t.val / 32) ⟨n.val % 2, Nat.mod_lt _ (by norm_num)⟩ = n := by
          apply Fin.ext
          show (2 * (t.val / 32) + n.val % 2) % 8 = n.val
          omega
        rw [hk, hd_eq, soFar_add, en, hl] at e
        exact e
      · refine (at_point m c t (keep13 c) (hk.trans hl) (accIn m c t) (carryAt m c t.val).2.1 n (by rw [hpv]; omega) l u).trans (h.dq n (by omega) l u)
    · rw [show (stepAt m c t (carryAt m c t.val)).2.1 = (carryAt m c t.val).2.1 from at_point m c t (run_Q13_neg c) (fun e => hl (hk.symm.trans e)) _ _]
      exact h.dq n (by omega) l u
  · intro n hn u
    rw [carryAt_succ]
    by_cases hl : t.val % 32 = 31
    · by_cases hc : n.val / 2 = t.val / 32
      · have e := at_point m c t (copy14 c) hF (hk.trans hl) hA (carryAt m c t.val).2.2 ⟨n.val % 2, Nat.mod_lt _ (by norm_num)⟩ u
        have en : hh (t.val / 32) ⟨n.val % 2, Nat.mod_lt _ (by norm_num)⟩ = n := by
          apply Fin.ext
          show (2 * (t.val / 32) + n.val % 2) % 8 = n.val
          omega
        rw [hk, hd_eq, soFar_add, en, hl] at e
        exact e
      · refine (at_point m c t (keep14 c) (hk.trans hl) (accIn m c t) (carryAt m c t.val).2.2 n (by rw [hpv]; omega) u).trans (h.dc n (by omega) u)
    · rw [show (stepAt m c t (carryAt m c t.val)).2.2 = (carryAt m c t.val).2.2 from at_point m c t (run_Q14_neg c) (fun e => hl (hk.symm.trans e)) _ _]
      exact h.dc n (by omega) u

/-- The carried values before every point. -/
theorem carry_is (hF : ∀ t, Finds m A c t) : ∀ n, n ≤ 128 → CarryIs m A c n
  | 0, _ => ⟨fun h => absurd rfl h, fun h hh => absurd hh (Nat.not_lt_zero _), fun h hh => absurd hh (Nat.not_lt_zero _)⟩
  | n + 1, hn => carry_step ⟨n, hn⟩ (hF _) (carry_is hF n (by omega))

end Cert.KernelIdeal.Hand
-- ==== Proof.RefDefs.lean ====
/-
  The reference's host operations under names, value by value.
-/
module

public import proofs.«01_k».proof.Proof.Gen.ReferenceIdeal.Run
public import proofs.«01_k».proof.Proof.Spec

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo

variable {F : FTy → Type} [FloatOps F]

abbrev TD (F : FTy → Type) := FVec F S16384x512 .f32
abbrev TC (F : FTy → Type) := FVec F S8x16384 .f32
abbrev HD (F : FTy → Type) := FVec F S8x16384x64 .f32
abbrev TT (F : FTy → Type) := FVec F S8x16384x16384 .f32

/-- The array by head. -/
def heads (x : TD F) : HD F :=
  transpose S8x16384x64 [1, 0, 2] (shapeCast _ x shapeCasts_S16384x512_S16384x8x64) transposes_S16384x8x64_S8x16384x64_1_0_2
/-- The causal mask. -/
def see : IVec S16384x16384 1 :=
  cmpi .sge (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0)))
/-- The mask for every head. -/
def see8 : IVec S8x16384x16384 1 := broadcastInDim S8x16384x16384 ![1, 2] bcast_S16384x16384_S8x16384x16384_1_2 see
/-- The unmasked logits. -/
def raw (q k : TD F) (c : TC F) : TT F :=
  subf (addf (mulf (Host.dotGeneral dot_S8x16384x64_S8x16384x64_S8x16384x16384_2_2_1_1_0_0 none (heads q) (heads k))
      (broadcastInDim S8x16384x16384 ![] bcast_S_S8x16384x16384 (constant S_ .f32 0x3E000000#32)))
      (broadcastInDim S8x16384x16384 ![0, 1, 2] bcast_S8x16384x1_S8x16384x16384_0_1_2 (broadcastInDim S8x16384x1 ![0, 1] bcast_S8x16384_S8x16384x1_0_1 c)))
    (broadcastInDim S8x16384x16384 ![0, 1, 2] bcast_S8x1x16384_S8x16384x16384_0_1_2 (broadcastInDim S8x1x16384 ![0, 2] bcast_S8x16384_S8x1x16384_0_2 c))
/-- The logits. -/
def lg (q k : TD F) (c : TC F) : TT F :=
  select see8 (raw q k c) (broadcastInDim S8x16384x16384 ![] bcast_S_S8x16384x16384 (constant S_ .f32 0xFF800000#32))
/-- Their row maxima. -/
def mxv (x : TT F) : TC F := Host.reduce FloatOps.maximumf x (constant S_ .f32 0xFF800000#32) reducesTo_S8x16384x16384_S8x16384_d2 h_S_
/-- The same, against minus infinity. -/
def mxb (m : TC F) : TC F := maximumf (broadcastInDim S8x16384 ![] bcast_S_S8x16384 (constant S_ .f32 0xFF800000#32)) m
/-- The exponentials of `x` relative to `m`. -/
def exv (x : TT F) (m : TC F) : TT F :=
  Host.exp (subf x (broadcastInDim S8x16384x16384 ![0, 1, 2] bcast_S8x16384x1_S8x16384x16384_0_1_2 (broadcastInDim S8x16384x1 ![0, 1] bcast_S8x16384_S8x16384x1_0_1 m)))
/-- Row sums. -/
def smv (e : TT F) : TC F := Host.reduceAdd e (constant S_ .f32 0x00000000#32) reducesTo_S8x16384x16384_S8x16384_d2 h_S_
def col (s : TC F) : FVec F S8x16384x1 .f32 := broadcastInDim S8x16384x1 ![0, 1] bcast_S8x16384_S8x16384x1_0_1 s
def wide (s : FVec F S8x16384x1 .f32) : TT F := broadcastInDim S8x16384x16384 ![0, 1, 2] bcast_S8x16384x1_S8x16384x16384_0_1_2 s
/-- The probabilities. -/
def prv (e : TT F) (s : TC F) : TT F := Host.divf e (wide (col s))
/-- The products of the cotangent and the values. -/
def dpv (g v : TD F) : TT F := Host.dotGeneral dot_S8x16384x64_S8x16384x64_S8x16384x16384_2_2_1_1_0_0 none (heads g) (heads v)
/-- The row's correction. -/
def corr (e : TT F) (s : TC F) (p : TT F) : TC F :=
  Host.reduceAdd (Host.negf (shapeCast _ (Host.reduceAdd
      (mulf (mulf p (wide (Host.divf (broadcastInDim S8x16384x1 ![] bcast_S_S8x16384x1 (constant S_ .f32 0x3F800000#32)) (mulf (col s) (col s))))) e)
      (constant S_ .f32 0x00000000#32) reducesTo_S8x16384x16384_S8x16384_d2 h_S_) shapeCasts_S8x16384_S8x16384x1))
    (constant S_ .f32 0x00000000#32) reducesTo_S8x16384x1_S8x16384_d2 h_S_
/-- The cotangents of the logits. -/
def dsv (e : TT F) (s : TC F) (p : TT F) : TT F :=
  select see8 (mulf (addf (Host.divf p (wide (col s))) (broadcastInDim S8x16384x16384 ![0, 1] bcast_S8x16384_S8x16384x16384_0_1 (corr e s p))) e)
    (broadcastInDim S8x16384x16384 ![] bcast_S_S8x16384x16384 (constant S_ .f32 0x00000000#32))
def dcv (d : TT F) : TC F :=
  addf (Host.reduceAdd (shapeCast _ (Host.reduceAdd (Host.negf d) (constant S_ .f32 0x00000000#32) reducesTo_S8x16384x16384_S8x16384_d1 h_S_)
      shapeCasts_S8x16384_S8x1x16384) (constant S_ .f32 0x00000000#32) reducesTo_S8x1x16384_S8x16384_d1 h_S_)
    (Host.reduceAdd (shapeCast _ (Host.reduceAdd d (constant S_ .f32 0x00000000#32) reducesTo_S8x16384x16384_S8x16384_d2 h_S_)
      shapeCasts_S8x16384_S8x16384x1) (constant S_ .f32 0x00000000#32) reducesTo_S8x16384x1_S8x16384_d2 h_S_)
def eighth (d : TT F) : TT F := mulf d (broadcastInDim S8x16384x16384 ![] bcast_S_S8x16384x16384 (constant S_ .f32 0x3E000000#32))
/-- Back from heads to rows. -/
def rows (x : HD F) : TD F := shapeCast _ (transpose S16384x8x64 [1, 0, 2] x transposes_S8x16384x64_S16384x8x64_1_0_2) shapeCasts_S16384x8x64_S16384x512
def dkv (d : TT F) (q : TD F) : TD F := rows (Host.dotGeneral dot_S8x16384x16384_S8x16384x64_S8x16384x64_1_1_2_2_0_0 none (eighth d) (heads q))
def dqv (d : TT F) (k : TD F) : TD F := rows (Host.dotGeneral dot_S8x16384x16384_S8x16384x64_S8x16384x64_2_1_1_2_0_0 none (eighth d) (heads k))
def dvv (p : TT F) (g : TD F) : TD F :=
  rows (transpose S8x16384x64 [0, 2, 1] (Host.dotGeneral dot_S8x16384x64_S8x16384x16384_S8x64x16384_1_1_2_2_0_0 none (heads g) p) transposes_S8x64x16384_S8x16384x64_0_2_1)

/-- The reference's exponentials and row sums. -/
def exR (q k : TD F) (c : TC F) : TT F := exv (lg q k c) (mxb (mxv (lg q k c)))
def dsR (q k v : TD F) (c : TC F) (g : TD F) : TT F := dsv (exR q k c) (smv (exR q k c)) (dpv g v)

variable (m : (ℓ : Loc nD τ sig) → Buf (Elt F) ℓ) (d : Dev nD)

abbrev aq : TD F := m ((d.tc : Thread nD τ).loc main_arg0)
abbrev ak : TD F := m ((d.tc : Thread nD τ).loc main_arg1)
abbrev av : TD F := m ((d.tc : Thread nD τ).loc main_arg2)
abbrev ac : TC F := m ((d.tc : Thread nD τ).loc main_arg3)
abbrev ag : TD F := m ((d.tc : Thread nD τ).loc main_arg4)

theorem out0 : Value.res_out0 m d = dqv (dsR (aq m d) (ak m d) (av m d) (ac m d) (ag m d)) (ak m d) := rfl
theorem out1 : Value.res_out1 m d = truncf .bf16 (dkv (dsR (aq m d) (ak m d) (av m d) (ac m d) (ag m d)) (aq m d)) bitsLt_bf16_f32 := rfl
theorem out2 : Value.res_out2 m d = truncf .bf16 (dvv (prv (exR (aq m d) (ak m d) (ac m d)) (smv (exR (aq m d) (ak m d) (ac m d)))) (ag m d)) bitsLt_bf16_f32 := rfl
theorem out3 : Value.res_out3 m d = dcv (dsR (aq m d) (ak m d) (av m d) (ac m d) (ag m d)) := rfl

end Cert.ReferenceIdeal.Hand

end
-- ==== Proof.HostDefs.lean ====
/-
  What the host hands to the kernel, under names: the arrays of its eight operands.
-/
module

public import proofs.«01_k».proof.Proof.RefDefs
public import proofs.«01_k».proof.Proof.KFrame
public import Idealize.ShloMosaic.Lib.StableHlo.RunRead

@[expose] public section

set_option maxRecDepth 16384
set_option maxHeartbeats 4000000

noncomputable section

namespace Cert.KernelIdeal.Hand

open Cert.KernelIdeal Cert.KernelIdeal.Gen
open Cert.ReferenceIdeal.Hand (heads lg mxv exv smv col wide prv)
open Idealize.ShloMosaic Idealize.ShloMosaic.TcCoe Idealize.ShloMosaic.StableHlo

variable {F : FTy → Type} [FloatOps F] [Named F]

abbrev KD (F : FTy → Type) := FVec F S16384x512 .f32
abbrev KC (F : FTy → Type) := FVec F S8x16384 .f32

/-- The exponentials, relative to the row maxima. -/
def exK (q k : KD F) (c : KC F) : FVec F S8x16384x16384 .f32 := exv (lg q k c) (mxv (lg q k c))
/-- The log-sum-exps, as rows. -/
def lrowK (q k : KD F) (c : KC F) : FVec F S8x1x16384 .f32 :=
  transpose S8x1x16384 [0, 2, 1] (addf (col (mxv (lg q k c))) (Host.log (col (smv (exK q k c))))) transposes_S8x16384x1_S8x1x16384_0_2_1
/-- The forward outputs by head. -/
def outK (q k v : KD F) (c : KC F) : FVec F S8x16384x64 .f32 :=
  Host.dotGeneral dot_S8x16384x16384_S8x16384x64_S8x16384x64_2_1_1_2_0_0 none (prv (exK q k c) (smv (exK q k c))) (heads v)
/-- The sums of outputs times their cotangents, as rows. -/
def drowK (q k v : KD F) (c : KC F) (g : KD F) : FVec F S8x1x16384 .f32 :=
  broadcastInDim S8x1x16384 ![0, 2] bcast_S8x16384_S8x1x16384_0_2
    (Host.reduceAdd (mulf (heads g) (outK q k v c)) (constant S_ .f32 0x00000000#32) reducesTo_S8x16384x64_S8x16384_d2 h_S_)
/-- The bias at the first row of each tile. -/
def rK (c : KC F) : FVec F S8x32 .f32 :=
  shapeCast _ (extractStridedSlice S8x32x1 ![0, 0, 0] (shapeCast _ c shapeCasts_S8x16384_S8x32x512) slices_S8x32x512_S8x32x1_0_0_0) shapeCasts_S8x32x1_S8x32
/-- The bias relative to that. -/
def relK (c : KC F) : FVec F S8x16384x1 .f32 :=
  shapeCast _ (subf (shapeCast _ c shapeCasts_S8x16384_S8x32x512)
    (broadcastInDim S8x32x512 ![0, 1, 2] bcast_S8x32x1_S8x32x512_0_1_2 (broadcastInDim S8x32x1 ![0, 1] bcast_S8x32_S8x32x1_0_1 (rK c)))) shapeCasts_S8x32x512_S8x16384x1
/-- Its three parts. -/
def hiK (x : FVec F S8x16384x1 .f32) : FVec F S8x16384x1 .bf16 := truncf .bf16 x bitsLt_bf16_f32
def leftK (x : FVec F S8x16384x1 .f32) : FVec F S8x16384x1 .f32 := subf x (extf .f32 (hiK x) bitsLt_bf16_f32)
def onesK : FVec F S8x16384x3 .bf16 := broadcastInDim S8x16384x3 ![] bcast_S_S8x16384x3 (constant S_ .bf16 0x3F80#16)
def zerosK : FVec F S8x16384x58 .bf16 := broadcastInDim S8x16384x58 ![] bcast_S_S8x16384x58 (constant S_ .bf16 0x0000#16)
/-- The keys' rows of lanes. -/
def kaK (k : KD F) (c : KC F) : FVec F S8x16384x128 .bf16 :=
  concatenate S8x16384x128 2 [⟨S8x16384x64, truncf .bf16 (heads k) bitsLt_bf16_f32⟩, ⟨S8x16384x3, onesK⟩, ⟨S8x16384x1, Host.negf (hiK (relK c))⟩,
    ⟨S8x16384x1, Host.negf (hiK (leftK (relK c)))⟩, ⟨S8x16384x1, Host.negf (hiK (leftK (leftK (relK c))))⟩, ⟨S8x16384x58, zerosK⟩]
    concatenates_S8x16384x64_S8x16384x3_S8x16384x1_S8x16384x1_S8x16384x1_S8x16384x58_S8x16384x128_d2
/-- The queries' rows of lanes. -/
def qaK (q : KD F) (c : KC F) : FVec F S8x16384x128 .bf16 :=
  concatenate S8x16384x128 2 [⟨S8x16384x64, truncf .bf16 (mulf (heads q) (broadcastInDim S8x16384x64 ![] bcast_S_S8x16384x64 (constant S_ .f32 0x3E000000#32))) bitsLt_bf16_f32⟩,
    ⟨S8x16384x1, hiK (relK c)⟩, ⟨S8x16384x1, hiK (leftK (relK c))⟩, ⟨S8x16384x1, hiK (leftK (leftK (relK c)))⟩, ⟨S8x16384x3, onesK⟩, ⟨S8x16384x58, zerosK⟩]
    concatenates_S8x16384x64_S8x16384x1_S8x16384x1_S8x16384x1_S8x16384x3_S8x16384x58_S8x16384x128_d2
/-- Rows padded with zeros. -/
def padK (x : KD F) : FVec F S8x16384x128 .bf16 :=
  concatenate S8x16384x128 2 [⟨S8x16384x64, truncf .bf16 (heads x) bitsLt_bf16_f32⟩,
    ⟨S8x16384x64, broadcastInDim S8x16384x64 ![] bcast_S_S8x16384x64 (constant S_ .bf16 0x0000#16)⟩] concatenates_S8x16384x64_S8x16384x64_S8x16384x128_d2
/-- Lanes first. -/
def lanes (x : FVec F S8x16384x128 .bf16) : FVec F S8x128x16384 .bf16 := transpose S8x128x16384 [0, 2, 1] x transposes_S8x16384x128_S8x128x16384_0_2_1
def lanes80 (x : FVec F S8x16384x128 .bf16) : FVec F S8x80x16384 .bf16 :=
  extractStridedSlice S8x80x16384 ![0, 0, 0] (lanes x) slices_S8x128x16384_S8x80x16384_0_0_0

variable (m : (ℓ : Loc nD τ sig) → Buf (Elt F) ℓ) (c : Dev nD)

abbrev bq : KD F := m ((c : Thread nD τ).loc main_arg0)
abbrev bk : KD F := m ((c : Thread nD τ).loc main_arg1)
abbrev bv : KD F := m ((c : Thread nD τ).loc main_arg2)
abbrev bc : KC F := m ((c : Thread nD τ).loc main_arg3)
abbrev bg : KD F := m ((c : Thread nD τ).loc main_arg4)

theorem V_r : V m c main_v42 = rK (bc m c) := by
  unfold V V0
  simp only [List.flatten_cons, List.flatten_nil, List.append_nil, List.cons_append, List.nil_append, TRef.nullary, TRef.ternary, TRef.unary, TRef.toBuf, TRef.ofBuf, cast_eq]
  after_results_simp <;> rfl

theorem V_lrow : V m c main_v39 = lrowK (bq m c) (bk m c) (bc m c) := by
  unfold V V0
  simp only [List.flatten_cons, List.flatten_nil, List.append_nil, List.cons_append, List.nil_append, TRef.nullary, TRef.ternary, TRef.unary, TRef.toBuf, TRef.ofBuf, cast_eq]
  after_results_simp <;> rfl

theorem V_drow : V m c main_v38 = drowK (bq m c) (bk m c) (bv m c) (bc m c) (bg m c) := by
  unfold V V0
  simp only [List.flatten_cons, List.flatten_nil, List.append_nil, List.cons_append, List.nil_append, TRef.nullary, TRef.ternary, TRef.unary, TRef.toBuf, TRef.ofBuf, cast_eq]
  after_results_simp <;> rfl

theorem V_ka : V m c main_v61 = kaK (bk m c) (bc m c) := by
  unfold V V0
  simp only [List.flatten_cons, List.flatten_nil, List.append_nil, List.cons_append, List.nil_append, TRef.nullary, TRef.ternary, TRef.unary, TRef.toBuf, TRef.ofBuf, cast_eq]
  after_results_simp <;> rfl

theorem V_kat : V m c main_v72 = lanes80 (kaK (bk m c) (bc m c)) := by
  unfold V V0
  simp only [List.flatten_cons, List.flatten_nil, List.append_nil, List.cons_append, List.nil_append, TRef.nullary, TRef.ternary, TRef.unary, TRef.toBuf, TRef.ofBuf, cast_eq]
  after_results_simp <;> rfl

theorem V_va : V m c main_v68 = padK (bv m c) := by
  unfold V V0
  simp only [List.flatten_cons, List.flatten_nil, List.append_nil, List.cons_append, List.nil_append, TRef.nullary, TRef.ternary, TRef.unary, TRef.toBuf, TRef.ofBuf, cast_eq]
  after_results_simp <;> rfl

theorem V_qat : V m c main_v73 = lanes (qaK (bq m c) (bc m c)) := by
  unfold V V0
  simp only [List.flatten_cons, List.flatten_nil, List.append_nil, List.cons_append, List.nil_append, TRef.nullary, TRef.ternary, TRef.unary, TRef.toBuf, TRef.ofBuf, cast_eq]
  after_results_simp <;> rfl

theorem V_dot : V m c main_v74 = lanes (padK (bg m c)) := by
  unfold V V0
  simp only [List.flatten_cons, List.flatten_nil, List.append_nil, List.cons_append, List.nil_append, TRef.nullary, TRef.ternary, TRef.unary, TRef.toBuf, TRef.ofBuf, cast_eq]
  after_results_simp <;> rfl

end Cert.KernelIdeal.Hand

end
-- ==== Proof.Consts.lean ====
/-
  The constants of the programs as extended reals.
-/
module

public import Idealize.ShloMosaic.Lib.Pointwise
public import Idealize.ShloMosaic.Lib.IdealHost

@[expose] public section

noncomputable section

namespace Cert.Spec

open Idealize.ShloMosaic

theorem bits_eighth : Ideal.ofBits .f32 0x3E000000#32 = ((1 / 8 : ℝ) : EReal) := by
  simp [Ideal.ofBits, Ideal.ieee, -EReal.coe_mul]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

end Cert.Spec

end
-- ==== Proof.RefAt.lean ====
/-
  The reference's values read at an index, over the extended reals.
-/
module

public import proofs.«01_k».proof.Proof.RefDefs
public import proofs.«01_k».proof.Proof.Consts
public import Idealize.ShloMosaic.Lib.WordCmp

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo

theorem heads_at (x : TD Ideal) (h : Fin 8) (t : Fin 16384) (d : Fin 64) :
    heads x (ix3 h t d) = x (ix2 t ⟨h.val * 64 + d.val, by omega⟩) := by
  pointwise [heads]

theorem raw_at (q k : TD Ideal) (c : TC Ideal) (h : Fin 8) (t s : Fin 16384) :
    raw q k c (ix3 h t s) = (∑ d, heads q (ix3 h t d) * heads k (ix3 h s d)) * Ideal.ofBits .f32 0x3E000000#32 + c (ix2 h t) - c (ix2 h s) := by
  pointwise [raw]

theorem see8_at (h : Fin 8) (t s : Fin 16384) : see8 (ix3 h t s) = if s ≤ t then 1#1 else 0#1 := by
  pointwise [see8, see]
  rw [WordCmp.cmpi_sge_ofNat (by have := t.isLt; norm_num; omega) (by have := s.isLt; norm_num; omega)]
  by_cases hs : s ≤ t
  · rw [if_pos hs, decide_eq_true (by simpa using hs)]; rfl
  · rw [if_neg hs, decide_eq_false (by simpa using hs)]; rfl

theorem lg_at (q k : TD Ideal) (c : TC Ideal) (h : Fin 8) (t s : Fin 16384) :
    lg q k c (ix3 h t s) = if s ≤ t then raw q k c (ix3 h t s) else ⊥ := by
  pointwise [lg]
  rw [Cert.Spec.bits_bot, see8_at]
  by_cases hs : s ≤ t
  · rw [if_pos hs, if_pos hs]; rfl
  · rw [if_neg hs, if_neg hs]; rfl

theorem mxv_at (x : TT Ideal) (h : Fin 8) (t : Fin 16384) : mxv x (ix2 h t) = Finset.univ.fold max ⊥ fun s => x (ix3 h t s) := by
  pointwise [mxv]
  rw [Cert.Spec.bits_bot]

theorem smv_at (x : TT Ideal) (h : Fin 8) (t : Fin 16384) : smv x (ix2 h t) = ∑ s, x (ix3 h t s) := by
  pointwise [smv]

theorem exv_at (x : TT Ideal) (m : TC Ideal) (h : Fin 8) (t s : Fin 16384) : exv x m (ix3 h t s) = Ideal.exp (x (ix3 h t s) - m (ix2 h t)) := by
  pointwise [exv]

theorem mxb_at (m : TC Ideal) (h : Fin 8) (t : Fin 16384) : mxb m (ix2 h t) = max ⊥ (m (ix2 h t)) := by
  pointwise [mxb]
  rw [Cert.Spec.bits_bot]

theorem prv_at (e : TT Ideal) (s : TC Ideal) (h : Fin 8) (t u : Fin 16384) : prv e s (ix3 h t u) = Ideal.div (e (ix3 h t u)) (s (ix2 h t)) := by
  pointwise [prv, wide, col]

theorem dpv_at (g v : TD Ideal) (h : Fin 8) (t s : Fin 16384) : dpv g v (ix3 h t s) = ∑ d, heads g (ix3 h t d) * heads v (ix3 h s d) := by
  pointwise [dpv]

theorem corr_at (e : TT Ideal) (s : TC Ideal) (p : TT Ideal) (h : Fin 8) (t : Fin 16384) :
    corr e s p (ix2 h t) = -(∑ u, p (ix3 h t u) * Ideal.div 1 (s (ix2 h t) * s (ix2 h t)) * e (ix3 h t u)) := by
  pointwise [corr, wide, col]
  simp only [Finset.univ_unique, Finset.sum_singleton]

theorem dsv_at (e : TT Ideal) (s : TC Ideal) (p : TT Ideal) (h : Fin 8) (t u : Fin 16384) :
    dsv e s p (ix3 h t u) = if see8 (ix3 h t u) = 1#1 then (Ideal.div (p (ix3 h t u)) (s (ix2 h t)) + corr e s p (ix2 h t)) * e (ix3 h t u) else 0 := by
  pointwise [dsv, wide, col]
  rfl

theorem dcv_at (x : TT Ideal) (h : Fin 8) (t : Fin 16384) :
    dcv x (ix2 h t) = (∑ u, -x (ix3 h u t)) + ∑ s, x (ix3 h t s) := by
  pointwise [dcv]
  simp only [Finset.univ_unique, Finset.sum_singleton]

theorem dkv_at (x : TT Ideal) (q : TD Ideal) (h : Fin 8) (s : Fin 16384) (d : Fin 64) :
    dkv x q (ix2 s ⟨h.val * 64 + d.val, by omega⟩) = ∑ t, x (ix3 h t s) * Ideal.ofBits .f32 0x3E000000#32 * heads q (ix3 h t d) := by
  pointwise [dkv, rows, eighth]

theorem dqv_at (x : TT Ideal) (q : TD Ideal) (h : Fin 8) (s : Fin 16384) (d : Fin 64) :
    dqv x q (ix2 s ⟨h.val * 64 + d.val, by omega⟩) = ∑ t, x (ix3 h s t) * Ideal.ofBits .f32 0x3E000000#32 * heads q (ix3 h t d) := by
  pointwise [dqv, rows, eighth]

theorem dvv_at (p : TT Ideal) (g : TD Ideal) (h : Fin 8) (s : Fin 16384) (d : Fin 64) :
    dvv p g (ix2 s ⟨h.val * 64 + d.val, by omega⟩) = ∑ t, heads g (ix3 h t d) * p (ix3 h t s) := by
  pointwise [dvv, rows]

end Cert.ReferenceIdeal.Hand

end
-- ==== Proof.RefVal.lean ====
/-
  The reference's results are the real gradients.
-/
module

public import proofs.«01_k».proof.Proof.RefAt

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.StableHlo

/-- The five arrays hold the real arguments `A`. -/
structure Holds (q k v g : TD Ideal) (c : TC Ideal) (A : Args) : Prop where
  q : ∀ h t d, heads q (ix3 h t d) = ((A.q h t d : ℝ) : EReal)
  k : ∀ h t d, heads k (ix3 h t d) = ((A.k h t d : ℝ) : EReal)
  v : ∀ h t d, heads v (ix3 h t d) = ((A.v h t d : ℝ) : EReal)
  g : ∀ h t d, heads g (ix3 h t d) = ((A.g h t d : ℝ) : EReal)
  c : ∀ h t, c (ix2 h t) = ((A.c h t : ℝ) : EReal)

variable {q k v g : TD Ideal} {c : TC Ideal} {A : Args} (H : Holds q k v g c A)
include H

theorem raw_val (h : Fin 8) (t s : Fin 16384) : raw q k c (ix3 h t s) = ((z A h t s : ℝ) : EReal) := by
  rw [raw_at, bits_eighth, H.c, H.c, z]
  simp only [H.q, H.k, ← EReal.coe_mul, coe_sum, ← EReal.coe_add, ← EReal.coe_sub]

theorem lg_val (h : Fin 8) (t s : Fin 16384) : lg q k c (ix3 h t s) = if s ≤ t then ((z A h t s : ℝ) : EReal) else ⊥ := by
  rw [lg_at, raw_val H]

theorem mxv_val (h : Fin 8) (t : Fin 16384) : mxv (lg q k c) (ix2 h t) = ((mx A h t : ℝ) : EReal) := by
  rw [mxv_at]; exact fold_max A h t _ fun s => lg_val H h t s

theorem exv_val (m : TC Ideal) (hm : ∀ h t, m (ix2 h t) = ((mx A h t : ℝ) : EReal)) (h : Fin 8) (t s : Fin 16384) :
    exv (lg q k c) m (ix3 h t s) = ((ex A h t s : ℝ) : EReal) := by
  rw [exv_at, lg_val H, hm, ex]
  split
  · rw [← EReal.coe_sub]; rfl
  · rw [show (⊥ : EReal) - ((mx A h t : ℝ) : EReal) = ⊥ from EReal.bot_sub _]; rfl

theorem exR_val (h : Fin 8) (t s : Fin 16384) : exR q k c (ix3 h t s) = ((ex A h t s : ℝ) : EReal) :=
  exv_val H _ (fun h t => by rw [mxb_at, mxv_val H]; exact max_eq_right bot_le) h t s

omit H in
theorem smv_val {e : TT Ideal} (he : ∀ h t s, e (ix3 h t s) = ((ex A h t s : ℝ) : EReal)) (h : Fin 8) (t : Fin 16384) :
    smv e (ix2 h t) = ((sm A h t : ℝ) : EReal) := by
  rw [smv_at]; simp only [he, coe_sum]; rfl

omit H in
theorem div_val (x y : ℝ) (hy : y ≠ 0) : Ideal.div (x : EReal) (y : EReal) = ((x / y : ℝ) : EReal) := by
  rw [Ideal.div_coe hy, ← EReal.coe_mul, mul_one_div]

omit H in
theorem prv_val {e : TT Ideal} (he : ∀ h t s, e (ix3 h t s) = ((ex A h t s : ℝ) : EReal)) (h : Fin 8) (t s : Fin 16384) :
    prv e (smv e) (ix3 h t s) = ((pr A h t s : ℝ) : EReal) := by
  rw [prv_at, he, smv_val he, div_val _ _ (sm_ne A h t)]; rfl

theorem dpv_val (h : Fin 8) (t s : Fin 16384) : dpv g v (ix3 h t s) = ((dp A h t s : ℝ) : EReal) := by
  rw [dpv_at]; simp only [H.g, H.v, ← EReal.coe_mul, coe_sum]; rfl

theorem dsR_val (h : Fin 8) (t s : Fin 16384) : dsR q k v c g (ix3 h t s) = ((ds A h t s : ℝ) : EReal) := by
  have he := exR_val H
  rw [dsR, dsv_at, see8_at, corr_at]
  have one : (1 : EReal) = ((1 : ℝ) : EReal) := rfl
  simp only [he, smv_val he, dpv_val H, one, ← EReal.coe_mul]
  rw [div_val _ _ (sm_ne A h t), div_val _ _ (mul_ne_zero (sm_ne A h t) (sm_ne A h t))]
  simp only [← EReal.coe_mul, coe_sum, ← EReal.coe_neg, ← EReal.coe_add]
  by_cases hs : s ≤ t
  · rw [if_pos hs, if_pos rfl, ds_eq]
  · rw [if_neg hs, if_neg (by decide), ds_of_lt A h (not_le.1 hs)]; rfl

theorem out0_val (h : Fin 8) (t : Fin 16384) (d : Fin 64) :
    dqv (dsR q k v c g) k (ix2 t ⟨h.val * 64 + d.val, by omega⟩) = ((dq A h t d : ℝ) : EReal) := by
  rw [dqv_at, bits_eighth]; simp only [dsR_val H, H.k, ← EReal.coe_mul, coe_sum]
  rw [dq, Finset.sum_mul]
  exact congrArg _ (Finset.sum_congr rfl fun s _ => by ring)

theorem out1_val (h : Fin 8) (t : Fin 16384) (d : Fin 64) :
    dkv (dsR q k v c g) q (ix2 t ⟨h.val * 64 + d.val, by omega⟩) = ((dk A h t d : ℝ) : EReal) := by
  rw [dkv_at, bits_eighth]; simp only [dsR_val H, H.q, ← EReal.coe_mul, coe_sum]
  rw [dk, Finset.sum_mul]
  exact congrArg _ (Finset.sum_congr rfl fun s _ => by ring)

theorem out2_val (h : Fin 8) (t : Fin 16384) (d : Fin 64) :
    dvv (prv (exR q k c) (smv (exR q k c))) g (ix2 t ⟨h.val * 64 + d.val, by omega⟩) = ((dv A h t d : ℝ) : EReal) := by
  rw [dvv_at]; simp only [prv_val (exR_val H), H.g, ← EReal.coe_mul, coe_sum]
  exact congrArg _ (Finset.sum_congr rfl fun s _ => by ring)

theorem out3_val (h : Fin 8) (t : Fin 16384) : dcv (dsR q k v c g) (ix2 h t) = ((dc A h t : ℝ) : EReal) := by
  rw [dcv_at]; simp only [dsR_val H, ← EReal.coe_neg, coe_sum, ← EReal.coe_add]
  rw [Finset.sum_neg_distrib, dc, sub_eq_add_neg, add_comm]

end Cert.ReferenceIdeal.Hand

end
-- ==== Proof.HostAt.lean ====
/-
  What the host hands to the kernel, at an index, over the reals.
-/
module

public import proofs.«01_k».proof.Proof.HostDefs
public import proofs.«01_k».proof.Proof.RefVal

@[expose] public section

set_option maxRecDepth 16384
set_option maxHeartbeats 2000000

noncomputable section

namespace Cert.KernelIdeal.Hand

open Cert.KernelIdeal Cert.KernelIdeal.Gen Cert.Spec
open Cert.ReferenceIdeal.Hand (heads lg mxv exv smv col wide prv Holds mxv_val exv_val smv_val prv_val prv_at)
open Idealize.ShloMosaic Idealize.ShloMosaic.TcCoe
open scoped BigOperators

/-! Index by index. -/

theorem lrow_at (a b : KC Ideal) (h : Fin 8) (t : Fin 16384) :
    (transpose S8x1x16384 [0, 2, 1] (addf (col a) (Host.log (col b))) transposes_S8x16384x1_S8x1x16384_0_2_1 : FVec Ideal S8x1x16384 .f32) (ix3 h 0 t)
      = a (ix2 h t) + Ideal.log (b (ix2 h t)) := by
  pointwise [col]

theorem lrowK_at (q k : KD Ideal) (c : KC Ideal) (h : Fin 8) (t : Fin 16384) :
    lrowK q k c (ix3 h 0 t) = mxv (lg q k c) (ix2 h t) + Ideal.log (smv (exK q k c) (ix2 h t)) :=
  lrow_at _ _ h t

theorem outK_at (q k v : KD Ideal) (c : KC Ideal) (h : Fin 8) (t : Fin 16384) (d : Fin 64) :
    outK q k v c (ix3 h t d) = ∑ s, prv (exK q k c) (smv (exK q k c)) (ix3 h t s) * heads v (ix3 h s d) := by
  pointwise [outK]

theorem drowK_at (q k v : KD Ideal) (c : KC Ideal) (g : KD Ideal) (h : Fin 8) (t : Fin 16384) :
    drowK q k v c g (ix3 h 0 t) = ∑ d, heads g (ix3 h t d) * outK q k v c (ix3 h t d) := by
  pointwise [drowK]

theorem rK_at (c : KC Ideal) (h : Fin 8) (n : Fin 32) : rK c (ix2 h n) = c (ix2 h ⟨n.val * 512, by omega⟩) := by
  pointwise [rK]

theorem relK_at (c : KC Ideal) (h : Fin 8) (n : Fin 32) (s : Fin 512) :
    relK c (ix3 h ⟨n.val * 512 + s.val, by omega⟩ 0) = c (ix2 h ⟨n.val * 512 + s.val, by omega⟩) - rK c (ix2 h n) := by
  pointwise [relK]

theorem kaK_at (k : KD Ideal) (c : KC Ideal) (h : Fin 8) (s : Fin 16384) (l : Fin 128) :
    kaK k c (ix3 h s l) = if hl : l.val < 64 then heads k (ix3 h s ⟨l.val, hl⟩)
    else
      if h1 : l.val - 64 < 3 then 1
      else
        if h2 : l.val - 64 - 3 < 1 then -relK c (ix3 h s ⟨l.val - 64 - 3, h2⟩)
        else
          if h3 : l.val - 64 - 3 - 1 < 1 then
            -(relK c (ix3 h s ⟨l.val - 64 - 3 - 1, h3⟩) - relK c (ix3 h s ⟨l.val - 64 - 3 - 1, h3⟩))
          else
            if h4 : l.val - 64 - 3 - 1 - 1 < 1 then
              -(relK c (ix3 h s ⟨l.val - 64 - 3 - 1 - 1, h4⟩) - relK c (ix3 h s ⟨l.val - 64 - 3 - 1 - 1, h4⟩) -
                  (relK c (ix3 h s ⟨l.val - 64 - 3 - 1 - 1, h4⟩) - relK c (ix3 h s ⟨l.val - 64 - 3 - 1 - 1, h4⟩)))
            else 0 := by
  pointwise [kaK, onesK, zerosK, hiK, leftK]

theorem qaK_at (q : KD Ideal) (c : KC Ideal) (h : Fin 8) (s : Fin 16384) (l : Fin 128) :
    qaK q c (ix3 h s l) = if hl : l.val < 64 then heads q (ix3 h s ⟨l.val, hl⟩) * Ideal.ofBits .f32 0x3E000000#32
    else
      if h2 : l.val - 64 < 1 then relK c (ix3 h s ⟨l.val - 64, h2⟩)
      else
        if h3 : l.val - 64 - 1 < 1 then relK c (ix3 h s ⟨l.val - 64 - 1, h3⟩) - relK c (ix3 h s ⟨l.val - 64 - 1, h3⟩)
        else
          if h4 : l.val - 64 - 1 - 1 < 1 then
            relK c (ix3 h s ⟨l.val - 64 - 1 - 1, h4⟩) - relK c (ix3 h s ⟨l.val - 64 - 1 - 1, h4⟩) -
              (relK c (ix3 h s ⟨l.val - 64 - 1 - 1, h4⟩) - relK c (ix3 h s ⟨l.val - 64 - 1 - 1, h4⟩))
          else if h1 : l.val - 64 - 1 - 1 - 1 < 3 then 1 else 0 := by
  pointwise [qaK, onesK, zerosK, hiK, leftK]

theorem padK_at (x : KD Ideal) (h : Fin 8) (s : Fin 16384) (l : Fin 128) :
    padK x (ix3 h s l) = if hl : l.val < 64 then heads x (ix3 h s ⟨l.val, hl⟩) else 0 := by
  pointwise [padK]

theorem lanes_at (x : FVec Ideal S8x16384x128 .bf16) (h : Fin 8) (l : Fin 128) (t : Fin 16384) : lanes x (ix3 h l t) = x (ix3 h t l) := by
  pointwise [lanes]

theorem lanes80_at (x : FVec Ideal S8x16384x128 .bf16) (h : Fin 8) (l : Fin 80) (t : Fin 16384) :
    lanes80 x (ix3 h l t) = x (ix3 h t ⟨l.val, by omega⟩) := by
  pointwise [lanes80, lanes]

/-! Over the reals. -/

variable {q k v g : KD Ideal} {c : KC Ideal} {A : Args} (H : Holds q k v g c A)
include H

theorem exK_val (h : Fin 8) (t s : Fin 16384) : exK q k c (ix3 h t s) = ((ex A h t s : ℝ) : EReal) :=
  exv_val H _ (fun h t => mxv_val H h t) h t s

theorem lrowK_val (h : Fin 8) (t : Fin 16384) : lrowK q k c (ix3 h 0 t) = ((lse A h t : ℝ) : EReal) := by
  rw [lrowK_at]
  refine (congrArg₂ (· + ·) (mxv_val H h t) (congrArg Ideal.log (smv_val (A := A) (exK_val H) h t))).trans ?_
  rw [show Ideal.log ((sm A h t : ℝ) : EReal) = ((Real.log (sm A h t) : ℝ) : EReal) from if_neg (not_le.2 (sm_pos A h t))]
  rfl

theorem outK_val (h : Fin 8) (t : Fin 16384) (d : Fin 64) :
    outK q k v c (ix3 h t d) = ((∑ s, pr A h t s * A.v h s d : ℝ) : EReal) := by
  rw [outK_at, ← coe_sum]
  exact Finset.sum_congr rfl fun s _ => (congrArg₂ (· * ·) (prv_val (A := A) (exK_val H) h t s) (H.v h s d)).trans rfl

theorem drowK_val (h : Fin 8) (t : Fin 16384) : drowK q k v c g (ix3 h 0 t) = ((dl A h t : ℝ) : EReal) := by
  rw [drowK_at, ← dl_eq, ← coe_sum]
  exact Finset.sum_congr rfl fun d _ => (congrArg₂ (· * ·) (H.g h t d) (outK_val H h t d)).trans rfl

theorem rK_val (h : Fin 8) (n : Fin 32) : rK c (ix2 h n) = ((r A h n.val : ℝ) : EReal) := by
  rw [rK_at]
  refine (congrArg (fun i => c (ix2 h i)) (Fin.ext ?_)).trans (H.c h (at_ n.val 0))
  rw [at_val n.isLt]; rfl

theorem relK_val (h : Fin 8) (t : Fin 16384) : relK c (ix3 h t 0) = ((rel A h t : ℝ) : EReal) := by
  have ht := t.isLt
  have e := relK_at c h ⟨t.val / 512, by omega⟩ ⟨t.val % 512, Nat.mod_lt _ (by norm_num)⟩
  rw [show (⟨(⟨t.val / 512, by omega⟩ : Fin 32).val * 512 + (⟨t.val % 512, Nat.mod_lt _ (by norm_num)⟩ : Fin 512).val, by dsimp only; omega⟩ : Fin 16384) = t from Fin.ext (by dsimp only; omega)] at e
  rw [e, rK_val H]
  exact (congrArg (· - _) (H.c h t)).trans rfl

theorem relK_val' (h : Fin 8) (t : Fin 16384) (x : Fin 1) : relK c (ix3 h t x) = ((rel A h t : ℝ) : EReal) := by
  rw [Subsingleton.elim x 0]; exact relK_val H h t

theorem kaK_val (h : Fin 8) (s : Fin 16384) (l : Fin 128) : kaK k c (ix3 h s l) = ((ka A h s l : ℝ) : EReal) := by
  rw [kaK_at, ka]
  simp only [relK_val' H]
  have one : (1 : EReal) = ((1 : ℝ) : EReal) := rfl
  by_cases h0 : l.val < 64
  · rw [dif_pos h0, dif_pos h0]; exact H.k h s _
  rw [dif_neg h0, dif_neg h0]
  by_cases h1 : l.val < 67
  · rw [dif_pos (by omega), if_pos h1]; rfl
  rw [dif_neg (by omega), if_neg h1]
  by_cases h2 : l.val = 67
  · rw [dif_pos (by omega), if_pos h2, ← EReal.coe_neg]
  rw [dif_neg (by omega), if_neg h2]
  simp only [← EReal.coe_sub, ← EReal.coe_neg, sub_self, neg_zero]
  split
  · rfl
  · split <;> rfl

theorem qaK_val (h : Fin 8) (s : Fin 16384) (l : Fin 128) : qaK q c (ix3 h s l) = ((qa A h s l : ℝ) : EReal) := by
  rw [qaK_at, qa, bits_eighth]
  simp only [relK_val' H]
  by_cases h0 : l.val < 64
  · rw [dif_pos h0, dif_pos h0]; exact (congrArg (· * _) (H.q h s _)).trans rfl
  rw [dif_neg h0, dif_neg h0]
  by_cases h1 : l.val = 64
  · rw [dif_pos (by omega), if_pos h1]
  rw [dif_neg (by omega), if_neg h1]
  simp only [← EReal.coe_sub, sub_self]
  by_cases h2 : l.val < 67
  · rw [if_pos h2]
    split
    · rfl
    · rw [dif_pos (by omega)]
  rw [if_neg h2, dif_neg (by omega), dif_neg (by omega)]
  by_cases h3 : l.val < 70
  · rw [dif_pos (by omega), if_pos h3]; rfl
  · rw [dif_neg (by omega), if_neg h3]; rfl

theorem vaK_val (h : Fin 8) (s : Fin 16384) (l : Fin 128) : padK v (ix3 h s l) = ((va A h s l : ℝ) : EReal) := by
  rw [padK_at, va]
  split
  · exact H.v h s _
  · rfl

theorem gaK_val (h : Fin 8) (s : Fin 16384) (l : Fin 128) : padK g (ix3 h s l) = ((ga A h s l : ℝ) : EReal) := by
  rw [padK_at, ga]
  split
  · exact H.g h s _
  · rfl

end Cert.KernelIdeal.Hand

end
-- ==== Proof.Finds.lean ====
/-
  What a grid point finds in its operands' blocks: the rows of lanes, log-sum-exps and sums of its head pair and key tile.
-/
module

public import proofs.«01_k».proof.Proof.Carry
public import proofs.«01_k».proof.Proof.HostAt
public import Idealize.ShloMosaic.Lib.Pipeline.ValueKit

@[expose] public section

set_option maxRecDepth 16384
set_option maxHeartbeats 2000000

noncomputable section

namespace Cert.KernelIdeal.Hand

open Cert.KernelIdeal Cert.KernelIdeal.Gen Cert.Spec
open Cert.ReferenceIdeal.Hand (Holds)
open Idealize.ShloMosaic Idealize.ShloMosaic.TcCoe
open scoped BigOperators

theorem idx0 : ∀ t : Fin cfg0.N, win0_0.index t = ![0, 0] := (by decide +kernel : ∀ t : Fin grid0.N, win0_0.index t = ![0, 0])
theorem idx1 : ∀ t : Fin cfg0.N, win0_1.index t = ![t.val / 32, t.val % 32, 0] := (by decide +kernel : ∀ t : Fin grid0.N, win0_1.index t = ![t.val / 32, t.val % 32, 0])
theorem idx2 : ∀ t : Fin cfg0.N, win0_2.index t = ![t.val / 32, 0, t.val % 32] := (by decide +kernel : ∀ t : Fin grid0.N, win0_2.index t = ![t.val / 32, 0, t.val % 32])
theorem idx3 : ∀ t : Fin cfg0.N, win0_3.index t = ![t.val / 32, t.val % 32, 0] := (by decide +kernel : ∀ t : Fin grid0.N, win0_3.index t = ![t.val / 32, t.val % 32, 0])
theorem idx4 : ∀ t : Fin cfg0.N, win0_4.index t = ![t.val / 32, 0, 0] := (by decide +kernel : ∀ t : Fin grid0.N, win0_4.index t = ![t.val / 32, 0, 0])
theorem idx5 : ∀ t : Fin cfg0.N, win0_5.index t = ![t.val / 32, 0, 0] := (by decide +kernel : ∀ t : Fin grid0.N, win0_5.index t = ![t.val / 32, 0, 0])
theorem idx6 : ∀ t : Fin cfg0.N, win0_6.index t = ![t.val / 32, 0, 0] := (by decide +kernel : ∀ t : Fin grid0.N, win0_6.index t = ![t.val / 32, 0, 0])
theorem idx7 : ∀ t : Fin cfg0.N, win0_7.index t = ![t.val / 32, 0, 0] := (by decide +kernel : ∀ t : Fin grid0.N, win0_7.index t = ![t.val / 32, 0, 0])
theorem idx8 : ∀ t : Fin cfg0.N, win0_8.index t = ![t.val % 32, t.val / 32] := (by decide +kernel : ∀ t : Fin grid0.N, win0_8.index t = ![t.val % 32, t.val / 32])
theorem idx9 : ∀ t : Fin cfg0.N, win0_9.index t = ![t.val % 32, t.val / 32] := (by decide +kernel : ∀ t : Fin grid0.N, win0_9.index t = ![t.val % 32, t.val / 32])
theorem idx10 : ∀ t : Fin cfg0.N, win0_10.index t = ![t.val / 32, 0, t.val % 32] := (by decide +kernel : ∀ t : Fin grid0.N, win0_10.index t = ![t.val / 32, 0, t.val % 32])

variable (m : (ℓ : Loc nD τ sig) → Buf (Elt Ideal) ℓ) (c : Dev nD)

theorem hh_val (t : Fin cfg0.N) (a : Fin 2) : (hh (t.val / 32) a).val = t.val / 32 * 2 + a.val := by
  have : t.val < 128 := t.isLt
  show (2 * (t.val / 32) + a.val) % 8 = _
  omega

/-! Each block, at an index, off the array; then its value. -/

theorem place0 (t : Fin cfg0.N) (h : Fin 8) (n : Fin 32) :
    ((cfg0.win 0).blk t).view.emb (ix2 h n) = ix2 h n := by
  blk_ext [idx0]

theorem read0 (X : S8x32.Idx → EReal) (t : Fin cfg0.N) (h : Fin 8) (n : Fin 32) :
    ((cfg0.win 0).blk t).view.read (Elt Ideal) X (ix2 h n) = X (ix2 h n) :=
  congrArg X (place0 t h n)

theorem iblk0 (t : Fin cfg0.N) : iblk m c 0 t = ((cfg0.win 0).blk t).view.read (Elt Ideal) (rK (bc m c)) :=
  congrArg (((cfg0.win 0).blk t).view.read (Elt Ideal)) (V_r m c)

theorem finds0 {A : Args} (H : Holds (bq m c) (bk m c) (bv m c) (bg m c) (bc m c) A) (t : Fin cfg0.N) (h : Fin 8) (n : Fin 32) :
    (st0_0 t).view.read (Elt Ideal) (inC0 m c t) (ix2 h n) = ((r A h n.val : ℝ) : EReal) := by
  rw [show (st0_0 t).view.read (Elt Ideal) (inC0 m c t) = iblk m c 0 t from Memref.IsWhole.read_unread (m := st0_0 t) (hstage0_0 ((cfg0.slots t 0).cast nbuf0_0)) _, iblk0]
  exact (read0 _ t h n).trans (rK_val H h n)

theorem place1 (t : Fin cfg0.N) (a : Fin 2) (s : Fin 512) (l : Fin 128) :
    ((cfg0.win 1).blk t).view.emb (ix3 a s l) = ix3 (hh (t.val / 32) a) (at_ (t.val % 32) s) l := by
  blk_ext [idx1, hh_val, at_val (show t.val % 32 < 32 from Nat.mod_lt _ (by norm_num))]

theorem read1 (X : S8x16384x128.Idx → EReal) (t : Fin cfg0.N) (a : Fin 2) (s : Fin 512) (l : Fin 128) :
    ((cfg0.win 1).blk t).view.read (Elt Ideal) X (ix3 a s l) = X (ix3 (hh (t.val / 32) a) (at_ (t.val % 32) s) l) :=
  congrArg X (place1 t a s l)

theorem iblk1 (t : Fin cfg0.N) : iblk m c 1 t = ((cfg0.win 1).blk t).view.read (Elt Ideal) (kaK (bk m c) (bc m c)) :=
  congrArg (((cfg0.win 1).blk t).view.read (Elt Ideal)) (V_ka m c)

theorem finds1 {A : Args} (H : Holds (bq m c) (bk m c) (bv m c) (bg m c) (bc m c) A) (t : Fin cfg0.N) (a : Fin 2) (s : Fin 512) (l : Fin 128) :
    (st0_1 t).view.read (Elt Ideal) (inC1 m c t) (ix3 a s l) = ((ka A (hd (grid0.coords t) a) (at_ (kt (grid0.coords t)).val s) l : ℝ) : EReal) := by
  rw [hd_eq, kt_val, show (st0_1 t).view.read (Elt Ideal) (inC1 m c t) = iblk m c 1 t from Memref.IsWhole.read_unread (m := st0_1 t) (hstage0_1 ((cfg0.slots t 1).cast nbuf0_1)) _, iblk1]
  exact (read1 _ t a s l).trans (kaK_val H _ _ l)

theorem place2 (t : Fin cfg0.N) (a : Fin 2) (l : Fin 80) (s : Fin 512) :
    ((cfg0.win 2).blk t).view.emb (ix3 a l s) = ix3 (hh (t.val / 32) a) l (at_ (t.val % 32) s) := by
  blk_ext [idx2, hh_val, at_val (show t.val % 32 < 32 from Nat.mod_lt _ (by norm_num))]

theorem read2 (X : S8x80x16384.Idx → EReal) (t : Fin cfg0.N) (a : Fin 2) (l : Fin 80) (s : Fin 512) :
    ((cfg0.win 2).blk t).view.read (Elt Ideal) X (ix3 a l s) = X (ix3 (hh (t.val / 32) a) l (at_ (t.val % 32) s)) :=
  congrArg X (place2 t a l s)

theorem iblk2 (t : Fin cfg0.N) : iblk m c 2 t = ((cfg0.win 2).blk t).view.read (Elt Ideal) (lanes80 (kaK (bk m c) (bc m c))) :=
  congrArg (((cfg0.win 2).blk t).view.read (Elt Ideal)) (V_kat m c)

theorem finds2 {A : Args} (H : Holds (bq m c) (bk m c) (bv m c) (bg m c) (bc m c) A) (t : Fin cfg0.N) (a : Fin 2) (l : Fin 80) (s : Fin 512) :
    (st0_2 t).view.read (Elt Ideal) (inC2 m c t) (ix3 a l s) = ((ka A (hd (grid0.coords t) a) (at_ (kt (grid0.coords t)).val s) ⟨l.val, by omega⟩ : ℝ) : EReal) := by
  rw [hd_eq, kt_val, show (st0_2 t).view.read (Elt Ideal) (inC2 m c t) = iblk m c 2 t from Memref.IsWhole.read_unread (m := st0_2 t) (hstage0_2 ((cfg0.slots t 2).cast nbuf0_2)) _, iblk2]
  exact (read2 _ t a l s).trans ((lanes80_at _ _ l _).trans (kaK_val H _ _ _))

theorem place3 (t : Fin cfg0.N) (a : Fin 2) (s : Fin 512) (l : Fin 128) :
    ((cfg0.win 3).blk t).view.emb (ix3 a s l) = ix3 (hh (t.val / 32) a) (at_ (t.val % 32) s) l := by
  blk_ext [idx3, hh_val, at_val (show t.val % 32 < 32 from Nat.mod_lt _ (by norm_num))]

theorem read3 (X : S8x16384x128.Idx → EReal) (t : Fin cfg0.N) (a : Fin 2) (s : Fin 512) (l : Fin 128) :
    ((cfg0.win 3).blk t).view.read (Elt Ideal) X (ix3 a s l) = X (ix3 (hh (t.val / 32) a) (at_ (t.val % 32) s) l) :=
  congrArg X (place3 t a s l)

theorem iblk3 (t : Fin cfg0.N) : iblk m c 3 t = ((cfg0.win 3).blk t).view.read (Elt Ideal) (padK (bv m c)) :=
  congrArg (((cfg0.win 3).blk t).view.read (Elt Ideal)) (V_va m c)

theorem finds3 {A : Args} (H : Holds (bq m c) (bk m c) (bv m c) (bg m c) (bc m c) A) (t : Fin cfg0.N) (a : Fin 2) (s : Fin 512) (l : Fin 128) :
    (st0_3 t).view.read (Elt Ideal) (inC3 m c t) (ix3 a s l) = ((va A (hd (grid0.coords t) a) (at_ (kt (grid0.coords t)).val s) l : ℝ) : EReal) := by
  rw [hd_eq, kt_val, show (st0_3 t).view.read (Elt Ideal) (inC3 m c t) = iblk m c 3 t from Memref.IsWhole.read_unread (m := st0_3 t) (hstage0_3 ((cfg0.slots t 3).cast nbuf0_3)) _, iblk3]
  exact (read3 _ t a s l).trans (vaK_val H _ _ l)

theorem place4 (t : Fin cfg0.N) (a : Fin 2) (z : Fin 1) (u : Fin 16384) :
    ((cfg0.win 4).blk t).view.emb (ix3 a z u) = ix3 (hh (t.val / 32) a) z u := by
  blk_ext [idx4, hh_val]

theorem read4 (X : S8x1x16384.Idx → EReal) (t : Fin cfg0.N) (a : Fin 2) (z : Fin 1) (u : Fin 16384) :
    ((cfg0.win 4).blk t).view.read (Elt Ideal) X (ix3 a z u) = X (ix3 (hh (t.val / 32) a) z u) :=
  congrArg X (place4 t a z u)

theorem iblk4 (t : Fin cfg0.N) : iblk m c 4 t = ((cfg0.win 4).blk t).view.read (Elt Ideal) (lrowK (bq m c) (bk m c) (bc m c)) :=
  congrArg (((cfg0.win 4).blk t).view.read (Elt Ideal)) (V_lrow m c)

theorem finds4 {A : Args} (H : Holds (bq m c) (bk m c) (bv m c) (bg m c) (bc m c) A) (t : Fin cfg0.N) (a : Fin 2) (u : Fin 16384) :
    (st0_4 t).view.read (Elt Ideal) (inC4 m c t) (ix3 a 0 u) = ((lse A (hd (grid0.coords t) a) u : ℝ) : EReal) := by
  rw [hd_eq, show (st0_4 t).view.read (Elt Ideal) (inC4 m c t) = iblk m c 4 t from Memref.IsWhole.read_unread (m := st0_4 t) (hstage0_4 ((cfg0.slots t 4).cast nbuf0_4)) _, iblk4]
  exact (read4 _ t a 0 u).trans (lrowK_val H _ u)

theorem place5 (t : Fin cfg0.N) (a : Fin 2) (z : Fin 1) (u : Fin 16384) :
    ((cfg0.win 5).blk t).view.emb (ix3 a z u) = ix3 (hh (t.val / 32) a) z u := by
  blk_ext [idx5, hh_val]

theorem read5 (X : S8x1x16384.Idx → EReal) (t : Fin cfg0.N) (a : Fin 2) (z : Fin 1) (u : Fin 16384) :
    ((cfg0.win 5).blk t).view.read (Elt Ideal) X (ix3 a z u) = X (ix3 (hh (t.val / 32) a) z u) :=
  congrArg X (place5 t a z u)

theorem iblk5 (t : Fin cfg0.N) : iblk m c 5 t = ((cfg0.win 5).blk t).view.read (Elt Ideal) (drowK (bq m c) (bk m c) (bv m c) (bc m c) (bg m c)) :=
  congrArg (((cfg0.win 5).blk t).view.read (Elt Ideal)) (V_drow m c)

theorem finds5 {A : Args} (H : Holds (bq m c) (bk m c) (bv m c) (bg m c) (bc m c) A) (t : Fin cfg0.N) (a : Fin 2) (u : Fin 16384) :
    (st0_5 t).view.read (Elt Ideal) (inC5 m c t) (ix3 a 0 u) = ((dl A (hd (grid0.coords t) a) u : ℝ) : EReal) := by
  rw [hd_eq, show (st0_5 t).view.read (Elt Ideal) (inC5 m c t) = iblk m c 5 t from Memref.IsWhole.read_unread (m := st0_5 t) (hstage0_5 ((cfg0.slots t 5).cast nbuf0_5)) _, iblk5]
  exact (read5 _ t a 0 u).trans (drowK_val H _ u)

theorem place6 (t : Fin cfg0.N) (a : Fin 2) (l : Fin 128) (u : Fin 16384) :
    ((cfg0.win 6).blk t).view.emb (ix3 a l u) = ix3 (hh (t.val / 32) a) l u := by
  blk_ext [idx6, hh_val]

theorem read6 (X : S8x128x16384.Idx → EReal) (t : Fin cfg0.N) (a : Fin 2) (l : Fin 128) (u : Fin 16384) :
    ((cfg0.win 6).blk t).view.read (Elt Ideal) X (ix3 a l u) = X (ix3 (hh (t.val / 32) a) l u) :=
  congrArg X (place6 t a l u)

theorem iblk6 (t : Fin cfg0.N) : iblk m c 6 t = ((cfg0.win 6).blk t).view.read (Elt Ideal) (lanes (qaK (bq m c) (bc m c))) :=
  congrArg (((cfg0.win 6).blk t).view.read (Elt Ideal)) (V_qat m c)

theorem finds6 {A : Args} (H : Holds (bq m c) (bk m c) (bv m c) (bg m c) (bc m c) A) (t : Fin cfg0.N) (a : Fin 2) (l : Fin 128) (u : Fin 16384) :
    (st0_6 t).view.read (Elt Ideal) (inC6 m c t) (ix3 a l u) = ((qa A (hd (grid0.coords t) a) u l : ℝ) : EReal) := by
  rw [hd_eq, show (st0_6 t).view.read (Elt Ideal) (inC6 m c t) = iblk m c 6 t from Memref.IsWhole.read_unread (m := st0_6 t) (hstage0_6 ((cfg0.slots t 6).cast nbuf0_6)) _, iblk6]
  exact (read6 _ t a l u).trans ((lanes_at _ _ l u).trans (qaK_val H _ _ _))

theorem place7 (t : Fin cfg0.N) (a : Fin 2) (l : Fin 128) (u : Fin 16384) :
    ((cfg0.win 7).blk t).view.emb (ix3 a l u) = ix3 (hh (t.val / 32) a) l u := by
  blk_ext [idx7, hh_val]

theorem read7 (X : S8x128x16384.Idx → EReal) (t : Fin cfg0.N) (a : Fin 2) (l : Fin 128) (u : Fin 16384) :
    ((cfg0.win 7).blk t).view.read (Elt Ideal) X (ix3 a l u) = X (ix3 (hh (t.val / 32) a) l u) :=
  congrArg X (place7 t a l u)

theorem iblk7 (t : Fin cfg0.N) : iblk m c 7 t = ((cfg0.win 7).blk t).view.read (Elt Ideal) (lanes (padK (bg m c))) :=
  congrArg (((cfg0.win 7).blk t).view.read (Elt Ideal)) (V_dot m c)

theorem finds7 {A : Args} (H : Holds (bq m c) (bk m c) (bv m c) (bg m c) (bc m c) A) (t : Fin cfg0.N) (a : Fin 2) (l : Fin 128) (u : Fin 16384) :
    (st0_7 t).view.read (Elt Ideal) (inC7 m c t) (ix3 a l u) = ((ga A (hd (grid0.coords t) a) u l : ℝ) : EReal) := by
  rw [hd_eq, show (st0_7 t).view.read (Elt Ideal) (inC7 m c t) = iblk m c 7 t from Memref.IsWhole.read_unread (m := st0_7 t) (hstage0_7 ((cfg0.slots t 7).cast nbuf0_7)) _, iblk7]
  exact (read7 _ t a l u).trans ((lanes_at _ _ l u).trans (gaK_val H _ _ _))

variable {m c}

/-- Every point finds its operands. -/
theorem finds {A : Args} (H : Holds (bq m c) (bk m c) (bv m c) (bg m c) (bc m c) A) (t : Fin cfg0.N) : Finds m A c t :=
  ⟨finds0 m c H t, finds1 m c H t, finds2 m c H t, finds3 m c H t, finds4 m c H t, finds5 m c H t, finds6 m c H t, finds7 m c H t⟩

end Cert.KernelIdeal.Hand

end
-- ==== Proof.Final.lean ====
/-
  The five arrays the kernel leaves, at an index: dk and dv as rows, and the key-side bias terms.
-/
module

public import proofs.«01_k».proof.Proof.Finds

@[expose] public section

set_option maxRecDepth 16384
set_option maxHeartbeats 2000000

noncomputable section

namespace Cert.KernelIdeal.Hand

open Cert.KernelIdeal Cert.KernelIdeal.Gen Cert.Spec
open Cert.ReferenceIdeal.Hand (Holds)
open Idealize.ShloMosaic Idealize.ShloMosaic.TcCoe Idealize.ShloMosaic.Pipeline
open scoped BigOperators

/-- A row's head and lane. -/
def colH (x : Fin 512) : Fin 8 := ⟨x.val / 64, by omega⟩
def colD (x : Fin 512) : Fin 64 := ⟨x.val % 64, by omega⟩

/-- A result by row, from one by head. -/
def byRow (f : Fin 8 → Fin 16384 → Fin 64 → ℝ) : S16384x512.Idx → EReal := fun j => ((f (colH (j 1)) (j 0) (colD (j 1)) : ℝ) : EReal)

/-- The key-side bias terms. -/
def keySide (A : Args) : S8x1x16384.Idx → EReal := fun j =>
  ((-(∑ i ∈ Finset.Ico ((j 2 : Fin 16384).val / 512) 32, dkT A (j 0) i 67 (j 2)) : ℝ) : EReal)

theorem place8 (t : Fin cfg0.N) (s : Fin 512) (l : Fin 128) :
    ((cfg0.win 8).blk t).view.emb (ix2 s l) = ix2 (at_ (t.val % 32) s) ⟨t.val / 32 * 128 + l.val, by have : t.val < 128 := t.isLt; omega⟩ := by
  blk_ext [idx8, at_val (show t.val % 32 < 32 from Nat.mod_lt _ (by norm_num))]

theorem place9 (t : Fin cfg0.N) (s : Fin 512) (l : Fin 128) :
    ((cfg0.win 9).blk t).view.emb (ix2 s l) = ix2 (at_ (t.val % 32) s) ⟨t.val / 32 * 128 + l.val, by have : t.val < 128 := t.isLt; omega⟩ := by
  blk_ext [idx9, at_val (show t.val % 32 < 32 from Nat.mod_lt _ (by norm_num))]

theorem place10 (t : Fin cfg0.N) (a : Fin 2) (z : Fin 1) (s : Fin 512) :
    ((cfg0.win 10).blk t).view.emb (ix3 a z s) = ix3 (hh (t.val / 32) a) z (at_ (t.val % 32) s) := by
  blk_ext [idx10, hh_val, at_val (show t.val % 32 < 32 from Nat.mod_lt _ (by norm_num))]

theorem byRow_at (f : Fin 8 → Fin 16384 → Fin 64 → ℝ) (t : Fin cfg0.N) (s : Fin 512) (l : Fin 128) :
    byRow f (ix2 (at_ (t.val % 32) s) ⟨t.val / 32 * 128 + l.val, by have : t.val < 128 := t.isLt; omega⟩)
      = ((f (hh (t.val / 32) ⟨l.val / 64, by omega⟩) (at_ (t.val % 32) s) ⟨l.val % 64, by omega⟩ : ℝ) : EReal) := by
  have ht : t.val < 128 := t.isLt
  show ((f (colH ⟨t.val / 32 * 128 + l.val, by omega⟩) (at_ (t.val % 32) s) (colD ⟨t.val / 32 * 128 + l.val, by omega⟩) : ℝ) : EReal) = _
  rw [show colH ⟨t.val / 32 * 128 + l.val, by omega⟩ = hh (t.val / 32) ⟨l.val / 64, by omega⟩ from Fin.ext (by rw [hh_val]; show (t.val / 32 * 128 + l.val) / 64 = t.val / 32 * 2 + l.val / 64; omega),
    show colD ⟨t.val / 32 * 128 + l.val, by omega⟩ = ⟨l.val % 64, by omega⟩ from Fin.ext (by show (t.val / 32 * 128 + l.val) % 64 = l.val % 64; omega)]

variable {m : (ℓ : Loc nD τ sig) → Buf (Elt Ideal) ℓ} {c : Dev nD} {A : Args}

theorem lane_split (l : Fin 128) : l = ⟨(⟨l.val / 64, by omega⟩ : Fin 2).val * 64 + (⟨l.val % 64, by omega⟩ : Fin 64).val, by dsimp only; omega⟩ :=
  Fin.ext (by dsimp only; omega)

theorem tile_div (t : Fin cfg0.N) (s : Fin 512) : (at_ (t.val % 32) s).val / 512 = t.val % 32 := at_div (Nat.mod_lt _ (by norm_num)) s

variable (H : Holds (bq m c) (bk m c) (bv m c) (bg m c) (bc m c) A)
include H

theorem carried (t : Fin cfg0.N) : CarryIs m A c t.val := carry_is (finds H) t.val (le_of_lt t.isLt)

theorem out8_row (t : Fin cfg0.N) (s : Fin 512) (l : Fin 128) :
    (out8 m c t (ix2 s l) : EReal) = byRow (dk A) (ix2 (at_ (t.val % 32) s) ⟨t.val / 32 * 128 + l.val, by have : t.val < 128 := t.isLt; omega⟩) := by
  have e := out8_at t (finds H t) (carried H t) ⟨l.val / 64, by omega⟩ s ⟨l.val % 64, by omega⟩
  rw [← lane_split l] at e
  rw [e, byRow_at, ← dk_of, tile_div]

theorem out9_row (t : Fin cfg0.N) (s : Fin 512) (l : Fin 128) :
    (out9 m c t (ix2 s l) : EReal) = byRow (dv A) (ix2 (at_ (t.val % 32) s) ⟨t.val / 32 * 128 + l.val, by have : t.val < 128 := t.isLt; omega⟩) := by
  have e := out9_at t (finds H t) (carried H t) ⟨l.val / 64, by omega⟩ s ⟨l.val % 64, by omega⟩
  rw [← lane_split l] at e
  rw [e, byRow_at, ← dv_of, tile_div]

theorem out10_row (t : Fin cfg0.N) (a : Fin 2) (z : Fin 1) (s : Fin 512) :
    (out10 m c t (ix3 a z s) : EReal) = keySide A (ix3 (hh (t.val / 32) a) z (at_ (t.val % 32) s)) := by
  rw [Subsingleton.elim z 0, out10_at t (finds H t) (carried H t) a s]
  show _ = ((-(∑ i ∈ Finset.Ico ((at_ (t.val % 32) s).val / 512) 32, dkT A (hh (t.val / 32) a) i 67 (at_ (t.val % 32) s)) : ℝ) : EReal)
  rw [tile_div]

theorem final8 : (dats m 0 c).arrAt 8 cfg0.N = byRow (dk A) := by
  refine (dats m 0 c).arrAt_eq_of_covers 8 _ (by decide +kernel) fun t hf y => ?_
  blk_simp
  rw [after0_8]
  have hy : y = ix2 (y 0 : Fin 512) (y 1 : Fin 128) := by funext a; fin_cases a <;> rfl
  refine (congrArg (out8 m c t) hy).trans ((out8_row H t (y 0) (y 1)).trans ?_)
  exact congrArg (byRow (dk A)) ((place8 t (y 0) (y 1)).symm.trans (congrArg ((cfg0.win 8).blk t).view.emb hy.symm))

theorem final9 : (dats m 0 c).arrAt 9 cfg0.N = byRow (dv A) := by
  refine (dats m 0 c).arrAt_eq_of_covers 9 _ (by decide +kernel) fun t hf y => ?_
  blk_simp
  rw [after0_9]
  have hy : y = ix2 (y 0 : Fin 512) (y 1 : Fin 128) := by funext a; fin_cases a <;> rfl
  refine (congrArg (out9 m c t) hy).trans ((out9_row H t (y 0) (y 1)).trans ?_)
  exact congrArg (byRow (dv A)) ((place9 t (y 0) (y 1)).symm.trans (congrArg ((cfg0.win 9).blk t).view.emb hy.symm))

theorem final10 : (dats m 0 c).arrAt 10 cfg0.N = keySide A := by
  refine (dats m 0 c).arrAt_eq_of_covers 10 _ (by decide +kernel) fun t hf y => ?_
  blk_simp
  rw [after0_10]
  have hy : y = ix3 (y 0 : Fin 2) (y 1 : Fin 1) (y 2 : Fin 512) := by funext a; fin_cases a <;> rfl
  refine (congrArg (out10 m c t) hy).trans ((out10_row H t (y 0) (y 1) (y 2)).trans ?_)
  exact congrArg (keySide A) ((place10 t (y 0) (y 1) (y 2)).symm.trans (congrArg ((cfg0.win 10).blk t).view.emb hy.symm))

end Cert.KernelIdeal.Hand

end
-- ==== Proof.End.lean ====
/-
  The two results the last host lines make, at an index: dq as rows, and the gradient of the bias.
-/
module

public import proofs.«01_k».proof.Proof.Final

@[expose] public section

set_option maxRecDepth 16384
set_option maxHeartbeats 2000000

noncomputable section

namespace Cert.KernelIdeal.Hand

open Cert.KernelIdeal Cert.KernelIdeal.Gen Cert.Spec
open Cert.ReferenceIdeal.Hand (Holds)
open Idealize.ShloMosaic Idealize.ShloMosaic.TcCoe Idealize.ShloMosaic.Pipeline Idealize.ShloMosaic.StableHlo
open scoped BigOperators

/-- dq from the sums the kernel copies out. -/
def dqEnd (x : FVec Ideal S8x80x16384 .f32) : FVec Ideal S16384x512 .f32 :=
  mulf (shapeCast _ (transpose S16384x8x64 [2, 0, 1] (extractStridedSlice S8x64x16384 ![0, 0, 0] x slices_S8x80x16384_S8x64x16384_0_0_0)
    transposes_S8x64x16384_S16384x8x64_2_0_1) shapeCasts_S16384x8x64_S16384x512)
    (broadcastInDim S16384x512 ![] bcast_S_S16384x512 (constant S_ .f32 0x3E000000#32))

/-- The gradient of the bias from its two sides. -/
def dcEnd (x y : FVec Ideal S8x1x16384 .f32) : FVec Ideal S8x16384 .f32 := shapeCast _ (addf x y) shapeCasts_S8x1x16384_S8x16384

theorem dqEnd_at (x : FVec Ideal S8x80x16384 .f32) (h : Fin 8) (t : Fin 16384) (d : Fin 64) :
    dqEnd x (ix2 t ⟨h.val * 64 + d.val, by omega⟩) = x (ix3 h ⟨d.val, by omega⟩ t) * Ideal.ofBits .f32 0x3E000000#32 := by
  pointwise [dqEnd]

theorem dcEnd_at (x y : FVec Ideal S8x1x16384 .f32) (h : Fin 8) (t : Fin 16384) :
    dcEnd x y (ix2 h t) = x (ix3 h 0 t) + y (ix3 h 0 t) := by
  pointwise [dcEnd]

theorem dqEnd_coe (x : FVec Ideal S8x80x16384 .f32) (h : Fin 8) (t : Fin 16384) (d : Fin 64) (r : ℝ)
    (e : x (ix3 h ⟨d.val, by omega⟩ t) = (r : EReal)) :
    dqEnd x (ix2 t ⟨h.val * 64 + d.val, by omega⟩) = ((r * (1 / 8) : ℝ) : EReal) := by
  rw [dqEnd_at, e, bits_eighth, ← EReal.coe_mul]

theorem dcEnd_coe (x y : FVec Ideal S8x1x16384 .f32) (h : Fin 8) (t : Fin 16384) (r s : ℝ)
    (e : x (ix3 h 0 t) = (r : EReal)) (f : y (ix3 h 0 t) = (s : EReal)) :
    dcEnd x y (ix2 h t) = ((r + s : ℝ) : EReal) := by
  rw [dcEnd_at, e, f, ← EReal.coe_add]

variable {m : (ℓ : Loc nD τ sig) → Buf (Elt Ideal) ℓ} {c : Dev nD} {A : Args}

/-- The valuation the last host lines run on. -/
abbrev left (m : (ℓ : Loc nD τ sig) → Buf (Elt Ideal) ℓ) (c : Dev nD) : Valuation τ sig (Elt Ideal) :=
  Pipeline.withArrays spec0 c (Pipeline.withR (V0 m c) R0 c (G m c)) fun w => (dats m 0 c).arrAt w cfg0.N

theorem left_3 : left m c (Proc.devRef .tc main_v75_3) = (carryAt m c cfg0.N).2.1 := by
  unfold left
  rw [Pipeline.withArrays_of_ne _ c _ _ main_v75_3 (by exact (by decide : ∀ w, Pipeline.arrRef spec0 w ≠ main_v75_3)),
    Pipeline.withR_of_mem _ _ _ _ main_v75_3 (by decide), G_3]

theorem left_4 : left m c (Proc.devRef .tc main_v75_4) = (carryAt m c cfg0.N).2.2 := by
  unfold left
  rw [Pipeline.withArrays_of_ne _ c _ _ main_v75_4 (by exact (by decide : ∀ w, Pipeline.arrRef spec0 w ≠ main_v75_4)),
    Pipeline.withR_of_mem _ _ _ _ main_v75_4 (by decide), G_4]

theorem left_2 : left m c (Proc.devRef .tc main_v75_2) = (dats m 0 c).arrAt 10 cfg0.N := by
  unfold left
  exact Pipeline.withArrays_arr spec0 (by decide) c _ _ 10

theorem end80_of (W : Valuation τ sig (Elt Ideal)) :
    StableHlo.after (List.flatten [hostOps1]) W (Proc.devRef .tc main_v80) = dqEnd (W (Proc.devRef .tc main_v75_3)) := by
  simp only [List.flatten_cons, List.flatten_nil, List.append_nil, List.cons_append, List.nil_append, TRef.nullary, TRef.ternary, TRef.unary, TRef.toBuf, TRef.ofBuf, cast_eq]
  after_results_simp <;> rfl

theorem end82_of (W : Valuation τ sig (Elt Ideal)) :
    StableHlo.after (List.flatten [hostOps1]) W (Proc.devRef .tc main_v82)
      = dcEnd (W (Proc.devRef .tc main_v75_4)) (W (Proc.devRef .tc main_v75_2)) := by
  simp only [List.flatten_cons, List.flatten_nil, List.append_nil, List.cons_append, List.nil_append, TRef.nullary, TRef.ternary, TRef.unary, TRef.toBuf, TRef.ofBuf, cast_eq]
  after_results_simp <;> rfl

theorem end80 : endV m c (Proc.devRef .tc main_v80) = dqEnd (carryAt m c cfg0.N).2.1 :=
  (end80_of (left m c)).trans (congrArg dqEnd left_3)

theorem end82 : endV m c (Proc.devRef .tc main_v82) = dcEnd (carryAt m c cfg0.N).2.2 ((dats m 0 c).arrAt 10 cfg0.N) :=
  (end82_of (left m c)).trans (congr (congrArg dcEnd left_4) left_2)

/-- The gradient of the bias, by head and token. -/
def bias (A : Args) : S8x16384.Idx → EReal := fun j => ((dc A (j 0) (j 1) : ℝ) : EReal)

theorem col_split (x : Fin 512) : x = ⟨(colH x).val * 64 + (colD x).val, by have := (colH x).isLt; have := (colD x).isLt; omega⟩ :=
  Fin.ext (by show x.val = x.val / 64 * 64 + x.val % 64; omega)

variable (H : Holds (bq m c) (bk m c) (bv m c) (bg m c) (bc m c) A)
include H

theorem last_dq (h : Fin 8) (l : Fin 80) (t : Fin 16384) :
    ((carryAt m c cfg0.N).2.1 (ix3 h l t) : EReal) = ((∑ j ∈ Finset.range 32, dqT A h j ⟨l.val, by omega⟩ t : ℝ) : EReal) :=
  (carry_is (finds H) 128 le_rfl).dq h (by have := h.isLt; omega) l t

theorem last_dc (h : Fin 8) (t : Fin 16384) :
    ((carryAt m c cfg0.N).2.2 (ix3 h 0 t) : EReal) = ((∑ j ∈ Finset.range 32, dqT A h j 64 t : ℝ) : EReal) :=
  (carry_is (finds H) 128 le_rfl).dc h (by have := h.isLt; omega) t

theorem dqEnd_val (h : Fin 8) (t : Fin 16384) (d : Fin 64) :
    dqEnd (carryAt m c cfg0.N).2.1 (ix2 t ⟨h.val * 64 + d.val, by omega⟩) = ((dq A h t d : ℝ) : EReal) := by
  rw [← dq_of A h t d]
  exact dqEnd_coe _ h t d _ (last_dq H h ⟨d.val, by omega⟩ t)

theorem dcEnd_val (h : Fin 8) (t : Fin 16384) :
    dcEnd (carryAt m c cfg0.N).2.2 (keySide A) (ix2 h t) = ((dc A h t : ℝ) : EReal) := by
  rw [← dc_of A h t]
  exact dcEnd_coe _ _ h t _ _ (last_dc H h t) rfl

omit H in
/-- Two results by row are equal if they are at every head, token and lane. -/
theorem byRow_of (x : S16384x512.Idx → EReal) (f : Fin 8 → Fin 16384 → Fin 64 → ℝ)
    (e : ∀ (h : Fin 8) (t : Fin 16384) (d : Fin 64), x (ix2 t ⟨h.val * 64 + d.val, by omega⟩) = ((f h t d : ℝ) : EReal)) : x = byRow f := by
  funext j
  have hj : j = ix2 (j 0 : Fin 16384) (⟨(colH (j 1)).val * 64 + (colD (j 1)).val, by have := (colH (j 1)).isLt; have := (colD (j 1)).isLt; omega⟩ : Fin 512) := by
    funext i; fin_cases i
    · rfl
    · exact col_split (j 1)
  exact (congrArg x hj).trans (e (colH (j 1)) (j 0) (colD (j 1)))

omit H in
theorem bias_of (x : S8x16384.Idx → EReal) (e : ∀ (h : Fin 8) (t : Fin 16384), x (ix2 h t) = ((dc A h t : ℝ) : EReal)) : x = bias A := by
  funext j
  have hj : j = ix2 (j 0 : Fin 8) (j 1 : Fin 16384) := by funext i; fin_cases i <;> rfl
  exact (congrArg x hj).trans (e (j 0) (j 1))

theorem final80 : endV m c (Proc.devRef .tc main_v80) = byRow (dq A) :=
  end80.trans (byRow_of _ _ (dqEnd_val H))

theorem final82 : endV m c (Proc.devRef .tc main_v82) = bias A :=
  end82.trans ((congrArg (dcEnd _) (final10 H)).trans (bias_of _ (dcEnd_val H)))

end Cert.KernelIdeal.Hand

end
-- ==== Proof.Pre.lean ====
/-
  The precondition read: arrays all of whose entries are finite hold real arguments.
-/
module

public import proofs.«01_k».proof.Defs
public import proofs.«01_k».proof.Proof.RefVal
public import Idealize.ShloMosaic.Lib.ReduceAll

@[expose] public section

set_option maxRecDepth 16384

noncomputable section

namespace Cert.Pre_finite.Hand

open Cert.Pre_finite Cert.Spec
open Cert.ReferenceIdeal.Hand (Holds heads heads_at)
open Idealize.ShloMosaic

instance facts : Cert.Pre_finite.Facts where
  bcast_S_S16384x512 := by decide
  reducesTo_S16384x512_S_d0_1 := by decide
  h_S_ := by decide
  bcast_S_S8x16384 := by decide
  reducesTo_S8x16384_S_d0_1 := by decide

instance : Subsingleton S_.Idx := ⟨fun a b => funext fun i => i.elim0⟩

/-- An extended real below infinity in absolute value is a real. -/
theorem coe_of_abs {x : EReal} (h : max x (-x) < ⊤) : x = ((x.toReal : ℝ) : EReal) := by
  induction x using EReal.rec with
  | bot => simp at h
  | coe r => rfl
  | top => simp at h

theorem of_cmp {x : EReal} (h : Ideal.cmp .olt (max x (-x)) ⊤ = 1#1) : x = ((x.toReal : ℝ) : EReal) := by
  refine coe_of_abs ?_
  by_contra hn
  simp [Ideal.cmp, hn] at h

theorem rows_finite (x : FVec Ideal S16384x512 .f32) (j : S_.Idx)
    (h : Host.reduce IntOp.andi (cmpf .olt (Host.absf x) (broadcastInDim S16384x512 ![] Facts.bcast_S_S16384x512 (constant S_ .f32 0x7F800000#32)))
      (constantI S_ 1 1#1) Facts.reducesTo_S16384x512_S_d0_1 Facts.h_S_ j = 1#1) (i : S16384x512.Idx) :
    (x i : EReal) = (((x i : EReal).toReal : ℝ) : EReal) := by
  have e := Host.reduce_andi_all _ _ _ _ j h i
  refine of_cmp ?_
  rw [← bits_top]
  exact e

theorem bias_finite (x : FVec Ideal S8x16384 .f32) (j : S_.Idx)
    (h : Host.reduce IntOp.andi (cmpf .olt (Host.absf x) (broadcastInDim S8x16384 ![] Facts.bcast_S_S8x16384 (constant S_ .f32 0x7F800000#32)))
      (constantI S_ 1 1#1) Facts.reducesTo_S8x16384_S_d0_1 Facts.h_S_ j = 1#1) (i : S8x16384.Idx) :
    (x i : EReal) = (((x i : EReal).toReal : ℝ) : EReal) := by
  have e := Host.reduce_andi_all _ _ _ _ j h i
  refine of_cmp ?_
  rw [← bits_top]
  exact e

/-- The real arguments the five arrays hold. -/
def args (q k v : FVec Ideal S16384x512 .f32) (c : FVec Ideal S8x16384 .f32) (g : FVec Ideal S16384x512 .f32) : Args where
  q h t d := (q (ix2 t ⟨h.val * 64 + d.val, by omega⟩) : EReal).toReal
  k h t d := (k (ix2 t ⟨h.val * 64 + d.val, by omega⟩) : EReal).toReal
  v h t d := (v (ix2 t ⟨h.val * 64 + d.val, by omega⟩) : EReal).toReal
  g h t d := (g (ix2 t ⟨h.val * 64 + d.val, by omega⟩) : EReal).toReal
  c h t := (c (ix2 h t) : EReal).toReal

theorem holds (q k v : FVec Ideal S16384x512 .f32) (c : FVec Ideal S8x16384 .f32) (g : FVec Ideal S16384x512 .f32)
    (h : ∀ j, fn (F := Ideal) q k v c g j = 1#1) : Holds q k v g c (args q k v c g) := by
  have e := h (fun i => i.elim0)
  obtain ⟨e, eg⟩ := IntOp.andi_eq_one.mp e
  obtain ⟨e, ec⟩ := IntOp.andi_eq_one.mp e
  obtain ⟨e, ev⟩ := IntOp.andi_eq_one.mp e
  obtain ⟨eq, ek⟩ := IntOp.andi_eq_one.mp e
  refine ⟨fun h t d => ?_, fun h t d => ?_, fun h t d => ?_, fun h t d => ?_, fun h t => ?_⟩
  · rw [heads_at]; exact rows_finite q _ eq _
  · rw [heads_at]; exact rows_finite k _ ek _
  · rw [heads_at]; exact rows_finite v _ ev _
  · rw [heads_at]; exact rows_finite g _ eg _
  · exact bias_finite c _ ec _

end Cert.Pre_finite.Hand

end
-- ==== Proof.Claims.lean ====
/-
  The claims that are not about values: the three runs end with the arguments as launched and every semaphore at zero,
  and the one named constant is the one the idealized program's ledger records.
-/
module

public import proofs.«01_k».proof.Defs
public import proofs.«01_k».proof.Proof.KFrame
public import proofs.«01_k».proof.Proof.BFrame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel ends with its arguments as launched and its semaphores at zero. -/
theorem frame_p : Cert.quiescent_Kernel := fun m ρ _ => Cert.Kernel.Hand.run_frame m ρ

/-- The idealized kernel does too. -/
theorem frame_pi : Cert.quiescent_KernelIdeal := fun m ρ _ => Cert.KernelIdeal.Hand.run_frame m ρ

/-- And so does the idealized reference. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The mask of the idealized kernel is the named constant. -/
theorem preserves : Cert.preserves_Kernel_KernelIdeal :=
  IdealRules.named_const.statement Cert.KernelIdeal.κ "mask" .f32 0xF149F2CA#32 ⊥ rfl

end Cert.Proof

end
-- ==== Proof.Alg.lean ====
/-
  The value claim: both programs end with the gradients of the attention at the real arguments the arrays hold.
-/
module

public import proofs.«01_k».proof.Defs
public import proofs.«01_k».proof.Proof.End
public import proofs.«01_k».proof.Proof.Pre
public import proofs.«01_k».proof.Proof.Claims

@[expose] public section

set_option maxRecDepth 16384
set_option maxHeartbeats 2000000

noncomputable section

namespace Cert.Proof

open Cert.Spec
open Cert.KernelIdeal.Hand (byRow bias byRow_of bias_of final8 final9 final80 final82)
open Cert.ReferenceIdeal.Hand (Holds)
open Idealize.ShloMosaic Idealize.ShloMosaic.TcCoe Idealize.SL.Sem

/-- The real arguments the kernel's arrays hold on a device. -/
def argsOf (m : (ℓ : Loc Cert.KernelIdeal.nD Cert.KernelIdeal.τ Cert.KernelIdeal.sig) → Buf (Elt Ideal) ℓ) (c : Dev Cert.KernelIdeal.nD) : Args :=
  Cert.Pre_finite.Hand.args (Cert.KernelIdeal.Hand.bq m c) (Cert.KernelIdeal.Hand.bk m c) (Cert.KernelIdeal.Hand.bv m c)
    (Cert.KernelIdeal.Hand.bc m c) (Cert.KernelIdeal.Hand.bg m c)

theorem kernel_holds (m : (ℓ : Loc Cert.KernelIdeal.nD Cert.KernelIdeal.τ Cert.KernelIdeal.sig) → Buf (Elt Ideal) ℓ)
    (hP : Cert.Pre_KernelIdeal_finite m) (c : Dev Cert.KernelIdeal.nD) :
    Holds (Cert.KernelIdeal.Hand.bq m c) (Cert.KernelIdeal.Hand.bk m c) (Cert.KernelIdeal.Hand.bv m c)
      (Cert.KernelIdeal.Hand.bg m c) (Cert.KernelIdeal.Hand.bc m c) (argsOf m c) :=
  Cert.Pre_finite.Hand.holds _ _ _ _ _ fun j => congrFun (hP c) j

section Kernel

open Cert.KernelIdeal Cert.KernelIdeal.Hand

variable (m : (ℓ : Loc nD τ sig) → Buf (Elt Ideal) ℓ) (ρ : Dev nD → PrngReg)

theorem kernel_run (A : Dev nD → Args) (H : ∀ c, Holds (bq m c) (bk m c) (bv m c) (bg m c) (bc m c) (A c)) :
    θ_run (defs (F := Ideal)) (onTc (τ := τ) (main (F := Ideal))) ⟨m, fun _ => 0, ρ⟩ (fun r => ∀ c : Dev nD,
      r.2.mem ((c.tc : Thread nD τ).loc main_v80) = byRow (dq (A c))
      ∧ r.2.mem ((c.tc : Thread nD τ).loc main_v75_0) = byRow (dk (A c))
      ∧ r.2.mem ((c.tc : Thread nD τ).loc main_v75_1) = byRow (dv (A c))
      ∧ r.2.mem ((c.tc : Thread nD τ).loc main_v82) = bias (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v80 (by decide)).trans (final80 (H c)),
      ((h.1 c).1 8).trans (final8 (H c)),
      ((h.1 c).1 9).trans (final9 (H c)),
      ((h.1 c).2 main_v82 (by decide)).trans (final82 (H c)),
      ((h.1 c).2 main_arg0 (by decide)).trans (endV_arg0 m c),
      ((h.1 c).2 main_arg1 (by decide)).trans (endV_arg1 m c),
      ((h.1 c).2 main_arg2 (by decide)).trans (endV_arg2 m c),
      ((h.1 c).2 main_arg3 (by decide)).trans (endV_arg3 m c),
      ((h.1 c).2 main_arg4 (by decide)).trans (endV_arg4 m c)⟩)
    (run_main m ρ)

end Kernel

section Reference

open Cert.ReferenceIdeal Cert.ReferenceIdeal.Hand

variable (m : (ℓ : Loc nD τ sig) → Buf (Elt Ideal) ℓ) (ρ : Dev nD → PrngReg)

theorem reference_run (A : Dev nD → Args) (H : ∀ c, Holds (aq m c) (ak m c) (av m c) (ag m c) (ac m c) (A c)) :
    θ_run (defs (F := Ideal)) (onTc (τ := τ) (main (F := Ideal))) ⟨m, fun _ => 0, ρ⟩ (fun r => ∀ c : Dev nD,
      r.2.mem ((c.tc : Thread nD τ).loc main_v88) = byRow (dq (A c))
      ∧ r.2.mem ((c.tc : Thread nD τ).loc main_v89) = byRow (dk (A c))
      ∧ r.2.mem ((c.tc : Thread nD τ).loc main_v90) = byRow (dv (A c))
      ∧ r.2.mem ((c.tc : Thread nD τ).loc main_v80) = bias (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1.trans (out0 m c)).trans (byRow_of _ _ (out0_val (H c))),
      ((h c).2.1.trans (out1 m c)).trans (byRow_of _ _ (out1_val (H c))),
      ((h c).2.2.1.trans (out2 m c)).trans (byRow_of _ _ (out2_val (H c))),
      ((h c).2.2.2.1.trans (out3 m c)).trans (bias_of _ (out3_val (H c))),
      (h c).2.2.2.2⟩)
    (Value.run (F := Ideal) m ρ)

end Reference

/-- From equal finite arguments the two programs end with equal results. -/
theorem algebraic : Cert.algebraic_KernelIdeal_ReferenceIdeal_pre_finite := fun m g m' g' hP heq => by
  have hR : ∀ c, Holds (Cert.ReferenceIdeal.Hand.aq m' c) (Cert.ReferenceIdeal.Hand.ak m' c) (Cert.ReferenceIdeal.Hand.av m' c)
      (Cert.ReferenceIdeal.Hand.ag m' c) (Cert.ReferenceIdeal.Hand.ac m' c) (argsOf m c) := fun c => by
    obtain ⟨e0, e1, e2, e3, e4⟩ := heq c
    have H := kernel_holds m hP c
    exact ⟨fun h t d => (congrArg (fun x => Cert.ReferenceIdeal.Hand.heads (F := Ideal) x (ix3 h t d)) e0).trans (H.q h t d),
      fun h t d => (congrArg (fun x => Cert.ReferenceIdeal.Hand.heads (F := Ideal) x (ix3 h t d)) e1).trans (H.k h t d),
      fun h t d => (congrArg (fun x => Cert.ReferenceIdeal.Hand.heads (F := Ideal) x (ix3 h t d)) e2).trans (H.v h t d),
      fun h t d => (congrArg (fun x => Cert.ReferenceIdeal.Hand.heads (F := Ideal) x (ix3 h t d)) e4).trans (H.g h t d),
      fun h t => (congrFun e3 (ix2 h t)).trans (H.c h t)⟩
  exact ⟨fun c => byRow (dq (argsOf m c)), fun c => byRow (dk (argsOf m c)), fun c => byRow (dv (argsOf m c)), fun c => bias (argsOf m c),
    kernel_run m g (argsOf m) (kernel_holds m hP), reference_run m' g' (argsOf m) hR⟩

/-- The frames under the precondition are the plain ones. -/
theorem frame_pi_pre : Cert.quiescent_KernelIdeal_pre_finite := fun m ρ _ => Cert.KernelIdeal.Hand.run_frame m ρ
theorem frame_ri_pre : Cert.quiescent_ReferenceIdeal_pre_finite := fun m ρ _ => frame_ri m ρ trivial

end Cert.Proof

end
-- ==== Proof.FfnSpec.lean ====
/-
  The gradients of the second feed-forward half step over the norm before it, as functions of real arguments, and the one
  fact about them the two programs need: the norm's gradient is the same whether the row's variance is divided out
  before or after its sum is taken.
-/
module

public import proofs.«01_k».proof.Proof.Spec

@[expose] public section

noncomputable section

namespace Cert.Ffn

open Idealize.ShloMosaic
open scoped BigOperators

/-- The small constant under the norm's root: the rounded word's exact value. -/
def eps : ℝ := 10995116 / 1099511627776
/-- The residual's factor: the rounded word's exact value. -/
def alpha : ℝ := 9975792 / 8388608

theorem eps_pos : 0 < eps := by unfold eps; norm_num

theorem bits_eps : Ideal.ofBits .f32 0x3727C5AC#32 = ((eps : ℝ) : EReal) := by
  unfold eps; simp [Ideal.ofBits, Ideal.ieee, -EReal.coe_mul]; norm_num
theorem bits_alpha : Ideal.ofBits .f32 0x3F9837F0#32 = ((alpha : ℝ) : EReal) := by
  unfold alpha; simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_width : Ideal.ofBits .f32 0x44800000#32 = ((1024 : ℝ) : EReal) := by
  simp [Ideal.ofBits, Ideal.ieee, -EReal.coe_mul]; norm_num

/-- The real arguments: the rows, the norm's scale and shift, the two weights, and the gradient that comes in. -/
structure Args where
  r : Fin 16384 → Fin 1024 → ℝ
  γ : Fin 1024 → ℝ
  β : Fin 1024 → ℝ
  win : Fin 1024 → Fin 5632 → ℝ
  wout : Fin 2816 → Fin 1024 → ℝ
  dr : Fin 16384 → Fin 1024 → ℝ

/-- The gate's and the up's columns of the input weight. -/
def lo (j : Fin 2816) : Fin 5632 := ⟨j.val, by have := j.isLt; omega⟩
def hi (j : Fin 2816) : Fin 5632 := ⟨2816 + j.val, by have := j.isLt; omega⟩

/-- The logistic function. -/
def sig (x : ℝ) : ℝ := (1 + Real.exp (-x))⁻¹

section

variable (A : Args) (x : Fin 16384)

/-- The norm: the rows less their means, the variance with its small constant, one over its root, the normed rows. -/
def xc (d : Fin 1024) : ℝ := A.r x d - (∑ e, A.r x e) / 1024
def vr : ℝ := (∑ e, xc A x e * xc A x e) / 1024 + eps
def rs : ℝ := (Real.sqrt (vr A x))⁻¹
def xh (d : Fin 1024) : ℝ := xc A x d * rs A x
def z (d : Fin 1024) : ℝ := xh A x d * A.γ d + A.β d
/-- The products with the input weight. -/
def gu (k : Fin 5632) : ℝ := ∑ d, z A x d * A.win d k
/-- The gradient through the output weight. -/
def dh (j : Fin 2816) : ℝ := ∑ d, (1 / 2 * A.dr x d) * A.wout j d
/-- The gate's and the up's gradients. -/
def dg (j : Fin 2816) : ℝ := dh A x j * gu A x (hi j) * (sig (gu A x (lo j)) * (1 + gu A x (lo j) * (1 - sig (gu A x (lo j)))))
def du (j : Fin 2816) : ℝ := dh A x j * (gu A x (lo j) * sig (gu A x (lo j)))
/-- The gradient of the norm's output. -/
def dx (d : Fin 1024) : ℝ := alpha * A.dr x d + ∑ j, (dg A x j * A.win d (lo j) + du A x j * A.win d (hi j))
def dxh (d : Fin 1024) : ℝ := dx A x d * A.γ d
/-- The gradient of the rows. -/
def dr2 (d : Fin 1024) : ℝ := rs A x * (dxh A x d - (∑ e, dxh A x e) / 1024 - xh A x d * ((∑ e, dxh A x e * xh A x e) / 1024))

theorem vr_pos : 0 < vr A x := by
  have : 0 ≤ (∑ e, xc A x e * xc A x e) / 1024 := by
    apply div_nonneg _ (by norm_num)
    exact Finset.sum_nonneg fun e _ => mul_self_nonneg _
  have := eps_pos
  unfold vr
  linarith

theorem rs_sq : rs A x * rs A x * vr A x = 1 := by
  have h := vr_pos A x
  have hs : Real.sqrt (vr A x) ≠ 0 := (Real.sqrt_pos.mpr h).ne'
  have e : Real.sqrt (vr A x) * Real.sqrt (vr A x) = vr A x := Real.mul_self_sqrt h.le
  unfold rs
  field_simp
  linarith [e]

theorem sum_xc : ∑ d, xc A x d = 0 := by
  unfold xc
  rw [Finset.sum_sub_distrib, Finset.sum_const, Finset.card_univ, Fintype.card_fin]
  ring

/-- The correction of a row's elements that its variance gives. -/
def cor : ℝ := (∑ e, xc A x e * dxh A x e) * (-(1 / 2) * (rs A x / vr A x)) / 1024
def pre (d : Fin 1024) : ℝ := dxh A x d * rs A x + xc A x d * cor A x + cor A x * xc A x d

/-- The norm's gradient, the mean taken of the whole: the same. -/
theorem dr2_eq (d : Fin 1024) : pre A x d + (∑ e, -pre A x e) / 1024 = dr2 A x d := by
  have hv := (vr_pos A x).ne'
  have hr := rs_sq A x
  have h1 : ∑ e, pre A x e = rs A x * ∑ e, dxh A x e := by
    unfold pre
    rw [Finset.sum_add_distrib, Finset.sum_add_distrib, ← Finset.sum_mul, ← Finset.sum_mul, ← Finset.mul_sum, sum_xc]
    ring
  have h2 : ∑ e, dxh A x e * xh A x e = rs A x * ∑ e, xc A x e * dxh A x e := by
    rw [Finset.mul_sum]
    refine Finset.sum_congr rfl fun e _ => ?_
    unfold xh; ring
  have h3 : rs A x / vr A x = rs A x * (rs A x * rs A x) := by
    rw [div_eq_iff hv]
    linear_combination (-(rs A x)) * hr
  rw [Finset.sum_neg_distrib, h1]
  unfold dr2 pre cor
  rw [h2, h3]
  unfold xh
  ring

end

end Cert.Ffn

end
-- ==== Proof.FfnRef.lean ====
/-
  The reference of the feed-forward backward call, read at an index, and at the real arguments its arrays hold.
-/
module

public import proofs.«01_k».proof.Proof.FfnSpec
public import proofs.«01_k».proof.Proof.Spec
public import proofs.«01_k».proof.Proof.Gen.Reference3Ideal
public import proofs.«01_k».proof.Proof.Gen.Reference3Ideal.Run
public import Idealize.ShloMosaic.Lib.Pointwise

@[expose] public section

set_option maxRecDepth 16384
set_option maxHeartbeats 1000000

noncomputable section

namespace Cert.Reference3Ideal.Hand

open Cert.Reference3Ideal Cert.Reference3Ideal.Gen Cert.Reference3Ideal.Value Cert.Ffn
open Idealize.ShloMosaic Idealize.ShloMosaic.TcCoe Idealize.ShloMosaic.StableHlo
open scoped BigOperators

variable (W : Valuation τ sig (Elt Ideal))

/-- The six arguments. -/
abbrev r0 : S16384x1024.Idx → EReal := W (Proc.devRef .tc main_arg0)
abbrev r1 : S1x1024.Idx → EReal := W (Proc.devRef .tc main_arg1)
abbrev r2 : S1x1024.Idx → EReal := W (Proc.devRef .tc main_arg2)
abbrev r3 : S1024x5632.Idx → EReal := W (Proc.devRef .tc main_arg3)
abbrev r4 : S2816x1024.Idx → EReal := W (Proc.devRef .tc main_arg4)
abbrev r5 : S16384x1024.Idx → EReal := W (Proc.devRef .tc main_arg5)

abbrev cW : EReal := Ideal.ofBits .f32 0x44800000#32

/-! The arrays of the run, as functions to the extended reals. -/
abbrev q7 : S16384x1024.Idx → EReal := res_main_v7 W
abbrev q14 : S16384x1.Idx → EReal := res_main_v14 W
abbrev q15 : S16384x1.Idx → EReal := res_main_v15 W
abbrev q20 : S16384x1024.Idx → EReal := res_main_v20 W
abbrev q24 : S16384x1024.Idx → EReal := res_main_v24 W
abbrev q26 : S16384x5632.Idx → EReal := res_main_v26 W
abbrev q27 : S16384x2816.Idx → EReal := res_main_v27 W
abbrev q28 : S16384x2816.Idx → EReal := res_main_v28 W
abbrev q29_2 : S16384x2816.Idx → EReal := res_main_v29_2 W
abbrev q29_0 : S16384x2816.Idx → EReal := res_main_v29_0 W
abbrev q41 : S16384x1024.Idx → EReal := res_main_v41 W
abbrev q44 : S16384x2816.Idx → EReal := res_main_v44 W
abbrev q46 : S16384x2816.Idx → EReal := res_main_v46 W
abbrev q50 : S16384x5632.Idx → EReal := res_main_v50 W
abbrev q52 : S16384x1024.Idx → EReal := res_main_v52 W
abbrev q59 : S16384x1024.Idx → EReal := res_main_v59 W
abbrev q69 : S16384x1024.Idx → EReal := res_main_v69 W
abbrev q73 : S16384x1024.Idx → EReal := res_main_v73 W

theorem v7_at (t : Fin 16384) (d : Fin 1024) : q7 W (ix2 t d) = r0 W (ix2 t d) - Ideal.div (∑ e : Fin 1024, r0 W (ix2 t e)) cW := by
  pointwise [res_main_v7]
theorem v14_at (t : Fin 16384) : q14 W (ix2 t 0) = Ideal.div (∑ e : Fin 1024, q7 W (ix2 t e) * q7 W (ix2 t e)) cW + Ideal.ofBits .f32 0x3727C5AC#32 := by
  pointwise [res_main_v14]
theorem v15_at (t : Fin 16384) : q15 W (ix2 t 0) = Ideal.rsqrt (q14 W (ix2 t 0)) := by
  pointwise [res_main_v15]
theorem v20_at (t : Fin 16384) (d : Fin 1024) : q20 W (ix2 t d) = q7 W (ix2 t d) * q15 W (ix2 t 0) := by
  pointwise [res_main_v20]
theorem v24_at (t : Fin 16384) (d : Fin 1024) : q24 W (ix2 t d) = q20 W (ix2 t d) * r1 W (ix2 0 d) + r2 W (ix2 0 d) := by
  pointwise [res_main_v24]
theorem v26_at (t : Fin 16384) (k : Fin 5632) : q26 W (ix2 t k) = ∑ d : Fin 1024, q24 W (ix2 t d) * r3 W (ix2 d k) := by
  pointwise [res_main_v26]
theorem v27_at (t : Fin 16384) (j : Fin 2816) : q27 W (ix2 t j) = q26 W (ix2 t (lo j)) := by
  pointwise [res_main_v27]
  rfl
theorem v28_at (t : Fin 16384) (j : Fin 2816) : q28 W (ix2 t j) = q26 W (ix2 t (hi j)) := by
  pointwise [res_main_v28]
  rfl
theorem v29_2_at (t : Fin 16384) (j : Fin 2816) : q29_2 W (ix2 t j) = Ideal.logistic (q27 W (ix2 t j)) := by
  pointwise [res_main_v29_2]
  rfl
theorem v29_0_at (t : Fin 16384) (j : Fin 2816) : q29_0 W (ix2 t j) = q27 W (ix2 t j) * q29_2 W (ix2 t j) := by
  pointwise [res_main_v29_0]
theorem v41_at (t : Fin 16384) (d : Fin 1024) : q41 W (ix2 t d) = Ideal.ofBits .f32 0x3F000000#32 * r5 W (ix2 t d) := by
  pointwise [res_main_v41]
theorem v44_at (t : Fin 16384) (j : Fin 2816) : q44 W (ix2 t j) = ∑ d : Fin 1024, q41 W (ix2 t d) * r4 W (ix2 j d) := by
  pointwise [res_main_v44]
theorem v46_at (t : Fin 16384) (j : Fin 2816) : q46 W (ix2 t j) = q44 W (ix2 t j) * q28 W (ix2 t j) := by
  pointwise [res_main_v46]
theorem v50_lo (t : Fin 16384) (j : Fin 2816) : q50 W (ix2 t (lo j)) = q46 W (ix2 t j) * q29_2 W (ix2 t j)
    + q27 W (ix2 t j) * q46 W (ix2 t j) * (q29_2 W (ix2 t j) * (1 - q29_2 W (ix2 t j))) := by
  pointwise [res_main_v50]
  refine (congrArg₂ (· + ·) (dif_neg ?_) (dif_pos ?_)).trans ?_
  · intro h
    have h1 : 2816 ≤ (lo j).val := (h 1).1
    have h2 : (lo j).val = j.val := rfl
    have := j.isLt
    omega
  · intro a
    have := j.isLt
    have := t.isLt
    match a with
    | 0 => exact ⟨Nat.zero_le _, Nat.mod_one _, by show (t.val - 0) / (0 + 1) < 16384; omega⟩
    | 1 => exact ⟨Nat.zero_le _, Nat.mod_one _, by show (j.val - 0) / (0 + 1) < 2816; omega⟩
  · exact zero_add _
theorem v50_hi (t : Fin 16384) (j : Fin 2816) : q50 W (ix2 t (hi j)) = q29_0 W (ix2 t j) * q44 W (ix2 t j) := by
  pointwise [res_main_v50]
  have e : (⟨(hi j).val - 2816, by have := (hi j).isLt; omega⟩ : Fin 2816) = j := Fin.ext (by show 2816 + j.val - 2816 = j.val; omega)
  refine (congrArg₂ (· + ·) (dif_pos ?_) (dif_neg ?_)).trans ?_
  · intro a
    have := j.isLt
    have := t.isLt
    match a with
    | 0 => exact ⟨Nat.zero_le _, Nat.mod_one _, by show (t.val - 0) / (0 + 1) < 16384; omega⟩
    | 1 => exact ⟨by show 2816 ≤ 2816 + j.val; omega, Nat.mod_one _, by show (2816 + j.val - 2816) / (0 + 1) < 2816; omega⟩
  · intro h
    have h1 : ((hi j).val - 0) / (0 + 1) < 2816 := (h 1).2.2
    have h2 : (hi j).val = 2816 + j.val := rfl
    omega
  · refine (add_zero _).trans ?_
    exact congrArg (fun i => q29_0 W (ix2 t i) * q44 W (ix2 t i)) e
theorem v52_at (t : Fin 16384) (d : Fin 1024) : q52 W (ix2 t d) = Ideal.ofBits .f32 0x3F9837F0#32 * r5 W (ix2 t d)
    + ∑ k : Fin 5632, q50 W (ix2 t k) * r3 W (ix2 d k) := by
  pointwise [res_main_v52]
theorem v59_at (t : Fin 16384) (d : Fin 1024) : q59 W (ix2 t d) = q52 W (ix2 t d) * r1 W (ix2 0 d) := by
  pointwise [res_main_v59]
theorem v69_at (t : Fin 16384) (d : Fin 1024) : q69 W (ix2 t d) = Ideal.div ((∑ e : Fin 1024, q7 W (ix2 t e) * q59 W (ix2 t e))
    * (Ideal.ofBits .f32 0xBF000000#32 * Ideal.div (q15 W (ix2 t 0)) (q14 W (ix2 t 0)))) cW := by
  pointwise [res_main_v69]
  rw [Fin.sum_univ_one]
theorem v73_at (t : Fin 16384) (d : Fin 1024) : q73 W (ix2 t d) = q59 W (ix2 t d) * q15 W (ix2 t 0)
    + q7 W (ix2 t d) * q69 W (ix2 t d) + q69 W (ix2 t d) * q7 W (ix2 t d) := by
  pointwise [res_main_v73]

/-- The rows' gradient, and the block of the two sums. -/
def outR : FVec Ideal S16384x1024 .f32 :=
  addf (res_main_v73 W) (broadcastInDim S16384x1024 ![0] bcast_S16384_S16384x1024_0 (Host.reduceAdd (Host.divf (shapeCast _ (Host.reduceAdd (Host.negf (res_main_v73 W)) (constant S_ .f32 0x00000000#32) reducesTo_S16384x1024_S16384_d1 h_S_) shapeCasts_S16384_S16384x1) (broadcastInDim S16384x1 ![] bcast_S_S16384x1 (constant S_ .f32 0x44800000#32))) (constant S_ .f32 0x00000000#32) reducesTo_S16384x1_S16384_d1 h_S_))
def outS : FVec Ideal S8x1024 .f32 :=
  (concatenate S8x1024 0 [⟨S1x1024, ((shapeCast _ (Host.reduceAdd (mulf (res_main_v20 W) (res_main_v52 W)) (constant S_ .f32 0x00000000#32) reducesTo_S16384x1024_S1024_d0 h_S_) shapeCasts_S1024_S1x1024) : (⟨S1x1024, .f32⟩ : BufTy).Contents (Elt Ideal))⟩, ⟨S1x1024, ((shapeCast _ (Host.reduceAdd (res_main_v52 W) (constant S_ .f32 0x00000000#32) reducesTo_S16384x1024_S1024_d0 h_S_) shapeCasts_S1024_S1x1024) : (⟨S1x1024, .f32⟩ : BufTy).Contents (Elt Ideal))⟩, ⟨S6x1024, ((broadcastInDim S6x1024 ![] bcast_S_S6x1024 (constant (F := Ideal) S_ .f32 0x00000000#32)) : (⟨S6x1024, .f32⟩ : BufTy).Contents (Elt Ideal))⟩] concatenates_S1x1024_S1x1024_S6x1024_S8x1024_d0 : (⟨S8x1024, .f32⟩ : BufTy).Contents (Elt Ideal))

theorem gate_at (t : Fin 16384) (j : Fin 2816) : ((truncf .bf16 (extractStridedSlice S16384x2816 ![0, 0] (res_main_v50 W) slices_S16384x5632_S16384x2816_0_0) bitsLt_bf16_f32 : FVec Ideal S16384x2816 .bf16) (ix2 t j) : EReal) = q50 W (ix2 t (lo j)) := by
  pointwise
  rfl
theorem up_at (t : Fin 16384) (j : Fin 2816) : ((truncf .bf16 (extractStridedSlice S16384x2816 ![0, 2816] (res_main_v50 W) slices_S16384x5632_S16384x2816_0_2816) bitsLt_bf16_f32 : FVec Ideal S16384x2816 .bf16) (ix2 t j) : EReal) = q50 W (ix2 t (hi j)) := by
  pointwise
  rfl
theorem outR_at (t : Fin 16384) (d : Fin 1024) : (outR W (ix2 t d) : EReal) = q73 W (ix2 t d) + Ideal.div (∑ e : Fin 1024, -q73 W (ix2 t e)) cW := by
  pointwise [outR]
  rw [Fin.sum_univ_one]
theorem outS_at (k : Fin 8) (d : Fin 1024) : (outS W (ix2 k d) : EReal) = if k.val = 0 then ∑ t : Fin 16384, q20 W (ix2 t d) * q52 W (ix2 t d)
    else if k.val = 1 then ∑ t : Fin 16384, q52 W (ix2 t d) else 0 := by
  pointwise [outS]
  by_cases h0 : k.val = 0
  · rw [dif_pos (by omega), if_pos h0]
  · by_cases h1 : k.val = 1
    · rw [dif_neg (by omega), dif_pos (by omega), if_neg h0, if_pos h1]
    · rw [dif_neg (by omega), dif_neg (by omega), if_neg h0, if_neg h1]

end Cert.Reference3Ideal.Hand

end
-- ==== Proof.K3Outs.lean ====
/-
  What each grid point of the feed-forward backward call leaves in its output blocks, as a term of its input blocks and of
  the two weights it holds: at the first point the weights are copied in, at the later ones they are found there.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen Cert.Kernel3Ideal.Value
open Idealize.ShloMosaic Idealize.ShloMosaic.TcCoe

variable {F : FTy → Type} [FloatOps F]

theorem hz2 : (![0, 0] : Fin 2 → Nat) = fun _ => 0 := funext fun a => by fin_cases a <;> rfl

/-- One store of a whole buffer leaves what was stored. -/
theorem canon_whole {Val : EltTy → Type} [∀ e, Nonempty (Val e)] {S : Shape} {e : EltTy} (w : S.Idx → Val e) :
    View.canon [⟨Rect.whole S, w⟩] = w := by
  funext y
  have h := View.canon_cons_emb (Rect.whole S) w [] y
  have he : (Rect.whole S).emb y = y := by funext a; apply Fin.ext; simp [Rect.whole]
  rwa [he] at h

/-- A load from a buffer stored whole reads what was stored. -/
theorem readCov_whole {Val : EltTy → Type} [∀ e, Nonempty (Val e)] {sig : RefSig} {κ : Kind} {sp : Space} {S : Shape} {e : EltTy} (v : View sig κ sp S e) (w : S.Idx → Val e) (r : Rect S) :
    v.readCov [⟨Rect.whole S, w⟩] r.toLoadRect = View.ld w r := by
  rw [View.readCov_eq_canon', canon_whole]

theorem whole27 {c : Dev nD} (f : HbBuf0 (F := F) c hbM0_0) : ReadAs.same.apply (View.read (Elt F) (View.whole main_v27) f) = f := rfl
theorem whole28 {c : Dev nD} (f : HbBuf0 (F := F) c hbM0_1) : ReadAs.same.apply (View.read (Elt F) (View.whole main_v28) f) = f := rfl

section Terms

variable (x0 : Vec F S512x1024 .f32) (x1 x2 : Vec F S512x2816 .bf16) (x3 : Vec F S512x1024 .f32) (x4 : Vec F S512x1 .f32) (x5 : Vec F S1x1024 .f32)
  (w0 : Vec F S1024x5632 .bf16) (w1 : Vec F S2816x1024 .bf16)

/-- The gradient through the two inner products, accumulated over the six stretches of the hidden width. -/
def accv : FVec F S512x1024 .f32 :=
    k0_pay44
    (k0_pay39 (k0_pay3 x0)
    (View.ld w1
    (Rect.unit ![2560, 0] ![256, 1024] inb_S2816x1024_S256x1024_2560_0)))
    (k0_pay40 (View.ld x1 (Rect.unit ![0, 2560] ![512, 256] inb_S512x2816_S512x256_0_2560)))
    (View.ld x2 (Rect.unit ![0, 2560] ![512, 256] inb_S512x2816_S512x256_0_2560))
    (View.ld w0
    (Rect.unit ![0, 2560] ![1024, 256] inb_S1024x5632_S1024x256_0_2560))
    (View.ld w0
    (Rect.unit ![0, 5376] ![1024, 256] inb_S1024x5632_S1024x256_0_5376))
    (k0_pay38
    (k0_pay31 (k0_pay3 x0)
    (View.ld w1
    (Rect.unit ![2048, 0] ![512, 1024] inb_S2816x1024_S512x1024_2048_0)))
    (k0_pay32 (View.ld x1 (Rect.unit ![0, 2048] ![512, 512] inb_S512x2816_S512x512_0_2048)))
    (k0_pay33 (View.ld x2 (Rect.unit ![0, 2048] ![512, 512] inb_S512x2816_S512x512_0_2048)))
    (k0_pay34 (View.ld x1 (Rect.unit ![0, 2048] ![512, 512] inb_S512x2816_S512x512_0_2048)))
    (View.ld w0
    (Rect.unit ![0, 2048] ![1024, 512] inb_S1024x5632_S1024x512_0_2048))
    (View.ld w0
    (Rect.unit ![0, 4864] ![1024, 512] inb_S1024x5632_S1024x512_0_4864))
    (k0_pay30
    (k0_pay24 (k0_pay3 x0)
    (View.ld w1
    (Rect.unit ![1536, 0] ![512, 1024] inb_S2816x1024_S512x1024_1536_0)))
    (k0_pay25 (View.ld x1 (Rect.unit ![0, 1536] ![512, 512] inb_S512x2816_S512x512_0_1536)))
    (k0_pay26 (View.ld x1 (Rect.unit ![0, 1536] ![512, 512] inb_S512x2816_S512x512_0_1536)))
    (k0_pay27 (k0_pay3 x0)
    (View.ld w1
    (Rect.unit ![1536, 0] ![512, 1024] inb_S2816x1024_S512x1024_1536_0))
    (View.ld x2 (Rect.unit ![0, 1536] ![512, 512] inb_S512x2816_S512x512_0_1536)))
    (View.ld w0
    (Rect.unit ![0, 1536] ![1024, 512] inb_S1024x5632_S1024x512_0_1536))
    (View.ld w0
    (Rect.unit ![0, 4352] ![1024, 512] inb_S1024x5632_S1024x512_0_4352))
    (k0_pay23
    (k0_pay16 (k0_pay3 x0)
    (View.ld w1
    (Rect.unit ![1024, 0] ![512, 1024] inb_S2816x1024_S512x1024_1024_0)))
    (k0_pay17 (View.ld x1 (Rect.unit ![0, 1024] ![512, 512] inb_S512x2816_S512x512_0_1024)))
    (k0_pay18 (View.ld x1 (Rect.unit ![0, 1024] ![512, 512] inb_S512x2816_S512x512_0_1024)))
    (k0_pay19 (k0_pay3 x0)
    (View.ld w1
    (Rect.unit ![1024, 0] ![512, 1024] inb_S2816x1024_S512x1024_1024_0))
    (View.ld x2 (Rect.unit ![0, 1024] ![512, 512] inb_S512x2816_S512x512_0_1024)))
    (k0_pay20 (View.ld x1 (Rect.unit ![0, 1024] ![512, 512] inb_S512x2816_S512x512_0_1024)))
    (View.ld w0
    (Rect.unit ![0, 1024] ![1024, 512] inb_S1024x5632_S1024x512_0_1024))
    (View.ld w0
    (Rect.unit ![0, 3840] ![1024, 512] inb_S1024x5632_S1024x512_0_3840))
    (k0_pay15
    (k0_pay13 (k0_pay3 x0)
    (View.ld w1
    (Rect.unit ![512, 0] ![512, 1024] inb_S2816x1024_S512x1024_512_0))
    (View.ld x1 (Rect.unit ![0, 512] ![512, 512] inb_S512x2816_S512x512_0_512))
    (View.ld x2 (Rect.unit ![0, 512] ![512, 512] inb_S512x2816_S512x512_0_512)))
    (k0_pay14 (k0_pay3 x0)
    (View.ld w1
    (Rect.unit ![512, 0] ![512, 1024] inb_S2816x1024_S512x1024_512_0))
    (View.ld x1 (Rect.unit ![0, 512] ![512, 512] inb_S512x2816_S512x512_0_512)))
    (View.ld w0
    (Rect.unit ![0, 512] ![1024, 512] inb_S1024x5632_S1024x512_0_512))
    (View.ld w0
    (Rect.unit ![0, 3328] ![1024, 512] inb_S1024x5632_S1024x512_0_3328))
    (k0_pay9
    (k0_pay7 x0
    (View.ld w1
    (Rect.unit ![0, 0] ![512, 1024] inb_S2816x1024_S512x1024_0_0))
    (View.ld x1 (Rect.unit ![0, 0] ![512, 512] inb_S512x2816_S512x512_0_0))
    (View.ld x2 (Rect.unit ![0, 0] ![512, 512] inb_S512x2816_S512x512_0_0)))
    (k0_pay8 x0
    (View.ld w1
    (Rect.unit ![0, 0] ![512, 1024] inb_S2816x1024_S512x1024_0_0))
    (View.ld x1 (Rect.unit ![0, 0] ![512, 512] inb_S512x2816_S512x512_0_0)))
    (View.ld w0
    (Rect.unit ![0, 0] ![1024, 512] inb_S1024x5632_S1024x512_0_0))
    (View.ld w0
    (Rect.unit ![0, 2816] ![1024, 512] inb_S1024x5632_S1024x512_0_2816)))))))

/-- The gate's gradient, stored stretch by stretch. -/
def dgv : Vec F S512x2816 .bf16 :=
    View.canon
    [⟨Rect.unit ![0, 2560] ![512, 256] inb_S512x2816_S512x256_0_2560,
    k0_pay42
    (k0_pay39 (k0_pay3 x0) (View.ld w1 (Rect.unit ![2560, 0] ![256, 1024] inb_S2816x1024_S256x1024_2560_0)))
    (k0_pay40 (View.ld x1 (Rect.unit ![0, 2560] ![512, 256] inb_S512x2816_S512x256_0_2560)))
    (View.ld x2 (Rect.unit ![0, 2560] ![512, 256] inb_S512x2816_S512x256_0_2560))⟩,
    ⟨Rect.unit ![0, 2048] ![512, 512] inb_S512x2816_S512x512_0_2048,
    k0_pay36
    (k0_pay31 (k0_pay3 x0) (View.ld w1 (Rect.unit ![2048, 0] ![512, 1024] inb_S2816x1024_S512x1024_2048_0)))
    (k0_pay32 (View.ld x1 (Rect.unit ![0, 2048] ![512, 512] inb_S512x2816_S512x512_0_2048)))
    (k0_pay33 (View.ld x2 (Rect.unit ![0, 2048] ![512, 512] inb_S512x2816_S512x512_0_2048)))
    (k0_pay34 (View.ld x1 (Rect.unit ![0, 2048] ![512, 512] inb_S512x2816_S512x512_0_2048)))⟩,
    ⟨Rect.unit ![0, 1536] ![512, 512] inb_S512x2816_S512x512_0_1536,
    k0_pay28 (k0_pay25 (View.ld x1 (Rect.unit ![0, 1536] ![512, 512] inb_S512x2816_S512x512_0_1536)))
    (k0_pay26 (View.ld x1 (Rect.unit ![0, 1536] ![512, 512] inb_S512x2816_S512x512_0_1536)))
    (k0_pay27 (k0_pay3 x0) (View.ld w1 (Rect.unit ![1536, 0] ![512, 1024] inb_S2816x1024_S512x1024_1536_0))
    (View.ld x2 (Rect.unit ![0, 1536] ![512, 512] inb_S512x2816_S512x512_0_1536)))⟩,
    ⟨Rect.unit ![0, 1024] ![512, 512] inb_S512x2816_S512x512_0_1024,
    k0_pay21 (k0_pay18 (View.ld x1 (Rect.unit ![0, 1024] ![512, 512] inb_S512x2816_S512x512_0_1024)))
    (k0_pay19 (k0_pay3 x0) (View.ld w1 (Rect.unit ![1024, 0] ![512, 1024] inb_S2816x1024_S512x1024_1024_0))
    (View.ld x2 (Rect.unit ![0, 1024] ![512, 512] inb_S512x2816_S512x512_0_1024)))
    (k0_pay20 (View.ld x1 (Rect.unit ![0, 1024] ![512, 512] inb_S512x2816_S512x512_0_1024)))⟩,
    ⟨Rect.unit ![0, 512] ![512, 512] inb_S512x2816_S512x512_0_512,
    k0_pay13 (k0_pay3 x0) (View.ld w1 (Rect.unit ![512, 0] ![512, 1024] inb_S2816x1024_S512x1024_512_0))
    (View.ld x1 (Rect.unit ![0, 512] ![512, 512] inb_S512x2816_S512x512_0_512))
    (View.ld x2 (Rect.unit ![0, 512] ![512, 512] inb_S512x2816_S512x512_0_512))⟩,
    ⟨Rect.unit ![0, 0] ![512, 512] inb_S512x2816_S512x512_0_0,
    k0_pay7 x0 (View.ld w1 (Rect.unit ![0, 0] ![512, 1024] inb_S2816x1024_S512x1024_0_0))
    (View.ld x1 (Rect.unit ![0, 0] ![512, 512] inb_S512x2816_S512x512_0_0))
    (View.ld x2 (Rect.unit ![0, 0] ![512, 512] inb_S512x2816_S512x512_0_0))⟩]

/-- The up's gradient, stored stretch by stretch. -/
def duv : Vec F S512x2816 .bf16 :=
    View.canon
    [⟨Rect.unit ![0, 2560] ![512, 256] inb_S512x2816_S512x256_0_2560,
    k0_pay43
    (k0_pay39 (k0_pay3 x0) (View.ld w1 (Rect.unit ![2560, 0] ![256, 1024] inb_S2816x1024_S256x1024_2560_0)))
    (k0_pay40 (View.ld x1 (Rect.unit ![0, 2560] ![512, 256] inb_S512x2816_S512x256_0_2560)))⟩,
    ⟨Rect.unit ![0, 2048] ![512, 512] inb_S512x2816_S512x512_0_2048,
    k0_pay37
    (k0_pay31 (k0_pay3 x0) (View.ld w1 (Rect.unit ![2048, 0] ![512, 1024] inb_S2816x1024_S512x1024_2048_0)))
    (k0_pay32 (View.ld x1 (Rect.unit ![0, 2048] ![512, 512] inb_S512x2816_S512x512_0_2048)))
    (k0_pay34 (View.ld x1 (Rect.unit ![0, 2048] ![512, 512] inb_S512x2816_S512x512_0_2048)))⟩,
    ⟨Rect.unit ![0, 1536] ![512, 512] inb_S512x2816_S512x512_0_1536,
    k0_pay29
    (k0_pay24 (k0_pay3 x0) (View.ld w1 (Rect.unit ![1536, 0] ![512, 1024] inb_S2816x1024_S512x1024_1536_0)))
    (k0_pay25 (View.ld x1 (Rect.unit ![0, 1536] ![512, 512] inb_S512x2816_S512x512_0_1536)))
    (k0_pay26 (View.ld x1 (Rect.unit ![0, 1536] ![512, 512] inb_S512x2816_S512x512_0_1536)))⟩,
    ⟨Rect.unit ![0, 1024] ![512, 512] inb_S512x2816_S512x512_0_1024,
    k0_pay22
    (k0_pay16 (k0_pay3 x0) (View.ld w1 (Rect.unit ![1024, 0] ![512, 1024] inb_S2816x1024_S512x1024_1024_0)))
    (k0_pay17 (View.ld x1 (Rect.unit ![0, 1024] ![512, 512] inb_S512x2816_S512x512_0_1024)))
    (k0_pay18 (View.ld x1 (Rect.unit ![0, 1024] ![512, 512] inb_S512x2816_S512x512_0_1024)))⟩,
    ⟨Rect.unit ![0, 512] ![512, 512] inb_S512x2816_S512x512_0_512,
    k0_pay14 (k0_pay3 x0) (View.ld w1 (Rect.unit ![512, 0] ![512, 1024] inb_S2816x1024_S512x1024_512_0))
    (View.ld x1 (Rect.unit ![0, 512] ![512, 512] inb_S512x2816_S512x512_0_512))⟩,
    ⟨Rect.unit ![0, 0] ![512, 512] inb_S512x2816_S512x512_0_0,
    k0_pay8 x0 (View.ld w1 (Rect.unit ![0, 0] ![512, 1024] inb_S2816x1024_S512x1024_0_0))
    (View.ld x1 (Rect.unit ![0, 0] ![512, 512] inb_S512x2816_S512x512_0_0))⟩]

/-- The norm's input gradient. -/
def dxv : FVec F S512x1024 .f32 :=
  k0_pay1 (k0_pay50 (k0_pay45 x0) (accv x0 x1 x2 w0 w1) x3 x5) (k0_pay51 x4)

/-- The two statistics rows, added to what the point before left. -/
def row0v (s : Vec F S1x1024 .f32) : FVec F S1x1024 .f32 := k0_pay48 (k0_pay45 x0) (accv x0 x1 x2 w0 w1) x3 s
def row1v (s : Vec F S1x1024 .f32) : FVec F S1x1024 .f32 := k0_pay49 (k0_pay45 x0) (accv x0 x1 x2 w0 w1) s

/-- The two rows' stores, last first. -/
def rowsL (s0 s1 : Vec F S1x1024 .f32) : List (View.Piece (Elt F) S8x1024 .f32) :=
  [⟨Rect.unit ![1, 0] ![1, 1024] inb_S8x1024_S1x1024_1_0, row1v x0 x1 x2 w0 w1 s1⟩,
    ⟨Rect.unit ![0, 0] ![1, 1024] inb_S8x1024_S1x1024_0_0, row0v x0 x1 x2 x3 w0 w1 s0⟩]

/-- What the first point loads of the two rows, after it clears the block. -/
def zero0 : Vec F S1x1024 .f32 :=
  View.ld (View.canon [(⟨Rect.unit ![0, 0] ![8, 1024] inb_S8x1024_S8x1024_0_0, k0_pay2⟩ : View.Piece (Elt F) S8x1024 .f32)]) (Rect.unit ![0, 0] ![1, 1024] inb_S8x1024_S1x1024_0_0)

def zero1 : Vec F S1x1024 .f32 :=
  View.ld (View.canon [(⟨Rect.unit ![0, 0] ![1, 1024] inb_S8x1024_S1x1024_0_0, row0v x0 x1 x2 x3 w0 w1 zero0⟩ : View.Piece (Elt F) S8x1024 .f32),
    ⟨Rect.unit ![0, 0] ![8, 1024] inb_S8x1024_S8x1024_0_0, k0_pay2⟩]) (Rect.unit ![1, 0] ![1, 1024] inb_S8x1024_S1x1024_1_0)

theorem zero0_at (d : Fin 1024) : zero0 (F := F) (ix2 0 d) = k0_pay2 (ix2 0 d) := by
  have he : (Rect.unit ![0, 0] ![1, 1024] inb_S8x1024_S1x1024_0_0 : Rect S8x1024).emb (ix2 0 d) = ix2 0 d := by blk_ext []
  have h1 : zero0 (F := F) (ix2 0 d) = View.canon [(⟨Rect.unit ![0, 0] ![8, 1024] inb_S8x1024_S8x1024_0_0, k0_pay2⟩ : View.Piece (Elt F) S8x1024 .f32)] (ix2 0 d) :=
    congrArg (View.canon _) he
  rw [h1, View.canon_cons_unit_zero (S := S8x1024) hz2]

theorem zero1_at (d : Fin 1024) : zero1 x0 x1 x2 x3 w0 w1 (ix2 0 d) = k0_pay2 (ix2 1 d) := by
  have he : (Rect.unit ![1, 0] ![1, 1024] inb_S8x1024_S1x1024_1_0 : Rect S8x1024).emb (ix2 0 d) = ix2 1 d := by blk_ext []
  have h1 : zero1 x0 x1 x2 x3 w0 w1 (ix2 0 d) = View.canon [(⟨Rect.unit ![0, 0] ![1, 1024] inb_S8x1024_S1x1024_0_0, row0v x0 x1 x2 x3 w0 w1 zero0⟩ : View.Piece (Elt F) S8x1024 .f32),
    ⟨Rect.unit ![0, 0] ![8, 1024] inb_S8x1024_S8x1024_0_0, k0_pay2⟩] (ix2 1 d) := congrArg (View.canon _) he
  rw [h1, View.canon_cons_of_not_mem, View.canon_cons_unit_zero (S := S8x1024) hz2]
  intro hm
  obtain ⟨i, hi, hh⟩ := (LoadRect.mem_set _).mp hm (0 : Fin 2)
  have hi1 : i < 1 := hi
  have hh' : 1 = 0 + 1 * i := hh
  omega

end Terms

section PointA

/-! The first point: the weights are copied in. -/

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x1024 .f32) (harg6 : arg6.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S1024x5632 .bf16) (harg14 : arg14.IsWhole) (arg15 : Memref sig .tc .vmem S2816x1024 .bf16) (harg15 : arg15.IsWhole) (hc0 : cond0_0 i)
    (x0 : Vec F S512x1024 .f32) (x1 : Vec F S512x2816 .bf16) (x2 : Vec F S512x2816 .bf16) (x3 : Vec F S512x1024 .f32) (x4 : Vec F S512x1 .f32) (x5 : Vec F S1x1024 .f32) (fh0 : HbBuf0 (F := F) c hbM0_0) (fh1 : HbBuf0 (F := F) c hbM0_1)

set_option maxHeartbeats 4000000 in
theorem out_A_6 :
    out0_A_6 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = k0_pay3 x0 := by
  unfold out0_A_6
  refine (View.read_writes_eq_canon _ _ _ fun _ => cover0_A_6 ..).trans ?_
  unfold kernelRun0_A
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]

set_option maxHeartbeats 4000000 in
theorem out_A_7 :
    out0_A_7 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = dgv x0 x1 x2 fh1 := by
  unfold out0_A_7
  refine (View.read_writes_eq_canon _ _ _ fun _ => cover0_A_7 ..).trans ?_
  unfold kernelRun0_A
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]
  rfl

set_option maxHeartbeats 4000000 in
theorem out_A_8 :
    out0_A_8 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = duv x0 x1 fh1 := by
  unfold out0_A_8
  refine (View.read_writes_eq_canon _ _ _ fun _ => cover0_A_8 ..).trans ?_
  unfold kernelRun0_A
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]
  rfl

set_option maxHeartbeats 4000000 in
theorem out_A_9 :
    out0_A_9 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = dxv x0 x1 x2 x3 x4 x5 fh0 fh1 := by
  unfold out0_A_9
  refine (View.read_writes_eq_canon _ _ _ fun _ => cover0_A_9 ..).trans ?_
  unfold kernelRun0_A
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]
  rfl

set_option maxHeartbeats 4000000 in
theorem out_A_10 :
    out0_A_10 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = View.canon
      (rowsL x0 x1 x2 x3 fh0 fh1 zero0 (zero1 x0 x1 x2 x3 fh0 fh1) ++ [⟨Rect.unit ![0, 0] ![8, 1024] inb_S8x1024_S8x1024_0_0, k0_pay2⟩]) := by
  unfold out0_A_10
  refine (View.read_writes_eq_canon _ _ _ fun _ => cover0_A_10 ..).trans ?_
  unfold kernelRun0_A
  dsimp only
  try sl_unfold_words
  simp only [View.readAt_eq_ld, View.readCov_cons_toLoadRect, readCov_whole, whole27, whole28, Memref.IsWhole.read_unread, View.ld_unit_zero (S := S512x1024) hz2, View.ld_unit_zero (S := S512x1) hz2, View.ld_unit_zero (S := S1x1024) hz2, View.ld_unit_zero (S := S8x1024) hz2]
  simp only [View.readCov_eq_canon' arg13.view]
  rfl

end PointA

section PointB

/-! The later points: the weights are found in place. -/

variable (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x1024 .f32) (harg6 : arg6.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S1024x5632 .bf16) (harg14 : arg14.IsWhole) (arg15 : Memref sig .tc .vmem S2816x1024 .bf16) (harg15 : arg15.IsWhole) (hc0 : ¬cond0_0 i)
    (x0 : Vec F S512x1024 .f32) (x1 : Vec F S512x2816 .bf16) (x2 : Vec F S512x2816 .bf16) (x3 : Vec F S512x1024 .f32) (x4 : Vec F S512x1 .f32) (x5 : Vec F S1x1024 .f32) (xo10 : Vec F S8x1024 .f32) (xs0 : Vec F S1024x5632 .bf16) (xs1 : Vec F S2816x1024 .bf16) (fh0 : HbBuf0 (F := F) c hbM0_0) (fh1 : HbBuf0 (F := F) c hbM0_1)

set_option maxHeartbeats 4000000 in
theorem out_B_6 :
    out0_B_6 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 xo10 xs0 xs1 fh0 fh1 = k0_pay3 x0 := by
  unfold out0_B_6
  refine (View.read_writes_eq_canon _ _ _ fun _ => cover0_B_6 ..).trans ?_
  unfold kernelRun0_B
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]

set_option maxHeartbeats 4000000 in
theorem out_B_7 :
    out0_B_7 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 xo10 xs0 xs1 fh0 fh1 = dgv x0 x1 x2 xs1 := by
  unfold out0_B_7
  refine (View.read_writes_eq_canon _ _ _ fun _ => cover0_B_7 ..).trans ?_
  unfold kernelRun0_B
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]
  rfl

set_option maxHeartbeats 4000000 in
theorem out_B_8 :
    out0_B_8 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 xo10 xs0 xs1 fh0 fh1 = duv x0 x1 xs1 := by
  unfold out0_B_8
  refine (View.read_writes_eq_canon _ _ _ fun _ => cover0_B_8 ..).trans ?_
  unfold kernelRun0_B
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]
  rfl

set_option maxHeartbeats 4000000 in
theorem out_B_9 :
    out0_B_9 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 xo10 xs0 xs1 fh0 fh1 = dxv x0 x1 x2 x3 x4 x5 xs0 xs1 := by
  unfold out0_B_9
  refine (View.read_writes_eq_canon _ _ _ fun _ => cover0_B_9 ..).trans ?_
  unfold kernelRun0_B
  dsimp only
  try sl_unfold_words
  simp only [View.readAt_eq_ld, View.readCov_cons_toLoadRect, readCov_whole, whole27, whole28, View.canon_cons_unit_zero (S := S512x1024) hz2, Memref.IsWhole.read_unread, View.ld_unit_zero (S := S512x1024) hz2, View.ld_unit_zero (S := S512x1) hz2, View.ld_unit_zero (S := S1x1024) hz2, View.ld_unit_zero (S := S8x1024) hz2]
  rfl

set_option maxHeartbeats 4000000 in
theorem out_B_10 :
    out0_B_10 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 xo10 xs0 xs1 fh0 fh1 = arg13.view.read (Elt F) (arg13.view.writes (Elt F) (harg13.unread xo10)
      (rowsL x0 x1 x2 x3 xs0 xs1 (View.ld xo10 (Rect.unit ![0, 0] ![1, 1024] inb_S8x1024_S1x1024_0_0)) (View.ld xo10 (Rect.unit ![1, 0] ![1, 1024] inb_S8x1024_S1x1024_1_0)))) := by
  unfold out0_B_10
  unfold kernelRun0_B
  dsimp only
  try sl_unfold_words
  simp only [View.readAt_eq_ld, View.readCov_cons_toLoadRect, readCov_whole, Memref.IsWhole.read_unread, View.ld_unit_zero (S := S512x1024) hz2, View.ld_unit_zero (S := S512x1) hz2, View.ld_unit_zero (S := S1x1024) hz2, View.ld_unit_zero (S := S8x1024) hz2]
  rfl

end PointB

end Cert.Kernel3Ideal.Hand

end
-- ==== Proof.Rows.lean ====
/-
  A sum over the 16384 rows of the step is the sum over eight blocks of 2048 rows, and so is a run of eight grid points that
  adds them up one after another.
-/
module

public import Idealize.ShloMosaic.Lib.Pipeline.ValueKit
public import Idealize.ShloMosaic.Lib.Pointwise

@[expose] public section

noncomputable section

namespace Cert.Rows

open scoped BigOperators

/-- Row `k` of the block of rows that grid point `n` of a run of eight visits. -/
def row (n : ℕ) (k : Fin 2048) : Fin 16384 := ⟨n % 8 * 2048 + k.val, by have := k.isLt; omega⟩

/-- Column `j` of the half that grid point `n` visits. -/
def half (n : ℕ) (j : Fin 1408) : Fin 2816 := ⟨n / 8 % 2 * 1408 + j.val, by have := j.isLt; omega⟩

/-- A function of the rows, at any number: zero past the last row. -/
def past (N : ℕ) (f : Fin N → EReal) (n : ℕ) : EReal := if h : n < N then f ⟨n, h⟩ else 0

theorem past_at {N : ℕ} (f : Fin N → EReal) (x : Fin N) {n : ℕ} (e : n = x.val) : past N f n = f x := by
  subst e; exact dif_pos x.isLt

theorem sum_past {N : ℕ} (f : Fin N → EReal) : ∑ x : Fin N, f x = ∑ n ∈ Finset.range N, past N f n := by
  rw [← Fin.sum_univ_eq_sum_range]
  exact Finset.sum_congr rfl fun x _ => (past_at f x rfl).symm

/-- Blocks of `B` rows, summed one after another. -/
theorem sum_tiles {N A B : ℕ} (hN : N = A * B) (f : Fin N → EReal) (at_ : ℕ → Fin B → Fin N) (h : ∀ s < A, ∀ k, (at_ s k).val = s * B + k.val) :
    ∑ s ∈ Finset.range A, ∑ k : Fin B, f (at_ s k) = ∑ x : Fin N, f x := by
  subst hN
  rw [sum_past, Finset.sum_range_mul_split A B]
  refine Finset.sum_congr rfl fun s hs => ?_
  rw [← Fin.sum_univ_eq_sum_range (fun b => past (A * B) f (s * B + b))]
  exact Finset.sum_congr rfl fun k _ => (past_at f _ (h s (Finset.mem_range.mp hs) k).symm).symm

/-- The eight points of a run visit every row once. -/
theorem sum_rows (r : ℕ) (f : Fin 16384 → EReal) :
    ∑ s ∈ Finset.range 8, ∑ k : Fin 2048, f (row (8 * r + s) k) = ∑ x : Fin 16384, f x :=
  sum_tiles (by norm_num) f (fun s k => row (8 * r + s) k) fun s hs k => by
    show (8 * r + s) % 8 * 2048 + k.val = s * 2048 + k.val
    rw [show (8 * r + s) % 8 = s by omega]

/-- A fold over one run of eight points, each adding its block's rows: the sum over all rows. -/
theorem fold_rows {N : ℕ} {ι : Type*} (a : (n : ℕ) → n < N → ι → EReal) (g : (n : ℕ) → n < N → (ι → EReal) → ι → EReal) (f : Fin 16384 → ι → EReal)
    (ha : ∀ n h y, a n h y = 0 + ∑ k : Fin 2048, f (row n k) y) (hg : ∀ n h acc y, g n h acc y = acc y + ∑ k : Fin 2048, f (row n k) y)
    (r : ℕ) (h : 8 * r + 7 < N) (y : ι) : Idealize.ShloMosaic.Pipeline.accAt a g (8 * r) 7 h y = ∑ x : Fin 16384, f x y := by
  refine (Idealize.ShloMosaic.Pipeline.accAt_add_apply a g (fun _ => 0) (fun n y => ∑ k : Fin 2048, f (row n k) y) (8 * r) 7 (fun h y => ha _ h y)
    (fun n h acc y _ _ => hg n h acc y) 7 (le_refl _) h y).trans ?_
  rw [zero_add]
  exact sum_rows r fun x => f x y

end Cert.Rows

end
-- ==== Proof.K3At.lean ====
/-
  The feed-forward backward call's stored blocks at an index: the gate's and the up's gradients are the loss's gradient
  through the output weight times the gated activation's two derivatives; the gradient of the normed input adds both,
  through the input weight, over the six stretches of the hidden width.
-/
module

public import proofs.«01_k».proof.Proof.K3Outs
public import proofs.«01_k».proof.Proof.Rows

@[expose] public section

set_option maxRecDepth 16384

noncomputable section

namespace Cert.Kernel3Ideal.Hand

open Cert.Kernel3Ideal Cert.Kernel3Ideal.Gen Cert.Kernel3Ideal.Value Cert.Rows
open Idealize.ShloMosaic Idealize.ShloMosaic.TcCoe
open scoped BigOperators

/-- The derivative of the gated activation in its gate, times `h`. -/
def dgE (h g u : EReal) : EReal := h * u * (Ideal.logistic g * (1 + g * (1 - Ideal.logistic g)))
/-- The derivative in its up, times `h`. -/
def duE (h g : EReal) : EReal := h * (g * Ideal.logistic g)

/-- The constants of the call: a half, the residual's factor, and the width. -/
def cHalf : EReal := Ideal.ofBits .f32 0x3F000000#32
def cAlpha : EReal := Ideal.ofBits .f32 0x3F9837F0#32
def cWidth : EReal := Ideal.ofBits .f32 0x44800000#32

theorem pay3_at (x0 : Vec Ideal S512x1024 .f32) (r : Fin 512) (d : Fin 1024) : k0_pay3 x0 (ix2 r d) = cHalf * x0 (ix2 r d) := by
  pointwise [k0_pay3]
  rfl

theorem pay2_at (r : Fin 8) (d : Fin 1024) : k0_pay2 (F := Ideal) (ix2 r d) = 0 := by
  pointwise [k0_pay2]

/-- Column `o + j`. -/
def col (o : ℕ) {W : ℕ} (h : o + W ≤ 2816) (j : Fin W) : Fin 2816 := ⟨o + j.val, by have := j.isLt; omega⟩
/-- The gate's and the up's columns of the input weight. -/
def lo (j : Fin 2816) : Fin 5632 := ⟨j.val, by have := j.isLt; omega⟩
def hi (j : Fin 2816) : Fin 5632 := ⟨2816 + j.val, by have := j.isLt; omega⟩

theorem col_val (o : ℕ) {W : ℕ} (h : o + W ≤ 2816) (j : Fin W) : (col o h j).val = o + j.val := rfl
theorem lo_val (j : Fin 2816) : (lo j).val = j.val := rfl
theorem hi_val (j : Fin 2816) : (hi j).val = 2816 + j.val := rfl

theorem le_of_le {W o : ℕ} (h : o + W ≤ 2816) : o + W ≤ 2816 := h

/-- A sum over the hidden width, stretch by stretch. -/
theorem sum_width (f : Fin 2816 → EReal) :
    (((((∑ j : Fin 512, f (col 0 (by norm_num) j)) + ∑ j : Fin 512, f (col 512 (by norm_num) j)) + ∑ j : Fin 512, f (col 1024 (by norm_num) j))
      + ∑ j : Fin 512, f (col 1536 (by norm_num) j)) + ∑ j : Fin 512, f (col 2048 (by norm_num) j)) + ∑ j : Fin 256, f (col 2560 (by norm_num) j)
      = ∑ j : Fin 2816, f j := by
  have e (o W : ℕ) (h : o + W ≤ 2816) : ∑ j : Fin W, f (col o h j) = ∑ k ∈ Finset.range W, past 2816 f (o + k) := by
    rw [← Fin.sum_univ_eq_sum_range (fun k => past 2816 f (o + k))]
    exact Finset.sum_congr rfl fun j _ => (past_at f (col o h j) rfl).symm
  rw [e 0 512, e 512 512, e 1024 512, e 1536 512, e 2048 512, e 2560 256, sum_past f]
  simp only [Nat.zero_add]
  have s (a b : ℕ) : ∑ k ∈ Finset.range a, past 2816 f k + ∑ k ∈ Finset.range b, past 2816 f (a + k) = ∑ k ∈ Finset.range (a + b), past 2816 f k :=
    (Finset.sum_range_add (past 2816 f) a b).symm
  rw [s 512 512, s 1024 512, s 1536 512, s 2048 512, s 2560 256]

/-- A stretch of columns that holds a function of the row and the column, wherever it holds an element. -/
theorem tile {W : ℕ} (o : ℕ) (ho : o + W ≤ 2816) (w : (⟨2, ![512, W]⟩ : Shape).Idx → EReal) (f : Fin 512 → Fin 2816 → EReal)
    (h : ∀ r j, w (ix2 r j) = f r (col o ho j)) (r : Fin 512) (j : Fin 2816) :
    View.TileAt (S := S512x2816) (Val := Elt Ideal) (e := .bf16) (ix2 r j) ![0, o] ![512, W] w (f r j) := by
  intro x hx
  have h0 : r.val = 0 + (x 0).val := hx 0
  have h1 : j.val = o + (x 1).val := hx 1
  have e0 : r = (x 0 : Fin 512) := Fin.ext (by omega)
  have e1 : j = col o ho (x 1 : Fin W) := Fin.ext h1
  have hy : x = ix2 (x 0 : Fin 512) (x 1 : Fin W) := by funext i; fin_cases i <;> rfl
  rw [e0, e1]
  exact (congrArg w hy).trans (h _ _)

theorem dg0_at (x0 : Vec Ideal S512x1024 .f32) (w : Vec Ideal S512x1024 .bf16) (g u : Vec Ideal S512x512 .bf16) (r : Fin 512) (j : Fin 512) :
    (k0_pay7 x0 w g u : S512x512.Idx → EReal) (ix2 r j) = dgE (∑ d : Fin 1024, (k0_pay3 x0) (ix2 r d) * w (ix2 j d)) (g (ix2 r j)) (u (ix2 r j)) := by
  pointwise [k0_pay7, k0_pay8, k0_pay6, k0_pay5, k0_pay4]
  simp only [sub_eq_add_neg, zero_add]
  rfl
theorem du0_at (x0 : Vec Ideal S512x1024 .f32) (w : Vec Ideal S512x1024 .bf16) (g : Vec Ideal S512x512 .bf16) (r : Fin 512) (j : Fin 512) :
    (k0_pay8 x0 w g : S512x512.Idx → EReal) (ix2 r j) = duE (∑ d : Fin 1024, (k0_pay3 x0) (ix2 r d) * w (ix2 j d)) (g (ix2 r j)) := by
  pointwise [k0_pay7, k0_pay8, k0_pay6, k0_pay5, k0_pay4]
  simp only [sub_eq_add_neg, zero_add]
  rfl
theorem acc0_at (x0 : Vec Ideal S512x1024 .f32) (w : Vec Ideal S512x1024 .bf16) (g u : Vec Ideal S512x512 .bf16) (p q : Vec Ideal S1024x512 .bf16) (acc : Vec Ideal S512x1024 .f32) (r : Fin 512) (d : Fin 1024) :
    (k0_pay9 (k0_pay7 x0 w g u) (k0_pay8 x0 w g) p q : S512x1024.Idx → EReal) (ix2 r d) = (∑ j : Fin 512, (k0_pay7 x0 w g u : S512x512.Idx → EReal) (ix2 r j) * p (ix2 d j) + ∑ j : Fin 512, (k0_pay8 x0 w g : S512x512.Idx → EReal) (ix2 r j) * q (ix2 d j)) := by
  pointwise [k0_pay9]

theorem dg1_at (b : FVec Ideal S512x1024 .bf16) (w : Vec Ideal S512x1024 .bf16) (g u : Vec Ideal S512x512 .bf16) (r : Fin 512) (j : Fin 512) :
    (k0_pay13 b w g u : S512x512.Idx → EReal) (ix2 r j) = dgE (∑ d : Fin 1024, b (ix2 r d) * w (ix2 j d)) (g (ix2 r j)) (u (ix2 r j)) := by
  pointwise [k0_pay13, k0_pay14, k0_pay12, k0_pay11, k0_pay10]
  simp only [sub_eq_add_neg, zero_add]
  rfl
theorem du1_at (b : FVec Ideal S512x1024 .bf16) (w : Vec Ideal S512x1024 .bf16) (g : Vec Ideal S512x512 .bf16) (r : Fin 512) (j : Fin 512) :
    (k0_pay14 b w g : S512x512.Idx → EReal) (ix2 r j) = duE (∑ d : Fin 1024, b (ix2 r d) * w (ix2 j d)) (g (ix2 r j)) := by
  pointwise [k0_pay13, k0_pay14, k0_pay12, k0_pay11, k0_pay10]
  simp only [sub_eq_add_neg, zero_add]
  rfl
theorem acc1_at (b : FVec Ideal S512x1024 .bf16) (w : Vec Ideal S512x1024 .bf16) (g u : Vec Ideal S512x512 .bf16) (p q : Vec Ideal S1024x512 .bf16) (acc : Vec Ideal S512x1024 .f32) (r : Fin 512) (d : Fin 1024) :
    (k0_pay15 (k0_pay13 b w g u) (k0_pay14 b w g) p q acc : S512x1024.Idx → EReal) (ix2 r d) = acc (ix2 r d) + (∑ j : Fin 512, (k0_pay13 b w g u : S512x512.Idx → EReal) (ix2 r j) * p (ix2 d j) + ∑ j : Fin 512, (k0_pay14 b w g : S512x512.Idx → EReal) (ix2 r j) * q (ix2 d j)) := by
  pointwise [k0_pay15]

theorem dg2_at (b : FVec Ideal S512x1024 .bf16) (w : Vec Ideal S512x1024 .bf16) (g u : Vec Ideal S512x512 .bf16) (r : Fin 512) (j : Fin 512) :
    (k0_pay21 (k0_pay18 g) (k0_pay19 b w u) (k0_pay20 g) : S512x512.Idx → EReal) (ix2 r j) = dgE (∑ d : Fin 1024, b (ix2 r d) * w (ix2 j d)) (g (ix2 r j)) (u (ix2 r j)) := by
  pointwise [k0_pay16, k0_pay17, k0_pay18, k0_pay19, k0_pay20, k0_pay21, k0_pay22]
  simp only [sub_eq_add_neg, zero_add]
  rfl
theorem du2_at (b : FVec Ideal S512x1024 .bf16) (w : Vec Ideal S512x1024 .bf16) (g : Vec Ideal S512x512 .bf16) (r : Fin 512) (j : Fin 512) :
    (k0_pay22 (k0_pay16 b w) (k0_pay17 g) (k0_pay18 g) : S512x512.Idx → EReal) (ix2 r j) = duE (∑ d : Fin 1024, b (ix2 r d) * w (ix2 j d)) (g (ix2 r j)) := by
  pointwise [k0_pay16, k0_pay17, k0_pay18, k0_pay19, k0_pay20, k0_pay21, k0_pay22]
  simp only [sub_eq_add_neg, zero_add]
  rfl
theorem acc2_at (b : FVec Ideal S512x1024 .bf16) (w : Vec Ideal S512x1024 .bf16) (g u : Vec Ideal S512x512 .bf16) (p q : Vec Ideal S1024x512 .bf16) (acc : Vec Ideal S512x1024 .f32) (r : Fin 512) (d : Fin 1024) :
    (k0_pay23 (k0_pay16 b w) (k0_pay17 g) (k0_pay18 g) (k0_pay19 b w u) (k0_pay20 g) p q acc : S512x1024.Idx → EReal) (ix2 r d) = acc (ix2 r d) + (∑ j : Fin 512, (k0_pay21 (k0_pay18 g) (k0_pay19 b w u) (k0_pay20 g) : S512x512.Idx → EReal) (ix2 r j) * p (ix2 d j) + ∑ j : Fin 512, (k0_pay22 (k0_pay16 b w) (k0_pay17 g) (k0_pay18 g) : S512x512.Idx → EReal) (ix2 r j) * q (ix2 d j)) := by
  pointwise [k0_pay23]

theorem dg3_at (b : FVec Ideal S512x1024 .bf16) (w : Vec Ideal S512x1024 .bf16) (g u : Vec Ideal S512x512 .bf16) (r : Fin 512) (j : Fin 512) :
    (k0_pay28 (k0_pay25 g) (k0_pay26 g) (k0_pay27 b w u) : S512x512.Idx → EReal) (ix2 r j) = dgE (∑ d : Fin 1024, b (ix2 r d) * w (ix2 j d)) (g (ix2 r j)) (u (ix2 r j)) := by
  pointwise [k0_pay24, k0_pay25, k0_pay26, k0_pay27, k0_pay28, k0_pay29]
  simp only [sub_eq_add_neg, zero_add]
  rfl
theorem du3_at (b : FVec Ideal S512x1024 .bf16) (w : Vec Ideal S512x1024 .bf16) (g : Vec Ideal S512x512 .bf16) (r : Fin 512) (j : Fin 512) :
    (k0_pay29 (k0_pay24 b w) (k0_pay25 g) (k0_pay26 g) : S512x512.Idx → EReal) (ix2 r j) = duE (∑ d : Fin 1024, b (ix2 r d) * w (ix2 j d)) (g (ix2 r j)) := by
  pointwise [k0_pay24, k0_pay25, k0_pay26, k0_pay27, k0_pay28, k0_pay29]
  simp only [sub_eq_add_neg, zero_add]
  rfl
theorem acc3_at (b : FVec Ideal S512x1024 .bf16) (w : Vec Ideal S512x1024 .bf16) (g u : Vec Ideal S512x512 .bf16) (p q : Vec Ideal S1024x512 .bf16) (acc : Vec Ideal S512x1024 .f32) (r : Fin 512) (d : Fin 1024) :
    (k0_pay30 (k0_pay24 b w) (k0_pay25 g) (k0_pay26 g) (k0_pay27 b w u) p q acc : S512x1024.Idx → EReal) (ix2 r d) = acc (ix2 r d) + (∑ j : Fin 512, (k0_pay28 (k0_pay25 g) (k0_pay26 g) (k0_pay27 b w u) : S512x512.Idx → EReal) (ix2 r j) * p (ix2 d j) + ∑ j : Fin 512, (k0_pay29 (k0_pay24 b w) (k0_pay25 g) (k0_pay26 g) : S512x512.Idx → EReal) (ix2 r j) * q (ix2 d j)) := by
  pointwise [k0_pay30]

theorem dg4_at (b : FVec Ideal S512x1024 .bf16) (w : Vec Ideal S512x1024 .bf16) (g u : Vec Ideal S512x512 .bf16) (r : Fin 512) (j : Fin 512) :
    (k0_pay36 (k0_pay31 b w) (k0_pay32 g) (k0_pay33 u) (k0_pay34 g) : S512x512.Idx → EReal) (ix2 r j) = dgE (∑ d : Fin 1024, b (ix2 r d) * w (ix2 j d)) (g (ix2 r j)) (u (ix2 r j)) := by
  pointwise [k0_pay31, k0_pay32, k0_pay33, k0_pay34, k0_pay35, k0_pay36, k0_pay37]
  simp only [sub_eq_add_neg, zero_add]
  rfl
theorem du4_at (b : FVec Ideal S512x1024 .bf16) (w : Vec Ideal S512x1024 .bf16) (g : Vec Ideal S512x512 .bf16) (r : Fin 512) (j : Fin 512) :
    (k0_pay37 (k0_pay31 b w) (k0_pay32 g) (k0_pay34 g) : S512x512.Idx → EReal) (ix2 r j) = duE (∑ d : Fin 1024, b (ix2 r d) * w (ix2 j d)) (g (ix2 r j)) := by
  pointwise [k0_pay31, k0_pay32, k0_pay33, k0_pay34, k0_pay35, k0_pay36, k0_pay37]
  simp only [sub_eq_add_neg, zero_add]
  rfl
theorem acc4_at (b : FVec Ideal S512x1024 .bf16) (w : Vec Ideal S512x1024 .bf16) (g u : Vec Ideal S512x512 .bf16) (p q : Vec Ideal S1024x512 .bf16) (acc : Vec Ideal S512x1024 .f32) (r : Fin 512) (d : Fin 1024) :
    (k0_pay38 (k0_pay31 b w) (k0_pay32 g) (k0_pay33 u) (k0_pay34 g) p q acc : S512x1024.Idx → EReal) (ix2 r d) = acc (ix2 r d) + (∑ j : Fin 512, (k0_pay36 (k0_pay31 b w) (k0_pay32 g) (k0_pay33 u) (k0_pay34 g) : S512x512.Idx → EReal) (ix2 r j) * p (ix2 d j) + ∑ j : Fin 512, (k0_pay37 (k0_pay31 b w) (k0_pay32 g) (k0_pay34 g) : S512x512.Idx → EReal) (ix2 r j) * q (ix2 d j)) := by
  pointwise [k0_pay38]

theorem dg5_at (b : FVec Ideal S512x1024 .bf16) (w : Vec Ideal S256x1024 .bf16) (g u : Vec Ideal S512x256 .bf16) (r : Fin 512) (j : Fin 256) :
    (k0_pay42 (k0_pay39 b w) (k0_pay40 g) u : S512x256.Idx → EReal) (ix2 r j) = dgE (∑ d : Fin 1024, b (ix2 r d) * w (ix2 j d)) (g (ix2 r j)) (u (ix2 r j)) := by
  pointwise [k0_pay39, k0_pay40, k0_pay41, k0_pay42, k0_pay43]
  simp only [sub_eq_add_neg, zero_add]
  rfl
theorem du5_at (b : FVec Ideal S512x1024 .bf16) (w : Vec Ideal S256x1024 .bf16) (g : Vec Ideal S512x256 .bf16) (r : Fin 512) (j : Fin 256) :
    (k0_pay43 (k0_pay39 b w) (k0_pay40 g) : S512x256.Idx → EReal) (ix2 r j) = duE (∑ d : Fin 1024, b (ix2 r d) * w (ix2 j d)) (g (ix2 r j)) := by
  pointwise [k0_pay39, k0_pay40, k0_pay41, k0_pay42, k0_pay43]
  simp only [sub_eq_add_neg, zero_add]
  rfl
theorem acc5_at (b : FVec Ideal S512x1024 .bf16) (w : Vec Ideal S256x1024 .bf16) (g u : Vec Ideal S512x256 .bf16) (p q : Vec Ideal S1024x256 .bf16) (acc : Vec Ideal S512x1024 .f32) (r : Fin 512) (d : Fin 1024) :
    (k0_pay44 (k0_pay39 b w) (k0_pay40 g) u p q acc : S512x1024.Idx → EReal) (ix2 r d) = acc (ix2 r d) + (∑ j : Fin 256, (k0_pay42 (k0_pay39 b w) (k0_pay40 g) u : S512x256.Idx → EReal) (ix2 r j) * p (ix2 d j) + ∑ j : Fin 256, (k0_pay43 (k0_pay39 b w) (k0_pay40 g) : S512x256.Idx → EReal) (ix2 r j) * q (ix2 d j)) := by
  pointwise [k0_pay44]

section At

variable (x0 : Vec Ideal S512x1024 .f32) (x1 x2 : Vec Ideal S512x2816 .bf16) (x3 : Vec Ideal S512x1024 .f32) (x4 : Vec Ideal S512x1 .f32) (x5 : Vec Ideal S1x1024 .f32)
  (w0 : Vec Ideal S1024x5632 .bf16) (w1 : Vec Ideal S2816x1024 .bf16)

/-- The loss's gradient through the output weight. -/
def hE (r : Fin 512) (j : Fin 2816) : EReal := ∑ d : Fin 1024, (cHalf * x0 (ix2 r d)) * w1 (ix2 j d)
def gE (r : Fin 512) (j : Fin 2816) : EReal := dgE (hE x0 w1 r j) (x1 (ix2 r j)) (x2 (ix2 r j))
def uE (r : Fin 512) (j : Fin 2816) : EReal := duE (hE x0 w1 r j) (x1 (ix2 r j))
def aE (r : Fin 512) (d : Fin 1024) : EReal := ∑ j : Fin 2816, (gE x0 x1 x2 w1 r j * w0 (ix2 d (lo j)) + uE x0 x1 w1 r j * w0 (ix2 d (hi j)))

/-- A stretch of columns of the gate's and of the up's half of the input weight, and of rows of the output weight. -/
theorem ldP (o : ℕ) {W : ℕ} (ho : o + W ≤ 2816) (h) (d : Fin 1024) (j : Fin W) :
    ((View.ld w0 (Rect.unit ![0, o] ![1024, W] h)) : (⟨2, ![1024, W]⟩ : Shape).Idx → EReal) (ix2 d j) = w0 (ix2 d (lo (col o ho j))) :=
  congrArg w0 (funext fun a => by
    fin_cases a
    · exact Fin.ext (show 0 + 1 * d.val = d.val by omega)
    · exact Fin.ext (show o + 1 * j.val = o + j.val by omega))
theorem ldQ (o : ℕ) {W : ℕ} (ho : o + W ≤ 2816) (h) (d : Fin 1024) (j : Fin W) :
    ((View.ld w0 (Rect.unit ![0, 2816 + o] ![1024, W] h)) : (⟨2, ![1024, W]⟩ : Shape).Idx → EReal) (ix2 d j) = w0 (ix2 d (hi (col o ho j))) :=
  congrArg w0 (funext fun a => by
    fin_cases a
    · exact Fin.ext (show 0 + 1 * d.val = d.val by omega)
    · exact Fin.ext (show 2816 + o + 1 * j.val = 2816 + (o + j.val) by omega))
theorem ldW (o : ℕ) {W : ℕ} (ho : o + W ≤ 2816) (h) (j : Fin W) (d : Fin 1024) :
    ((View.ld w1 (Rect.unit ![o, 0] ![W, 1024] h)) : (⟨2, ![W, 1024]⟩ : Shape).Idx → EReal) (ix2 j d) = w1 (ix2 (col o ho j) d) :=
  congrArg w1 (funext fun a => by
    fin_cases a
    · exact Fin.ext (show o + 1 * j.val = o + j.val by omega)
    · exact Fin.ext (show 0 + 1 * d.val = d.val by omega))
/-- A stretch of columns of a row block. -/
theorem ldG (o : ℕ) {W : ℕ} (ho : o + W ≤ 2816) (h) (x : Vec Ideal S512x2816 .bf16) (r : Fin 512) (j : Fin W) :
    (View.ld x (Rect.unit ![0, o] ![512, W] h) : (⟨2, ![512, W]⟩ : Shape).Idx → EReal) (ix2 r j) = x (ix2 r (col o ho j)) :=
  congrArg x (funext fun a => by
    fin_cases a
    · exact Fin.ext (show 0 + 1 * r.val = r.val by omega)
    · exact Fin.ext (show o + 1 * j.val = o + j.val by omega))
theorem gT0 (r : Fin 512) (j : Fin 512) :
    (k0_pay7 x0 (View.ld w1 (Rect.unit ![0, 0] ![512, 1024] inb_S2816x1024_S512x1024_0_0)) (View.ld x1 (Rect.unit ![0, 0] ![512, 512] inb_S512x2816_S512x512_0_0)) (View.ld x2 (Rect.unit ![0, 0] ![512, 512] inb_S512x2816_S512x512_0_0)) : S512x512.Idx → EReal) (ix2 r j) = gE x0 x1 x2 w1 r (col 0 (by norm_num) j) := by
  refine (dg0_at _ _ _ _ r j).trans ?_
  exact congr (congr (congrArg dgE (Finset.sum_congr rfl fun d _ => congrArg₂ (· * ·) (pay3_at x0 r d) (ldW w1 0 (by norm_num) _ j d))) (ldG 0 (by norm_num) _ x1 r j)) (ldG 0 (by norm_num) _ x2 r j)
theorem uT0 (r : Fin 512) (j : Fin 512) :
    (k0_pay8 x0 (View.ld w1 (Rect.unit ![0, 0] ![512, 1024] inb_S2816x1024_S512x1024_0_0)) (View.ld x1 (Rect.unit ![0, 0] ![512, 512] inb_S512x2816_S512x512_0_0)) : S512x512.Idx → EReal) (ix2 r j) = uE x0 x1 w1 r (col 0 (by norm_num) j) := by
  refine (du0_at _ _ _ r j).trans ?_
  exact congr (congrArg duE (Finset.sum_congr rfl fun d _ => congrArg₂ (· * ·) (pay3_at x0 r d) (ldW w1 0 (by norm_num) _ j d))) (ldG 0 (by norm_num) _ x1 r j)
theorem aT0 (acc : Vec Ideal S512x1024 .f32) (r : Fin 512) (d : Fin 1024) :
    (k0_pay9 (k0_pay7 x0 (View.ld w1 (Rect.unit ![0, 0] ![512, 1024] inb_S2816x1024_S512x1024_0_0)) (View.ld x1 (Rect.unit ![0, 0] ![512, 512] inb_S512x2816_S512x512_0_0)) (View.ld x2 (Rect.unit ![0, 0] ![512, 512] inb_S512x2816_S512x512_0_0))) (k0_pay8 x0 (View.ld w1 (Rect.unit ![0, 0] ![512, 1024] inb_S2816x1024_S512x1024_0_0)) (View.ld x1 (Rect.unit ![0, 0] ![512, 512] inb_S512x2816_S512x512_0_0))) (View.ld w0 (Rect.unit ![0, 0] ![1024, 512] inb_S1024x5632_S1024x512_0_0)) (View.ld w0 (Rect.unit ![0, 2816] ![1024, 512] inb_S1024x5632_S1024x512_0_2816)) : S512x1024.Idx → EReal) (ix2 r d) = ∑ j : Fin 512, (fun j => gE x0 x1 x2 w1 r j * w0 (ix2 d (lo j)) + uE x0 x1 w1 r j * w0 (ix2 d (hi j))) (col 0 (by norm_num) j) := by
  refine (acc0_at _ _ _ _ _ _ acc r d).trans ?_
  refine (Finset.sum_add_distrib (f := fun j : Fin 512 => _ * _) (g := fun j : Fin 512 => _ * _)).symm.trans ?_
  exact Finset.sum_congr rfl fun j _ => congrArg₂ (· + ·) (congrArg₂ (· * ·) (gT0 x0 x1 x2 w1 r j) (ldP w0 0 (by norm_num) _ d j)) (congrArg₂ (· * ·) (uT0 x0 x1 w1 r j) (ldQ w0 0 (by norm_num) _ d j))

theorem gT1 (r : Fin 512) (j : Fin 512) :
    (k0_pay13 (k0_pay3 x0) (View.ld w1 (Rect.unit ![512, 0] ![512, 1024] inb_S2816x1024_S512x1024_512_0)) (View.ld x1 (Rect.unit ![0, 512] ![512, 512] inb_S512x2816_S512x512_0_512)) (View.ld x2 (Rect.unit ![0, 512] ![512, 512] inb_S512x2816_S512x512_0_512)) : S512x512.Idx → EReal) (ix2 r j) = gE x0 x1 x2 w1 r (col 512 (by norm_num) j) := by
  refine (dg1_at _ _ _ _ r j).trans ?_
  exact congr (congr (congrArg dgE (Finset.sum_congr rfl fun d _ => congrArg₂ (· * ·) (pay3_at x0 r d) (ldW w1 512 (by norm_num) _ j d))) (ldG 512 (by norm_num) _ x1 r j)) (ldG 512 (by norm_num) _ x2 r j)
theorem uT1 (r : Fin 512) (j : Fin 512) :
    (k0_pay14 (k0_pay3 x0) (View.ld w1 (Rect.unit ![512, 0] ![512, 1024] inb_S2816x1024_S512x1024_512_0)) (View.ld x1 (Rect.unit ![0, 512] ![512, 512] inb_S512x2816_S512x512_0_512)) : S512x512.Idx → EReal) (ix2 r j) = uE x0 x1 w1 r (col 512 (by norm_num) j) := by
  refine (du1_at _ _ _ r j).trans ?_
  exact congr (congrArg duE (Finset.sum_congr rfl fun d _ => congrArg₂ (· * ·) (pay3_at x0 r d) (ldW w1 512 (by norm_num) _ j d))) (ldG 512 (by norm_num) _ x1 r j)
theorem aT1 (acc : Vec Ideal S512x1024 .f32) (r : Fin 512) (d : Fin 1024) :
    (k0_pay15 (k0_pay13 (k0_pay3 x0) (View.ld w1 (Rect.unit ![512, 0] ![512, 1024] inb_S2816x1024_S512x1024_512_0)) (View.ld x1 (Rect.unit ![0, 512] ![512, 512] inb_S512x2816_S512x512_0_512)) (View.ld x2 (Rect.unit ![0, 512] ![512, 512] inb_S512x2816_S512x512_0_512))) (k0_pay14 (k0_pay3 x0) (View.ld w1 (Rect.unit ![512, 0] ![512, 1024] inb_S2816x1024_S512x1024_512_0)) (View.ld x1 (Rect.unit ![0, 512] ![512, 512] inb_S512x2816_S512x512_0_512))) (View.ld w0 (Rect.unit ![0, 512] ![1024, 512] inb_S1024x5632_S1024x512_0_512)) (View.ld w0 (Rect.unit ![0, 3328] ![1024, 512] inb_S1024x5632_S1024x512_0_3328)) acc : S512x1024.Idx → EReal) (ix2 r d) = acc (ix2 r d) + ∑ j : Fin 512, (fun j => gE x0 x1 x2 w1 r j * w0 (ix2 d (lo j)) + uE x0 x1 w1 r j * w0 (ix2 d (hi j))) (col 512 (by norm_num) j) := by
  refine (acc1_at _ _ _ _ _ _ acc r d).trans (congrArg (acc (ix2 r d) + ·) ?_)
  refine (Finset.sum_add_distrib (f := fun j : Fin 512 => _ * _) (g := fun j : Fin 512 => _ * _)).symm.trans ?_
  exact Finset.sum_congr rfl fun j _ => congrArg₂ (· + ·) (congrArg₂ (· * ·) (gT1 x0 x1 x2 w1 r j) (ldP w0 512 (by norm_num) _ d j)) (congrArg₂ (· * ·) (uT1 x0 x1 w1 r j) (ldQ w0 512 (by norm_num) _ d j))

theorem gT2 (r : Fin 512) (j : Fin 512) :
    (k0_pay21 (k0_pay18 (View.ld x1 (Rect.unit ![0, 1024] ![512, 512] inb_S512x2816_S512x512_0_1024))) (k0_pay19 (k0_pay3 x0) (View.ld w1 (Rect.unit ![1024, 0] ![512, 1024] inb_S2816x1024_S512x1024_1024_0)) (View.ld x2 (Rect.unit ![0, 1024] ![512, 512] inb_S512x2816_S512x512_0_1024))) (k0_pay20 (View.ld x1 (Rect.unit ![0, 1024] ![512, 512] inb_S512x2816_S512x512_0_1024))) : S512x512.Idx → EReal) (ix2 r j) = gE x0 x1 x2 w1 r (col 1024 (by norm_num) j) := by
  refine (dg2_at _ _ _ _ r j).trans ?_
  exact congr (congr (congrArg dgE (Finset.sum_congr rfl fun d _ => congrArg₂ (· * ·) (pay3_at x0 r d) (ldW w1 1024 (by norm_num) _ j d))) (ldG 1024 (by norm_num) _ x1 r j)) (ldG 1024 (by norm_num) _ x2 r j)
theorem uT2 (r : Fin 512) (j : Fin 512) :
    (k0_pay22 (k0_pay16 (k0_pay3 x0) (View.ld w1 (Rect.unit ![1024, 0] ![512, 1024] inb_S2816x1024_S512x1024_1024_0))) (k0_pay17 (View.ld x1 (Rect.unit ![0, 1024] ![512, 512] inb_S512x2816_S512x512_0_1024))) (k0_pay18 (View.ld x1 (Rect.unit ![0, 1024] ![512, 512] inb_S512x2816_S512x512_0_1024))) : S512x512.Idx → EReal) (ix2 r j) = uE x0 x1 w1 r (col 1024 (by norm_num) j) := by
  refine (du2_at _ _ _ r j).trans ?_
  exact congr (congrArg duE (Finset.sum_congr rfl fun d _ => congrArg₂ (· * ·) (pay3_at x0 r d) (ldW w1 1024 (by norm_num) _ j d))) (ldG 1024 (by norm_num) _ x1 r j)
theorem aT2 (acc : Vec Ideal S512x1024 .f32) (r : Fin 512) (d : Fin 1024) :
    (k0_pay23 (k0_pay16 (k0_pay3 x0) (View.ld w1 (Rect.unit ![1024, 0] ![512, 1024] inb_S2816x1024_S512x1024_1024_0))) (k0_pay17 (View.ld x1 (Rect.unit ![0, 1024] ![512, 512] inb_S512x2816_S512x512_0_1024))) (k0_pay18 (View.ld x1 (Rect.unit ![0, 1024] ![512, 512] inb_S512x2816_S512x512_0_1024))) (k0_pay19 (k0_pay3 x0) (View.ld w1 (Rect.unit ![1024, 0] ![512, 1024] inb_S2816x1024_S512x1024_1024_0)) (View.ld x2 (Rect.unit ![0, 1024] ![512, 512] inb_S512x2816_S512x512_0_1024))) (k0_pay20 (View.ld x1 (Rect.unit ![0, 1024] ![512, 512] inb_S512x2816_S512x512_0_1024))) (View.ld w0 (Rect.unit ![0, 1024] ![1024, 512] inb_S1024x5632_S1024x512_0_1024)) (View.ld w0 (Rect.unit ![0, 3840] ![1024, 512] inb_S1024x5632_S1024x512_0_3840)) acc : S512x1024.Idx → EReal) (ix2 r d) = acc (ix2 r d) + ∑ j : Fin 512, (fun j => gE x0 x1 x2 w1 r j * w0 (ix2 d (lo j)) + uE x0 x1 w1 r j * w0 (ix2 d (hi j))) (col 1024 (by norm_num) j) := by
  refine (acc2_at _ _ _ _ _ _ acc r d).trans (congrArg (acc (ix2 r d) + ·) ?_)
  refine (Finset.sum_add_distrib (f := fun j : Fin 512 => _ * _) (g := fun j : Fin 512 => _ * _)).symm.trans ?_
  exact Finset.sum_congr rfl fun j _ => congrArg₂ (· + ·) (congrArg₂ (· * ·) (gT2 x0 x1 x2 w1 r j) (ldP w0 1024 (by norm_num) _ d j)) (congrArg₂ (· * ·) (uT2 x0 x1 w1 r j) (ldQ w0 1024 (by norm_num) _ d j))

theorem gT3 (r : Fin 512) (j : Fin 512) :
    (k0_pay28 (k0_pay25 (View.ld x1 (Rect.unit ![0, 1536] ![512, 512] inb_S512x2816_S512x512_0_1536))) (k0_pay26 (View.ld x1 (Rect.unit ![0, 1536] ![512, 512] inb_S512x2816_S512x512_0_1536))) (k0_pay27 (k0_pay3 x0) (View.ld w1 (Rect.unit ![1536, 0] ![512, 1024] inb_S2816x1024_S512x1024_1536_0)) (View.ld x2 (Rect.unit ![0, 1536] ![512, 512] inb_S512x2816_S512x512_0_1536))) : S512x512.Idx → EReal) (ix2 r j) = gE x0 x1 x2 w1 r (col 1536 (by norm_num) j) := by
  refine (dg3_at _ _ _ _ r j).trans ?_
  exact congr (congr (congrArg dgE (Finset.sum_congr rfl fun d _ => congrArg₂ (· * ·) (pay3_at x0 r d) (ldW w1 1536 (by norm_num) _ j d))) (ldG 1536 (by norm_num) _ x1 r j)) (ldG 1536 (by norm_num) _ x2 r j)
theorem uT3 (r : Fin 512) (j : Fin 512) :
    (k0_pay29 (k0_pay24 (k0_pay3 x0) (View.ld w1 (Rect.unit ![1536, 0] ![512, 1024] inb_S2816x1024_S512x1024_1536_0))) (k0_pay25 (View.ld x1 (Rect.unit ![0, 1536] ![512, 512] inb_S512x2816_S512x512_0_1536))) (k0_pay26 (View.ld x1 (Rect.unit ![0, 1536] ![512, 512] inb_S512x2816_S512x512_0_1536))) : S512x512.Idx → EReal) (ix2 r j) = uE x0 x1 w1 r (col 1536 (by norm_num) j) := by
  refine (du3_at _ _ _ r j).trans ?_
  exact congr (congrArg duE (Finset.sum_congr rfl fun d _ => congrArg₂ (· * ·) (pay3_at x0 r d) (ldW w1 1536 (by norm_num) _ j d))) (ldG 1536 (by norm_num) _ x1 r j)
theorem aT3 (acc : Vec Ideal S512x1024 .f32) (r : Fin 512) (d : Fin 1024) :
    (k0_pay30 (k0_pay24 (k0_pay3 x0) (View.ld w1 (Rect.unit ![1536, 0] ![512, 1024] inb_S2816x1024_S512x1024_1536_0))) (k0_pay25 (View.ld x1 (Rect.unit ![0, 1536] ![512, 512] inb_S512x2816_S512x512_0_1536))) (k0_pay26 (View.ld x1 (Rect.unit ![0, 1536] ![512, 512] inb_S512x2816_S512x512_0_1536))) (k0_pay27 (k0_pay3 x0) (View.ld w1 (Rect.unit ![1536, 0] ![512, 1024] inb_S2816x1024_S512x1024_1536_0)) (View.ld x2 (Rect.unit ![0, 1536] ![512, 512] inb_S512x2816_S512x512_0_1536))) (View.ld w0 (Rect.unit ![0, 1536] ![1024, 512] inb_S1024x5632_S1024x512_0_1536)) (View.ld w0 (Rect.unit ![0, 4352] ![1024, 512] inb_S1024x5632_S1024x512_0_4352)) acc : S512x1024.Idx → EReal) (ix2 r d) = acc (ix2 r d) + ∑ j : Fin 512, (fun j => gE x0 x1 x2 w1 r j * w0 (ix2 d (lo j)) + uE x0 x1 w1 r j * w0 (ix2 d (hi j))) (col 1536 (by norm_num) j) := by
  refine (acc3_at _ _ _ _ _ _ acc r d).trans (congrArg (acc (ix2 r d) + ·) ?_)
  refine (Finset.sum_add_distrib (f := fun j : Fin 512 => _ * _) (g := fun j : Fin 512 => _ * _)).symm.trans ?_
  exact Finset.sum_congr rfl fun j _ => congrArg₂ (· + ·) (congrArg₂ (· * ·) (gT3 x0 x1 x2 w1 r j) (ldP w0 1536 (by norm_num) _ d j)) (congrArg₂ (· * ·) (uT3 x0 x1 w1 r j) (ldQ w0 1536 (by norm_num) _ d j))

theorem gT4 (r : Fin 512) (j : Fin 512) :
    (k0_pay36 (k0_pay31 (k0_pay3 x0) (View.ld w1 (Rect.unit ![2048, 0] ![512, 1024] inb_S2816x1024_S512x1024_2048_0))) (k0_pay32 (View.ld x1 (Rect.unit ![0, 2048] ![512, 512] inb_S512x2816_S512x512_0_2048))) (k0_pay33 (View.ld x2 (Rect.unit ![0, 2048] ![512, 512] inb_S512x2816_S512x512_0_2048))) (k0_pay34 (View.ld x1 (Rect.unit ![0, 2048] ![512, 512] inb_S512x2816_S512x512_0_2048))) : S512x512.Idx → EReal) (ix2 r j) = gE x0 x1 x2 w1 r (col 2048 (by norm_num) j) := by
  refine (dg4_at _ _ _ _ r j).trans ?_
  exact congr (congr (congrArg dgE (Finset.sum_congr rfl fun d _ => congrArg₂ (· * ·) (pay3_at x0 r d) (ldW w1 2048 (by norm_num) _ j d))) (ldG 2048 (by norm_num) _ x1 r j)) (ldG 2048 (by norm_num) _ x2 r j)
theorem uT4 (r : Fin 512) (j : Fin 512) :
    (k0_pay37 (k0_pay31 (k0_pay3 x0) (View.ld w1 (Rect.unit ![2048, 0] ![512, 1024] inb_S2816x1024_S512x1024_2048_0))) (k0_pay32 (View.ld x1 (Rect.unit ![0, 2048] ![512, 512] inb_S512x2816_S512x512_0_2048))) (k0_pay34 (View.ld x1 (Rect.unit ![0, 2048] ![512, 512] inb_S512x2816_S512x512_0_2048))) : S512x512.Idx → EReal) (ix2 r j) = uE x0 x1 w1 r (col 2048 (by norm_num) j) := by
  refine (du4_at _ _ _ r j).trans ?_
  exact congr (congrArg duE (Finset.sum_congr rfl fun d _ => congrArg₂ (· * ·) (pay3_at x0 r d) (ldW w1 2048 (by norm_num) _ j d))) (ldG 2048 (by norm_num) _ x1 r j)
theorem aT4 (acc : Vec Ideal S512x1024 .f32) (r : Fin 512) (d : Fin 1024) :
    (k0_pay38 (k0_pay31 (k0_pay3 x0) (View.ld w1 (Rect.unit ![2048, 0] ![512, 1024] inb_S2816x1024_S512x1024_2048_0))) (k0_pay32 (View.ld x1 (Rect.unit ![0, 2048] ![512, 512] inb_S512x2816_S512x512_0_2048))) (k0_pay33 (View.ld x2 (Rect.unit ![0, 2048] ![512, 512] inb_S512x2816_S512x512_0_2048))) (k0_pay34 (View.ld x1 (Rect.unit ![0, 2048] ![512, 512] inb_S512x2816_S512x512_0_2048))) (View.ld w0 (Rect.unit ![0, 2048] ![1024, 512] inb_S1024x5632_S1024x512_0_2048)) (View.ld w0 (Rect.unit ![0, 4864] ![1024, 512] inb_S1024x5632_S1024x512_0_4864)) acc : S512x1024.Idx → EReal) (ix2 r d) = acc (ix2 r d) + ∑ j : Fin 512, (fun j => gE x0 x1 x2 w1 r j * w0 (ix2 d (lo j)) + uE x0 x1 w1 r j * w0 (ix2 d (hi j))) (col 2048 (by norm_num) j) := by
  refine (acc4_at _ _ _ _ _ _ acc r d).trans (congrArg (acc (ix2 r d) + ·) ?_)
  refine (Finset.sum_add_distrib (f := fun j : Fin 512 => _ * _) (g := fun j : Fin 512 => _ * _)).symm.trans ?_
  exact Finset.sum_congr rfl fun j _ => congrArg₂ (· + ·) (congrArg₂ (· * ·) (gT4 x0 x1 x2 w1 r j) (ldP w0 2048 (by norm_num) _ d j)) (congrArg₂ (· * ·) (uT4 x0 x1 w1 r j) (ldQ w0 2048 (by norm_num) _ d j))

theorem gT5 (r : Fin 512) (j : Fin 256) :
    (k0_pay42 (k0_pay39 (k0_pay3 x0) (View.ld w1 (Rect.unit ![2560, 0] ![256, 1024] inb_S2816x1024_S256x1024_2560_0))) (k0_pay40 (View.ld x1 (Rect.unit ![0, 2560] ![512, 256] inb_S512x2816_S512x256_0_2560))) (View.ld x2 (Rect.unit ![0, 2560] ![512, 256] inb_S512x2816_S512x256_0_2560)) : S512x256.Idx → EReal) (ix2 r j) = gE x0 x1 x2 w1 r (col 2560 (by norm_num) j) := by
  refine (dg5_at _ _ _ _ r j).trans ?_
  exact congr (congr (congrArg dgE (Finset.sum_congr rfl fun d _ => congrArg₂ (· * ·) (pay3_at x0 r d) (ldW w1 2560 (by norm_num) _ j d))) (ldG 2560 (by norm_num) _ x1 r j)) (ldG 2560 (by norm_num) _ x2 r j)
theorem uT5 (r : Fin 512) (j : Fin 256) :
    (k0_pay43 (k0_pay39 (k0_pay3 x0) (View.ld w1 (Rect.unit ![2560, 0] ![256, 1024] inb_S2816x1024_S256x1024_2560_0))) (k0_pay40 (View.ld x1 (Rect.unit ![0, 2560] ![512, 256] inb_S512x2816_S512x256_0_2560))) : S512x256.Idx → EReal) (ix2 r j) = uE x0 x1 w1 r (col 2560 (by norm_num) j) := by
  refine (du5_at _ _ _ r j).trans ?_
  exact congr (congrArg duE (Finset.sum_congr rfl fun d _ => congrArg₂ (· * ·) (pay3_at x0 r d) (ldW w1 2560 (by norm_num) _ j d))) (ldG 2560 (by norm_num) _ x1 r j)
theorem aT5 (acc : Vec Ideal S512x1024 .f32) (r : Fin 512) (d : Fin 1024) :
    (k0_pay44 (k0_pay39 (k0_pay3 x0) (View.ld w1 (Rect.unit ![2560, 0] ![256, 1024] inb_S2816x1024_S256x1024_2560_0))) (k0_pay40 (View.ld x1 (Rect.unit ![0, 2560] ![512, 256] inb_S512x2816_S512x256_0_2560))) (View.ld x2 (Rect.unit ![0, 2560] ![512, 256] inb_S512x2816_S512x256_0_2560)) (View.ld w0 (Rect.unit ![0, 2560] ![1024, 256] inb_S1024x5632_S1024x256_0_2560)) (View.ld w0 (Rect.unit ![0, 5376] ![1024, 256] inb_S1024x5632_S1024x256_0_5376)) acc : S512x1024.Idx → EReal) (ix2 r d) = acc (ix2 r d) + ∑ j : Fin 256, (fun j => gE x0 x1 x2 w1 r j * w0 (ix2 d (lo j)) + uE x0 x1 w1 r j * w0 (ix2 d (hi j))) (col 2560 (by norm_num) j) := by
  refine (acc5_at _ _ _ _ _ _ acc r d).trans (congrArg (acc (ix2 r d) + ·) ?_)
  refine (Finset.sum_add_distrib (f := fun j : Fin 256 => _ * _) (g := fun j : Fin 256 => _ * _)).symm.trans ?_
  exact Finset.sum_congr rfl fun j _ => congrArg₂ (· + ·) (congrArg₂ (· * ·) (gT5 x0 x1 x2 w1 r j) (ldP w0 2560 (by norm_num) _ d j)) (congrArg₂ (· * ·) (uT5 x0 x1 w1 r j) (ldQ w0 2560 (by norm_num) _ d j))

theorem dgv_at (r : Fin 512) (j : Fin 2816) : dgv x0 x1 x2 w1 (ix2 r j) = gE x0 x1 x2 w1 r j := by
  unfold dgv
  refine View.canon_eq_of_allAt _ _ _ ?_ ?_
  · exact View.cover_of_tiledBy _ ![512, 256] (by sl_kernel_rfl) _
  · exact View.allAt_cons_unit _ _ _ _ _ (tile 2560 (by norm_num) _ _ (gT5 x0 x1 x2 w1) r j) (View.allAt_cons_unit _ _ _ _ _ (tile 2048 (by norm_num) _ _ (gT4 x0 x1 x2 w1) r j) (View.allAt_cons_unit _ _ _ _ _ (tile 1536 (by norm_num) _ _ (gT3 x0 x1 x2 w1) r j) (View.allAt_cons_unit _ _ _ _ _ (tile 1024 (by norm_num) _ _ (gT2 x0 x1 x2 w1) r j) (View.allAt_cons_unit _ _ _ _ _ (tile 512 (by norm_num) _ _ (gT1 x0 x1 x2 w1) r j) (View.allAt_cons_unit _ _ _ _ _ (tile 0 (by norm_num) _ _ (gT0 x0 x1 x2 w1) r j) (View.allAt_nil _ _))))))

theorem duv_at (r : Fin 512) (j : Fin 2816) : duv x0 x1 w1 (ix2 r j) = uE x0 x1 w1 r j := by
  unfold duv
  refine View.canon_eq_of_allAt _ _ _ ?_ ?_
  · exact View.cover_of_tiledBy _ ![512, 256] (by sl_kernel_rfl) _
  · exact View.allAt_cons_unit _ _ _ _ _ (tile 2560 (by norm_num) _ _ (uT5 x0 x1 w1) r j) (View.allAt_cons_unit _ _ _ _ _ (tile 2048 (by norm_num) _ _ (uT4 x0 x1 w1) r j) (View.allAt_cons_unit _ _ _ _ _ (tile 1536 (by norm_num) _ _ (uT3 x0 x1 w1) r j) (View.allAt_cons_unit _ _ _ _ _ (tile 1024 (by norm_num) _ _ (uT2 x0 x1 w1) r j) (View.allAt_cons_unit _ _ _ _ _ (tile 512 (by norm_num) _ _ (uT1 x0 x1 w1) r j) (View.allAt_cons_unit _ _ _ _ _ (tile 0 (by norm_num) _ _ (uT0 x0 x1 w1) r j) (View.allAt_nil _ _))))))

theorem accv_at (r : Fin 512) (d : Fin 1024) : accv x0 x1 x2 w0 w1 (ix2 r d) = aE x0 x1 x2 w0 w1 r d := by
  unfold accv
  refine Eq.trans ?_ (sum_width _)
  exact (aT5 x0 x1 x2 w0 w1 _ r d).trans (congrArg₂ (· + ·) ((aT4 x0 x1 x2 w0 w1 _ r d).trans (congrArg₂ (· + ·) ((aT3 x0 x1 x2 w0 w1 _ r d).trans (congrArg₂ (· + ·) ((aT2 x0 x1 x2 w0 w1 _ r d).trans (congrArg₂ (· + ·) ((aT1 x0 x1 x2 w0 w1 _ r d).trans (congrArg₂ (· + ·) (aT0 x0 x1 x2 w0 w1 (fun _ => 0) r d) rfl)) rfl)) rfl)) rfl)) rfl)

/-- The gradient of the layer norm's output. -/
def dE (r : Fin 512) (d : Fin 1024) : EReal := cAlpha * x0 (ix2 r d) + aE x0 x1 x2 w0 w1 r d

theorem row0_at (s : Vec Ideal S1x1024 .f32) (d : Fin 1024) :
    row0v x0 x1 x2 x3 w0 w1 s (ix2 0 d) = s (ix2 0 d) + ∑ r : Fin 512, dE x0 x1 x2 w0 w1 r d * x3 (ix2 r d) := by
  unfold row0v
  pointwise [k0_pay48, k0_pay47, k0_pay46, k0_pay45]
  simp only [accv_at]
  rfl

theorem row1_at (s : Vec Ideal S1x1024 .f32) (d : Fin 1024) :
    row1v x0 x1 x2 w0 w1 s (ix2 0 d) = s (ix2 0 d) + ∑ r : Fin 512, dE x0 x1 x2 w0 w1 r d := by
  unfold row1v
  pointwise [k0_pay49, k0_pay47, k0_pay46, k0_pay45]
  simp only [accv_at]
  rfl

theorem dxv_at (r : Fin 512) (d : Fin 1024) : dxv x0 x1 x2 x3 x4 x5 w0 w1 (ix2 r d)
    = x4 (ix2 r 0) * (dE x0 x1 x2 w0 w1 r d * x5 (ix2 0 d) - Ideal.div (∑ e : Fin 1024, dE x0 x1 x2 w0 w1 r e * x5 (ix2 0 e)) cWidth
        - x3 (ix2 r d) * Ideal.div (∑ e : Fin 1024, dE x0 x1 x2 w0 w1 r e * x5 (ix2 0 e) * x3 (ix2 r e)) cWidth) := by
  unfold dxv
  pointwise [k0_pay1, k0_pay50, k0_pay51, k0_pay45, k0_pay46, k0_pay47]
  simp only [accv_at]
  rfl

end At

end Cert.Kernel3Ideal.Hand

end
-- ==== Proof.FfnHost.lean ====
/-
  What the host hands to the feed-forward backward call: the normed rows with one over their deviations, the gate's and
  the up's products and the two weights, each at the real arguments the program's arrays hold.
-/
module

public import proofs.«01_k».proof.Proof.FfnSpec
public import proofs.«01_k».proof.Proof.K3At
public import Idealize.ShloMosaic.Lib.StableHlo.RunRead

@[expose] public section

set_option maxRecDepth 16384
set_option maxHeartbeats 4000000

noncomputable section

namespace Cert.Kernel3Ideal.Hand

open Cert.Kernel3Ideal Cert.Kernel3Ideal.Gen Cert.Ffn
open Idealize.ShloMosaic Idealize.ShloMosaic.TcCoe Idealize.ShloMosaic.StableHlo
open scoped BigOperators

variable {F : FTy → Type} [FloatOps F]

abbrev RD (F : FTy → Type) := FVec F S16384x1024 .f32
abbrev R1 (F : FTy → Type) := FVec F S16384x1 .f32
abbrev LN (F : FTy → Type) := FVec F S1x1024 .f32

/-- A column's means over the width. -/
def meanK (x : RD F) : R1 F :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))
def xcK (x : RD F) : RD F := subf x (broadcastInDim S16384x1024 ![0, 1] bcast_S16384x1_S16384x1024_0_1 (meanK x))
def rsK (x : RD F) : R1 F := Host.rsqrt (addf (meanK (mulf (xcK x) (xcK x))) (broadcastInDim S16384x1 ![] bcast_S_S16384x1 (constant S_ .f32 0x3727C5AC#32)))
def xhK (x : RD F) : RD F := mulf (xcK x) (broadcastInDim S16384x1024 ![0, 1] bcast_S16384x1_S16384x1024_0_1 (rsK x))
def zK (x : RD F) (g b : LN F) : RD F :=
  addf (mulf (xhK x) (broadcastInDim S16384x1024 ![0, 1] bcast_S1x1024_S16384x1024_0_1 g)) (broadcastInDim S16384x1024 ![0, 1] bcast_S1x1024_S16384x1024_0_1 b)
def guK (x : RD F) (g b : LN F) (w : FVec F S1024x5632 .f32) : FVec F S16384x5632 .f32 :=
  Host.dotGeneral dot_S16384x1024_S1024x5632_S16384x5632_1_0_0_1_n_n none (truncf .bf16 (zK x g b) bitsLt_bf16_f32) (truncf .bf16 w bitsLt_bf16_f32)
def gateK (x : RD F) (g b : LN F) (w : FVec F S1024x5632 .f32) : FVec F S16384x2816 .bf16 :=
  truncf .bf16 (extractStridedSlice S16384x2816 ![0, 0] (guK x g b w) slices_S16384x5632_S16384x2816_0_0) bitsLt_bf16_f32
def upK (x : RD F) (g b : LN F) (w : FVec F S1024x5632 .f32) : FVec F S16384x2816 .bf16 :=
  truncf .bf16 (extractStridedSlice S16384x2816 ![0, 2816] (guK x g b w) slices_S16384x5632_S16384x2816_0_2816) bitsLt_bf16_f32

section Read

variable (m : (ℓ : Loc nD τ sig) → Buf (Elt F) ℓ) (c : Dev nD)

abbrev a0 : RD F := m ((c.tc : Thread nD τ).loc main_arg0)
abbrev a1 : LN F := m ((c.tc : Thread nD τ).loc main_arg1)
abbrev a2 : LN F := m ((c.tc : Thread nD τ).loc main_arg2)
abbrev a3 : FVec F S1024x5632 .f32 := m ((c.tc : Thread nD τ).loc main_arg3)
abbrev a4 : FVec F S2816x1024 .f32 := m ((c.tc : Thread nD τ).loc main_arg4)
abbrev a5 : RD F := m ((c.tc : Thread nD τ).loc main_arg5)

theorem V_rs : V m c main_v13 = rsK (a0 m c) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_xh : V m c main_v15 = xhK (a0 m c) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_gate : V m c main_v24 = gateK (a0 m c) (a1 m c) (a2 m c) (a3 m c) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_up : V m c main_v26 = upK (a0 m c) (a1 m c) (a2 m c) (a3 m c) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_win : V m c main_v27 = (truncf .bf16 (a3 m c) bitsLt_bf16_f32 : FVec F S1024x5632 .bf16) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_wout : V m c main_v28 = (truncf .bf16 (a4 m c) bitsLt_bf16_f32 : FVec F S2816x1024 .bf16) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_scale : V m c main_arg1 = a1 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_dr : V m c main_arg5 = a5 m c := by
  unfold V hostOps0
  simp only [List.flatten_cons, List.flatten_nil, List.append_nil, List.cons_append, List.nil_append, TRef.nullary, TRef.ternary, TRef.unary, TRef.toBuf, TRef.ofBuf, cast_eq]
  after_results_simp <;> rfl

end Read

/-! Index by index. -/

theorem meanK_at (x : RD Ideal) (t : Fin 16384) : meanK x (ix2 t 0) = Ideal.div (∑ d : Fin 1024, x (ix2 t d)) (Ideal.ofBits .f32 0x44800000#32) := by
  pointwise [meanK]
theorem xcK_at (x : RD Ideal) (t : Fin 16384) (d : Fin 1024) : xcK x (ix2 t d) = x (ix2 t d) - meanK x (ix2 t 0) := by
  pointwise [xcK]
theorem rsK_at (x : RD Ideal) (t : Fin 16384) : rsK x (ix2 t 0) = Ideal.rsqrt (meanK (mulf (xcK x) (xcK x)) (ix2 t 0) + Ideal.ofBits .f32 0x3727C5AC#32) := by
  pointwise [rsK]
theorem xhK_at (x : RD Ideal) (t : Fin 16384) (d : Fin 1024) : xhK x (ix2 t d) = xcK x (ix2 t d) * rsK x (ix2 t 0) := by
  pointwise [xhK]
theorem zK_at (x : RD Ideal) (g b : LN Ideal) (t : Fin 16384) (d : Fin 1024) : zK x g b (ix2 t d) = xhK x (ix2 t d) * g (ix2 0 d) + b (ix2 0 d) := by
  pointwise [zK]
theorem guK_at (x : RD Ideal) (g b : LN Ideal) (w : FVec Ideal S1024x5632 .f32) (t : Fin 16384) (k : Fin 5632) :
    guK x g b w (ix2 t k) = ∑ d : Fin 1024, zK x g b (ix2 t d) * w (ix2 d k) := by
  pointwise [guK]
theorem gateK_at (x : RD Ideal) (g b : LN Ideal) (w : FVec Ideal S1024x5632 .f32) (t : Fin 16384) (j : Fin 2816) :
    gateK x g b w (ix2 t j) = guK x g b w (ix2 t (Ffn.lo j)) := by
  pointwise [gateK]
  rfl
theorem upK_at (x : RD Ideal) (g b : LN Ideal) (w : FVec Ideal S1024x5632 .f32) (t : Fin 16384) (j : Fin 2816) :
    upK x g b w (ix2 t j) = guK x g b w (ix2 t (Ffn.hi j)) := by
  pointwise [upK]
  rfl

/-- The arrays hold the real arguments. -/
structure Holds (x : RD Ideal) (g b : LN Ideal) (w : FVec Ideal S1024x5632 .f32) (v : FVec Ideal S2816x1024 .f32) (y : RD Ideal) (A : Args) : Prop where
  r : ∀ t d, (x (ix2 t d) : EReal) = ((A.r t d : ℝ) : EReal)
  γ : ∀ d, (g (ix2 0 d) : EReal) = ((A.γ d : ℝ) : EReal)
  β : ∀ d, (b (ix2 0 d) : EReal) = ((A.β d : ℝ) : EReal)
  win : ∀ d k, (w (ix2 d k) : EReal) = ((A.win d k : ℝ) : EReal)
  wout : ∀ j d, (v (ix2 j d) : EReal) = ((A.wout j d : ℝ) : EReal)
  dr : ∀ t d, (y (ix2 t d) : EReal) = ((A.dr t d : ℝ) : EReal)

theorem div_width (r : ℝ) : Ideal.div (r : EReal) (Ideal.ofBits .f32 0x44800000#32) = ((r / 1024 : ℝ) : EReal) := by
  rw [bits_width, Ideal.div_coe (by norm_num), ← EReal.coe_mul, mul_one_div]

theorem rsqrt_pos (r : ℝ) (h : 0 < r) : Ideal.rsqrt (r : EReal) = (((Real.sqrt r)⁻¹ : ℝ) : EReal) := by
  rw [Ideal.rsqrt_coe, if_neg (not_lt.mpr h.le), if_neg h.ne']

section Val

variable {x : RD Ideal} {g b : LN Ideal} {w : FVec Ideal S1024x5632 .f32} {v : FVec Ideal S2816x1024 .f32} {y : RD Ideal} {A : Args} (H : Holds x g b w v y A)
include H

theorem xcK_val (t : Fin 16384) (d : Fin 1024) : (xcK x (ix2 t d) : EReal) = ((xc A t d : ℝ) : EReal) := by
  rw [xcK_at, meanK_at]
  simp only [H.r, Cert.Spec.coe_sum, div_width, ← EReal.coe_sub]
  rfl
theorem rsK_val (t : Fin 16384) : (rsK x (ix2 t 0) : EReal) = ((rs A t : ℝ) : EReal) := by
  have e (d : Fin 1024) : (mulf (xcK x) (xcK x) (ix2 t d) : EReal) = ((xc A t d * xc A t d : ℝ) : EReal) := by
    rw [EReal.coe_mul, ← xcK_val H]; rfl
  rw [rsK_at, meanK_at]
  simp only [e, Cert.Spec.coe_sum, div_width, bits_eps, ← EReal.coe_add]
  exact rsqrt_pos _ (vr_pos A t)
theorem xhK_val (t : Fin 16384) (d : Fin 1024) : (xhK x (ix2 t d) : EReal) = ((xh A t d : ℝ) : EReal) := by
  rw [xhK_at, xcK_val H, rsK_val H, ← EReal.coe_mul]; rfl
theorem guK_val (t : Fin 16384) (k : Fin 5632) : (guK x g b w (ix2 t k) : EReal) = ((gu A t k : ℝ) : EReal) := by
  rw [guK_at]
  simp only [zK_at, xhK_val H, H.γ, H.β, H.win, ← EReal.coe_mul, ← EReal.coe_add, Cert.Spec.coe_sum]
  rfl

end Val

end Cert.Kernel3Ideal.Hand

end
-- ==== Proof.FfnSteps.lean ====
/-
  What each grid point of the feed-forward backward call leaves: in the outputs' blocks, and in the two weights' buffers,
  which the first point fills and no later point writes.
-/
module

public import proofs.«01_k».proof.Proof.K3Outs
public import proofs.«01_k».proof.Proof.K3At
public import Idealize.ShloMosaic.Lib.Pipeline.ValueKit
public import Idealize.ShloMosaic.Lib.WritesUnit

@[expose] public section

set_option maxRecDepth 16384

noncomputable section

namespace Cert.Kernel3Ideal.Hand

open Cert.Kernel3Ideal Cert.Kernel3Ideal.Gen Cert.Kernel3Ideal.Value
open Idealize.ShloMosaic Idealize.ShloMosaic.TcCoe

section Weights

variable {F : FTy → Type} [FloatOps F]

set_option maxHeartbeats 4000000 in
theorem sout_A_0 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x1024 .f32) (harg6 : arg6.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S1024x5632 .bf16) (harg14 : arg14.IsWhole) (arg15 : Memref sig .tc .vmem S2816x1024 .bf16) (harg15 : arg15.IsWhole) (hc0 : cond0_0 i)
    (x0 : Vec F S512x1024 .f32) (x1 : Vec F S512x2816 .bf16) (x2 : Vec F S512x2816 .bf16) (x3 : Vec F S512x1024 .f32) (x4 : Vec F S512x1 .f32) (x5 : Vec F S1x1024 .f32) (fh0 : HbBuf0 (F := F) c hbM0_0) (fh1 : HbBuf0 (F := F) c hbM0_1) :
    sout0_A_0 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = fh0 := by
  unfold sout0_A_0
  rw [View.read_writes_eq_canon _ _ _ (scover0_A_0 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1)]
  unfold kernelRun0_A
  dsimp only
  try sl_unfold_words
  simp only [canon_whole, whole27, whole28]
  try rfl

set_option maxHeartbeats 4000000 in
theorem sout_A_1 (c : Dev nD) (i : grid0.Coords) (arg1 : Memref sig .tc .vmem S512x1024 .f32) (harg1 : arg1.IsWhole) (arg2 : Memref sig .tc .vmem S512x2816 .bf16) (harg2 : arg2.IsWhole) (arg3 : Memref sig .tc .vmem S512x2816 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S1x1024 .f32) (harg6 : arg6.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S1024x5632 .bf16) (harg14 : arg14.IsWhole) (arg15 : Memref sig .tc .vmem S2816x1024 .bf16) (harg15 : arg15.IsWhole) (hc0 : cond0_0 i)
    (x0 : Vec F S512x1024 .f32) (x1 : Vec F S512x2816 .bf16) (x2 : Vec F S512x2816 .bf16) (x3 : Vec F S512x1024 .f32) (x4 : Vec F S512x1 .f32) (x5 : Vec F S1x1024 .f32) (fh0 : HbBuf0 (F := F) c hbM0_0) (fh1 : HbBuf0 (F := F) c hbM0_1) :
    sout0_A_1 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1 = fh1 := by
  unfold sout0_A_1
  rw [View.read_writes_eq_canon _ _ _ (scover0_A_1 c i arg1 harg1 arg2 harg2 arg3 harg3 arg4 harg4 arg5 harg5 arg6 harg6 arg9 harg9 arg10 harg10 arg11 harg11 arg12 harg12 arg13 harg13 arg14 harg14 arg15 harg15 hc0 x0 x1 x2 x3 x4 x5 fh0 fh1)]
  unfold kernelRun0_A
  dsimp only
  try sl_unfold_words
  simp only [canon_whole, whole27, whole28]
  try rfl

variable (m : (ℓ : Loc nD τ sig) → Buf (Elt F) ℓ) (c : Dev nD)

/-- The two weights' buffers hold the weights after every point. -/
theorem held_at : ∀ (n : ℕ) (t : Fin cfg0.N), t.val = n →
    (outsAt0 m c t.val t.isLt).2.2.2.2.2.1 = V m c main_v27 ∧ (outsAt0 m c t.val t.isLt).2.2.2.2.2.2 = V m c main_v28 := by
  intro n
  induction n with
  | zero =>
    intro t ht
    have h0 : t.val % 32 = 0 := by omega
    constructor
    · simp only [outsAt0_A m c t h0, sout_A_0]
    · simp only [outsAt0_A m c t h0, sout_A_1]
  | succ n ih =>
    intro t ht
    by_cases h0 : t.val % 32 = 0
    · constructor
      · simp only [outsAt0_A m c t h0, sout_A_0]
      · simp only [outsAt0_A m c t h0, sout_A_1]
    · have e := ih ⟨t.val - 1, Nat.lt_of_le_of_lt (Nat.sub_le _ _) t.isLt⟩ (by show t.val - 1 = n; omega)
      constructor
      · simp only [outsAt0_B m c t h0, sout0_B_0]
        exact e.1
      · simp only [outsAt0_B m c t h0, sout0_B_1]
        exact e.2

theorem held (n : ℕ) (hn : n < cfg0.N) : (outsAt0 m c n hn).2.2.2.2.2.1 = V m c main_v27 ∧ (outsAt0 m c n hn).2.2.2.2.2.2 = V m c main_v28 :=
  held_at m c n ⟨n, hn⟩ rfl

/-- The point's blocks. -/
abbrev b0 (t : Fin cfg0.N) : Vec F S512x1024 .f32 := iblk m c 0 t
abbrev b1 (t : Fin cfg0.N) : Vec F S512x2816 .bf16 := iblk m c 1 t
abbrev b2 (t : Fin cfg0.N) : Vec F S512x2816 .bf16 := iblk m c 2 t
abbrev b3 (t : Fin cfg0.N) : Vec F S512x1024 .f32 := iblk m c 3 t
abbrev b4 (t : Fin cfg0.N) : Vec F S512x1 .f32 := iblk m c 4 t
abbrev b5 (t : Fin cfg0.N) : Vec F S1x1024 .f32 := iblk m c 5 t
abbrev wIn : Vec F S1024x5632 .bf16 := V m c main_v27
abbrev wOut : Vec F S2816x1024 .bf16 := V m c main_v28

theorem left6 (t : Fin cfg0.N) : (outsAt0 m c t.val t.isLt).1 = k0_pay3 (b0 m c t) := by
  by_cases h0 : t.val % 32 = 0
  · simp only [outsAt0_A m c t h0, out_A_6]
  · simp only [outsAt0_B m c t h0, out_B_6]

theorem left7 (t : Fin cfg0.N) : (outsAt0 m c t.val t.isLt).2.1 = dgv (b0 m c t) (b1 m c t) (b2 m c t) (wOut m c) := by
  by_cases h0 : t.val % 32 = 0
  · simp only [outsAt0_A m c t h0, out_A_7]
  · simp only [outsAt0_B m c t h0, out_B_7]
    exact (congrArg (dgv (b0 m c t) (b1 m c t) (b2 m c t)) (held m c _ _).2)

theorem left8 (t : Fin cfg0.N) : (outsAt0 m c t.val t.isLt).2.2.1 = duv (b0 m c t) (b1 m c t) (wOut m c) := by
  by_cases h0 : t.val % 32 = 0
  · simp only [outsAt0_A m c t h0, out_A_8]
  · simp only [outsAt0_B m c t h0, out_B_8]
    exact (congrArg (duv (b0 m c t) (b1 m c t)) (held m c _ _).2)

theorem left9 (t : Fin cfg0.N) : (outsAt0 m c t.val t.isLt).2.2.2.1 = dxv (b0 m c t) (b1 m c t) (b2 m c t) (b3 m c t) (b4 m c t) (b5 m c t) (wIn m c) (wOut m c) := by
  by_cases h0 : t.val % 32 = 0
  · simp only [outsAt0_A m c t h0, out_A_9]
  · simp only [outsAt0_B m c t h0, out_B_9]
    exact (congrArg₂ (dxv (b0 m c t) (b1 m c t) (b2 m c t) (b3 m c t) (b4 m c t) (b5 m c t)) (held m c _ _).1 (held m c _ _).2)

/-- The sums' block, as the first point leaves it. -/
theorem left10_first (t : Fin cfg0.N) (h0 : t.val % 32 = 0) : (outsAt0 m c t.val t.isLt).2.2.2.2.1 = View.canon
      (rowsL (b0 m c t) (b1 m c t) (b2 m c t) (b3 m c t) (wIn m c) (wOut m c) zero0 (zero1 (b0 m c t) (b1 m c t) (b2 m c t) (b3 m c t) (wIn m c) (wOut m c))
        ++ [⟨Rect.unit ![0, 0] ![8, 1024] inb_S8x1024_S8x1024_0_0, k0_pay2⟩]) := by
  simp only [outsAt0_A m c t h0, out_A_10]

/-- The sums' block before the point. -/
abbrev was (t : Fin cfg0.N) : Vec F S8x1024 .f32 := (outsAt0 m c (t.val - 1) (Nat.lt_of_le_of_lt (Nat.sub_le _ _) t.isLt)).2.2.2.2.1

/-- The sums' block, as a later point leaves it. -/
theorem left10_next (t : Fin cfg0.N) (h0 : ¬t.val % 32 = 0) : (outsAt0 m c t.val t.isLt).2.2.2.2.1 =
    (ms0_10 t).view.read (Elt F) ((ms0_10 t).view.writes (Elt F) ((hs0_10 t).unread (was m c t))
      (rowsL (b0 m c t) (b1 m c t) (b2 m c t) (b3 m c t) (wIn m c) (wOut m c)
        (View.ld (was m c t) (Rect.unit ![0, 0] ![1, 1024] inb_S8x1024_S1x1024_0_0)) (View.ld (was m c t) (Rect.unit ![1, 0] ![1, 1024] inb_S8x1024_S1x1024_1_0)))) := by
  simp only [outsAt0_B m c t h0, out_B_10]
  exact congrArg₂ (fun w0 w1 => (ms0_10 t).view.read (Elt F) ((ms0_10 t).view.writes (Elt F) ((hs0_10 t).unread (was m c t))
      (rowsL (b0 m c t) (b1 m c t) (b2 m c t) (b3 m c t) w0 w1
        (View.ld (was m c t) (Rect.unit ![0, 0] ![1, 1024] inb_S8x1024_S1x1024_0_0)) (View.ld (was m c t) (Rect.unit ![1, 0] ![1, 1024] inb_S8x1024_S1x1024_1_0))))) (held m c _ _).1 (held m c _ _).2

end Weights

/-! The two pieces of the sums' block, read by row. -/

section Rows

variable {F : FTy → Type} [FloatOps F]
variable (x0 : Vec F S512x1024 .f32) (x1 x2 : Vec F S512x2816 .bf16) (x3 : Vec F S512x1024 .f32)
  (w0 : Vec F S1024x5632 .bf16) (w1 : Vec F S2816x1024 .bf16) (s0 s1 : Vec F S1x1024 .f32) (L : List (View.Piece (Elt F) S8x1024 .f32))

theorem emb_row0 (d : Fin 1024) : (Rect.unit ![0, 0] ![1, 1024] inb_S8x1024_S1x1024_0_0 : Rect S8x1024).emb (ix2 0 d) = ix2 0 d := by blk_ext []
theorem emb_row1 (d : Fin 1024) : (Rect.unit ![1, 0] ![1, 1024] inb_S8x1024_S1x1024_1_0 : Rect S8x1024).emb (ix2 0 d) = ix2 1 d := by blk_ext []

theorem not_row0 (k : Fin 8) (hk : 1 ≤ k.val) (d : Fin 1024) : ix2 k d ∉ (Rect.unit ![0, 0] ![1, 1024] inb_S8x1024_S1x1024_0_0 : Rect S8x1024).set := by
  intro hm
  obtain ⟨i, hi, hh⟩ := (LoadRect.mem_set _).mp hm (0 : Fin 2)
  have hi1 : i < 1 := hi
  have hh' : k.val = 0 + 1 * i := hh
  omega
theorem not_row1 (k : Fin 8) (hk : k.val ≠ 1) (d : Fin 1024) : ix2 k d ∉ (Rect.unit ![1, 0] ![1, 1024] inb_S8x1024_S1x1024_1_0 : Rect S8x1024).set := by
  intro hm
  obtain ⟨i, hi, hh⟩ := (LoadRect.mem_set _).mp hm (0 : Fin 2)
  have hi1 : i < 1 := hi
  have hh' : k.val = 1 + 1 * i := hh
  omega

theorem canon_row1 (d : Fin 1024) : View.canon (rowsL x0 x1 x2 x3 w0 w1 s0 s1 ++ L) (ix2 1 d) = row1v x0 x1 x2 w0 w1 s1 (ix2 0 d) :=
  (congrArg (View.canon _) (emb_row1 d)).symm.trans (View.canon_cons_emb _ _ _ _)
theorem canon_row0 (d : Fin 1024) : View.canon (rowsL x0 x1 x2 x3 w0 w1 s0 s1 ++ L) (ix2 0 d) = row0v x0 x1 x2 x3 w0 w1 s0 (ix2 0 d) := by
  have h := View.canon_cons_emb (Rect.unit ![0, 0] ![1, 1024] inb_S8x1024_S1x1024_0_0 : Rect S8x1024) (row0v x0 x1 x2 x3 w0 w1 s0) L (ix2 0 d)
  rw [emb_row0] at h
  rw [← h]
  unfold rowsL
  rw [List.cons_append, List.cons_append, List.nil_append, View.canon_cons_of_not_mem]
  exact not_row1 0 (by decide) d
theorem canon_rest (k : Fin 8) (hk : 2 ≤ k.val) (d : Fin 1024) : View.canon (rowsL x0 x1 x2 x3 w0 w1 s0 s1 ++ L) (ix2 k d) = View.canon L (ix2 k d) := by
  unfold rowsL
  rw [List.cons_append, List.cons_append, List.nil_append, View.canon_cons_of_not_mem, View.canon_cons_of_not_mem]
  · exact not_row0 k (by omega) d
  · exact not_row1 k (by omega) d

variable {sig' : RefSig} {κ : Kind} {sp : Space} (v : View sig' κ sp S8x1024 .f32) (f : v.ty.Contents (Elt F))

theorem read_row1 (d : Fin 1024) : v.read (Elt F) (v.writes (Elt F) f (rowsL x0 x1 x2 x3 w0 w1 s0 s1)) (ix2 1 d) = row1v x0 x1 x2 w0 w1 s1 (ix2 0 d) :=
  View.read_writes_cons_rows_of_mem v f _ _ _ (ix2 1 d) (ix2 0 d) (o := 1) rfl rfl rfl
theorem read_row0 (d : Fin 1024) : v.read (Elt F) (v.writes (Elt F) f (rowsL x0 x1 x2 x3 w0 w1 s0 s1)) (ix2 0 d) = row0v x0 x1 x2 x3 w0 w1 s0 (ix2 0 d) := by
  unfold rowsL
  rw [View.read_writes_cons_rows_of_not_mem v f _ _ _ (ix2 0 d) (o := 1) (W := 1) rfl rfl (Or.inl (show (0 : ℕ) < 1 from Nat.zero_lt_one))]
  exact View.read_writes_cons_rows_of_mem v f _ _ _ (ix2 0 d) (ix2 0 d) (o := 0) rfl rfl rfl
theorem read_rest (k : Fin 8) (hk : 2 ≤ k.val) (d : Fin 1024) : v.read (Elt F) (v.writes (Elt F) f (rowsL x0 x1 x2 x3 w0 w1 s0 s1)) (ix2 k d) = v.read (Elt F) f (ix2 k d) := by
  unfold rowsL
  rw [View.read_writes_cons_rows_of_not_mem v f _ _ _ (ix2 k d) (o := 1) (W := 1) rfl rfl (Or.inr (show 1 + 1 ≤ k.val from hk)),
    View.read_writes_cons_rows_of_not_mem v f _ _ _ (ix2 k d) (o := 0) (W := 1) rfl rfl (Or.inr (show 0 + 1 ≤ k.val by omega))]
  rfl

end Rows

end Cert.Kernel3Ideal.Hand

end
-- ==== Proof.FfnFinal.lean ====
/-
  The five arrays the feed-forward backward call leaves, at the real arguments its inputs hold.
-/
module

public import proofs.«01_k».proof.Proof.FfnHost
public import proofs.«01_k».proof.Proof.FfnSteps
public import proofs.«01_k».proof.Proof.Rows
public import Idealize.ShloMosaic.Lib.Pipeline.ValueKit

@[expose] public section

set_option maxRecDepth 16384

noncomputable section

namespace Cert.Kernel3Ideal.Hand

open Cert.Kernel3Ideal Cert.Kernel3Ideal.Gen Cert.Kernel3Ideal.Value Cert.Ffn
open Idealize.ShloMosaic Idealize.ShloMosaic.TcCoe Idealize.ShloMosaic.Pipeline
open scoped BigOperators

/-- Row `r` of the block of rows that grid point `n` visits. -/
def rw512 (n : ℕ) (r : Fin 512) : Fin 16384 := ⟨n % 32 * 512 + r.val, by have := r.isLt; omega⟩

theorem rw512_val {n : ℕ} (h : n < 32) (r : Fin 512) : (rw512 n r).val = n * 512 + r.val := by
  show n % 32 * 512 + r.val = _
  rw [Nat.mod_eq_of_lt h]

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![0, 0] := (by decide +kernel : ∀ t : Fin grid0.N, win0_10.index t = ![0, 0])
theorem last10 : ∀ t : Fin cfg0.N, (cfg0.win 10).flush t = true → t.val = 31 := (by decide +kernel : ∀ t : Fin grid0.N, win0_10.flush t = true → t.val = 31)

theorem lt32 (t : Fin cfg0.N) : t.val < 32 := t.isLt

theorem place0 (t : Fin cfg0.N) (r : Fin 512) (d : Fin 1024) : ((cfg0.win 0).blk t).view.emb (ix2 r d) = ix2 (rw512 t.val r) d := by
  blk_ext [idx0, rw512_val (lt32 t)]
theorem place1 (t : Fin cfg0.N) (r : Fin 512) (d : Fin 2816) : ((cfg0.win 1).blk t).view.emb (ix2 r d) = ix2 (rw512 t.val r) d := by
  blk_ext [idx1, rw512_val (lt32 t)]
theorem place2 (t : Fin cfg0.N) (r : Fin 512) (d : Fin 2816) : ((cfg0.win 2).blk t).view.emb (ix2 r d) = ix2 (rw512 t.val r) d := by
  blk_ext [idx2, rw512_val (lt32 t)]
theorem place3 (t : Fin cfg0.N) (r : Fin 512) (d : Fin 1024) : ((cfg0.win 3).blk t).view.emb (ix2 r d) = ix2 (rw512 t.val r) d := by
  blk_ext [idx3, rw512_val (lt32 t)]
theorem place4 (t : Fin cfg0.N) (r : Fin 512) (d : Fin 1) : ((cfg0.win 4).blk t).view.emb (ix2 r d) = ix2 (rw512 t.val r) d := by
  blk_ext [idx4, rw512_val (lt32 t)]
theorem place5 (t : Fin cfg0.N) (r : Fin 1) (d : Fin 1024) : ((cfg0.win 5).blk t).view.emb (ix2 r d) = ix2 r d := by
  blk_ext [idx5]
theorem place6 (t : Fin cfg0.N) (r : Fin 512) (d : Fin 1024) : ((cfg0.win 6).blk t).view.emb (ix2 r d) = ix2 (rw512 t.val r) d := by
  blk_ext [idx6, rw512_val (lt32 t)]
theorem place7 (t : Fin cfg0.N) (r : Fin 512) (d : Fin 2816) : ((cfg0.win 7).blk t).view.emb (ix2 r d) = ix2 (rw512 t.val r) d := by
  blk_ext [idx7, rw512_val (lt32 t)]
theorem place8 (t : Fin cfg0.N) (r : Fin 512) (d : Fin 2816) : ((cfg0.win 8).blk t).view.emb (ix2 r d) = ix2 (rw512 t.val r) d := by
  blk_ext [idx8, rw512_val (lt32 t)]
theorem place9 (t : Fin cfg0.N) (r : Fin 512) (d : Fin 1024) : ((cfg0.win 9).blk t).view.emb (ix2 r d) = ix2 (rw512 t.val r) d := by
  blk_ext [idx9, rw512_val (lt32 t)]
theorem place10 (t : Fin cfg0.N) (r : Fin 8) (d : Fin 1024) : ((cfg0.win 10).blk t).view.emb (ix2 r d) = ix2 r d := by
  blk_ext [idx10]

variable {m : (ℓ : Loc nD τ sig) → Buf (Elt Ideal) ℓ} {c : Dev nD} {A : Args}
variable (H : Holds (a0 m c) (a1 m c) (a2 m c) (a3 m c) (a4 m c) (a5 m c) A)
include H

/-! The blocks and the weights, at the real arguments. -/

theorem find0 (t : Fin cfg0.N) (r : Fin 512) (d : Fin 1024) : (b0 m c t (ix2 r d) : EReal) = ((A.dr (rw512 t.val r) d : ℝ) : EReal) :=
  (congrFun (congrArg (((cfg0.win 0).blk t).view.read (Elt Ideal)) (V_dr m c)) (ix2 r d)).trans ((congrArg (a5 m c) (place0 t r d)).trans (H.dr _ _))
theorem find1 (t : Fin cfg0.N) (r : Fin 512) (j : Fin 2816) : (b1 m c t (ix2 r j) : EReal) = ((gu A (rw512 t.val r) (Ffn.lo j) : ℝ) : EReal) :=
  (congrFun (congrArg (((cfg0.win 1).blk t).view.read (Elt Ideal)) (V_gate m c)) (ix2 r j)).trans
    ((congrArg (gateK (a0 m c) (a1 m c) (a2 m c) (a3 m c)) (place1 t r j)).trans ((gateK_at _ _ _ _ _ _).trans (guK_val H _ _)))
theorem find2 (t : Fin cfg0.N) (r : Fin 512) (j : Fin 2816) : (b2 m c t (ix2 r j) : EReal) = ((gu A (rw512 t.val r) (Ffn.hi j) : ℝ) : EReal) :=
  (congrFun (congrArg (((cfg0.win 2).blk t).view.read (Elt Ideal)) (V_up m c)) (ix2 r j)).trans
    ((congrArg (upK (a0 m c) (a1 m c) (a2 m c) (a3 m c)) (place2 t r j)).trans ((upK_at _ _ _ _ _ _).trans (guK_val H _ _)))
theorem find3 (t : Fin cfg0.N) (r : Fin 512) (d : Fin 1024) : (b3 m c t (ix2 r d) : EReal) = ((xh A (rw512 t.val r) d : ℝ) : EReal) :=
  (congrFun (congrArg (((cfg0.win 3).blk t).view.read (Elt Ideal)) (V_xh m c)) (ix2 r d)).trans
    ((congrArg (xhK (a0 m c)) (place3 t r d)).trans (xhK_val H _ _))
theorem find4 (t : Fin cfg0.N) (r : Fin 512) : (b4 m c t (ix2 r 0) : EReal) = ((rs A (rw512 t.val r) : ℝ) : EReal) :=
  (congrFun (congrArg (((cfg0.win 4).blk t).view.read (Elt Ideal)) (V_rs m c)) (ix2 r 0)).trans
    ((congrArg (rsK (a0 m c)) (place4 t r 0)).trans (rsK_val H _))
theorem find5 (t : Fin cfg0.N) (d : Fin 1024) : (b5 m c t (ix2 0 d) : EReal) = ((A.γ d : ℝ) : EReal) :=
  (congrFun (congrArg (((cfg0.win 5).blk t).view.read (Elt Ideal)) (V_scale m c)) (ix2 0 d)).trans ((congrArg (a1 m c) (place5 t 0 d)).trans (H.γ _))
theorem find_in (d : Fin 1024) (k : Fin 5632) : (wIn m c (ix2 d k) : EReal) = ((A.win d k : ℝ) : EReal) :=
  (congrFun (V_win m c) (ix2 d k)).trans (H.win d k)
theorem find_out (j : Fin 2816) (d : Fin 1024) : (wOut m c (ix2 j d) : EReal) = ((A.wout j d : ℝ) : EReal) :=
  (congrFun (V_wout m c) (ix2 j d)).trans (H.wout j d)

/-! The tile's terms. -/

theorem hE_val (t : Fin cfg0.N) (r : Fin 512) (j : Fin 2816) : hE (b0 m c t) (wOut m c) r j = ((dh A (rw512 t.val r) j : ℝ) : EReal) := by
  unfold hE cHalf
  simp only [find0 H, find_out H, bits_half, ← EReal.coe_mul, Cert.Spec.coe_sum]
  rfl
theorem gE_val (t : Fin cfg0.N) (r : Fin 512) (j : Fin 2816) : gE (b0 m c t) (b1 m c t) (b2 m c t) (wOut m c) r j = ((dg A (rw512 t.val r) j : ℝ) : EReal) := by
  unfold gE dgE
  rw [hE_val H, find1 H, find2 H, Ideal.logistic_coe]
  simp only [← EReal.coe_one, ← EReal.coe_mul, ← EReal.coe_sub, ← EReal.coe_add]
  rfl
theorem uE_val (t : Fin cfg0.N) (r : Fin 512) (j : Fin 2816) : uE (b0 m c t) (b1 m c t) (wOut m c) r j = ((du A (rw512 t.val r) j : ℝ) : EReal) := by
  unfold uE duE
  rw [hE_val H, find1 H, Ideal.logistic_coe]
  simp only [← EReal.coe_mul]
  rfl
theorem dE_val (t : Fin cfg0.N) (r : Fin 512) (d : Fin 1024) :
    dE (b0 m c t) (b1 m c t) (b2 m c t) (wIn m c) (wOut m c) r d = ((dx A (rw512 t.val r) d : ℝ) : EReal) := by
  unfold dE aE cAlpha
  simp only [gE_val H, uE_val H, find0 H, find_in H, bits_alpha, ← EReal.coe_mul, ← EReal.coe_add, Cert.Spec.coe_sum]
  rfl
theorem dr2_val (t : Fin cfg0.N) (r : Fin 512) (d : Fin 1024) :
    (dxv (b0 m c t) (b1 m c t) (b2 m c t) (b3 m c t) (b4 m c t) (b5 m c t) (wIn m c) (wOut m c) (ix2 r d) : EReal) = ((dr2 A (rw512 t.val r) d : ℝ) : EReal) := by
  rw [dxv_at]
  unfold cWidth
  simp only [dE_val H, find3 H, find4 H, find5 H, ← EReal.coe_mul, Cert.Spec.coe_sum, div_width, ← EReal.coe_sub]
  rfl

omit H in
theorem ld_row0 (x : Vec Ideal S8x1024 .f32) (d : Fin 1024) : (View.ld x (Rect.unit ![0, 0] ![1, 1024] inb_S8x1024_S1x1024_0_0) : S1x1024.Idx → EReal) (ix2 0 d) = x (ix2 0 d) :=
  congrArg x (emb_row0 d)
omit H in
theorem ld_row1 (x : Vec Ideal S8x1024 .f32) (d : Fin 1024) : (View.ld x (Rect.unit ![1, 0] ![1, 1024] inb_S8x1024_S1x1024_1_0) : S1x1024.Idx → EReal) (ix2 0 d) = x (ix2 1 d) :=
  congrArg x (emb_row1 d)

/-- The sums' block after a point: the sums over the rows visited so far. -/
theorem sums (n : ℕ) : ∀ t : Fin cfg0.N, t.val = n → ∀ d : Fin 1024,
    ((outsAt0 m c t.val t.isLt).2.2.2.2.1 (ix2 0 d) : EReal) = ∑ s ∈ Finset.range (n + 1), ∑ r : Fin 512, ((dx A (rw512 s r) d * xh A (rw512 s r) d : ℝ) : EReal)
    ∧ ((outsAt0 m c t.val t.isLt).2.2.2.2.1 (ix2 1 d) : EReal) = ∑ s ∈ Finset.range (n + 1), ∑ r : Fin 512, ((dx A (rw512 s r) d : ℝ) : EReal)
    ∧ ∀ k : Fin 8, 2 ≤ k.val → ((outsAt0 m c t.val t.isLt).2.2.2.2.1 (ix2 k d) : EReal) = 0 := by
  induction n with
  | zero =>
    intro t ht d
    have e := left10_first m c t (by omega)
    refine ⟨(congrFun e _).trans ((canon_row0 _ _ _ _ _ _ _ _ _ d).trans ((row0_at _ _ _ _ _ _ _ d).trans ?_)),
      (congrFun e _).trans ((canon_row1 _ _ _ _ _ _ _ _ _ d).trans ((row1_at _ _ _ _ _ _ d).trans ?_)),
      fun k hk => (congrFun e _).trans ((canon_rest _ _ _ _ _ _ _ _ _ k hk d).trans ?_)⟩
    · rw [zero0_at, pay2_at, zero_add, Finset.sum_range_one]
      refine Finset.sum_congr rfl fun r _ => ?_
      rw [dE_val H, find3 H, ← EReal.coe_mul, ht]
    · rw [zero1_at, pay2_at, zero_add, Finset.sum_range_one]
      refine Finset.sum_congr rfl fun r _ => ?_
      rw [dE_val H, ht]
    · rw [View.canon_cons_unit_zero (S := S8x1024) hz2]
      exact pay2_at k d
  | succ n ih =>
    intro t ht d
    have h32 := lt32 t
    have e := left10_next m c t (by omega)
    obtain ⟨i0, i1, i2⟩ := ih ⟨t.val - 1, Nat.lt_of_le_of_lt (Nat.sub_le _ _) t.isLt⟩ (by show t.val - 1 = n; omega) d
    refine ⟨(congrFun e _).trans ((read_row0 _ _ _ _ _ _ _ _ _ _ d).trans ((row0_at _ _ _ _ _ _ _ d).trans ?_)),
      (congrFun e _).trans ((read_row1 _ _ _ _ _ _ _ _ _ _ d).trans ((row1_at _ _ _ _ _ _ d).trans ?_)),
      fun k hk => (congrFun e _).trans ((read_rest _ _ _ _ _ _ _ _ _ _ k hk d).trans ?_)⟩
    · rw [Finset.sum_range_succ]
      refine congrArg₂ (· + ·) ((ld_row0 _ d).trans i0) (Finset.sum_congr rfl fun r _ => ?_)
      rw [dE_val H, find3 H, ← EReal.coe_mul, ht]
    · rw [Finset.sum_range_succ]
      refine congrArg₂ (· + ·) ((ld_row1 _ d).trans i1) (Finset.sum_congr rfl fun r _ => ?_)
      rw [dE_val H, ht]
    · rw [(hs0_10 t).read_unread]
      exact i2 k hk

/-! The arrays. -/

omit H in
/-- The whole arrays the call leaves. -/
def rDf (A : Args) : S16384x1024.Idx → EReal := fun j => ((1 / 2 * A.dr (j 0) (j 1) : ℝ) : EReal)
def rDg (A : Args) : S16384x2816.Idx → EReal := fun j => ((dg A (j 0) (j 1) : ℝ) : EReal)
def rDu (A : Args) : S16384x2816.Idx → EReal := fun j => ((du A (j 0) (j 1) : ℝ) : EReal)
def rDr (A : Args) : S16384x1024.Idx → EReal := fun j => ((dr2 A (j 0) (j 1) : ℝ) : EReal)
def rSt (A : Args) : S8x1024.Idx → EReal := fun j =>
  if (j 0 : Fin 8).val = 0 then ((∑ x, dx A x (j 1) * xh A x (j 1) : ℝ) : EReal) else if (j 0 : Fin 8).val = 1 then ((∑ x, dx A x (j 1) : ℝ) : EReal) else 0

/-- What a point leaves in each output's block. -/
abbrev o6 (m : (ℓ : Loc nD τ sig) → Buf (Elt Ideal) ℓ) (c : Dev nD) (t : Fin cfg0.N) : S512x1024.Idx → EReal := (outsAt0 m c t.val t.isLt).1
abbrev o7 (m : (ℓ : Loc nD τ sig) → Buf (Elt Ideal) ℓ) (c : Dev nD) (t : Fin cfg0.N) : S512x2816.Idx → EReal := (outsAt0 m c t.val t.isLt).2.1
abbrev o8 (m : (ℓ : Loc nD τ sig) → Buf (Elt Ideal) ℓ) (c : Dev nD) (t : Fin cfg0.N) : S512x2816.Idx → EReal := (outsAt0 m c t.val t.isLt).2.2.1
abbrev o9 (m : (ℓ : Loc nD τ sig) → Buf (Elt Ideal) ℓ) (c : Dev nD) (t : Fin cfg0.N) : S512x1024.Idx → EReal := (outsAt0 m c t.val t.isLt).2.2.2.1
abbrev o10 (m : (ℓ : Loc nD τ sig) → Buf (Elt Ideal) ℓ) (c : Dev nD) (t : Fin cfg0.N) : S8x1024.Idx → EReal := (outsAt0 m c t.val t.isLt).2.2.2.2.1

theorem o6_val (t : Fin cfg0.N) (r : Fin 512) (d : Fin 1024) : o6 m c t (ix2 r d) = rDf A (ix2 (rw512 t.val r) d) := by
  refine (congrFun (left6 m c t) _).trans ((pay3_at _ r d).trans ?_)
  unfold cHalf
  rw [find0 H, bits_half, ← EReal.coe_mul]
  rfl
theorem o7_val (t : Fin cfg0.N) (r : Fin 512) (j : Fin 2816) : o7 m c t (ix2 r j) = rDg A (ix2 (rw512 t.val r) j) :=
  (congrFun (left7 m c t) _).trans ((dgv_at _ _ _ _ r j).trans (gE_val H t r j))
theorem o8_val (t : Fin cfg0.N) (r : Fin 512) (j : Fin 2816) : o8 m c t (ix2 r j) = rDu A (ix2 (rw512 t.val r) j) :=
  (congrFun (left8 m c t) _).trans ((duv_at _ _ _ r j).trans (uE_val H t r j))
theorem o9_val (t : Fin cfg0.N) (r : Fin 512) (d : Fin 1024) : o9 m c t (ix2 r d) = rDr A (ix2 (rw512 t.val r) d) :=
  (congrFun (left9 m c t) _).trans (dr2_val H t r d)

theorem final6 : (dats m 0 c).arrAt 6 cfg0.N = rDf A := by
  refine (dats m 0 c).arrAt_eq_of_covers 6 _ (by decide +kernel) fun t hf y => ?_
  blk_simp
  rw [after0_6]
  have hy : y = ix2 (y 0 : Fin 512) (y 1 : Fin 1024) := by funext a; fin_cases a <;> rfl
  exact (congrArg (o6 m c t) hy).trans ((o6_val H t (y 0) (y 1)).trans
    (congrArg (rDf A) ((place6 t (y 0) (y 1)).symm.trans (congrArg ((cfg0.win 6).blk t).view.emb hy.symm))))
theorem final7 : (dats m 0 c).arrAt 7 cfg0.N = rDg A := by
  refine (dats m 0 c).arrAt_eq_of_covers 7 _ (by decide +kernel) fun t hf y => ?_
  blk_simp
  rw [after0_7]
  have hy : y = ix2 (y 0 : Fin 512) (y 1 : Fin 2816) := by funext a; fin_cases a <;> rfl
  exact (congrArg (o7 m c t) hy).trans ((o7_val H t (y 0) (y 1)).trans
    (congrArg (rDg A) ((place7 t (y 0) (y 1)).symm.trans (congrArg ((cfg0.win 7).blk t).view.emb hy.symm))))
theorem final8 : (dats m 0 c).arrAt 8 cfg0.N = rDu A := by
  refine (dats m 0 c).arrAt_eq_of_covers 8 _ (by decide +kernel) fun t hf y => ?_
  blk_simp
  rw [after0_8]
  have hy : y = ix2 (y 0 : Fin 512) (y 1 : Fin 2816) := by funext a; fin_cases a <;> rfl
  exact (congrArg (o8 m c t) hy).trans ((o8_val H t (y 0) (y 1)).trans
    (congrArg (rDu A) ((place8 t (y 0) (y 1)).symm.trans (congrArg ((cfg0.win 8).blk t).view.emb hy.symm))))
theorem final9 : (dats m 0 c).arrAt 9 cfg0.N = rDr A := by
  refine (dats m 0 c).arrAt_eq_of_covers 9 _ (by decide +kernel) fun t hf y => ?_
  blk_simp
  rw [after0_9]
  have hy : y = ix2 (y 0 : Fin 512) (y 1 : Fin 1024) := by funext a; fin_cases a <;> rfl
  exact (congrArg (o9 m c t) hy).trans ((o9_val H t (y 0) (y 1)).trans
    (congrArg (rDr A) ((place9 t (y 0) (y 1)).symm.trans (congrArg ((cfg0.win 9).blk t).view.emb hy.symm))))

omit H in
theorem all_rows (f : Fin 16384 → ℝ) : ∑ s ∈ Finset.range 32, ∑ r : Fin 512, ((f (rw512 s r) : ℝ) : EReal) = ((∑ x, f x : ℝ) : EReal) := by
  rw [← Cert.Spec.coe_sum]
  exact Cert.Rows.sum_tiles (by norm_num) (fun x => ((f x : ℝ) : EReal)) rw512 fun s hs k => rw512_val hs k

theorem o10_val (t : Fin cfg0.N) (ht : t.val = 31) (k : Fin 8) (d : Fin 1024) : o10 m c t (ix2 k d) = rSt A (ix2 k d) := by
  obtain ⟨i0, i1, i2⟩ := sums H 31 t ht d
  show _ = (if k.val = 0 then ((∑ x, dx A x d * xh A x d : ℝ) : EReal) else if k.val = 1 then ((∑ x, dx A x d : ℝ) : EReal) else 0)
  by_cases k0 : k.val = 0
  · rw [if_pos k0, show k = 0 from Fin.ext k0]
    exact i0.trans (all_rows fun x => dx A x d * xh A x d)
  · rw [if_neg k0]
    by_cases k1 : k.val = 1
    · rw [if_pos k1, show k = 1 from Fin.ext k1]
      exact i1.trans (all_rows fun x => dx A x d)
    · rw [if_neg k1]
      exact i2 k (by omega)

theorem final10 : (dats m 0 c).arrAt 10 cfg0.N = rSt A := by
  refine (dats m 0 c).arrAt_eq_of_covers 10 _ (by decide +kernel) fun t hf y => ?_
  blk_simp
  rw [after0_10]
  have hy : y = ix2 (y 0 : Fin 8) (y 1 : Fin 1024) := by funext a; fin_cases a <;> rfl
  exact (congrArg (o10 m c t) hy).trans ((o10_val H t (last10 t hf) (y 0) (y 1)).trans
    (congrArg (rSt A) ((place10 t (y 0) (y 1)).symm.trans (congrArg ((cfg0.win 10).blk t).view.emb hy.symm))))

end Cert.Kernel3Ideal.Hand

end
-- ==== Proof.FfnRefVal.lean ====
/-
  The reference of the feed-forward backward call at real arguments: each of its arrays is the closed form's.
-/
module

public import proofs.«01_k».proof.Proof.FfnRef
public import proofs.«01_k».proof.Proof.FfnFinal

@[expose] public section

set_option maxRecDepth 16384
set_option maxHeartbeats 1000000

noncomputable section

namespace Cert.Reference3Ideal.Hand

open Cert.Reference3Ideal Cert.Reference3Ideal.Gen Cert.Reference3Ideal.Value Cert.Ffn
open Cert.Kernel3Ideal.Hand (Holds div_width rsqrt_pos rDf rDg rDu rDr rSt)
open Idealize.ShloMosaic Idealize.ShloMosaic.TcCoe Idealize.ShloMosaic.StableHlo
open scoped BigOperators

variable {W : Valuation τ sig (Elt Ideal)} {A : Args} (H : Holds (r0 W) (r1 W) (r2 W) (r3 W) (r4 W) (r5 W) A)
include H

theorem h0 (t : Fin 16384) (d : Fin 1024) : r0 W (ix2 t d) = ((A.r t d : ℝ) : EReal) := H.r t d
theorem h1 (d : Fin 1024) : r1 W (ix2 0 d) = ((A.γ d : ℝ) : EReal) := H.γ d
theorem h2 (d : Fin 1024) : r2 W (ix2 0 d) = ((A.β d : ℝ) : EReal) := H.β d
theorem h3 (d : Fin 1024) (k : Fin 5632) : r3 W (ix2 d k) = ((A.win d k : ℝ) : EReal) := H.win d k
theorem h4 (j : Fin 2816) (d : Fin 1024) : r4 W (ix2 j d) = ((A.wout j d : ℝ) : EReal) := H.wout j d
theorem h5 (t : Fin 16384) (d : Fin 1024) : r5 W (ix2 t d) = ((A.dr t d : ℝ) : EReal) := H.dr t d

theorem v7_val (t : Fin 16384) (d : Fin 1024) : q7 W (ix2 t d) = ((xc A t d : ℝ) : EReal) := by
  rw [v7_at]
  simp only [h0 H, Cert.Spec.coe_sum, div_width, ← EReal.coe_sub]
  rfl
theorem v14_val (t : Fin 16384) : q14 W (ix2 t 0) = ((vr A t : ℝ) : EReal) := by
  rw [v14_at]
  simp only [v7_val H, ← EReal.coe_mul, Cert.Spec.coe_sum, div_width, bits_eps, ← EReal.coe_add]
  rfl
theorem v15_val (t : Fin 16384) : q15 W (ix2 t 0) = ((rs A t : ℝ) : EReal) := by
  rw [v15_at, v14_val H, rsqrt_pos _ (vr_pos A t)]
  rfl
theorem v20_val (t : Fin 16384) (d : Fin 1024) : q20 W (ix2 t d) = ((xh A t d : ℝ) : EReal) := by
  rw [v20_at, v7_val H, v15_val H, ← EReal.coe_mul]
  rfl
theorem v24_val (t : Fin 16384) (d : Fin 1024) : q24 W (ix2 t d) = ((z A t d : ℝ) : EReal) := by
  rw [v24_at, v20_val H, h1 H, h2 H, ← EReal.coe_mul, ← EReal.coe_add]
  rfl
theorem v26_val (t : Fin 16384) (k : Fin 5632) : q26 W (ix2 t k) = ((gu A t k : ℝ) : EReal) := by
  rw [v26_at]
  simp only [v24_val H, h3 H, ← EReal.coe_mul, Cert.Spec.coe_sum]
  rfl
theorem v27_val (t : Fin 16384) (j : Fin 2816) : q27 W (ix2 t j) = ((gu A t (lo j) : ℝ) : EReal) := (v27_at W t j).trans (v26_val H t _)
theorem v28_val (t : Fin 16384) (j : Fin 2816) : q28 W (ix2 t j) = ((gu A t (hi j) : ℝ) : EReal) := (v28_at W t j).trans (v26_val H t _)
theorem v29_2_val (t : Fin 16384) (j : Fin 2816) : q29_2 W (ix2 t j) = ((Ffn.sig (gu A t (lo j)) : ℝ) : EReal) := by
  rw [v29_2_at, v27_val H, Ideal.logistic_coe]
  rfl
theorem v29_0_val (t : Fin 16384) (j : Fin 2816) : q29_0 W (ix2 t j) = ((gu A t (lo j) * Ffn.sig (gu A t (lo j)) : ℝ) : EReal) := by
  rw [v29_0_at, v27_val H, v29_2_val H, ← EReal.coe_mul]
theorem v41_val (t : Fin 16384) (d : Fin 1024) : q41 W (ix2 t d) = ((1 / 2 * A.dr t d : ℝ) : EReal) := by
  rw [v41_at, h5 H, bits_half, ← EReal.coe_mul]
theorem v44_val (t : Fin 16384) (j : Fin 2816) : q44 W (ix2 t j) = ((dh A t j : ℝ) : EReal) := by
  rw [v44_at]
  simp only [v41_val H, h4 H, ← EReal.coe_mul, Cert.Spec.coe_sum]
  rfl
theorem v46_val (t : Fin 16384) (j : Fin 2816) : q46 W (ix2 t j) = ((dh A t j * gu A t (hi j) : ℝ) : EReal) := by
  rw [v46_at, v44_val H, v28_val H, ← EReal.coe_mul]
theorem v50_lo_val (t : Fin 16384) (j : Fin 2816) : q50 W (ix2 t (lo j)) = ((dg A t j : ℝ) : EReal) := by
  rw [v50_lo, v46_val H, v29_2_val H, v27_val H, ← EReal.coe_one, ← EReal.coe_sub, ← EReal.coe_mul, ← EReal.coe_mul, ← EReal.coe_mul, ← EReal.coe_mul, ← EReal.coe_add]
  refine congrArg _ ?_
  unfold dg
  ring
theorem v50_hi_val (t : Fin 16384) (j : Fin 2816) : q50 W (ix2 t (hi j)) = ((du A t j : ℝ) : EReal) := by
  rw [v50_hi, v29_0_val H, v44_val H, ← EReal.coe_mul]
  refine congrArg _ ?_
  unfold du
  ring

omit H in
/-- A sum over the input weight's columns, the gate's and then the up's. -/
theorem sum_cols (f : Fin 5632 → EReal) : ∑ k, f k = ∑ j, (f (lo j) + f (hi j)) := by
  rw [Finset.sum_add_distrib]
  exact Fin.sum_univ_add (a := 2816) (b := 2816) f

theorem v52_val (t : Fin 16384) (d : Fin 1024) : q52 W (ix2 t d) = ((dx A t d : ℝ) : EReal) := by
  rw [v52_at, sum_cols]
  simp only [v50_lo_val H, v50_hi_val H, h3 H, h5 H, bits_alpha, ← EReal.coe_mul, ← EReal.coe_add, Cert.Spec.coe_sum]
  rfl
theorem v59_val (t : Fin 16384) (d : Fin 1024) : q59 W (ix2 t d) = ((dxh A t d : ℝ) : EReal) := by
  rw [v59_at, v52_val H, h1 H, ← EReal.coe_mul]
  rfl
theorem v69_val (t : Fin 16384) (d : Fin 1024) : q69 W (ix2 t d) = ((cor A t : ℝ) : EReal) := by
  rw [v69_at]
  simp only [v7_val H, v59_val H, v15_val H, v14_val H, bits_neg_half, Ideal.div_coe (vr_pos A t).ne', ← EReal.coe_mul, Cert.Spec.coe_sum, div_width]
  refine congrArg _ ?_
  unfold cor
  rw [mul_one_div]
theorem v73_val (t : Fin 16384) (d : Fin 1024) : q73 W (ix2 t d) = ((pre A t d : ℝ) : EReal) := by
  rw [v73_at, v59_val H, v15_val H, v7_val H, v69_val H, ← EReal.coe_mul, ← EReal.coe_mul, ← EReal.coe_mul, ← EReal.coe_add, ← EReal.coe_add]
  rfl
theorem outR_val (t : Fin 16384) (d : Fin 1024) : (outR W (ix2 t d) : EReal) = ((dr2 A t d : ℝ) : EReal) := by
  rw [outR_at]
  simp only [v73_val H, ← EReal.coe_neg, Cert.Spec.coe_sum, div_width, ← EReal.coe_add]
  exact congrArg _ (dr2_eq A t d)

/-! The five results. -/

theorem res_df : (truncf .bf16 (res_main_v41 W) bitsLt_bf16_f32 : FVec Ideal S16384x1024 .bf16) = rDf A := by
  funext j
  obtain ⟨t, d, rfl⟩ : ∃ t d, j = ix2 t d := ⟨j 0, j 1, (ix2_eta j).symm⟩
  exact v41_val H t d
theorem res_dg : (truncf .bf16 (extractStridedSlice S16384x2816 ![0, 0] (res_main_v50 W) slices_S16384x5632_S16384x2816_0_0) bitsLt_bf16_f32 : FVec Ideal S16384x2816 .bf16) = rDg A := by
  funext i
  obtain ⟨t, j, rfl⟩ : ∃ t j, i = ix2 t j := ⟨i 0, i 1, (ix2_eta i).symm⟩
  exact (gate_at W t j).trans (v50_lo_val H t j)
theorem res_du : (truncf .bf16 (extractStridedSlice S16384x2816 ![0, 2816] (res_main_v50 W) slices_S16384x5632_S16384x2816_0_2816) bitsLt_bf16_f32 : FVec Ideal S16384x2816 .bf16) = rDu A := by
  funext i
  obtain ⟨t, j, rfl⟩ : ∃ t j, i = ix2 t j := ⟨i 0, i 1, (ix2_eta i).symm⟩
  exact (up_at W t j).trans (v50_hi_val H t j)
theorem res_dr : outR W = rDr A := by
  funext j
  obtain ⟨t, d, rfl⟩ : ∃ t d, j = ix2 t d := ⟨j 0, j 1, (ix2_eta j).symm⟩
  exact outR_val H t d
theorem res_st : outS W = rSt A := by
  funext j
  obtain ⟨k, d, rfl⟩ : ∃ t d, j = ix2 t d := ⟨j 0, j 1, (ix2_eta j).symm⟩
  rw [outS_at]
  simp only [v20_val H, v52_val H, ← EReal.coe_mul, Cert.Spec.coe_sum]
  show _ = if k.val = 0 then (((∑ x, dx A x d * xh A x d : ℝ)) : EReal) else if k.val = 1 then (((∑ x, dx A x d : ℝ)) : EReal) else 0
  rw [Finset.sum_congr rfl fun x _ => mul_comm (xh A x d) (dx A x d)]

end Cert.Reference3Ideal.Hand

end
-- ==== Proof.FfnAlg.lean ====
/-
  The feed-forward backward call: its precondition read, and the two programs' equal results.
-/
module

public import proofs.«01_k».proof.Defs
public import proofs.«01_k».proof.Proof.Pre
public import proofs.«01_k».proof.Proof.FfnRefVal

@[expose] public section

set_option maxRecDepth 16384

noncomputable section

namespace Cert.Pre_finite3.Hand

open Cert.Pre_finite3 Cert.Ffn
open Cert.Kernel3Ideal.Hand (Holds)
open Cert.Pre_finite.Hand (of_cmp)
open Idealize.ShloMosaic

instance facts : Cert.Pre_finite3.Facts where
  bcast_S_S16384x1024 := by decide
  reducesTo_S16384x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

instance : Subsingleton S_.Idx := ⟨fun a b => funext fun i => i.elim0⟩

/-- An array all of whose comparisons with infinity hold has real entries. -/
theorem entries {s : Shape} (x : FVec Ideal s .f32) (hb : S_.BroadcastsInDim s (![] : Fin 0 → Fin s.rank)) {axes : List (Fin s.rank)}
    (hr : s.ReducesTo axes S_) (j : S_.Idx)
    (h : Host.reduce IntOp.andi (cmpf .olt (Host.absf x) (broadcastInDim s ![] hb (constant S_ .f32 0x7F800000#32)))
      (constantI S_ 1 1#1) hr Facts.h_S_ j = 1#1) (i : s.Idx) :
    (x i : EReal) = (((x i : EReal).toReal : ℝ) : EReal) := by
  have e := Host.reduce_andi_all _ _ _ _ j h i
  refine of_cmp ?_
  rw [← Cert.Spec.bits_top]
  exact e

/-- The real arguments the six arrays hold. -/
def args (x : FVec Ideal S16384x1024 .f32) (g b : FVec Ideal S1x1024 .f32) (w : FVec Ideal S1024x5632 .f32) (v : FVec Ideal S2816x1024 .f32)
    (y : FVec Ideal S16384x1024 .f32) : Args where
  r t d := (x (ix2 t d) : EReal).toReal
  γ d := (g (ix2 0 d) : EReal).toReal
  β d := (b (ix2 0 d) : EReal).toReal
  win d k := (w (ix2 d k) : EReal).toReal
  wout j d := (v (ix2 j d) : EReal).toReal
  dr t d := (y (ix2 t d) : EReal).toReal

theorem holds (x : FVec Ideal S16384x1024 .f32) (g b : FVec Ideal S1x1024 .f32) (w : FVec Ideal S1024x5632 .f32) (v : FVec Ideal S2816x1024 .f32)
    (y : FVec Ideal S16384x1024 .f32) (h : ∀ j, fn (F := Ideal) x g b w v y j = 1#1) : Holds x g b w v y (args x g b w v y) := by
  have e := h (fun i => i.elim0)
  obtain ⟨e, ey⟩ := IntOp.andi_eq_one.mp e
  obtain ⟨e, ev⟩ := IntOp.andi_eq_one.mp e
  obtain ⟨e, ew⟩ := IntOp.andi_eq_one.mp e
  obtain ⟨e, eb⟩ := IntOp.andi_eq_one.mp e
  obtain ⟨ex, eg⟩ := IntOp.andi_eq_one.mp e
  exact ⟨fun t d => entries x _ _ _ ex _, fun d => entries g _ _ _ eg _, fun d => entries b _ _ _ eb _,
    fun d k => entries w _ _ _ ew _, fun j d => entries v _ _ _ ev _, fun t d => entries y _ _ _ ey _⟩

end Cert.Pre_finite3.Hand

namespace Cert.Proof

open Idealize.ShloMosaic Idealize.ShloMosaic.TcCoe Idealize.SL.Sem
open Cert.Ffn

section Kernel

open Cert.Kernel3Ideal Cert.Kernel3Ideal.Hand

/-- The real arguments of a device. -/
def args3 (m : (ℓ : Loc nD τ sig) → Buf (Elt Ideal) ℓ) (c : Dev nD) : Args :=
  Cert.Pre_finite3.Hand.args (a0 m c) (a1 m c) (a2 m c) (a3 m c) (a4 m c) (a5 m c)

variable (m : (ℓ : Loc nD τ sig) → Buf (Elt Ideal) ℓ) (ρ : Dev nD → PrngReg)

theorem kernel3_run (A : Dev nD → Args) (H : ∀ c, Holds (a0 m c) (a1 m c) (a2 m c) (a3 m c) (a4 m c) (a5 m c) (A c)) :
    θ_run (defs (F := Ideal)) (onTc (τ := τ) (main (F := Ideal))) ⟨m, fun _ => 0, ρ⟩ (fun r => ∀ c : Dev nD,
      r.2.mem ((c.tc : Thread nD τ).loc main_v29_0) = rDf (A c)
      ∧ r.2.mem ((c.tc : Thread nD τ).loc main_v29_1) = rDg (A c)
      ∧ r.2.mem ((c.tc : Thread nD τ).loc main_v29_2) = rDu (A c)
      ∧ r.2.mem ((c.tc : Thread nD τ).loc main_v29_3) = rDr (A c)
      ∧ r.2.mem ((c.tc : Thread nD τ).loc main_v29_4) = rSt (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1.trans (final6 (H c)),
      (h c).2.1.trans (final7 (H c)),
      (h c).2.2.1.trans (final8 (H c)),
      (h c).2.2.2.1.trans (final9 (H c)),
      (h c).2.2.2.2.1.trans (final10 (H c)),
      (h c).2.2.2.2.2⟩)
    (Value.run_blocks (F := Ideal) m ρ)

end Kernel

section Reference

open Cert.Reference3Ideal Cert.Reference3Ideal.Hand
open Cert.Kernel3Ideal.Hand (Holds rDf rDg rDu rDr rSt)

variable (m : (ℓ : Loc nD τ sig) → Buf (Elt Ideal) ℓ) (ρ : Dev nD → PrngReg)

theorem reference3_run (A : Dev nD → Args) (H : ∀ c, Holds (r0 (StableHlo.launchContents m c)) (r1 (StableHlo.launchContents m c)) (r2 (StableHlo.launchContents m c))
      (r3 (StableHlo.launchContents m c)) (r4 (StableHlo.launchContents m c)) (r5 (StableHlo.launchContents m c)) (A c)) :
    θ_run (defs (F := Ideal)) (onTc (τ := τ) (main (F := Ideal))) ⟨m, fun _ => 0, ρ⟩ (fun r => ∀ c : Dev nD,
      r.2.mem ((c.tc : Thread nD τ).loc main_v82) = rDf (A c)
      ∧ r.2.mem ((c.tc : Thread nD τ).loc main_v84) = rDg (A c)
      ∧ r.2.mem ((c.tc : Thread nD τ).loc main_v86) = rDu (A c)
      ∧ r.2.mem ((c.tc : Thread nD τ).loc main_v81) = rDr (A c)
      ∧ r.2.mem ((c.tc : Thread nD τ).loc main_v88) = rSt (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1.trans (res_df (H c)),
      (h c).2.1.trans (res_dg (H c)),
      (h c).2.2.1.trans (res_du (H c)),
      (h c).2.2.2.1.trans (res_dr (H c)),
      (h c).2.2.2.2.1.trans (res_st (H c)),
      (h c).2.2.2.2.2⟩)
    (Value.run (F := Ideal) m ρ)

end Reference

/-- From equal finite arguments the two programs end with equal gradients. -/
theorem algebraic3 : Cert.algebraic_Kernel3Ideal_Reference3Ideal_pre_finite3 := fun m g m' g' hP heq => by
  have hK : ∀ c, Cert.Kernel3Ideal.Hand.Holds (Cert.Kernel3Ideal.Hand.a0 m c) (Cert.Kernel3Ideal.Hand.a1 m c) (Cert.Kernel3Ideal.Hand.a2 m c)
      (Cert.Kernel3Ideal.Hand.a3 m c) (Cert.Kernel3Ideal.Hand.a4 m c) (Cert.Kernel3Ideal.Hand.a5 m c) (args3 m c) := fun c =>
    Cert.Pre_finite3.Hand.holds _ _ _ _ _ _ (fun j => congrFun (hP c) j)
  refine ⟨fun c => Cert.Kernel3Ideal.Hand.rDf (args3 m c), fun c => Cert.Kernel3Ideal.Hand.rDg (args3 m c), fun c => Cert.Kernel3Ideal.Hand.rDu (args3 m c),
    fun c => Cert.Kernel3Ideal.Hand.rDr (args3 m c), fun c => Cert.Kernel3Ideal.Hand.rSt (args3 m c),
    kernel3_run m g (args3 m) hK, reference3_run m' g' (args3 m) fun c => ?_⟩
  obtain ⟨e0, e1, e2, e3, e4, e5⟩ := heq c
  have H := hK c
  exact ⟨fun t d => (congrFun e0 (ix2 t d)).trans (H.r t d), fun d => (congrFun e1 (ix2 0 d)).trans (H.γ d), fun d => (congrFun e2 (ix2 0 d)).trans (H.β d),
    fun d k => (congrFun e3 (ix2 d k)).trans (H.win d k), fun j d => (congrFun e4 (ix2 j d)).trans (H.wout j d), fun t d => (congrFun e5 (ix2 t d)).trans (H.dr t d)⟩

end Cert.Proof

end
-- ==== Proof.FfnClaims.lean ====
/-
  The runs of the feed-forward calls end with the arguments as launched and every semaphore at zero.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.FfnAlg
public import Idealize.ShloMosaic.Lib.Quiescent

@[expose] public section

noncomputable section

namespace Cert.Proof

open Idealize.ShloMosaic Idealize.ShloMosaic.TcCoe Idealize.SL.Sem

/-- The programs of the feed-forward backward call. -/
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

/-- The programs of the input weight's gradient. -/
theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The programs of the output weight's gradient. -/
theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The programs of the feed-forward forward call. -/
theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

/-- The frames under the precondition are the plain ones. -/
theorem frame_pi3_pre : Cert.quiescent_Kernel3Ideal_pre_finite3 := fun m ρ _ => Cert.Kernel3Ideal.Gen.frame m ρ
theorem frame_ri3_pre : Cert.quiescent_Reference3Ideal_pre_finite3 := fun m ρ _ => frame_ri3 m ρ trivial

end Cert.Proof

end
-- ==== Proof.DwIn.lean ====
/-
  The gradient of a feed-forward input weight: the kernel's eight partial products, one to a block of rows, add up to
  the reference's one product.
-/
module

public import proofs.«01_k».proof.Defs
public import proofs.«01_k».proof.Proof.Gen.Kernel4Ideal.Value
public import proofs.«01_k».proof.Proof.Gen.Reference4Ideal
public import proofs.«01_k».proof.Proof.Gen.Reference4Ideal.Run
public import proofs.«01_k».proof.Proof.Rows

@[expose] public section

set_option maxRecDepth 16384

noncomputable section

namespace Cert.Kernel4Ideal.Hand

open Cert.Kernel4Ideal Cert.Kernel4Ideal.Gen Cert.Rows
open Idealize.ShloMosaic Idealize.ShloMosaic.TcCoe
open scoped BigOperators

/-- One grid point's update: the accumulator plus the product over the block's rows. -/
theorem pay2_at (v3 : Vec Ideal S2048x1024 .f32) (v4 v7 : Vec Ideal S1x1024 .f32) (v11 : Vec Ideal S1024x1408 .f32) (v13 : Vec Ideal S2048x1408 .bf16) (i : Fin 1024) (j : Fin 1408) :
    k0_pay2 v3 v4 v7 v11 v13 (ix2 i j) = v11 (ix2 i j) + ∑ k : Fin 2048, (v3 (ix2 k i) * v4 (ix2 0 i) + v7 (ix2 0 i)) * v13 (ix2 k j) := by
  pointwise [k0_pay2]

theorem pay1_at (i : Fin 1024) (j : Fin 1408) : k0_pay1 (F := Ideal) (ix2 i j) = 0 := by
  pointwise [k0_pay1]

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val % 8, t.val / 8 % 2] := (by decide +kernel : ∀ t : Fin grid0.N, win0_3.index t = ![t.val % 8, t.val / 8 % 2])

theorem row_val (n : ℕ) (k : Fin 2048) : (row n k).val = n % 8 * 2048 + k.val := rfl
theorem half_val (n : ℕ) (j : Fin 1408) : (half n j).val = n / 8 % 2 * 1408 + j.val := rfl

theorem place0 (t : Fin cfg0.N) (k : Fin 2048) (i : Fin 1024) : ((cfg0.win 0).blk t).view.emb (ix2 k i) = ix2 (row t.val k) i := by
  blk_ext [idx0, row_val]
theorem place1 (t : Fin cfg0.N) (i : Fin 1024) : ((cfg0.win 1).blk t).view.emb (ix2 (0 : Fin 1) i) = ix2 (0 : Fin 1) i := by
  blk_ext [idx1]
theorem place2 (t : Fin cfg0.N) (i : Fin 1024) : ((cfg0.win 2).blk t).view.emb (ix2 (0 : Fin 1) i) = ix2 (0 : Fin 1) i := by
  blk_ext [idx2]
theorem place3 (t : Fin cfg0.N) (k : Fin 2048) (j : Fin 1408) : ((cfg0.win 3).blk t).view.emb (ix2 k j) = ix2 (row t.val k) (half t.val j) := by
  blk_ext [idx3, row_val, half_val]

variable (m : (ℓ : Loc nD τ sig) → Buf (Elt Ideal) ℓ) (c : Dev nD)

abbrev aX : S16384x1024.Idx → EReal := m ((c.tc : Thread nD τ).loc main_arg0)
abbrev aG : S1x1024.Idx → EReal := m ((c.tc : Thread nD τ).loc main_arg1)
abbrev aB : S1x1024.Idx → EReal := m ((c.tc : Thread nD τ).loc main_arg2)
abbrev aD : S16384x2816.Idx → EReal := m ((c.tc : Thread nD τ).loc main_arg3)

theorem find0 (t : Fin cfg0.N) (k : Fin 2048) (i : Fin 1024) : (iblk m c 0 t : S2048x1024.Idx → EReal) (ix2 k i) = aX m c (ix2 (row t.val k) i) :=
  congrArg (aX m c) (place0 t k i)
theorem find1 (t : Fin cfg0.N) (i : Fin 1024) : (iblk m c 1 t : S1x1024.Idx → EReal) (ix2 (0 : Fin 1) i) = aG m c (ix2 (0 : Fin 1) i) :=
  congrArg (aG m c) (place1 t i)
theorem find2 (t : Fin cfg0.N) (i : Fin 1024) : (iblk m c 2 t : S1x1024.Idx → EReal) (ix2 (0 : Fin 1) i) = aB m c (ix2 (0 : Fin 1) i) :=
  congrArg (aB m c) (place2 t i)
theorem find3 (t : Fin cfg0.N) (k : Fin 2048) (j : Fin 1408) : (iblk m c 3 t : S2048x1408.Idx → EReal) (ix2 k j) = aD m c (ix2 (row t.val k) (half t.val j)) :=
  congrArg (aD m c) (place3 t k j)

/-- One row's part of the gradient: the layer's input there times the incoming gradient there. -/
def term (x : Fin 16384) (i : Fin 1024) (j : Fin 2816) : EReal :=
  (aX m c (ix2 x i) * aG m c (ix2 (0 : Fin 1) i) + aB m c (ix2 (0 : Fin 1) i)) * aD m c (ix2 x j)

/-- What grid point `n` adds to the accumulator. -/
def partAt (n : ℕ) (i : Fin 1024) (j : Fin 1408) : EReal :=
  ∑ k : Fin 2048, term m c (row n k) i (half n j)

def part (n : ℕ) (y : S1024x1408.Idx) : EReal := partAt m c n (y 0 : Fin 1024) (y 1 : Fin 1408)

theorem step_ix (n : ℕ) (h : n < cfg0.N) (acc : Vec Ideal S1024x1408 .f32) (i : Fin 1024) (j : Fin 1408) :
    Value.step4 m c n h acc (ix2 i j) = acc (ix2 i j) + partAt m c n i j := by
  refine (pay2_at _ _ _ _ _ _ _).trans (congrArg (acc _ + ·) ?_)
  refine Finset.sum_congr rfl fun k _ => ?_
  rw [find0 m c ⟨n, h⟩, find1 m c ⟨n, h⟩, find2 m c ⟨n, h⟩, find3 m c ⟨n, h⟩]
  rfl

theorem step_at (n : ℕ) (h : n < cfg0.N) (acc : Vec Ideal S1024x1408 .f32) (y : S1024x1408.Idx) :
    Value.step4 m c n h acc y = acc y + part m c n y := by
  have hy : y = ix2 (y 0 : Fin 1024) (y 1 : Fin 1408) := by funext i; fin_cases i <;> rfl
  exact (congrArg (Value.step4 m c n h acc) hy).trans ((step_ix m c n h acc _ _).trans (congrArg (fun z => acc z + part m c n y) hy.symm))

theorem reset_at (n : ℕ) (h : n < cfg0.N) (y : S1024x1408.Idx) :
    Value.reset4 m c n h y = 0 + part m c n y := by
  refine (step_at m c n h (k0_pay1 (F := Ideal)) y).trans (congrArg (· + part m c n y) ?_)
  have hy : y = ix2 (y 0 : Fin 1024) (y 1 : Fin 1408) := by funext i; fin_cases i <;> rfl
  exact (congrArg (k0_pay1 (F := Ideal)) hy).trans (pay1_at _ _)

/-- The kernel's result at an index. -/
theorem G4_at (i : Fin 1024) (j : Fin 2816) :
    Value.G4 m c (ix2 i j) = ∑ x : Fin 16384, term m c x i j := by
  have hi := i.isLt
  have hj := j.isLt
  have hr : Value.run4Of (ix2 i j) = j.val / 1408 := by
    show 2 * (i.val / 1024 - 0) + 1 * (j.val / 1408 - 0) = _
    omega
  have hN : 8 * Value.run4Of (ix2 i j) + 7 < cfg0.N := by
    rw [hr]; exact lt_of_lt_of_eq (show 8 * (j.val / 1408) + 7 < 16 by omega) N_0.symm
  unfold Value.G4
  rw [dif_pos hN]
  refine (Pipeline.accAt_add_apply _ _ (fun _ => 0) (part m c) (8 * Value.run4Of (ix2 i j)) 7 (fun h y => reset_at m c _ h y) (fun n h acc y _ _ => step_at m c n h acc y) 7 (le_refl _) hN _).trans ?_
  rw [zero_add, ← sum_rows (Value.run4Of (ix2 i j)) (fun x => term m c x i j)]
  refine Finset.sum_congr rfl fun s hs => ?_
  have hs : s < 8 := Finset.mem_range.mp hs
  have e0 : ((Value.loc4Of (ix2 i j)) 0 : Fin 1024) = i := Fin.ext (Nat.mod_eq_of_lt hi)
  have e1 : half (8 * Value.run4Of (ix2 i j) + s) ((Value.loc4Of (ix2 i j)) 1 : Fin 1408) = j := by
    apply Fin.ext
    show (8 * Value.run4Of (ix2 i j) + s) / 8 % 2 * 1408 + j.val % 1408 = j.val
    rw [hr]
    show (8 * (j.val / 1408) + s) / 8 % 2 * 1408 + j.val % 1408 = j.val
    omega
  exact congrArg₂ (fun a b => ∑ k : Fin 2048, term m c (row (8 * Value.run4Of (ix2 i j) + s) k) a b) e0 e1

/-- The reference's result at an index: the same terms, over all rows at once. -/
theorem ref_at (x : FVec Ideal S16384x1024 .f32) (g b : FVec Ideal S1x1024 .f32) (d : FVec Ideal S16384x2816 .bf16) (i : Fin 1024) (j : Fin 2816) :
    (transpose S1024x2816 [1, 0] (Host.dotGeneral Cert.Reference4Ideal.dot_S16384x2816_S16384x1024_S2816x1024_0_0_1_1_n_n none (extf .f32 d Cert.Reference4Ideal.Facts₀.bitsLt_bf16_f32)
      (addf (mulf x (broadcastInDim S16384x1024 ![0, 1] Cert.Reference4Ideal.Facts₀.bcast_S1x1024_S16384x1024_0_1 g)) (broadcastInDim S16384x1024 ![0, 1] Cert.Reference4Ideal.Facts₀.bcast_S1x1024_S16384x1024_0_1 b)))
      Cert.Reference4Ideal.Facts₀.transposes_S2816x1024_S1024x2816_1_0 : FVec Ideal S1024x2816 .f32) (ix2 i j)
      = ∑ t : Fin 16384, d (ix2 t j) * (x (ix2 t i) * g (ix2 (0 : Fin 1) i) + b (ix2 (0 : Fin 1) i)) := by
  pointwise []

end Cert.Kernel4Ideal.Hand

namespace Cert.Proof

open Idealize.ShloMosaic Idealize.ShloMosaic.TcCoe Idealize.SL.Sem

/-- From equal arguments the two programs end with equal gradients. -/
theorem algebraic4 : Cert.algebraic_Kernel4Ideal_Reference4Ideal := fun m g m' g' _ heq => by
  refine ⟨fun c => Cert.Kernel4Ideal.Value.G4 m c, Cert.Kernel4Ideal.Value.run (F := Ideal) m g,
    (θ_run Cert.Reference4Ideal.defs _ _).mono (fun r h c => ⟨(h c).1.trans ?_, (h c).2⟩) (Cert.Reference4Ideal.Value.run (F := Ideal) m' g')⟩
  obtain ⟨e0, e1, e2, e3⟩ := heq c
  rw [e0, e1, e2, e3]
  funext y
  have hy : y = ix2 (y 0 : Fin 1024) (y 1 : Fin 2816) := by funext i; fin_cases i <;> rfl
  refine (congrArg _ hy).trans (((Cert.Kernel4Ideal.Hand.ref_at _ _ _ _ _ _).trans ?_).trans (congrArg (Cert.Kernel4Ideal.Value.G4 m c) hy).symm)
  refine Eq.trans ?_ (Cert.Kernel4Ideal.Hand.G4_at m c _ _).symm
  exact Finset.sum_congr rfl fun t _ => mul_comm _ _

end Cert.Proof

end
-- ==== Proof.DwOut.lean ====
/-
  The gradient of the feed-forward output weight: the kernel's eight partial products, one to a block of rows, add up
  to the reference's one product.
-/
module

public import proofs.«01_k».proof.Defs
public import proofs.«01_k».proof.Proof.Gen.Kernel5Ideal.Value
public import proofs.«01_k».proof.Proof.Gen.Reference5Ideal
public import proofs.«01_k».proof.Proof.Gen.Reference5Ideal.Run
public import proofs.«01_k».proof.Proof.Rows

@[expose] public section

set_option maxRecDepth 16384

noncomputable section

namespace Cert.Kernel5Ideal.Hand

open Cert.Kernel5Ideal Cert.Kernel5Ideal.Gen Cert.Rows
open Idealize.ShloMosaic Idealize.ShloMosaic.TcCoe
open scoped BigOperators

/-- The gated activation of two elements: the gate times its logistic, times the linear part. -/
def gated (g u : EReal) : EReal := g * Ideal.logistic g * u

/-- One grid point's update: the accumulator plus the product over the block's rows. -/
theorem pay2_at (v3 v13 : Vec Ideal S2048x1408 .bf16) (v17 : Vec Ideal S1408x1024 .f32) (v19 : Vec Ideal S2048x1024 .bf16) (i : Fin 1408) (j : Fin 1024) :
    k0_pay2 v3 v13 v17 v19 (ix2 i j) = v17 (ix2 i j) + ∑ k : Fin 2048, gated (v3 (ix2 k i)) (v13 (ix2 k i)) * v19 (ix2 k j) := by
  pointwise [k0_pay2]
  simp only [sub_eq_add_neg, zero_add]
  rfl

theorem pay1_at (i : Fin 1408) (j : Fin 1024) : k0_pay1 (F := Ideal) (ix2 i j) = 0 := by
  pointwise [k0_pay1]

/-- The reference's result at an index: the same terms, over all rows at once. -/
theorem ref_at (g u : FVec Ideal S16384x2816 .bf16) (d : FVec Ideal S16384x1024 .bf16) (i : Fin 2816) (j : Fin 1024) :
    (transpose S2816x1024 [1, 0] (Host.dotGeneral Cert.Reference5Ideal.dot_S16384x1024_S16384x2816_S1024x2816_0_0_1_1_n_n none (extf .f32 d Cert.Reference5Ideal.Facts₀.bitsLt_bf16_f32)
      (mulf (mulf (extf .f32 g Cert.Reference5Ideal.Facts₀.bitsLt_bf16_f32) (Host.divf (broadcastInDim S16384x2816 ![] Cert.Reference5Ideal.Facts₀.bcast_S_S16384x2816 (constant Cert.Reference5Ideal.S_ .f32 0x3F800000#32))
        (addf (broadcastInDim S16384x2816 ![] Cert.Reference5Ideal.Facts₀.bcast_S_S16384x2816 (constant Cert.Reference5Ideal.S_ .f32 0x3F800000#32)) (Host.exp (Host.negf (extf .f32 g Cert.Reference5Ideal.Facts₀.bitsLt_bf16_f32))))))
        (extf .f32 u Cert.Reference5Ideal.Facts₀.bitsLt_bf16_f32)))
      Cert.Reference5Ideal.Facts₀.transposes_S1024x2816_S2816x1024_1_0 : FVec Ideal S2816x1024 .f32) (ix2 i j)
      = ∑ t : Fin 16384, d (ix2 t j) * gated (g (ix2 t i)) (u (ix2 t i)) := by
  pointwise []
  rfl

theorem idx0 : ∀ t : Fin cfg0.N, win0_0.index t = ![t.val % 8, t.val / 8 % 2] := (by decide +kernel : ∀ t : Fin grid0.N, win0_0.index t = ![t.val % 8, t.val / 8 % 2])
theorem idx1 : ∀ t : Fin cfg0.N, win0_1.index t = ![t.val % 8, t.val / 8 % 2] := (by decide +kernel : ∀ t : Fin grid0.N, win0_1.index t = ![t.val % 8, t.val / 8 % 2])
theorem idx2 : ∀ t : Fin cfg0.N, win0_2.index t = ![t.val % 8, 0] := (by decide +kernel : ∀ t : Fin grid0.N, win0_2.index t = ![t.val % 8, 0])

theorem row_val (n : ℕ) (k : Fin 2048) : (row n k).val = n % 8 * 2048 + k.val := rfl
theorem half_val (n : ℕ) (j : Fin 1408) : (half n j).val = n / 8 % 2 * 1408 + j.val := rfl

theorem place0 (t : Fin cfg0.N) (k : Fin 2048) (i : Fin 1408) : ((cfg0.win 0).blk t).view.emb (ix2 k i) = ix2 (row t.val k) (half t.val i) := by
  blk_ext [idx0, row_val, half_val]
theorem place1 (t : Fin cfg0.N) (k : Fin 2048) (i : Fin 1408) : ((cfg0.win 1).blk t).view.emb (ix2 k i) = ix2 (row t.val k) (half t.val i) := by
  blk_ext [idx1, row_val, half_val]
theorem place2 (t : Fin cfg0.N) (k : Fin 2048) (j : Fin 1024) : ((cfg0.win 2).blk t).view.emb (ix2 k j) = ix2 (row t.val k) j := by
  blk_ext [idx2, row_val]

variable (m : (ℓ : Loc nD τ sig) → Buf (Elt Ideal) ℓ) (c : Dev nD)

abbrev aG : S16384x2816.Idx → EReal := m ((c.tc : Thread nD τ).loc main_arg0)
abbrev aU : S16384x2816.Idx → EReal := m ((c.tc : Thread nD τ).loc main_arg1)
abbrev aD : S16384x1024.Idx → EReal := m ((c.tc : Thread nD τ).loc main_arg2)

theorem find0 (t : Fin cfg0.N) (k : Fin 2048) (i : Fin 1408) : (iblk m c 0 t : S2048x1408.Idx → EReal) (ix2 k i) = aG m c (ix2 (row t.val k) (half t.val i)) :=
  congrArg (aG m c) (place0 t k i)
theorem find1 (t : Fin cfg0.N) (k : Fin 2048) (i : Fin 1408) : (iblk m c 1 t : S2048x1408.Idx → EReal) (ix2 k i) = aU m c (ix2 (row t.val k) (half t.val i)) :=
  congrArg (aU m c) (place1 t k i)
theorem find2 (t : Fin cfg0.N) (k : Fin 2048) (j : Fin 1024) : (iblk m c 2 t : S2048x1024.Idx → EReal) (ix2 k j) = aD m c (ix2 (row t.val k) j) :=
  congrArg (aD m c) (place2 t k j)

/-- One row's part of the gradient: the gated activation there times the incoming gradient there. -/
def term (x : Fin 16384) (i : Fin 2816) (j : Fin 1024) : EReal :=
  gated (aG m c (ix2 x i)) (aU m c (ix2 x i)) * aD m c (ix2 x j)

/-- What grid point `n` adds to the accumulator. -/
def partAt (n : ℕ) (i : Fin 1408) (j : Fin 1024) : EReal :=
  ∑ k : Fin 2048, term m c (row n k) (half n i) j

def part (n : ℕ) (y : S1408x1024.Idx) : EReal := partAt m c n (y 0 : Fin 1408) (y 1 : Fin 1024)

theorem step_ix (n : ℕ) (h : n < cfg0.N) (acc : Vec Ideal S1408x1024 .f32) (i : Fin 1408) (j : Fin 1024) :
    Value.step3 m c n h acc (ix2 i j) = acc (ix2 i j) + partAt m c n i j := by
  refine (pay2_at _ _ _ _ _ _).trans (congrArg (acc _ + ·) ?_)
  refine Finset.sum_congr rfl fun k _ => ?_
  rw [find0 m c ⟨n, h⟩, find1 m c ⟨n, h⟩, find2 m c ⟨n, h⟩]
  rfl

theorem step_at (n : ℕ) (h : n < cfg0.N) (acc : Vec Ideal S1408x1024 .f32) (y : S1408x1024.Idx) :
    Value.step3 m c n h acc y = acc y + part m c n y := by
  have hy : y = ix2 (y 0 : Fin 1408) (y 1 : Fin 1024) := by funext i; fin_cases i <;> rfl
  exact (congrArg (Value.step3 m c n h acc) hy).trans ((step_ix m c n h acc _ _).trans (congrArg (fun z => acc z + part m c n y) hy.symm))

theorem reset_at (n : ℕ) (h : n < cfg0.N) (y : S1408x1024.Idx) :
    Value.reset3 m c n h y = 0 + part m c n y := by
  refine (step_at m c n h (k0_pay1 (F := Ideal)) y).trans (congrArg (· + part m c n y) ?_)
  have hy : y = ix2 (y 0 : Fin 1408) (y 1 : Fin 1024) := by funext i; fin_cases i <;> rfl
  exact (congrArg (k0_pay1 (F := Ideal)) hy).trans (pay1_at _ _)

/-- The kernel's result at an index. -/
theorem G3_at (i : Fin 2816) (j : Fin 1024) :
    Value.G3 m c (ix2 i j) = ∑ x : Fin 16384, term m c x i j := by
  have hi := i.isLt
  have hj := j.isLt
  have hr : Value.run3Of (ix2 i j) = i.val / 1408 := by
    show 1 * (i.val / 1408 - 0) + 1 * (j.val / 1024 - 0) = _
    omega
  have hN : 8 * Value.run3Of (ix2 i j) + 7 < cfg0.N := by
    rw [hr]; exact lt_of_lt_of_eq (show 8 * (i.val / 1408) + 7 < 16 by omega) N_0.symm
  unfold Value.G3
  rw [dif_pos hN]
  refine (Pipeline.accAt_add_apply _ _ (fun _ => 0) (part m c) (8 * Value.run3Of (ix2 i j)) 7 (fun h y => reset_at m c _ h y) (fun n h acc y _ _ => step_at m c n h acc y) 7 (le_refl _) hN _).trans ?_
  rw [zero_add, ← sum_rows (Value.run3Of (ix2 i j)) (fun x => term m c x i j)]
  refine Finset.sum_congr rfl fun s hs => ?_
  have hs : s < 8 := Finset.mem_range.mp hs
  have e0 : half (8 * Value.run3Of (ix2 i j) + s) ((Value.loc3Of (ix2 i j)) 0 : Fin 1408) = i := by
    apply Fin.ext
    show (8 * Value.run3Of (ix2 i j) + s) / 8 % 2 * 1408 + i.val % 1408 = i.val
    rw [hr]
    omega
  have e1 : ((Value.loc3Of (ix2 i j)) 1 : Fin 1024) = j := Fin.ext (Nat.mod_eq_of_lt hj)
  exact congrArg₂ (fun a b => ∑ k : Fin 2048, term m c (row (8 * Value.run3Of (ix2 i j) + s) k) a b) e0 e1

end Cert.Kernel5Ideal.Hand

namespace Cert.Proof

open Idealize.ShloMosaic Idealize.ShloMosaic.TcCoe Idealize.SL.Sem

/-- From equal arguments the two programs end with equal gradients. -/
theorem algebraic5 : Cert.algebraic_Kernel5Ideal_Reference5Ideal := fun m g m' g' _ heq => by
  refine ⟨fun c => Cert.Kernel5Ideal.Value.G3 m c, Cert.Kernel5Ideal.Value.run (F := Ideal) m g,
    (θ_run Cert.Reference5Ideal.defs _ _).mono (fun r h c => ⟨(h c).1.trans ?_, (h c).2⟩) (Cert.Reference5Ideal.Value.run (F := Ideal) m' g')⟩
  obtain ⟨e0, e1, e2⟩ := heq c
  rw [e0, e1, e2]
  funext y
  have hy : y = ix2 (y 0 : Fin 2816) (y 1 : Fin 1024) := by funext i; fin_cases i <;> rfl
  refine (congrArg _ hy).trans (((Cert.Kernel5Ideal.Hand.ref_at _ _ _ _ _).trans ?_).trans (congrArg (Cert.Kernel5Ideal.Value.G3 m c) hy).symm)
  refine Eq.trans ?_ (Cert.Kernel5Ideal.Hand.G3_at m c _ _).symm
  exact Finset.sum_congr rfl fun t _ => mul_comm _ _

end Cert.Proof

end
-- ==== Proof.K6Outs.lean ====
/-
  What each grid point of the feed-forward forward call leaves in its output blocks, as a term of its input blocks and of
  the two weights it holds: at the first point the weights are copied in, at the later ones they are found there.
-/
module

public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Kernel6Ideal.Hand

open Cert.Kernel6Ideal Cert.Kernel6Ideal.Gen Cert.Kernel6Ideal.Value
open Idealize.ShloMosaic Idealize.ShloMosaic.TcCoe

variable {F : FTy → Type} [FloatOps F]

theorem hz2 : (![0, 0] : Fin 2 → Nat) = fun _ => 0 := funext fun a => by fin_cases a <;> rfl

/-- One store of a whole buffer leaves what was stored. -/
theorem canon_whole {Val : EltTy → Type} [∀ e, Nonempty (Val e)] {S : Shape} {e : EltTy} (w : S.Idx → Val e) :
    View.canon [⟨Rect.whole S, w⟩] = w := by
  funext y
  have h := View.canon_cons_emb (Rect.whole S) w [] y
  have he : (Rect.whole S).emb y = y := by funext a; apply Fin.ext; simp [Rect.whole]
  rwa [he] at h

/-- A load from a buffer stored whole reads what was stored. -/
theorem readCov_whole {Val : EltTy → Type} [∀ e, Nonempty (Val e)] {sig : RefSig} {κ : Kind} {sp : Space} {S : Shape} {e : EltTy} (v : View sig κ sp S e) (w : S.Idx → Val e) (r : Rect S) :
    v.readCov [⟨Rect.whole S, w⟩] r.toLoadRect = View.ld w r := by
  rw [View.readCov_eq_canon', canon_whole]

theorem whole0 {c : Dev nD} (f : HbBuf0 (F := F) c hbM0_0) : ReadAs.same.apply (View.read (Elt F) (View.whole main_v0) f) = f := rfl
theorem whole1 {c : Dev nD} (f : HbBuf0 (F := F) c hbM0_1) : ReadAs.same.apply (View.read (Elt F) (View.whole main_v1) f) = f := rfl

section Terms

variable (x0 : Vec F S512x1024 .f32) (x1 x2 : Vec F S1x1024 .f32) (w0 : Vec F S1024x5632 .bf16) (w1 : Vec F S2816x1024 .bf16)

/-- The product with the output weight, accumulated over the six stretches of the hidden width. -/
def accv : FVec F S512x1024 .f32 :=
  k0_pay1
        (k0_pay38 (k0_pay6 x0 x1 x2) (View.ld w0 (Rect.unit ![0, 2560] ![1024, 256] inb_S1024x5632_S1024x256_0_2560))
          (View.ld w0 (Rect.unit ![0, 5376] ![1024, 256] inb_S1024x5632_S1024x256_0_5376))
          (View.ld w1 (Rect.unit ![2560, 0] ![256, 1024] inb_S2816x1024_S256x1024_2560_0))
          (k0_pay33
            (k0_pay29 (k0_pay6 x0 x1 x2)
              (View.ld w0 (Rect.unit ![0, 4864] ![1024, 512] inb_S1024x5632_S1024x512_0_4864)))
            (k0_pay32 (k0_pay6 x0 x1 x2)
              (View.ld w0 (Rect.unit ![0, 2048] ![1024, 512] inb_S1024x5632_S1024x512_0_2048)))
            (View.ld w1 (Rect.unit ![2048, 0] ![512, 1024] inb_S2816x1024_S512x1024_2048_0))
            (k0_pay27
              (k0_pay23 (k0_pay6 x0 x1 x2)
                (View.ld w0 (Rect.unit ![0, 1536] ![1024, 512] inb_S1024x5632_S1024x512_0_1536)))
              (k0_pay24 (k0_pay6 x0 x1 x2)
                (View.ld w0 (Rect.unit ![0, 4352] ![1024, 512] inb_S1024x5632_S1024x512_0_4352)))
              (View.ld w1 (Rect.unit ![1536, 0] ![512, 1024] inb_S2816x1024_S512x1024_1536_0))
              (k0_pay22 (k0_pay6 x0 x1 x2)
                (k0_pay18 (k0_pay6 x0 x1 x2)
                  (View.ld w0 (Rect.unit ![0, 1024] ![1024, 512] inb_S1024x5632_S1024x512_0_1024)))
                (View.ld w0 (Rect.unit ![0, 3840] ![1024, 512] inb_S1024x5632_S1024x512_0_3840))
                (View.ld w1 (Rect.unit ![1024, 0] ![512, 1024] inb_S2816x1024_S512x1024_1024_0))
                (k0_pay17 (k0_pay6 x0 x1 x2)
                  (View.ld w0 (Rect.unit ![0, 512] ![1024, 512] inb_S1024x5632_S1024x512_0_512))
                  (View.ld w0 (Rect.unit ![0, 3328] ![1024, 512] inb_S1024x5632_S1024x512_0_3328))
                  (View.ld w1 (Rect.unit ![512, 0] ![512, 1024] inb_S2816x1024_S512x1024_512_0))
                  (k0_pay12
                    (k0_pay11 x0 x1 x2 (View.ld w0 (Rect.unit ![0, 0] ![1024, 512] inb_S1024x5632_S1024x512_0_0))
                      (View.ld w0 (Rect.unit ![0, 2816] ![1024, 512] inb_S1024x5632_S1024x512_0_2816))
                      (View.ld w1 (Rect.unit ![0, 0] ![512, 1024] inb_S2816x1024_S512x1024_0_0)))))))))

/-- The gate, stored stretch by stretch. -/
def gv : Vec F S512x2816 .bf16 :=
  View.canon
      [⟨Rect.unit ![0, 2560] ![512, 256] inb_S512x2816_S512x256_0_2560,
          k0_pay36 (k0_pay6 x0 x1 x2)
            (View.ld w0 (Rect.unit ![0, 2560] ![1024, 256] inb_S1024x5632_S1024x256_0_2560))⟩,
        ⟨Rect.unit ![0, 2048] ![512, 512] inb_S512x2816_S512x512_0_2048,
          k0_pay30 (k0_pay6 x0 x1 x2)
            (View.ld w0 (Rect.unit ![0, 2048] ![1024, 512] inb_S1024x5632_S1024x512_0_2048))⟩,
        ⟨Rect.unit ![0, 1536] ![512, 512] inb_S512x2816_S512x512_0_1536,
          k0_pay25 (k0_pay6 x0 x1 x2)
            (View.ld w0 (Rect.unit ![0, 1536] ![1024, 512] inb_S1024x5632_S1024x512_0_1536))⟩,
        ⟨Rect.unit ![0, 1024] ![512, 512] inb_S512x2816_S512x512_0_1024,
          k0_pay20
            (k0_pay18 (k0_pay6 x0 x1 x2)
              (View.ld w0 (Rect.unit ![0, 1024] ![1024, 512] inb_S1024x5632_S1024x512_0_1024)))⟩,
        ⟨Rect.unit ![0, 512] ![512, 512] inb_S512x2816_S512x512_0_512,
          k0_pay15 (k0_pay6 x0 x1 x2) (View.ld w0 (Rect.unit ![0, 512] ![1024, 512] inb_S1024x5632_S1024x512_0_512))⟩,
        ⟨Rect.unit ![0, 0] ![512, 512] inb_S512x2816_S512x512_0_0,
          k0_pay9 x0 x1 x2 (View.ld w0 (Rect.unit ![0, 0] ![1024, 512] inb_S1024x5632_S1024x512_0_0))⟩]

/-- The up, stored stretch by stretch. -/
def uv : Vec F S512x2816 .bf16 :=
  View.canon
      [⟨Rect.unit ![0, 2560] ![512, 256] inb_S512x2816_S512x256_0_2560,
          k0_pay37 (k0_pay6 x0 x1 x2)
            (View.ld w0 (Rect.unit ![0, 5376] ![1024, 256] inb_S1024x5632_S1024x256_0_5376))⟩,
        ⟨Rect.unit ![0, 2048] ![512, 512] inb_S512x2816_S512x512_0_2048,
          k0_pay31 (k0_pay6 x0 x1 x2)
            (View.ld w0 (Rect.unit ![0, 4864] ![1024, 512] inb_S1024x5632_S1024x512_0_4864))⟩,
        ⟨Rect.unit ![0, 1536] ![512, 512] inb_S512x2816_S512x512_0_1536,
          k0_pay26 (k0_pay6 x0 x1 x2)
            (View.ld w0 (Rect.unit ![0, 4352] ![1024, 512] inb_S1024x5632_S1024x512_0_4352))⟩,
        ⟨Rect.unit ![0, 1024] ![512, 512] inb_S512x2816_S512x512_0_1024,
          k0_pay21 (k0_pay6 x0 x1 x2)
            (View.ld w0 (Rect.unit ![0, 3840] ![1024, 512] inb_S1024x5632_S1024x512_0_3840))⟩,
        ⟨Rect.unit ![0, 512] ![512, 512] inb_S512x2816_S512x512_0_512,
          k0_pay16 (k0_pay6 x0 x1 x2)
            (View.ld w0 (Rect.unit ![0, 3328] ![1024, 512] inb_S1024x5632_S1024x512_0_3328))⟩,
        ⟨Rect.unit ![0, 0] ![512, 512] inb_S512x2816_S512x512_0_0,
          k0_pay10 x0 x1 x2 (View.ld w0 (Rect.unit ![0, 2816] ![1024, 512] inb_S1024x5632_S1024x512_0_2816))⟩]

/-- The normed sum of the residual and the branch, and its inverse deviation. -/
def xv : FVec F S512x1024 .f32 := k0_pay4 (k0_pay5 x0 x1 x2) (accv x0 x1 x2 w0 w1)
def rv : FVec F S512x1 .f32 := k0_pay3 (k0_pay5 x0 x1 x2) (accv x0 x1 x2 w0 w1)

end Terms

section PointA

/-! The first point: the weights are copied in. -/

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg6 : Memref sig .tc .vmem S512x2816 .bf16) (harg6 : arg6.IsWhole) (arg7 : Memref sig .tc .vmem S512x2816 .bf16) (harg7 : arg7.IsWhole) (arg8 : Memref sig .tc .vmem S512x1024 .f32) (harg8 : arg8.IsWhole) (arg9 : Memref sig .tc .vmem S512x1 .f32) (harg9 : arg9.IsWhole) (arg10 : Memref sig .tc .vmem S1024x5632 .bf16) (harg10 : arg10.IsWhole) (arg11 : Memref sig .tc .vmem S2816x1024 .bf16) (harg11 : arg11.IsWhole) (arg12 : Memref sig .tc .vmem S512x1024 .f32) (harg12 : arg12.IsWhole) (hc0 : cond0_0 i)
    (x0 : Vec F S512x1024 .f32) (x1 : Vec F S1x1024 .f32) (x2 : Vec F S1x1024 .f32) (fh0 : HbBuf0 (F := F) c hbM0_0) (fh1 : HbBuf0 (F := F) c hbM0_1)

set_option maxHeartbeats 4000000 in
theorem out_A_3 :
    out0_A_3 c i arg1 harg1 arg2 harg2 arg3 harg3 arg6 harg6 arg7 harg7 arg8 harg8 arg9 harg9 arg10 harg10 arg11 harg11 arg12 harg12 hc0 x0 x1 x2 fh0 fh1 = gv x0 x1 x2 fh0 := by
  unfold out0_A_3
  refine (View.read_writes_eq_canon _ _ _ fun _ => cover0_A_3 ..).trans ?_
  unfold kernelRun0_A
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem out_A_4 :
    out0_A_4 c i arg1 harg1 arg2 harg2 arg3 harg3 arg6 harg6 arg7 harg7 arg8 harg8 arg9 harg9 arg10 harg10 arg11 harg11 arg12 harg12 hc0 x0 x1 x2 fh0 fh1 = uv x0 x1 x2 fh0 := by
  unfold out0_A_4
  refine (View.read_writes_eq_canon _ _ _ fun _ => cover0_A_4 ..).trans ?_
  unfold kernelRun0_A
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem out_A_5 :
    out0_A_5 c i arg1 harg1 arg2 harg2 arg3 harg3 arg6 harg6 arg7 harg7 arg8 harg8 arg9 harg9 arg10 harg10 arg11 harg11 arg12 harg12 hc0 x0 x1 x2 fh0 fh1 = xv x0 x1 x2 fh0 fh1 := by
  unfold out0_A_5
  refine (View.read_writes_eq_canon _ _ _ fun _ => cover0_A_5 ..).trans ?_
  unfold kernelRun0_A
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem out_A_6 :
    out0_A_6 c i arg1 harg1 arg2 harg2 arg3 harg3 arg6 harg6 arg7 harg7 arg8 harg8 arg9 harg9 arg10 harg10 arg11 harg11 arg12 harg12 hc0 x0 x1 x2 fh0 fh1 = rv x0 x1 x2 fh0 fh1 := by
  unfold out0_A_6
  refine (View.read_writes_eq_canon _ _ _ fun _ => cover0_A_6 ..).trans ?_
  unfold kernelRun0_A
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem sout_A_0 :
    sout0_A_0 c i arg1 harg1 arg2 harg2 arg3 harg3 arg6 harg6 arg7 harg7 arg8 harg8 arg9 harg9 arg10 harg10 arg11 harg11 arg12 harg12 hc0 x0 x1 x2 fh0 fh1 = fh0 := by
  unfold sout0_A_0
  refine (View.read_writes_eq_canon _ _ _ fun _ => scover0_A_0 ..).trans ?_
  unfold kernelRun0_A
  dsimp only
  try sl_unfold_words
  simp only [canon_whole, whole0, whole1]
  try rfl

set_option maxHeartbeats 4000000 in
theorem sout_A_1 :
    sout0_A_1 c i arg1 harg1 arg2 harg2 arg3 harg3 arg6 harg6 arg7 harg7 arg8 harg8 arg9 harg9 arg10 harg10 arg11 harg11 arg12 harg12 hc0 x0 x1 x2 fh0 fh1 = fh1 := by
  unfold sout0_A_1
  refine (View.read_writes_eq_canon _ _ _ fun _ => scover0_A_1 ..).trans ?_
  unfold kernelRun0_A
  dsimp only
  try sl_unfold_words
  simp only [canon_whole, whole0, whole1]
  try rfl

end PointA

section PointB

/-! The later points: the weights are found in place. -/

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg6 : Memref sig .tc .vmem S512x2816 .bf16) (harg6 : arg6.IsWhole) (arg7 : Memref sig .tc .vmem S512x2816 .bf16) (harg7 : arg7.IsWhole) (arg8 : Memref sig .tc .vmem S512x1024 .f32) (harg8 : arg8.IsWhole) (arg9 : Memref sig .tc .vmem S512x1 .f32) (harg9 : arg9.IsWhole) (arg10 : Memref sig .tc .vmem S1024x5632 .bf16) (harg10 : arg10.IsWhole) (arg11 : Memref sig .tc .vmem S2816x1024 .bf16) (harg11 : arg11.IsWhole) (arg12 : Memref sig .tc .vmem S512x1024 .f32) (harg12 : arg12.IsWhole) (hc0 : ¬cond0_0 i)
    (x0 : Vec F S512x1024 .f32) (x1 : Vec F S1x1024 .f32) (x2 : Vec F S1x1024 .f32) (xs0 : Vec F S1024x5632 .bf16) (xs1 : Vec F S2816x1024 .bf16) (fh0 : HbBuf0 (F := F) c hbM0_0) (fh1 : HbBuf0 (F := F) c hbM0_1)

set_option maxHeartbeats 4000000 in
theorem out_B_3 :
    out0_B_3 c i arg1 harg1 arg2 harg2 arg3 harg3 arg6 harg6 arg7 harg7 arg8 harg8 arg9 harg9 arg10 harg10 arg11 harg11 arg12 harg12 hc0 x0 x1 x2 xs0 xs1 fh0 fh1 = gv x0 x1 x2 xs0 := by
  unfold out0_B_3
  refine (View.read_writes_eq_canon _ _ _ fun _ => cover0_B_3 ..).trans ?_
  unfold kernelRun0_B
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem out_B_4 :
    out0_B_4 c i arg1 harg1 arg2 harg2 arg3 harg3 arg6 harg6 arg7 harg7 arg8 harg8 arg9 harg9 arg10 harg10 arg11 harg11 arg12 harg12 hc0 x0 x1 x2 xs0 xs1 fh0 fh1 = uv x0 x1 x2 xs0 := by
  unfold out0_B_4
  refine (View.read_writes_eq_canon _ _ _ fun _ => cover0_B_4 ..).trans ?_
  unfold kernelRun0_B
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem out_B_5 :
    out0_B_5 c i arg1 harg1 arg2 harg2 arg3 harg3 arg6 harg6 arg7 harg7 arg8 harg8 arg9 harg9 arg10 harg10 arg11 harg11 arg12 harg12 hc0 x0 x1 x2 xs0 xs1 fh0 fh1 = xv x0 x1 x2 xs0 xs1 := by
  unfold out0_B_5
  refine (View.read_writes_eq_canon _ _ _ fun _ => cover0_B_5 ..).trans ?_
  unfold kernelRun0_B
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

set_option maxHeartbeats 4000000 in
theorem out_B_6 :
    out0_B_6 c i arg1 harg1 arg2 harg2 arg3 harg3 arg6 harg6 arg7 harg7 arg8 harg8 arg9 harg9 arg10 harg10 arg11 harg11 arg12 harg12 hc0 x0 x1 x2 xs0 xs1 fh0 fh1 = rv x0 x1 x2 xs0 xs1 := by
  unfold out0_B_6
  refine (View.read_writes_eq_canon _ _ _ fun _ => cover0_B_6 ..).trans ?_
  unfold kernelRun0_B
  dsimp only
  try sl_unfold_words
  simp only [View.readAt_eq_ld, View.readCov_cons_toLoadRect, readCov_whole, whole0, whole1, View.canon_cons_unit_zero (S := S512x1024) hz2, View.canon_cons_unit_zero (S := S512x1) hz2, Memref.IsWhole.read_unread, View.ld_unit_zero (S := S512x1024) hz2, View.ld_unit_zero (S := S512x1) hz2, View.ld_unit_zero (S := S1x1024) hz2]
  rfl

end PointB

end Cert.Kernel6Ideal.Hand

end
-- ==== Proof.K6At.lean ====
/-
  The feed-forward forward call's stored blocks at an index: the gate and the up are the normed row's products with the two
  halves of the input weight; the branch sums the gated activation through the output weight, over the six stretches of
  the hidden width; the result is the normed sum of the residual and the branch.
-/
module

public import proofs.«01_k».proof.Proof.K6Outs
public import proofs.«01_k».proof.Proof.K3At

@[expose] public section

set_option maxRecDepth 16384

noncomputable section

namespace Cert.Kernel6Ideal.Hand

open Cert.Kernel6Ideal Cert.Kernel6Ideal.Gen Cert.Kernel6Ideal.Value
open Cert.Kernel3Ideal.Hand (col lo hi sum_width tile ldP ldQ ldW cHalf cAlpha cWidth)
open Idealize.ShloMosaic Idealize.ShloMosaic.TcCoe
open scoped BigOperators

/-! One row of the forward call: `x` is the normed row, `W` and `O` the two weights. -/

/-- The added constant under the root. -/
def cEps : EReal := Ideal.ofBits .f32 0x3727C5AC#32
/-- The gated activation. -/
def swE (g u : EReal) : EReal := g * Ideal.logistic g * u
def guE (x : Fin 1024 → EReal) (W : Fin 1024 → Fin 5632 → EReal) (k : Fin 5632) : EReal := ∑ d : Fin 1024, x d * W d k
def brE (x : Fin 1024 → EReal) (W : Fin 1024 → Fin 5632 → EReal) (O : Fin 2816 → Fin 1024 → EReal) (d : Fin 1024) : EReal :=
  ∑ j : Fin 2816, swE (guE x W (lo j)) (guE x W (hi j)) * O j d
def rE (x : Fin 1024 → EReal) (W : Fin 1024 → Fin 5632 → EReal) (O : Fin 2816 → Fin 1024 → EReal) (d : Fin 1024) : EReal :=
  cAlpha * x d + cHalf * brE x W O d
def cE (x : Fin 1024 → EReal) (W : Fin 1024 → Fin 5632 → EReal) (O : Fin 2816 → Fin 1024 → EReal) (d : Fin 1024) : EReal :=
  rE x W O d - Ideal.div (∑ e : Fin 1024, rE x W O e) cWidth
def sE (x : Fin 1024 → EReal) (W : Fin 1024 → Fin 5632 → EReal) (O : Fin 2816 → Fin 1024 → EReal) : EReal :=
  Ideal.rsqrt (Ideal.div (∑ e : Fin 1024, cE x W O e * cE x W O e) cWidth + cEps)

/-- The normed row. -/
def nE (x g b : Fin 1024 → EReal) (d : Fin 1024) : EReal := x d * g d + b d

theorem pay5_at (x0 : Vec Ideal S512x1024 .f32) (x1 x2 : Vec Ideal S1x1024 .f32) (r : Fin 512) (d : Fin 1024) :
    (k0_pay5 x0 x1 x2 : S512x1024.Idx → EReal) (ix2 r d) = nE (fun d => x0 (ix2 r d)) (fun d => x1 (ix2 0 d)) (fun d => x2 (ix2 0 d)) d := by
  pointwise [k0_pay5]
  rfl
theorem pay6_at (x0 : Vec Ideal S512x1024 .f32) (x1 x2 : Vec Ideal S1x1024 .f32) (r : Fin 512) (d : Fin 1024) :
    (k0_pay6 x0 x1 x2 : S512x1024.Idx → EReal) (ix2 r d) = nE (fun d => x0 (ix2 r d)) (fun d => x1 (ix2 0 d)) (fun d => x2 (ix2 0 d)) d :=
  pay5_at x0 x1 x2 r d

theorem g0_at (x0 : Vec Ideal S512x1024 .f32) (x1 x2 : Vec Ideal S1x1024 .f32) (p : Vec Ideal S1024x512 .bf16) (r : Fin 512) (j : Fin 512) :
    (k0_pay9 x0 x1 x2 p : S512x512.Idx → EReal) (ix2 r j) = ∑ d : Fin 1024, (k0_pay6 x0 x1 x2 : S512x1024.Idx → EReal) (ix2 r d) * p (ix2 d j) := by
  pointwise [k0_pay7, k0_pay8, k0_pay9, k0_pay10, k0_pay11, k0_pay12]
theorem u0_at (x0 : Vec Ideal S512x1024 .f32) (x1 x2 : Vec Ideal S1x1024 .f32) (p : Vec Ideal S1024x512 .bf16) (r : Fin 512) (j : Fin 512) :
    (k0_pay10 x0 x1 x2 p : S512x512.Idx → EReal) (ix2 r j) = ∑ d : Fin 1024, (k0_pay6 x0 x1 x2 : S512x1024.Idx → EReal) (ix2 r d) * p (ix2 d j) := by
  pointwise [k0_pay7, k0_pay8, k0_pay9, k0_pay10, k0_pay11, k0_pay12]
theorem a0_at (x0 : Vec Ideal S512x1024 .f32) (x1 x2 : Vec Ideal S1x1024 .f32) (p q : Vec Ideal S1024x512 .bf16) (w : Vec Ideal S512x1024 .bf16) (a : Vec Ideal S512x1024 .f32) (r : Fin 512) (t : Fin 1024) :
    (k0_pay12 (k0_pay11 x0 x1 x2 p q w) : S512x1024.Idx → EReal) (ix2 r t) = ∑ j : Fin 512, swE (∑ d : Fin 1024, (k0_pay6 x0 x1 x2 : S512x1024.Idx → EReal) (ix2 r d) * p (ix2 d j)) (∑ d : Fin 1024, (k0_pay6 x0 x1 x2 : S512x1024.Idx → EReal) (ix2 r d) * q (ix2 d j)) * w (ix2 j t) := by
  pointwise [k0_pay7, k0_pay8, k0_pay9, k0_pay10, k0_pay11, k0_pay12]
  simp only [sub_eq_add_neg, zero_add]
  rfl

theorem g1_at (b : FVec Ideal S512x1024 .bf16) (p : Vec Ideal S1024x512 .bf16) (r : Fin 512) (j : Fin 512) :
    (k0_pay15 b p : S512x512.Idx → EReal) (ix2 r j) = ∑ d : Fin 1024, (b : S512x1024.Idx → EReal) (ix2 r d) * p (ix2 d j) := by
  pointwise [k0_pay13, k0_pay14, k0_pay15, k0_pay16, k0_pay17]
theorem u1_at (b : FVec Ideal S512x1024 .bf16) (p : Vec Ideal S1024x512 .bf16) (r : Fin 512) (j : Fin 512) :
    (k0_pay16 b p : S512x512.Idx → EReal) (ix2 r j) = ∑ d : Fin 1024, (b : S512x1024.Idx → EReal) (ix2 r d) * p (ix2 d j) := by
  pointwise [k0_pay13, k0_pay14, k0_pay15, k0_pay16, k0_pay17]
theorem a1_at (b : FVec Ideal S512x1024 .bf16) (p q : Vec Ideal S1024x512 .bf16) (w : Vec Ideal S512x1024 .bf16) (a : Vec Ideal S512x1024 .f32) (r : Fin 512) (t : Fin 1024) :
    (k0_pay17 b p q w a : S512x1024.Idx → EReal) (ix2 r t) = a (ix2 r t) + ∑ j : Fin 512, swE (∑ d : Fin 1024, (b : S512x1024.Idx → EReal) (ix2 r d) * p (ix2 d j)) (∑ d : Fin 1024, (b : S512x1024.Idx → EReal) (ix2 r d) * q (ix2 d j)) * w (ix2 j t) := by
  pointwise [k0_pay13, k0_pay14, k0_pay15, k0_pay16, k0_pay17]
  simp only [sub_eq_add_neg, zero_add]
  rfl

theorem g2_at (b : FVec Ideal S512x1024 .bf16) (p : Vec Ideal S1024x512 .bf16) (r : Fin 512) (j : Fin 512) :
    (k0_pay20 (k0_pay18 b p) : S512x512.Idx → EReal) (ix2 r j) = ∑ d : Fin 1024, (b : S512x1024.Idx → EReal) (ix2 r d) * p (ix2 d j) := by
  pointwise [k0_pay18, k0_pay19, k0_pay20, k0_pay21, k0_pay22]
theorem u2_at (b : FVec Ideal S512x1024 .bf16) (p : Vec Ideal S1024x512 .bf16) (r : Fin 512) (j : Fin 512) :
    (k0_pay21 b p : S512x512.Idx → EReal) (ix2 r j) = ∑ d : Fin 1024, (b : S512x1024.Idx → EReal) (ix2 r d) * p (ix2 d j) := by
  pointwise [k0_pay18, k0_pay19, k0_pay20, k0_pay21, k0_pay22]
theorem a2_at (b : FVec Ideal S512x1024 .bf16) (p q : Vec Ideal S1024x512 .bf16) (w : Vec Ideal S512x1024 .bf16) (a : Vec Ideal S512x1024 .f32) (r : Fin 512) (t : Fin 1024) :
    (k0_pay22 b (k0_pay18 b p) q w a : S512x1024.Idx → EReal) (ix2 r t) = a (ix2 r t) + ∑ j : Fin 512, swE (∑ d : Fin 1024, (b : S512x1024.Idx → EReal) (ix2 r d) * p (ix2 d j)) (∑ d : Fin 1024, (b : S512x1024.Idx → EReal) (ix2 r d) * q (ix2 d j)) * w (ix2 j t) := by
  pointwise [k0_pay18, k0_pay19, k0_pay20, k0_pay21, k0_pay22]
  simp only [sub_eq_add_neg, zero_add]
  rfl

theorem g3_at (b : FVec Ideal S512x1024 .bf16) (p : Vec Ideal S1024x512 .bf16) (r : Fin 512) (j : Fin 512) :
    (k0_pay25 b p : S512x512.Idx → EReal) (ix2 r j) = ∑ d : Fin 1024, (b : S512x1024.Idx → EReal) (ix2 r d) * p (ix2 d j) := by
  pointwise [k0_pay23, k0_pay24, k0_pay25, k0_pay26, k0_pay27]
theorem u3_at (b : FVec Ideal S512x1024 .bf16) (p : Vec Ideal S1024x512 .bf16) (r : Fin 512) (j : Fin 512) :
    (k0_pay26 b p : S512x512.Idx → EReal) (ix2 r j) = ∑ d : Fin 1024, (b : S512x1024.Idx → EReal) (ix2 r d) * p (ix2 d j) := by
  pointwise [k0_pay23, k0_pay24, k0_pay25, k0_pay26, k0_pay27]
theorem a3_at (b : FVec Ideal S512x1024 .bf16) (p q : Vec Ideal S1024x512 .bf16) (w : Vec Ideal S512x1024 .bf16) (a : Vec Ideal S512x1024 .f32) (r : Fin 512) (t : Fin 1024) :
    (k0_pay27 (k0_pay23 b p) (k0_pay24 b q) w a : S512x1024.Idx → EReal) (ix2 r t) = a (ix2 r t) + ∑ j : Fin 512, swE (∑ d : Fin 1024, (b : S512x1024.Idx → EReal) (ix2 r d) * p (ix2 d j)) (∑ d : Fin 1024, (b : S512x1024.Idx → EReal) (ix2 r d) * q (ix2 d j)) * w (ix2 j t) := by
  pointwise [k0_pay23, k0_pay24, k0_pay25, k0_pay26, k0_pay27]
  simp only [sub_eq_add_neg, zero_add]
  rfl

theorem g4_at (b : FVec Ideal S512x1024 .bf16) (p : Vec Ideal S1024x512 .bf16) (r : Fin 512) (j : Fin 512) :
    (k0_pay30 b p : S512x512.Idx → EReal) (ix2 r j) = ∑ d : Fin 1024, (b : S512x1024.Idx → EReal) (ix2 r d) * p (ix2 d j) := by
  pointwise [k0_pay28, k0_pay29, k0_pay30, k0_pay31, k0_pay32, k0_pay33]
theorem u4_at (b : FVec Ideal S512x1024 .bf16) (p : Vec Ideal S1024x512 .bf16) (r : Fin 512) (j : Fin 512) :
    (k0_pay31 b p : S512x512.Idx → EReal) (ix2 r j) = ∑ d : Fin 1024, (b : S512x1024.Idx → EReal) (ix2 r d) * p (ix2 d j) := by
  pointwise [k0_pay28, k0_pay29, k0_pay30, k0_pay31, k0_pay32, k0_pay33]
theorem a4_at (b : FVec Ideal S512x1024 .bf16) (p q : Vec Ideal S1024x512 .bf16) (w : Vec Ideal S512x1024 .bf16) (a : Vec Ideal S512x1024 .f32) (r : Fin 512) (t : Fin 1024) :
    (k0_pay33 (k0_pay29 b q) (k0_pay32 b p) w a : S512x1024.Idx → EReal) (ix2 r t) = a (ix2 r t) + ∑ j : Fin 512, swE (∑ d : Fin 1024, (b : S512x1024.Idx → EReal) (ix2 r d) * p (ix2 d j)) (∑ d : Fin 1024, (b : S512x1024.Idx → EReal) (ix2 r d) * q (ix2 d j)) * w (ix2 j t) := by
  pointwise [k0_pay28, k0_pay29, k0_pay30, k0_pay31, k0_pay32, k0_pay33]
  simp only [sub_eq_add_neg, zero_add]
  rfl

theorem g5_at (b : FVec Ideal S512x1024 .bf16) (p : Vec Ideal S1024x256 .bf16) (r : Fin 512) (j : Fin 256) :
    (k0_pay36 b p : S512x256.Idx → EReal) (ix2 r j) = ∑ d : Fin 1024, (b : S512x1024.Idx → EReal) (ix2 r d) * p (ix2 d j) := by
  pointwise [k0_pay34, k0_pay35, k0_pay36, k0_pay37, k0_pay38]
theorem u5_at (b : FVec Ideal S512x1024 .bf16) (p : Vec Ideal S1024x256 .bf16) (r : Fin 512) (j : Fin 256) :
    (k0_pay37 b p : S512x256.Idx → EReal) (ix2 r j) = ∑ d : Fin 1024, (b : S512x1024.Idx → EReal) (ix2 r d) * p (ix2 d j) := by
  pointwise [k0_pay34, k0_pay35, k0_pay36, k0_pay37, k0_pay38]
theorem a5_at (b : FVec Ideal S512x1024 .bf16) (p q : Vec Ideal S1024x256 .bf16) (w : Vec Ideal S256x1024 .bf16) (a : Vec Ideal S512x1024 .f32) (r : Fin 512) (t : Fin 1024) :
    (k0_pay38 b p q w a : S512x1024.Idx → EReal) (ix2 r t) = a (ix2 r t) + ∑ j : Fin 256, swE (∑ d : Fin 1024, (b : S512x1024.Idx → EReal) (ix2 r d) * p (ix2 d j)) (∑ d : Fin 1024, (b : S512x1024.Idx → EReal) (ix2 r d) * q (ix2 d j)) * w (ix2 j t) := by
  pointwise [k0_pay34, k0_pay35, k0_pay36, k0_pay37, k0_pay38]
  simp only [sub_eq_add_neg, zero_add]
  rfl

section Blocks

variable (x0 : Vec Ideal S512x1024 .f32) (x1 x2 : Vec Ideal S1x1024 .f32) (w0 : Vec Ideal S1024x5632 .bf16) (w1 : Vec Ideal S2816x1024 .bf16)

/-- The block's normed row, and the weights by row and column. -/
def row (r : Fin 512) : Fin 1024 → EReal := nE (fun d => x0 (ix2 r d)) (fun d => x1 (ix2 0 d)) (fun d => x2 (ix2 0 d))
def wi : Fin 1024 → Fin 5632 → EReal := fun d k => w0 (ix2 d k)
def wo : Fin 2816 → Fin 1024 → EReal := fun j d => w1 (ix2 j d)

theorem sP0 (r : Fin 512) (j : Fin 512) :
    ∑ d : Fin 1024, ((k0_pay6 x0 x1 x2) : S512x1024.Idx → EReal) (ix2 r d) * ((View.ld w0 (Rect.unit ![0, 0] ![1024, 512] inb_S1024x5632_S1024x512_0_0)) : S1024x512.Idx → EReal) (ix2 d j) = guE (row x0 x1 x2 r) (wi w0) (lo (col 0 (by norm_num) j)) :=
  Finset.sum_congr rfl fun d _ => congrArg₂ (· * ·) (pay6_at x0 x1 x2 r d) (ldP w0 0 (by norm_num) _ d j)
theorem sQ0 (r : Fin 512) (j : Fin 512) :
    ∑ d : Fin 1024, ((k0_pay6 x0 x1 x2) : S512x1024.Idx → EReal) (ix2 r d) * ((View.ld w0 (Rect.unit ![0, 2816] ![1024, 512] inb_S1024x5632_S1024x512_0_2816)) : S1024x512.Idx → EReal) (ix2 d j) = guE (row x0 x1 x2 r) (wi w0) (hi (col 0 (by norm_num) j)) :=
  Finset.sum_congr rfl fun d _ => congrArg₂ (· * ·) (pay6_at x0 x1 x2 r d) (ldQ w0 0 (by norm_num) _ d j)
theorem gT0 (r : Fin 512) (j : Fin 512) :
    (k0_pay9 x0 x1 x2 (View.ld w0 (Rect.unit ![0, 0] ![1024, 512] inb_S1024x5632_S1024x512_0_0)) : S512x512.Idx → EReal) (ix2 r j) = guE (row x0 x1 x2 r) (wi w0) (lo (col 0 (by norm_num) j)) :=
  (g0_at x0 x1 x2 _ r j).trans (sP0 x0 x1 x2 w0 r j)
theorem uT0 (r : Fin 512) (j : Fin 512) :
    (k0_pay10 x0 x1 x2 (View.ld w0 (Rect.unit ![0, 2816] ![1024, 512] inb_S1024x5632_S1024x512_0_2816)) : S512x512.Idx → EReal) (ix2 r j) = guE (row x0 x1 x2 r) (wi w0) (hi (col 0 (by norm_num) j)) :=
  (u0_at x0 x1 x2 _ r j).trans (sQ0 x0 x1 x2 w0 r j)
theorem aT0 (acc : Vec Ideal S512x1024 .f32) (r : Fin 512) (t : Fin 1024) :
    (k0_pay12 (k0_pay11 x0 x1 x2 (View.ld w0 (Rect.unit ![0, 0] ![1024, 512] inb_S1024x5632_S1024x512_0_0)) (View.ld w0 (Rect.unit ![0, 2816] ![1024, 512] inb_S1024x5632_S1024x512_0_2816)) (View.ld w1 (Rect.unit ![0, 0] ![512, 1024] inb_S2816x1024_S512x1024_0_0))) : S512x1024.Idx → EReal) (ix2 r t)
      = ∑ j : Fin 512, swE (guE (row x0 x1 x2 r) (wi w0) (lo (col 0 (by norm_num) j))) (guE (row x0 x1 x2 r) (wi w0) (hi (col 0 (by norm_num) j))) * wo w1 (col 0 (by norm_num) j) t := by
  refine (a0_at x0 x1 x2 _ _ _ acc r t).trans ?_
  exact Finset.sum_congr rfl fun j _ => congrArg₂ (· * ·) (congrArg₂ swE (sP0 x0 x1 x2 w0 r j) (sQ0 x0 x1 x2 w0 r j)) (ldW w1 0 (by norm_num) _ j t)

theorem sP1 (r : Fin 512) (j : Fin 512) :
    ∑ d : Fin 1024, ((k0_pay6 x0 x1 x2) : S512x1024.Idx → EReal) (ix2 r d) * ((View.ld w0 (Rect.unit ![0, 512] ![1024, 512] inb_S1024x5632_S1024x512_0_512)) : S1024x512.Idx → EReal) (ix2 d j) = guE (row x0 x1 x2 r) (wi w0) (lo (col 512 (by norm_num) j)) :=
  Finset.sum_congr rfl fun d _ => congrArg₂ (· * ·) (pay6_at x0 x1 x2 r d) (ldP w0 512 (by norm_num) _ d j)
theorem sQ1 (r : Fin 512) (j : Fin 512) :
    ∑ d : Fin 1024, ((k0_pay6 x0 x1 x2) : S512x1024.Idx → EReal) (ix2 r d) * ((View.ld w0 (Rect.unit ![0, 3328] ![1024, 512] inb_S1024x5632_S1024x512_0_3328)) : S1024x512.Idx → EReal) (ix2 d j) = guE (row x0 x1 x2 r) (wi w0) (hi (col 512 (by norm_num) j)) :=
  Finset.sum_congr rfl fun d _ => congrArg₂ (· * ·) (pay6_at x0 x1 x2 r d) (ldQ w0 512 (by norm_num) _ d j)
theorem gT1 (r : Fin 512) (j : Fin 512) :
    (k0_pay15 (k0_pay6 x0 x1 x2) (View.ld w0 (Rect.unit ![0, 512] ![1024, 512] inb_S1024x5632_S1024x512_0_512)) : S512x512.Idx → EReal) (ix2 r j) = guE (row x0 x1 x2 r) (wi w0) (lo (col 512 (by norm_num) j)) :=
  (g1_at _ _ r j).trans (sP1 x0 x1 x2 w0 r j)
theorem uT1 (r : Fin 512) (j : Fin 512) :
    (k0_pay16 (k0_pay6 x0 x1 x2) (View.ld w0 (Rect.unit ![0, 3328] ![1024, 512] inb_S1024x5632_S1024x512_0_3328)) : S512x512.Idx → EReal) (ix2 r j) = guE (row x0 x1 x2 r) (wi w0) (hi (col 512 (by norm_num) j)) :=
  (u1_at _ _ r j).trans (sQ1 x0 x1 x2 w0 r j)
theorem aT1 (acc : Vec Ideal S512x1024 .f32) (r : Fin 512) (t : Fin 1024) :
    (k0_pay17 (k0_pay6 x0 x1 x2) (View.ld w0 (Rect.unit ![0, 512] ![1024, 512] inb_S1024x5632_S1024x512_0_512)) (View.ld w0 (Rect.unit ![0, 3328] ![1024, 512] inb_S1024x5632_S1024x512_0_3328)) (View.ld w1 (Rect.unit ![512, 0] ![512, 1024] inb_S2816x1024_S512x1024_512_0)) acc : S512x1024.Idx → EReal) (ix2 r t)
      = acc (ix2 r t) + ∑ j : Fin 512, swE (guE (row x0 x1 x2 r) (wi w0) (lo (col 512 (by norm_num) j))) (guE (row x0 x1 x2 r) (wi w0) (hi (col 512 (by norm_num) j))) * wo w1 (col 512 (by norm_num) j) t := by
  refine (a1_at _ _ _ _ acc r t).trans (congrArg (acc (ix2 r t) + ·) ?_)
  exact Finset.sum_congr rfl fun j _ => congrArg₂ (· * ·) (congrArg₂ swE (sP1 x0 x1 x2 w0 r j) (sQ1 x0 x1 x2 w0 r j)) (ldW w1 512 (by norm_num) _ j t)

theorem sP2 (r : Fin 512) (j : Fin 512) :
    ∑ d : Fin 1024, ((k0_pay6 x0 x1 x2) : S512x1024.Idx → EReal) (ix2 r d) * ((View.ld w0 (Rect.unit ![0, 1024] ![1024, 512] inb_S1024x5632_S1024x512_0_1024)) : S1024x512.Idx → EReal) (ix2 d j) = guE (row x0 x1 x2 r) (wi w0) (lo (col 1024 (by norm_num) j)) :=
  Finset.sum_congr rfl fun d _ => congrArg₂ (· * ·) (pay6_at x0 x1 x2 r d) (ldP w0 1024 (by norm_num) _ d j)
theorem sQ2 (r : Fin 512) (j : Fin 512) :
    ∑ d : Fin 1024, ((k0_pay6 x0 x1 x2) : S512x1024.Idx → EReal) (ix2 r d) * ((View.ld w0 (Rect.unit ![0, 3840] ![1024, 512] inb_S1024x5632_S1024x512_0_3840)) : S1024x512.Idx → EReal) (ix2 d j) = guE (row x0 x1 x2 r) (wi w0) (hi (col 1024 (by norm_num) j)) :=
  Finset.sum_congr rfl fun d _ => congrArg₂ (· * ·) (pay6_at x0 x1 x2 r d) (ldQ w0 1024 (by norm_num) _ d j)
theorem gT2 (r : Fin 512) (j : Fin 512) :
    (k0_pay20 (k0_pay18 (k0_pay6 x0 x1 x2) (View.ld w0 (Rect.unit ![0, 1024] ![1024, 512] inb_S1024x5632_S1024x512_0_1024))) : S512x512.Idx → EReal) (ix2 r j) = guE (row x0 x1 x2 r) (wi w0) (lo (col 1024 (by norm_num) j)) :=
  (g2_at _ _ r j).trans (sP2 x0 x1 x2 w0 r j)
theorem uT2 (r : Fin 512) (j : Fin 512) :
    (k0_pay21 (k0_pay6 x0 x1 x2) (View.ld w0 (Rect.unit ![0, 3840] ![1024, 512] inb_S1024x5632_S1024x512_0_3840)) : S512x512.Idx → EReal) (ix2 r j) = guE (row x0 x1 x2 r) (wi w0) (hi (col 1024 (by norm_num) j)) :=
  (u2_at _ _ r j).trans (sQ2 x0 x1 x2 w0 r j)
theorem aT2 (acc : Vec Ideal S512x1024 .f32) (r : Fin 512) (t : Fin 1024) :
    (k0_pay22 (k0_pay6 x0 x1 x2) (k0_pay18 (k0_pay6 x0 x1 x2) (View.ld w0 (Rect.unit ![0, 1024] ![1024, 512] inb_S1024x5632_S1024x512_0_1024))) (View.ld w0 (Rect.unit ![0, 3840] ![1024, 512] inb_S1024x5632_S1024x512_0_3840)) (View.ld w1 (Rect.unit ![1024, 0] ![512, 1024] inb_S2816x1024_S512x1024_1024_0)) acc : S512x1024.Idx → EReal) (ix2 r t)
      = acc (ix2 r t) + ∑ j : Fin 512, swE (guE (row x0 x1 x2 r) (wi w0) (lo (col 1024 (by norm_num) j))) (guE (row x0 x1 x2 r) (wi w0) (hi (col 1024 (by norm_num) j))) * wo w1 (col 1024 (by norm_num) j) t := by
  refine (a2_at _ _ _ _ acc r t).trans (congrArg (acc (ix2 r t) + ·) ?_)
  exact Finset.sum_congr rfl fun j _ => congrArg₂ (· * ·) (congrArg₂ swE (sP2 x0 x1 x2 w0 r j) (sQ2 x0 x1 x2 w0 r j)) (ldW w1 1024 (by norm_num) _ j t)

theorem sP3 (r : Fin 512) (j : Fin 512) :
    ∑ d : Fin 1024, ((k0_pay6 x0 x1 x2) : S512x1024.Idx → EReal) (ix2 r d) * ((View.ld w0 (Rect.unit ![0, 1536] ![1024, 512] inb_S1024x5632_S1024x512_0_1536)) : S1024x512.Idx → EReal) (ix2 d j) = guE (row x0 x1 x2 r) (wi w0) (lo (col 1536 (by norm_num) j)) :=
  Finset.sum_congr rfl fun d _ => congrArg₂ (· * ·) (pay6_at x0 x1 x2 r d) (ldP w0 1536 (by norm_num) _ d j)
theorem sQ3 (r : Fin 512) (j : Fin 512) :
    ∑ d : Fin 1024, ((k0_pay6 x0 x1 x2) : S512x1024.Idx → EReal) (ix2 r d) * ((View.ld w0 (Rect.unit ![0, 4352] ![1024, 512] inb_S1024x5632_S1024x512_0_4352)) : S1024x512.Idx → EReal) (ix2 d j) = guE (row x0 x1 x2 r) (wi w0) (hi (col 1536 (by norm_num) j)) :=
  Finset.sum_congr rfl fun d _ => congrArg₂ (· * ·) (pay6_at x0 x1 x2 r d) (ldQ w0 1536 (by norm_num) _ d j)
theorem gT3 (r : Fin 512) (j : Fin 512) :
    (k0_pay25 (k0_pay6 x0 x1 x2) (View.ld w0 (Rect.unit ![0, 1536] ![1024, 512] inb_S1024x5632_S1024x512_0_1536)) : S512x512.Idx → EReal) (ix2 r j) = guE (row x0 x1 x2 r) (wi w0) (lo (col 1536 (by norm_num) j)) :=
  (g3_at _ _ r j).trans (sP3 x0 x1 x2 w0 r j)
theorem uT3 (r : Fin 512) (j : Fin 512) :
    (k0_pay26 (k0_pay6 x0 x1 x2) (View.ld w0 (Rect.unit ![0, 4352] ![1024, 512] inb_S1024x5632_S1024x512_0_4352)) : S512x512.Idx → EReal) (ix2 r j) = guE (row x0 x1 x2 r) (wi w0) (hi (col 1536 (by norm_num) j)) :=
  (u3_at _ _ r j).trans (sQ3 x0 x1 x2 w0 r j)
theorem aT3 (acc : Vec Ideal S512x1024 .f32) (r : Fin 512) (t : Fin 1024) :
    (k0_pay27 (k0_pay23 (k0_pay6 x0 x1 x2) (View.ld w0 (Rect.unit ![0, 1536] ![1024, 512] inb_S1024x5632_S1024x512_0_1536))) (k0_pay24 (k0_pay6 x0 x1 x2) (View.ld w0 (Rect.unit ![0, 4352] ![1024, 512] inb_S1024x5632_S1024x512_0_4352))) (View.ld w1 (Rect.unit ![1536, 0] ![512, 1024] inb_S2816x1024_S512x1024_1536_0)) acc : S512x1024.Idx → EReal) (ix2 r t)
      = acc (ix2 r t) + ∑ j : Fin 512, swE (guE (row x0 x1 x2 r) (wi w0) (lo (col 1536 (by norm_num) j))) (guE (row x0 x1 x2 r) (wi w0) (hi (col 1536 (by norm_num) j))) * wo w1 (col 1536 (by norm_num) j) t := by
  refine (a3_at _ _ _ _ acc r t).trans (congrArg (acc (ix2 r t) + ·) ?_)
  exact Finset.sum_congr rfl fun j _ => congrArg₂ (· * ·) (congrArg₂ swE (sP3 x0 x1 x2 w0 r j) (sQ3 x0 x1 x2 w0 r j)) (ldW w1 1536 (by norm_num) _ j t)

theorem sP4 (r : Fin 512) (j : Fin 512) :
    ∑ d : Fin 1024, ((k0_pay6 x0 x1 x2) : S512x1024.Idx → EReal) (ix2 r d) * ((View.ld w0 (Rect.unit ![0, 2048] ![1024, 512] inb_S1024x5632_S1024x512_0_2048)) : S1024x512.Idx → EReal) (ix2 d j) = guE (row x0 x1 x2 r) (wi w0) (lo (col 2048 (by norm_num) j)) :=
  Finset.sum_congr rfl fun d _ => congrArg₂ (· * ·) (pay6_at x0 x1 x2 r d) (ldP w0 2048 (by norm_num) _ d j)
theorem sQ4 (r : Fin 512) (j : Fin 512) :
    ∑ d : Fin 1024, ((k0_pay6 x0 x1 x2) : S512x1024.Idx → EReal) (ix2 r d) * ((View.ld w0 (Rect.unit ![0, 4864] ![1024, 512] inb_S1024x5632_S1024x512_0_4864)) : S1024x512.Idx → EReal) (ix2 d j) = guE (row x0 x1 x2 r) (wi w0) (hi (col 2048 (by norm_num) j)) :=
  Finset.sum_congr rfl fun d _ => congrArg₂ (· * ·) (pay6_at x0 x1 x2 r d) (ldQ w0 2048 (by norm_num) _ d j)
theorem gT4 (r : Fin 512) (j : Fin 512) :
    (k0_pay30 (k0_pay6 x0 x1 x2) (View.ld w0 (Rect.unit ![0, 2048] ![1024, 512] inb_S1024x5632_S1024x512_0_2048)) : S512x512.Idx → EReal) (ix2 r j) = guE (row x0 x1 x2 r) (wi w0) (lo (col 2048 (by norm_num) j)) :=
  (g4_at _ _ r j).trans (sP4 x0 x1 x2 w0 r j)
theorem uT4 (r : Fin 512) (j : Fin 512) :
    (k0_pay31 (k0_pay6 x0 x1 x2) (View.ld w0 (Rect.unit ![0, 4864] ![1024, 512] inb_S1024x5632_S1024x512_0_4864)) : S512x512.Idx → EReal) (ix2 r j) = guE (row x0 x1 x2 r) (wi w0) (hi (col 2048 (by norm_num) j)) :=
  (u4_at _ _ r j).trans (sQ4 x0 x1 x2 w0 r j)
theorem aT4 (acc : Vec Ideal S512x1024 .f32) (r : Fin 512) (t : Fin 1024) :
    (k0_pay33 (k0_pay29 (k0_pay6 x0 x1 x2) (View.ld w0 (Rect.unit ![0, 4864] ![1024, 512] inb_S1024x5632_S1024x512_0_4864))) (k0_pay32 (k0_pay6 x0 x1 x2) (View.ld w0 (Rect.unit ![0, 2048] ![1024, 512] inb_S1024x5632_S1024x512_0_2048))) (View.ld w1 (Rect.unit ![2048, 0] ![512, 1024] inb_S2816x1024_S512x1024_2048_0)) acc : S512x1024.Idx → EReal) (ix2 r t)
      = acc (ix2 r t) + ∑ j : Fin 512, swE (guE (row x0 x1 x2 r) (wi w0) (lo (col 2048 (by norm_num) j))) (guE (row x0 x1 x2 r) (wi w0) (hi (col 2048 (by norm_num) j))) * wo w1 (col 2048 (by norm_num) j) t := by
  refine (a4_at _ _ _ _ acc r t).trans (congrArg (acc (ix2 r t) + ·) ?_)
  exact Finset.sum_congr rfl fun j _ => congrArg₂ (· * ·) (congrArg₂ swE (sP4 x0 x1 x2 w0 r j) (sQ4 x0 x1 x2 w0 r j)) (ldW w1 2048 (by norm_num) _ j t)

theorem sP5 (r : Fin 512) (j : Fin 256) :
    ∑ d : Fin 1024, ((k0_pay6 x0 x1 x2) : S512x1024.Idx → EReal) (ix2 r d) * ((View.ld w0 (Rect.unit ![0, 2560] ![1024, 256] inb_S1024x5632_S1024x256_0_2560)) : S1024x256.Idx → EReal) (ix2 d j) = guE (row x0 x1 x2 r) (wi w0) (lo (col 2560 (by norm_num) j)) :=
  Finset.sum_congr rfl fun d _ => congrArg₂ (· * ·) (pay6_at x0 x1 x2 r d) (ldP w0 2560 (by norm_num) _ d j)
theorem sQ5 (r : Fin 512) (j : Fin 256) :
    ∑ d : Fin 1024, ((k0_pay6 x0 x1 x2) : S512x1024.Idx → EReal) (ix2 r d) * ((View.ld w0 (Rect.unit ![0, 5376] ![1024, 256] inb_S1024x5632_S1024x256_0_5376)) : S1024x256.Idx → EReal) (ix2 d j) = guE (row x0 x1 x2 r) (wi w0) (hi (col 2560 (by norm_num) j)) :=
  Finset.sum_congr rfl fun d _ => congrArg₂ (· * ·) (pay6_at x0 x1 x2 r d) (ldQ w0 2560 (by norm_num) _ d j)
theorem gT5 (r : Fin 512) (j : Fin 256) :
    (k0_pay36 (k0_pay6 x0 x1 x2) (View.ld w0 (Rect.unit ![0, 2560] ![1024, 256] inb_S1024x5632_S1024x256_0_2560)) : S512x256.Idx → EReal) (ix2 r j) = guE (row x0 x1 x2 r) (wi w0) (lo (col 2560 (by norm_num) j)) :=
  (g5_at _ _ r j).trans (sP5 x0 x1 x2 w0 r j)
theorem uT5 (r : Fin 512) (j : Fin 256) :
    (k0_pay37 (k0_pay6 x0 x1 x2) (View.ld w0 (Rect.unit ![0, 5376] ![1024, 256] inb_S1024x5632_S1024x256_0_5376)) : S512x256.Idx → EReal) (ix2 r j) = guE (row x0 x1 x2 r) (wi w0) (hi (col 2560 (by norm_num) j)) :=
  (u5_at _ _ r j).trans (sQ5 x0 x1 x2 w0 r j)
theorem aT5 (acc : Vec Ideal S512x1024 .f32) (r : Fin 512) (t : Fin 1024) :
    (k0_pay38 (k0_pay6 x0 x1 x2) (View.ld w0 (Rect.unit ![0, 2560] ![1024, 256] inb_S1024x5632_S1024x256_0_2560)) (View.ld w0 (Rect.unit ![0, 5376] ![1024, 256] inb_S1024x5632_S1024x256_0_5376)) (View.ld w1 (Rect.unit ![2560, 0] ![256, 1024] inb_S2816x1024_S256x1024_2560_0)) acc : S512x1024.Idx → EReal) (ix2 r t)
      = acc (ix2 r t) + ∑ j : Fin 256, swE (guE (row x0 x1 x2 r) (wi w0) (lo (col 2560 (by norm_num) j))) (guE (row x0 x1 x2 r) (wi w0) (hi (col 2560 (by norm_num) j))) * wo w1 (col 2560 (by norm_num) j) t := by
  refine (a5_at _ _ _ _ acc r t).trans (congrArg (acc (ix2 r t) + ·) ?_)
  exact Finset.sum_congr rfl fun j _ => congrArg₂ (· * ·) (congrArg₂ swE (sP5 x0 x1 x2 w0 r j) (sQ5 x0 x1 x2 w0 r j)) (ldW w1 2560 (by norm_num) _ j t)

theorem accv_at (r : Fin 512) (t : Fin 1024) : (accv x0 x1 x2 w0 w1 : S512x1024.Idx → EReal) (ix2 r t) = brE (row x0 x1 x2 r) (wi w0) (wo w1) t := by
  have e : (accv x0 x1 x2 w0 w1 : S512x1024.Idx → EReal) (ix2 r t) = _ :=
    (congrFun (shapeCast_self _ _) (ix2 r t)).trans
    ((aT5 x0 x1 x2 w0 w1 _ r t).trans (congrArg (· + _) ((aT4 x0 x1 x2 w0 w1 _ r t).trans (congrArg (· + _) ((aT3 x0 x1 x2 w0 w1 _ r t).trans (congrArg (· + _)
      ((aT2 x0 x1 x2 w0 w1 _ r t).trans (congrArg (· + _) ((aT1 x0 x1 x2 w0 w1 _ r t).trans (congrArg (· + _) (aT0 x0 x1 x2 w0 w1 x0 r t)))))))))))
  exact e.trans (sum_width fun j => swE (guE (row x0 x1 x2 r) (wi w0) (lo j)) (guE (row x0 x1 x2 r) (wi w0) (hi j)) * wo w1 j t)

theorem gv_at (r : Fin 512) (j : Fin 2816) : (gv x0 x1 x2 w0 : S512x2816.Idx → EReal) (ix2 r j) = guE (row x0 x1 x2 r) (wi w0) (lo j) := by
  unfold gv
  refine View.canon_eq_of_allAt _ _ _ ?_ ?_
  · exact View.cover_of_tiledBy _ ![512, 256] (by sl_kernel_rfl) _
  · exact View.allAt_cons_unit _ _ _ _ _ (tile 2560 (by norm_num) _ (fun r j => guE (row x0 x1 x2 r) (wi w0) (lo j)) (gT5 x0 x1 x2 w0) r j) (View.allAt_cons_unit _ _ _ _ _ (tile 2048 (by norm_num) _ (fun r j => guE (row x0 x1 x2 r) (wi w0) (lo j)) (gT4 x0 x1 x2 w0) r j) (View.allAt_cons_unit _ _ _ _ _ (tile 1536 (by norm_num) _ (fun r j => guE (row x0 x1 x2 r) (wi w0) (lo j)) (gT3 x0 x1 x2 w0) r j) (View.allAt_cons_unit _ _ _ _ _ (tile 1024 (by norm_num) _ (fun r j => guE (row x0 x1 x2 r) (wi w0) (lo j)) (gT2 x0 x1 x2 w0) r j) (View.allAt_cons_unit _ _ _ _ _ (tile 512 (by norm_num) _ (fun r j => guE (row x0 x1 x2 r) (wi w0) (lo j)) (gT1 x0 x1 x2 w0) r j) (View.allAt_cons_unit _ _ _ _ _ (tile 0 (by norm_num) _ (fun r j => guE (row x0 x1 x2 r) (wi w0) (lo j)) (gT0 x0 x1 x2 w0) r j) (View.allAt_nil _ _))))))

theorem uv_at (r : Fin 512) (j : Fin 2816) : (uv x0 x1 x2 w0 : S512x2816.Idx → EReal) (ix2 r j) = guE (row x0 x1 x2 r) (wi w0) (hi j) := by
  unfold uv
  refine View.canon_eq_of_allAt _ _ _ ?_ ?_
  · exact View.cover_of_tiledBy _ ![512, 256] (by sl_kernel_rfl) _
  · exact View.allAt_cons_unit _ _ _ _ _ (tile 2560 (by norm_num) _ (fun r j => guE (row x0 x1 x2 r) (wi w0) (hi j)) (uT5 x0 x1 x2 w0) r j) (View.allAt_cons_unit _ _ _ _ _ (tile 2048 (by norm_num) _ (fun r j => guE (row x0 x1 x2 r) (wi w0) (hi j)) (uT4 x0 x1 x2 w0) r j) (View.allAt_cons_unit _ _ _ _ _ (tile 1536 (by norm_num) _ (fun r j => guE (row x0 x1 x2 r) (wi w0) (hi j)) (uT3 x0 x1 x2 w0) r j) (View.allAt_cons_unit _ _ _ _ _ (tile 1024 (by norm_num) _ (fun r j => guE (row x0 x1 x2 r) (wi w0) (hi j)) (uT2 x0 x1 x2 w0) r j) (View.allAt_cons_unit _ _ _ _ _ (tile 512 (by norm_num) _ (fun r j => guE (row x0 x1 x2 r) (wi w0) (hi j)) (uT1 x0 x1 x2 w0) r j) (View.allAt_cons_unit _ _ _ _ _ (tile 0 (by norm_num) _ (fun r j => guE (row x0 x1 x2 r) (wi w0) (hi j)) (uT0 x0 x1 x2 w0) r j) (View.allAt_nil _ _))))))

theorem mid_at (r : Fin 512) (d : Fin 1024) :
    (k0_pay2 (k0_pay5 x0 x1 x2) (accv x0 x1 x2 w0 w1) : S512x1024.Idx → EReal) (ix2 r d) = cE (row x0 x1 x2 r) (wi w0) (wo w1) d := by
  pointwise [k0_pay2]
  simp only [accv_at, pay5_at]
  rfl

theorem rv_at (r : Fin 512) : (rv x0 x1 x2 w0 w1 : S512x1.Idx → EReal) (ix2 r 0) = sE (row x0 x1 x2 r) (wi w0) (wo w1) := by
  unfold rv
  pointwise [k0_pay3]
  simp only [mid_at]
  rfl

theorem xv_at (r : Fin 512) (d : Fin 1024) :
    (xv x0 x1 x2 w0 w1 : S512x1024.Idx → EReal) (ix2 r d) = cE (row x0 x1 x2 r) (wi w0) (wo w1) d * sE (row x0 x1 x2 r) (wi w0) (wo w1) := by
  have e : (xv x0 x1 x2 w0 w1 : S512x1024.Idx → EReal) (ix2 r d)
      = (k0_pay2 (k0_pay5 x0 x1 x2) (accv x0 x1 x2 w0 w1) : S512x1024.Idx → EReal) (ix2 r d) * (rv x0 x1 x2 w0 w1 : S512x1.Idx → EReal) (ix2 r 0) := by
    unfold xv rv
    pointwise [k0_pay4]
  rw [e, mid_at, rv_at]

end Blocks

end Cert.Kernel6Ideal.Hand

end
-- ==== Proof.FwdFinal.lean ====
/-
  The feed-forward forward call's arrays: what each grid point leaves in its blocks, at the arguments, and the whole arrays
  the blocks make up. The two weights' buffers are filled at the first point and written by no later one.
-/
module

public import proofs.«01_k».proof.Proof.K6At
public import Idealize.ShloMosaic.Lib.Pipeline.ValueKit
public import Idealize.ShloMosaic.Lib.StableHlo.RunRead

@[expose] public section

set_option maxRecDepth 16384

noncomputable section

namespace Cert.Kernel6Ideal.Hand

open Cert.Kernel6Ideal Cert.Kernel6Ideal.Gen Cert.Kernel6Ideal.Value
open Cert.Kernel3Ideal.Hand (lo hi)
open Idealize.ShloMosaic Idealize.ShloMosaic.TcCoe Idealize.ShloMosaic.StableHlo

section Weights

variable {F : FTy → Type} [FloatOps F]
variable (m : (ℓ : Loc nD τ sig) → Buf (Elt F) ℓ) (c : Dev nD)

abbrev a0 : FVec F S16384x1024 .f32 := m ((c.tc : Thread nD τ).loc main_arg0)
abbrev a1 : FVec F S1x1024 .f32 := m ((c.tc : Thread nD τ).loc main_arg1)
abbrev a2 : FVec F S1x1024 .f32 := m ((c.tc : Thread nD τ).loc main_arg2)
abbrev a3 : FVec F S1024x5632 .f32 := m ((c.tc : Thread nD τ).loc main_arg3)
abbrev a4 : FVec F S2816x1024 .f32 := m ((c.tc : Thread nD τ).loc main_arg4)

theorem V_in : V m c main_v0 = (truncf .bf16 (a3 m c) bitsLt_bf16_f32 : FVec F S1024x5632 .bf16) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_out : V m c main_v1 = (truncf .bf16 (a4 m c) bitsLt_bf16_f32 : FVec F S2816x1024 .bf16) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_0 : V m c main_arg0 = a0 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_1 : V m c main_arg1 = a1 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_2 : V m c main_arg2 = a2 m c := by
  unfold V hostOps0
  simp only [List.flatten_cons, List.flatten_nil, List.append_nil, List.cons_append, List.nil_append, TRef.nullary, TRef.ternary, TRef.unary, TRef.toBuf, TRef.ofBuf, cast_eq]
  after_results_simp <;> rfl

/-- The two weights' buffers hold the weights after every point. -/
theorem held_at : ∀ (n : ℕ) (t : Fin cfg0.N), t.val = n →
    (outsAt0 m c t.val t.isLt).2.2.2.2.1 = V m c main_v0 ∧ (outsAt0 m c t.val t.isLt).2.2.2.2.2 = V m c main_v1 := by
  intro n
  induction n with
  | zero =>
    intro t ht
    have h0 : t.val % 32 = 0 := by omega
    constructor
    · simp only [outsAt0_A m c t h0, sout_A_0]
    · simp only [outsAt0_A m c t h0, sout_A_1]
  | succ n ih =>
    intro t ht
    by_cases h0 : t.val % 32 = 0
    · constructor
      · simp only [outsAt0_A m c t h0, sout_A_0]
      · simp only [outsAt0_A m c t h0, sout_A_1]
    · have e := ih ⟨t.val - 1, Nat.lt_of_le_of_lt (Nat.sub_le _ _) t.isLt⟩ (by show t.val - 1 = n; omega)
      constructor
      · simp only [outsAt0_B m c t h0, sout0_B_0]
        exact e.1
      · simp only [outsAt0_B m c t h0, sout0_B_1]
        exact e.2

theorem held (n : ℕ) (hn : n < cfg0.N) : (outsAt0 m c n hn).2.2.2.2.1 = V m c main_v0 ∧ (outsAt0 m c n hn).2.2.2.2.2 = V m c main_v1 :=
  held_at m c n ⟨n, hn⟩ rfl

/-- The point's blocks. -/
abbrev b0 (t : Fin cfg0.N) : Vec F S512x1024 .f32 := iblk m c 0 t
abbrev b1 (t : Fin cfg0.N) : Vec F S1x1024 .f32 := iblk m c 1 t
abbrev b2 (t : Fin cfg0.N) : Vec F S1x1024 .f32 := iblk m c 2 t
abbrev wIn : Vec F S1024x5632 .bf16 := V m c main_v0
abbrev wOut : Vec F S2816x1024 .bf16 := V m c main_v1

theorem left3 (t : Fin cfg0.N) : (outsAt0 m c t.val t.isLt).1 = gv (b0 m c t) (b1 m c t) (b2 m c t) (wIn m c) := by
  by_cases h0 : t.val % 32 = 0
  · simp only [outsAt0_A m c t h0, out_A_3]
  · simp only [outsAt0_B m c t h0, out_B_3]
    exact congrArg (gv (b0 m c t) (b1 m c t) (b2 m c t)) (held m c _ _).1

theorem left4 (t : Fin cfg0.N) : (outsAt0 m c t.val t.isLt).2.1 = uv (b0 m c t) (b1 m c t) (b2 m c t) (wIn m c) := by
  by_cases h0 : t.val % 32 = 0
  · simp only [outsAt0_A m c t h0, out_A_4]
  · simp only [outsAt0_B m c t h0, out_B_4]
    exact congrArg (uv (b0 m c t) (b1 m c t) (b2 m c t)) (held m c _ _).1

theorem left5 (t : Fin cfg0.N) : (outsAt0 m c t.val t.isLt).2.2.1 = xv (b0 m c t) (b1 m c t) (b2 m c t) (wIn m c) (wOut m c) := by
  by_cases h0 : t.val % 32 = 0
  · simp only [outsAt0_A m c t h0, out_A_5]
  · simp only [outsAt0_B m c t h0, out_B_5]
    exact congrArg₂ (xv (b0 m c t) (b1 m c t) (b2 m c t)) (held m c _ _).1 (held m c _ _).2

theorem left6 (t : Fin cfg0.N) : (outsAt0 m c t.val t.isLt).2.2.2.1 = rv (b0 m c t) (b1 m c t) (b2 m c t) (wIn m c) (wOut m c) := by
  by_cases h0 : t.val % 32 = 0
  · simp only [outsAt0_A m c t h0, out_A_6]
  · simp only [outsAt0_B m c t h0, out_B_6]
    exact congrArg₂ (rv (b0 m c t) (b1 m c t) (b2 m c t)) (held m c _ _).1 (held m c _ _).2

end Weights

/-- Row `r` of the block of rows that grid point `n` visits. -/
def rw512 (n : ℕ) (r : Fin 512) : Fin 16384 := ⟨n % 32 * 512 + r.val, by have := r.isLt; omega⟩

theorem rw512_val {n : ℕ} (h : n < 32) (r : Fin 512) : (rw512 n r).val = n * 512 + r.val := by
  show n % 32 * 512 + r.val = _
  rw [Nat.mod_eq_of_lt h]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])

theorem lt32 (t : Fin cfg0.N) : t.val < 32 := t.isLt

theorem place0 (t : Fin cfg0.N) (r : Fin 512) (d : Fin 1024) : ((cfg0.win 0).blk t).view.emb (ix2 r d) = ix2 (rw512 t.val r) d := by
  blk_ext [idx0, rw512_val (lt32 t)]
theorem place1 (t : Fin cfg0.N) (r : Fin 1) (d : Fin 1024) : ((cfg0.win 1).blk t).view.emb (ix2 r d) = ix2 r d := by
  blk_ext [idx1]
theorem place2 (t : Fin cfg0.N) (r : Fin 1) (d : Fin 1024) : ((cfg0.win 2).blk t).view.emb (ix2 r d) = ix2 r d := by
  blk_ext [idx2]
theorem place3 (t : Fin cfg0.N) (r : Fin 512) (d : Fin 2816) : ((cfg0.win 3).blk t).view.emb (ix2 r d) = ix2 (rw512 t.val r) d := by
  blk_ext [idx3, rw512_val (lt32 t)]
theorem place4 (t : Fin cfg0.N) (r : Fin 512) (d : Fin 2816) : ((cfg0.win 4).blk t).view.emb (ix2 r d) = ix2 (rw512 t.val r) d := by
  blk_ext [idx4, rw512_val (lt32 t)]
theorem place5 (t : Fin cfg0.N) (r : Fin 512) (d : Fin 1024) : ((cfg0.win 5).blk t).view.emb (ix2 r d) = ix2 (rw512 t.val r) d := by
  blk_ext [idx5, rw512_val (lt32 t)]
theorem place6 (t : Fin cfg0.N) (r : Fin 512) (d : Fin 1) : ((cfg0.win 6).blk t).view.emb (ix2 r d) = ix2 (rw512 t.val r) d := by
  blk_ext [idx6, rw512_val (lt32 t)]

/-! The whole arrays, as functions of the five arguments. -/

section Arrays

variable (x : S16384x1024.Idx → EReal) (g b : S1x1024.Idx → EReal) (W : S1024x5632.Idx → EReal) (O : S2816x1024.Idx → EReal)

/-- The normed row `t`. -/
def xRow (t : Fin 16384) : Fin 1024 → EReal := nE (fun d => x (ix2 t d)) (fun d => g (ix2 0 d)) (fun d => b (ix2 0 d))
def wRow : Fin 1024 → Fin 5632 → EReal := fun d k => W (ix2 d k)
def oRow : Fin 2816 → Fin 1024 → EReal := fun j d => O (ix2 j d)

def rG : S16384x2816.Idx → EReal := fun i => guE (xRow x g b (i 0)) (wRow W) (lo (i 1))
def rU : S16384x2816.Idx → EReal := fun i => guE (xRow x g b (i 0)) (wRow W) (hi (i 1))
def rX : S16384x1024.Idx → EReal := fun i => cE (xRow x g b (i 0)) (wRow W) (oRow O) (i 1) * sE (xRow x g b (i 0)) (wRow W) (oRow O)
def rS : S16384x1.Idx → EReal := fun i => sE (xRow x g b (i 0)) (wRow W) (oRow O)

end Arrays

section Values

variable (m : (ℓ : Loc nD τ sig) → Buf (Elt Ideal) ℓ) (c : Dev nD)

theorem find0 (t : Fin cfg0.N) (r : Fin 512) (d : Fin 1024) : (b0 m c t (ix2 r d) : EReal) = a0 m c (ix2 (rw512 t.val r) d) :=
  (congrFun (congrArg (((cfg0.win 0).blk t).view.read (Elt Ideal)) (V_0 m c)) (ix2 r d)).trans (congrArg (a0 m c) (place0 t r d))
theorem find1 (t : Fin cfg0.N) (d : Fin 1024) : (b1 m c t (ix2 0 d) : EReal) = a1 m c (ix2 0 d) :=
  (congrFun (congrArg (((cfg0.win 1).blk t).view.read (Elt Ideal)) (V_1 m c)) (ix2 0 d)).trans (congrArg (a1 m c) (place1 t 0 d))
theorem find2 (t : Fin cfg0.N) (d : Fin 1024) : (b2 m c t (ix2 0 d) : EReal) = a2 m c (ix2 0 d) :=
  (congrFun (congrArg (((cfg0.win 2).blk t).view.read (Elt Ideal)) (V_2 m c)) (ix2 0 d)).trans (congrArg (a2 m c) (place2 t 0 d))

theorem row_eq (t : Fin cfg0.N) (r : Fin 512) : row (b0 m c t) (b1 m c t) (b2 m c t) r = xRow (a0 m c) (a1 m c) (a2 m c) (rw512 t.val r) :=
  congr (congrArg₂ nE (funext fun d => find0 m c t r d) (funext fun d => find1 m c t d)) (funext fun d => find2 m c t d)
theorem wi_eq : wi (wIn m c) = wRow (a3 m c) := funext fun d => funext fun k => congrFun (V_in m c) (ix2 d k)
theorem wo_eq : wo (wOut m c) = oRow (a4 m c) := funext fun j => funext fun d => congrFun (V_out m c) (ix2 j d)

/-- What a point leaves in each output's block. -/
abbrev o3 (t : Fin cfg0.N) : S512x2816.Idx → EReal := (outsAt0 m c t.val t.isLt).1
abbrev o4 (t : Fin cfg0.N) : S512x2816.Idx → EReal := (outsAt0 m c t.val t.isLt).2.1
abbrev o5 (t : Fin cfg0.N) : S512x1024.Idx → EReal := (outsAt0 m c t.val t.isLt).2.2.1
abbrev o6 (t : Fin cfg0.N) : S512x1.Idx → EReal := (outsAt0 m c t.val t.isLt).2.2.2.1

abbrev kG : S16384x2816.Idx → EReal := rG (a0 m c) (a1 m c) (a2 m c) (a3 m c)
abbrev kU : S16384x2816.Idx → EReal := rU (a0 m c) (a1 m c) (a2 m c) (a3 m c)
abbrev kX : S16384x1024.Idx → EReal := rX (a0 m c) (a1 m c) (a2 m c) (a3 m c) (a4 m c)
abbrev kS : S16384x1.Idx → EReal := rS (a0 m c) (a1 m c) (a2 m c) (a3 m c) (a4 m c)

theorem o3_val (t : Fin cfg0.N) (r : Fin 512) (j : Fin 2816) : o3 m c t (ix2 r j) = kG m c (ix2 (rw512 t.val r) j) := by
  refine (congrFun (left3 m c t) _).trans ((gv_at _ _ _ _ r j).trans ?_)
  rw [row_eq, wi_eq]
  rfl
theorem o4_val (t : Fin cfg0.N) (r : Fin 512) (j : Fin 2816) : o4 m c t (ix2 r j) = kU m c (ix2 (rw512 t.val r) j) := by
  refine (congrFun (left4 m c t) _).trans ((uv_at _ _ _ _ r j).trans ?_)
  rw [row_eq, wi_eq]
  rfl
theorem o5_val (t : Fin cfg0.N) (r : Fin 512) (d : Fin 1024) : o5 m c t (ix2 r d) = kX m c (ix2 (rw512 t.val r) d) := by
  refine (congrFun (left5 m c t) _).trans ((xv_at _ _ _ _ _ r d).trans ?_)
  rw [row_eq, wi_eq, wo_eq]
  rfl
theorem o6_val (t : Fin cfg0.N) (r : Fin 512) (z : Fin 1) : o6 m c t (ix2 r z) = kS m c (ix2 (rw512 t.val r) z) := by
  obtain rfl : z = 0 := Subsingleton.elim _ _
  refine (congrFun (left6 m c t) _).trans ((rv_at _ _ _ _ _ r).trans ?_)
  rw [row_eq, wi_eq, wo_eq]
  rfl

theorem final3 : (dats m 0 c).arrAt 3 cfg0.N = kG m c := by
  refine (dats m 0 c).arrAt_eq_of_covers 3 _ (by decide +kernel) fun t hf y => ?_
  blk_simp
  rw [after0_3]
  have hy : y = ix2 (y 0 : Fin 512) (y 1 : Fin 2816) := by funext a; fin_cases a <;> rfl
  exact (congrArg (o3 m c t) hy).trans ((o3_val m c t (y 0) (y 1)).trans
    (congrArg (kG m c) ((place3 t (y 0) (y 1)).symm.trans (congrArg ((cfg0.win 3).blk t).view.emb hy.symm))))
theorem final4 : (dats m 0 c).arrAt 4 cfg0.N = kU m c := by
  refine (dats m 0 c).arrAt_eq_of_covers 4 _ (by decide +kernel) fun t hf y => ?_
  blk_simp
  rw [after0_4]
  have hy : y = ix2 (y 0 : Fin 512) (y 1 : Fin 2816) := by funext a; fin_cases a <;> rfl
  exact (congrArg (o4 m c t) hy).trans ((o4_val m c t (y 0) (y 1)).trans
    (congrArg (kU m c) ((place4 t (y 0) (y 1)).symm.trans (congrArg ((cfg0.win 4).blk t).view.emb hy.symm))))
theorem final5 : (dats m 0 c).arrAt 5 cfg0.N = kX m c := by
  refine (dats m 0 c).arrAt_eq_of_covers 5 _ (by decide +kernel) fun t hf y => ?_
  blk_simp
  rw [after0_5]
  have hy : y = ix2 (y 0 : Fin 512) (y 1 : Fin 1024) := by funext a; fin_cases a <;> rfl
  exact (congrArg (o5 m c t) hy).trans ((o5_val m c t (y 0) (y 1)).trans
    (congrArg (kX m c) ((place5 t (y 0) (y 1)).symm.trans (congrArg ((cfg0.win 5).blk t).view.emb hy.symm))))
theorem final6 : (dats m 0 c).arrAt 6 cfg0.N = kS m c := by
  refine (dats m 0 c).arrAt_eq_of_covers 6 _ (by decide +kernel) fun t hf y => ?_
  blk_simp
  rw [after0_6]
  have hy : y = ix2 (y 0 : Fin 512) (y 1 : Fin 1) := by funext a; fin_cases a <;> rfl
  exact (congrArg (o6 m c t) hy).trans ((o6_val m c t (y 0) (y 1)).trans
    (congrArg (kS m c) ((place6 t (y 0) (y 1)).symm.trans (congrArg ((cfg0.win 6).blk t).view.emb hy.symm))))

end Values

end Cert.Kernel6Ideal.Hand

end
-- ==== Proof.FwdRef.lean ====
/-
  The feed-forward forward call and its reference: the reference's composed terms, stage by stage at an index, are the same
  functions of the arguments as the call's arrays, so the two programs end with equal results.
-/
module

public import proofs.«01_k».proof.Defs
public import proofs.«01_k».proof.Proof.FwdFinal
public import proofs.«01_k».proof.Proof.Gen.Reference6Ideal.Run

@[expose] public section

set_option maxRecDepth 16384

noncomputable section

namespace Cert.Reference6Ideal.Hand

open Cert.Reference6Ideal Cert.Reference6Ideal.Gen Cert.Reference6Ideal.Value
open Cert.Kernel3Ideal.Hand (lo hi cHalf cAlpha cWidth)
open Cert.Kernel6Ideal.Hand (nE guE swE brE rE cE sE cEps xRow wRow oRow rG rU rX rS)
open Idealize.ShloMosaic Idealize.ShloMosaic.TcCoe
open scoped BigOperators

variable (x : FVec Ideal S16384x1024 .f32) (g b : FVec Ideal S1x1024 .f32) (w : FVec Ideal S1024x5632 .f32) (v : FVec Ideal S2816x1024 .f32)

/-- The normed rows, and their product with the input weight. -/
def nR : FVec Ideal S16384x1024 .f32 :=
  addf (mulf x (broadcastInDim S16384x1024 ![0, 1] bcast_S1x1024_S16384x1024_0_1 g)) (broadcastInDim S16384x1024 ![0, 1] bcast_S1x1024_S16384x1024_0_1 b)
def pR : FVec Ideal S16384x5632 .f32 := Host.dotGeneral dot_S16384x1024_S1024x5632_S16384x5632_1_0_0_1_n_n none (nR x g b) w
def gR : FVec Ideal S16384x2816 .f32 := extractStridedSlice S16384x2816 ![0, 0] (pR x g b w) slices_S16384x5632_S16384x2816_0_0
def uR : FVec Ideal S16384x2816 .f32 := extractStridedSlice S16384x2816 ![0, 2816] (pR x g b w) slices_S16384x5632_S16384x2816_0_2816
/-- The gated activation, and the sum of the residual and the branch. -/
def aR : FVec Ideal S16384x2816 .f32 :=
  mulf (mulf (gR x g b w) (Host.divf (broadcastInDim S16384x2816 ![] bcast_S_S16384x2816 (constant S_ .f32 0x3F800000#32))
    (addf (broadcastInDim S16384x2816 ![] bcast_S_S16384x2816 (constant S_ .f32 0x3F800000#32)) (Host.exp (Host.negf (gR x g b w)))))) (uR x g b w)
def sR : FVec Ideal S16384x1024 .f32 :=
  addf (mulf (broadcastInDim S16384x1024 ![] bcast_S_S16384x1024 (constant S_ .f32 0x3F9837F0#32)) (nR x g b))
    (mulf (broadcastInDim S16384x1024 ![] bcast_S_S16384x1024 (constant S_ .f32 0x3F000000#32))
      (Host.dotGeneral dot_S16384x2816_S2816x1024_S16384x1024_1_0_0_1_n_n none (aR x g b w) v))
/-- A column of means over the width, the centred rows, and one over their deviations. -/
def mR (y : FVec Ideal S16384x1024 .f32) : FVec Ideal S16384x1 .f32 :=
  Host.divf (broadcastInDim S16384x1 ![0] bcast_S16384_S16384x1_0 (Host.reduceAdd y (constant S_ .f32 0x00000000#32) reducesTo_S16384x1024_S16384_d1 h_S_))
    (broadcastInDim S16384x1 ![] bcast_S_S16384x1 (constant S_ .f32 0x44800000#32))
def cR (y : FVec Ideal S16384x1024 .f32) : FVec Ideal S16384x1024 .f32 := subf y (broadcastInDim S16384x1024 ![0, 1] bcast_S16384x1_S16384x1024_0_1 (mR y))
def dR (y : FVec Ideal S16384x1024 .f32) : FVec Ideal S16384x1 .f32 :=
  Host.rsqrt (addf (mR (mulf (cR y) (cR y))) (broadcastInDim S16384x1 ![] bcast_S_S16384x1 (constant S_ .f32 0x3727C5AC#32)))
def hR (y : FVec Ideal S16384x1024 .f32) : FVec Ideal S16384x1024 .f32 :=
  mulf (cR y) (broadcastInDim S16384x1024 ![0, 1] bcast_S16384x1_S16384x1024_0_1 (dR y))

theorem nR_at (t : Fin 16384) (d : Fin 1024) : (nR x g b : S16384x1024.Idx → EReal) (ix2 t d) = xRow x g b t d := by
  pointwise [nR]
  rfl
theorem pR_at (t : Fin 16384) (k : Fin 5632) : (pR x g b w : S16384x5632.Idx → EReal) (ix2 t k) = guE (xRow x g b t) (wRow w) k := by
  pointwise [pR]
  simp only [nR_at]
  rfl
theorem gR_at (t : Fin 16384) (j : Fin 2816) : (gR x g b w : S16384x2816.Idx → EReal) (ix2 t j) = guE (xRow x g b t) (wRow w) (lo j) := by
  refine Eq.trans ?_ (pR_at x g b w t (lo j))
  pointwise [gR]
  rfl
theorem uR_at (t : Fin 16384) (j : Fin 2816) : (uR x g b w : S16384x2816.Idx → EReal) (ix2 t j) = guE (xRow x g b t) (wRow w) (hi j) := by
  refine Eq.trans ?_ (pR_at x g b w t (hi j))
  pointwise [uR]
  rfl
theorem aR_at (t : Fin 16384) (j : Fin 2816) :
    (aR x g b w : S16384x2816.Idx → EReal) (ix2 t j) = swE (guE (xRow x g b t) (wRow w) (lo j)) (guE (xRow x g b t) (wRow w) (hi j)) := by
  pointwise [aR]
  simp only [gR_at, uR_at]
  rfl
theorem sR_at (t : Fin 16384) (d : Fin 1024) : (sR x g b w v : S16384x1024.Idx → EReal) (ix2 t d) = rE (xRow x g b t) (wRow w) (oRow v) d := by
  pointwise [sR]
  simp only [nR_at, aR_at]
  rfl
theorem mR_at (y : FVec Ideal S16384x1024 .f32) (t : Fin 16384) :
    (mR y : S16384x1.Idx → EReal) (ix2 t 0) = Ideal.div (∑ e : Fin 1024, (y : S16384x1024.Idx → EReal) (ix2 t e)) cWidth := by
  pointwise [mR]
  rfl
theorem cR_at (y : FVec Ideal S16384x1024 .f32) (t : Fin 16384) (d : Fin 1024) :
    (cR y : S16384x1024.Idx → EReal) (ix2 t d) = (y : S16384x1024.Idx → EReal) (ix2 t d) - (mR y : S16384x1.Idx → EReal) (ix2 t 0) := by
  pointwise [cR]
theorem dR_at (y : FVec Ideal S16384x1024 .f32) (t : Fin 16384) :
    (dR y : S16384x1.Idx → EReal) (ix2 t 0)
      = Ideal.rsqrt (Ideal.div (∑ e : Fin 1024, (cR y : S16384x1024.Idx → EReal) (ix2 t e) * (cR y : S16384x1024.Idx → EReal) (ix2 t e)) cWidth + cEps) := by
  pointwise [dR, mR]
  rfl
theorem hR_at (y : FVec Ideal S16384x1024 .f32) (t : Fin 16384) (d : Fin 1024) :
    (hR y : S16384x1024.Idx → EReal) (ix2 t d) = (cR y : S16384x1024.Idx → EReal) (ix2 t d) * (dR y : S16384x1.Idx → EReal) (ix2 t 0) := by
  pointwise [hR]

theorem centred (t : Fin 16384) (d : Fin 1024) : (cR (sR x g b w v) : S16384x1024.Idx → EReal) (ix2 t d) = cE (xRow x g b t) (wRow w) (oRow v) d := by
  rw [cR_at, mR_at]
  simp only [sR_at]
  rfl
theorem scaled (t : Fin 16384) : (dR (sR x g b w v) : S16384x1.Idx → EReal) (ix2 t 0) = sE (xRow x g b t) (wRow w) (oRow v) := by
  rw [dR_at]
  simp only [centred]
  rfl

theorem res_g : (truncf .bf16 (gR x g b w) bitsLt_bf16_f32 : S16384x2816.Idx → EReal) = rG x g b w := by
  funext i
  have hi' : i = ix2 (i 0 : Fin 16384) (i 1 : Fin 2816) := by funext a; fin_cases a <;> rfl
  rw [hi']
  exact gR_at x g b w (i 0) (i 1)
theorem res_u : (truncf .bf16 (uR x g b w) bitsLt_bf16_f32 : S16384x2816.Idx → EReal) = rU x g b w := by
  funext i
  have hi' : i = ix2 (i 0 : Fin 16384) (i 1 : Fin 2816) := by funext a; fin_cases a <;> rfl
  rw [hi']
  exact uR_at x g b w (i 0) (i 1)
theorem res_x : (hR (sR x g b w v) : S16384x1024.Idx → EReal) = rX x g b w v := by
  funext i
  have hi' : i = ix2 (i 0 : Fin 16384) (i 1 : Fin 1024) := by funext a; fin_cases a <;> rfl
  rw [hi']
  exact (hR_at _ (i 0) (i 1)).trans (congrArg₂ (· * ·) (centred x g b w v (i 0) (i 1)) (scaled x g b w v (i 0)))
theorem res_s : (dR (sR x g b w v) : S16384x1.Idx → EReal) = rS x g b w v := by
  funext i
  have hi' : i = ix2 (i 0 : Fin 16384) (0 : Fin 1) := by
    funext a
    fin_cases a
    · rfl
    · exact Subsingleton.elim (α := Fin 1) _ _
  rw [hi']
  exact scaled x g b w v (i 0)

end Cert.Reference6Ideal.Hand

namespace Cert.Proof

open Idealize.ShloMosaic Idealize.ShloMosaic.TcCoe Idealize.SL.Sem
open Cert.Kernel6Ideal.Hand (rG rU rX rS)

section Kernel

open Cert.Kernel6Ideal Cert.Kernel6Ideal.Hand

variable (m : (ℓ : Loc nD τ sig) → Buf (Elt Ideal) ℓ) (ρ : Dev nD → PrngReg)

theorem kernel6_run :
    θ_run (defs (F := Ideal)) (onTc (τ := τ) (main (F := Ideal))) ⟨m, fun _ => 0, ρ⟩ (fun r => ∀ c : Dev nD,
      r.2.mem ((c.tc : Thread nD τ).loc main_v2_0) = kG m c
      ∧ r.2.mem ((c.tc : Thread nD τ).loc main_v2_1) = kU m c
      ∧ r.2.mem ((c.tc : Thread nD τ).loc main_v2_2) = kX m c
      ∧ r.2.mem ((c.tc : Thread nD τ).loc main_v2_3) = kS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).1.trans (final3 m c),
      (h c).2.1.trans (final4 m c),
      (h c).2.2.1.trans (final5 m c),
      (h c).2.2.2.1.trans (final6 m c),
      (h c).2.2.2.2⟩)
    (Value.run_blocks (F := Ideal) m ρ)

end Kernel

section Reference

open Cert.Reference6Ideal Cert.Reference6Ideal.Gen Cert.Reference6Ideal.Value Cert.Reference6Ideal.Hand

variable (m : (ℓ : Loc nD τ sig) → Buf (Elt Ideal) ℓ) (ρ : Dev nD → PrngReg) (c : Dev nD)

abbrev ref6_0 : FVec Ideal S16384x1024 .f32 := m ((c.tc : Thread nD τ).loc main_arg0)
abbrev ref6_1 : FVec Ideal S1x1024 .f32 := m ((c.tc : Thread nD τ).loc main_arg1)
abbrev ref6_2 : FVec Ideal S1x1024 .f32 := m ((c.tc : Thread nD τ).loc main_arg2)
abbrev ref6_3 : FVec Ideal S1024x5632 .f32 := m ((c.tc : Thread nD τ).loc main_arg3)
abbrev ref6_4 : FVec Ideal S2816x1024 .f32 := m ((c.tc : Thread nD τ).loc main_arg4)

theorem ref6_x : res_main_v32 m c = hR (sR (ref6_0 m c) (ref6_1 m c) (ref6_2 m c) (ref6_3 m c) (ref6_4 m c)) := by
  unfold res_main_v32
  rfl
theorem ref6_s : res_main_v28 m c = dR (sR (ref6_0 m c) (ref6_1 m c) (ref6_2 m c) (ref6_3 m c) (ref6_4 m c)) := by
  unfold res_main_v28
  rfl

theorem reference6_run :
    θ_run (defs (F := Ideal)) (onTc (τ := τ) (main (F := Ideal))) ⟨m, fun _ => 0, ρ⟩ (fun r => ∀ c : Dev nD,
      r.2.mem ((c.tc : Thread nD τ).loc main_v29) = rG (ref6_0 m c) (ref6_1 m c) (ref6_2 m c) (ref6_3 m c)
      ∧ r.2.mem ((c.tc : Thread nD τ).loc main_v30) = rU (ref6_0 m c) (ref6_1 m c) (ref6_2 m c) (ref6_3 m c)
      ∧ r.2.mem ((c.tc : Thread nD τ).loc main_v32) = rX (ref6_0 m c) (ref6_1 m c) (ref6_2 m c) (ref6_3 m c) (ref6_4 m c)
      ∧ r.2.mem ((c.tc : Thread nD τ).loc main_v28) = rS (ref6_0 m c) (ref6_1 m c) (ref6_2 m c) (ref6_3 m c) (ref6_4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).1.trans (res_g _ _ _ _),
      (h c).2.1.trans (res_u _ _ _ _),
      (h c).2.2.1.trans ((ref6_x m c).trans (res_x _ _ _ _ _)),
      (h c).2.2.2.1.trans ((ref6_s m c).trans (res_s _ _ _ _ _)),
      (h c).2.2.2.2⟩)
    (Value.run (F := Ideal) m ρ)

end Reference

/-- From equal arguments the two programs end with equal results, whatever the arguments hold. -/
theorem algebraic6 : Cert.algebraic_Kernel6Ideal_Reference6Ideal := fun m g m' g' _ heq => by
  refine ⟨fun c => Cert.Kernel6Ideal.Hand.kG m c, fun c => Cert.Kernel6Ideal.Hand.kU m c, fun c => Cert.Kernel6Ideal.Hand.kX m c, fun c => Cert.Kernel6Ideal.Hand.kS m c,
    kernel6_run m g, (θ_run Cert.Reference6Ideal.defs _ _).mono (fun r h c => ?_) (reference6_run m' g')⟩
  obtain ⟨e0, e1, e2, e3, e4⟩ := heq c
  obtain ⟨h0, h1, h2, h3, hr⟩ := h c
  have f0 : ref6_0 m' c = Cert.Kernel6Ideal.Hand.a0 m c := e0
  have f1 : ref6_1 m' c = Cert.Kernel6Ideal.Hand.a1 m c := e1
  have f2 : ref6_2 m' c = Cert.Kernel6Ideal.Hand.a2 m c := e2
  have f3 : ref6_3 m' c = Cert.Kernel6Ideal.Hand.a3 m c := e3
  have f4 : ref6_4 m' c = Cert.Kernel6Ideal.Hand.a4 m c := e4
  rw [f0, f1, f2, f3] at h0 h1
  rw [f0, f1, f2, f3, f4] at h2 h3
  exact ⟨h0, h1, h2, h3, hr⟩

end Cert.Proof

end
-- ==== Proof.DwClaims.lean ====
/-
  The runs of the mixer's and the embedding's weight gradients, and of the mixer's forward call, end with the arguments as
  launched and every semaphore at zero.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import Idealize.ShloMosaic.Lib.Quiescent

@[expose] public section

noncomputable section

namespace Cert.Proof

open Idealize.ShloMosaic Idealize.ShloMosaic.TcCoe Idealize.SL.Sem

/-- The programs of the mixer's output weight's gradient. -/
theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_ri7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The programs of the embedding's gate weight's gradient. -/
theorem frame_p8 : Cert.quiescent_Kernel8 := fun m ρ _ => Cert.Kernel8.Gen.frame m ρ
theorem frame_pi8 : Cert.quiescent_Kernel8Ideal := fun m ρ _ => Cert.Kernel8Ideal.Gen.frame m ρ
theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The programs of the gradient of the embedding's projection. -/
theorem frame_p9 : Cert.quiescent_Kernel9 := fun m ρ _ => Cert.Kernel9.Gen.frame m ρ
theorem frame_pi9 : Cert.quiescent_Kernel9Ideal := fun m ρ _ => Cert.Kernel9Ideal.Gen.frame m ρ
theorem frame_ri9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The programs of the mixer's forward call. -/
theorem frame_p10 : Cert.quiescent_Kernel10 := fun m ρ _ => Cert.Kernel10.Gen.frame m ρ
theorem frame_pi10 : Cert.quiescent_Kernel10Ideal := fun m ρ _ => Cert.Kernel10Ideal.Gen.frame m ρ
theorem frame_ri10 : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

end Cert.Proof

end
-- ==== Proof.DwMix.lean ====
/-
  The gradient of the mixer's output weight: the kernel's eight partial products, one to a
  block of rows, add up to the reference's one product.
-/
module

public import proofs.«01_k».proof.Defs
public import proofs.«01_k».proof.Proof.Gen.Kernel7Ideal.Value
public import proofs.«01_k».proof.Proof.Gen.Reference7Ideal
public import proofs.«01_k».proof.Proof.Gen.Reference7Ideal.Run
public import proofs.«01_k».proof.Proof.Rows

@[expose] public section

set_option maxRecDepth 16384

noncomputable section

namespace Cert.Kernel7Ideal.Hand

open Cert.Kernel7Ideal Cert.Kernel7Ideal.Gen Cert.Rows
open Idealize.ShloMosaic Idealize.ShloMosaic.TcCoe
open scoped BigOperators

/-- One grid point's update: the accumulator plus the product over the block's rows. -/
theorem pay_at (x : Vec Ideal S2048x1024 .bf16) (acc : Vec Ideal S1024x1024 .f32) (d : Vec Ideal S2048x1024 .bf16) (i : Fin 1024) (j : Fin 1024) :
    k0_pay2 x acc d (ix2 i j) = acc (ix2 i j) + ∑ k : Fin 2048, x (ix2 k i) * d (ix2 k j) := by
  pointwise [k0_pay2]

theorem zero_at (i : Fin 1024) (j : Fin 1024) : k0_pay1 (F := Ideal) (ix2 i j) = 0 := by
  pointwise [k0_pay1]

theorem row_val (n : ℕ) (k : Fin 2048) : (row n k).val = n % 8 * 2048 + k.val := rfl

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![t.val % 8, 0] := (by decide +kernel : ∀ t : Fin grid0.N, win0_1.index t = ![t.val % 8, 0])

theorem place0 (t : Fin cfg0.N) (k : Fin 2048) (i : Fin 1024) : ((cfg0.win 0).blk t).view.emb (ix2 k i) = ix2 (row t.val k) i := by
  blk_ext [idx0, row_val]
theorem place1 (t : Fin cfg0.N) (k : Fin 2048) (i : Fin 1024) : ((cfg0.win 1).blk t).view.emb (ix2 k i) = ix2 (row t.val k) i := by
  blk_ext [idx1, row_val]

variable (m : (ℓ : Loc nD τ sig) → Buf (Elt Ideal) ℓ) (c : Dev nD)

abbrev aX : S16384x1024.Idx → EReal := m ((c.tc : Thread nD τ).loc main_arg0)
abbrev aD : S16384x1024.Idx → EReal := m ((c.tc : Thread nD τ).loc main_arg1)

theorem find0 (t : Fin cfg0.N) (k : Fin 2048) (i : Fin 1024) : (iblk m c 0 t : S2048x1024.Idx → EReal) (ix2 k i) = aX m c (ix2 (row t.val k) i) :=
  congrArg (aX m c) (place0 t k i)
theorem find1 (t : Fin cfg0.N) (k : Fin 2048) (i : Fin 1024) : (iblk m c 1 t : S2048x1024.Idx → EReal) (ix2 k i) = aD m c (ix2 (row t.val k) i) :=
  congrArg (aD m c) (place1 t k i)

/-- One row's part of the gradient: the operand there times the incoming gradient there. -/
def term (x : Fin 16384) (i : Fin 1024) (j : Fin 1024) : EReal :=
  aX m c (ix2 x i) * aD m c (ix2 x j)

/-- The same, at an index of the result. -/
def termAt (x : Fin 16384) (y : S1024x1024.Idx) : EReal := term m c x (y 0 : Fin 1024) (y 1 : Fin 1024)

theorem pair (y : S1024x1024.Idx) : y = ix2 (y 0 : Fin 1024) (y 1 : Fin 1024) := by funext i; fin_cases i <;> rfl

theorem step_at (n : ℕ) (h : n < cfg0.N) (acc : Vec Ideal S1024x1024 .f32) (y : S1024x1024.Idx) :
    Value.step2 m c n h acc y = acc y + ∑ k : Fin 2048, termAt m c (row n k) y := by
  rw [pair y]
  refine (pay_at _ _ _ _ _).trans (congrArg (acc _ + ·) (Finset.sum_congr rfl fun k _ => ?_))
  exact congrArg₂ (· * ·) (find0 m c ⟨n, h⟩ k (y 0 : Fin 1024)) (find1 m c ⟨n, h⟩ k (y 1 : Fin 1024))

theorem reset_at (n : ℕ) (h : n < cfg0.N) (y : S1024x1024.Idx) :
    Value.reset2 m c n h y = 0 + ∑ k : Fin 2048, termAt m c (row n k) y := by
  refine (step_at m c n h (k0_pay1 (F := Ideal)) y).trans (congrArg (· + _) ?_)
  rw [pair y]
  exact zero_at _ _

/-- The kernel's result at an index. -/
theorem G_at (i : Fin 1024) (j : Fin 1024) : Value.G2 m c (ix2 i j) = ∑ x : Fin 16384, term m c x i j := by
  have hi := i.isLt
  have hj := j.isLt
  have hr : Value.run2Of (ix2 i j) = 0 := by
    show 1 * (i.val / 1024 - 0) + 1 * (j.val / 1024 - 0) = 0
    omega
  have hN : 8 * Value.run2Of (ix2 i j) + 7 < cfg0.N := by
    rw [hr]; exact lt_of_lt_of_eq (by norm_num) N_0.symm
  have e0 : ((Value.loc2Of (ix2 i j)) 0 : Fin 1024) = i := Fin.ext (Nat.mod_eq_of_lt hi)
  have e1 : ((Value.loc2Of (ix2 i j)) 1 : Fin 1024) = j := Fin.ext (Nat.mod_eq_of_lt hj)
  unfold Value.G2
  rw [dif_pos hN]
  refine (fold_rows _ _ (termAt m c) (reset_at m c) (step_at m c) _ hN _).trans ?_
  exact congrArg₂ (fun a b => ∑ x : Fin 16384, term m c x a b) e0 e1

/-- The reference's result at an index: the same terms, over all rows at once. -/
theorem ref_at (x : FVec Ideal S16384x1024 .bf16) (d : FVec Ideal S16384x1024 .bf16) (i : Fin 1024) (j : Fin 1024) :
    (transpose S1024x1024 [1, 0] (Host.dotGeneral Cert.Reference7Ideal.dot_S16384x1024_S16384x1024_S1024x1024_0_0_1_1_n_n none (extf .f32 d Cert.Reference7Ideal.Facts₀.bitsLt_bf16_f32)
      (extf .f32 x Cert.Reference7Ideal.Facts₀.bitsLt_bf16_f32))
      Cert.Reference7Ideal.Facts₀.transposes_S1024x1024_S1024x1024_1_0 : FVec Ideal S1024x1024 .f32) (ix2 i j)
      = ∑ t : Fin 16384, d (ix2 t j) * x (ix2 t i) := by
  pointwise []

end Cert.Kernel7Ideal.Hand

namespace Cert.Proof

open Idealize.ShloMosaic Idealize.ShloMosaic.TcCoe Idealize.SL.Sem

/-- From equal arguments the two programs end with equal gradients. -/
theorem algebraic7 : Cert.algebraic_Kernel7Ideal_Reference7Ideal := fun m g m' g' _ heq => by
  refine ⟨fun c => Cert.Kernel7Ideal.Value.G2 m c, Cert.Kernel7Ideal.Value.run (F := Ideal) m g,
    (θ_run Cert.Reference7Ideal.defs _ _).mono (fun r h c => ⟨(h c).1.trans ?_, (h c).2⟩) (Cert.Reference7Ideal.Value.run (F := Ideal) m' g')⟩
  obtain ⟨e0, e1⟩ := heq c
  rw [e0, e1]
  funext y
  refine (congrArg _ (Cert.Kernel7Ideal.Hand.pair y)).trans (((Cert.Kernel7Ideal.Hand.ref_at _ _ _ _).trans ?_).trans (congrArg (Cert.Kernel7Ideal.Value.G2 m c) (Cert.Kernel7Ideal.Hand.pair y)).symm)
  refine Eq.trans ?_ (Cert.Kernel7Ideal.Hand.G_at m c _ _).symm
  exact Finset.sum_congr rfl fun t _ => mul_comm _ _

end Cert.Proof

end
-- ==== Proof.DwGate.lean ====
/-
  The gradient of the embedding's gate weight: the kernel's eight partial products, one to a
  block of rows, add up to the reference's one product.
-/
module

public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Rows

@[expose] public section

set_option maxRecDepth 16384

noncomputable section

namespace Cert.Kernel8Ideal.Hand

open Cert.Kernel8Ideal Cert.Kernel8Ideal.Gen Cert.Rows
open Idealize.ShloMosaic Idealize.ShloMosaic.TcCoe
open scoped BigOperators

/-- One grid point's update: the accumulator plus the product over the block's rows. -/
theorem pay_at (x : Vec Ideal S2048x1024 .f32) (g b : Vec Ideal S1x1024 .f32) (acc : Vec Ideal S1024x1024 .f32) (d : Vec Ideal S2048x1024 .bf16) (i : Fin 1024) (j : Fin 1024) :
    k0_pay2 x g b acc d (ix2 i j) = acc (ix2 i j) + ∑ k : Fin 2048, (x (ix2 k i) * g (ix2 0 i) + b (ix2 0 i)) * d (ix2 k j) := by
  pointwise [k0_pay2]

theorem zero_at (i : Fin 1024) (j : Fin 1024) : k0_pay1 (F := Ideal) (ix2 i j) = 0 := by
  pointwise [k0_pay1]

theorem row_val (n : ℕ) (k : Fin 2048) : (row n k).val = n % 8 * 2048 + k.val := rfl

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val % 8, 0] := (by decide +kernel : ∀ t : Fin grid0.N, win0_3.index t = ![t.val % 8, 0])

theorem place0 (t : Fin cfg0.N) (k : Fin 2048) (i : Fin 1024) : ((cfg0.win 0).blk t).view.emb (ix2 k i) = ix2 (row t.val k) i := by
  blk_ext [idx0, row_val]
theorem place1 (t : Fin cfg0.N) (i : Fin 1024) : ((cfg0.win 1).blk t).view.emb (ix2 (0 : Fin 1) i) = ix2 (0 : Fin 1) i := by
  blk_ext [idx1]
theorem place2 (t : Fin cfg0.N) (i : Fin 1024) : ((cfg0.win 2).blk t).view.emb (ix2 (0 : Fin 1) i) = ix2 (0 : Fin 1) i := by
  blk_ext [idx2]
theorem place3 (t : Fin cfg0.N) (k : Fin 2048) (i : Fin 1024) : ((cfg0.win 3).blk t).view.emb (ix2 k i) = ix2 (row t.val k) i := by
  blk_ext [idx3, row_val]

variable (m : (ℓ : Loc nD τ sig) → Buf (Elt Ideal) ℓ) (c : Dev nD)

abbrev aX : S16384x1024.Idx → EReal := m ((c.tc : Thread nD τ).loc main_arg0)
abbrev aG : S1x1024.Idx → EReal := m ((c.tc : Thread nD τ).loc main_arg1)
abbrev aB : S1x1024.Idx → EReal := m ((c.tc : Thread nD τ).loc main_arg2)
abbrev aD : S16384x1024.Idx → EReal := m ((c.tc : Thread nD τ).loc main_arg3)

theorem find0 (t : Fin cfg0.N) (k : Fin 2048) (i : Fin 1024) : (iblk m c 0 t : S2048x1024.Idx → EReal) (ix2 k i) = aX m c (ix2 (row t.val k) i) :=
  congrArg (aX m c) (place0 t k i)
theorem find1 (t : Fin cfg0.N) (i : Fin 1024) : (iblk m c 1 t : S1x1024.Idx → EReal) (ix2 (0 : Fin 1) i) = aG m c (ix2 (0 : Fin 1) i) :=
  congrArg (aG m c) (place1 t i)
theorem find2 (t : Fin cfg0.N) (i : Fin 1024) : (iblk m c 2 t : S1x1024.Idx → EReal) (ix2 (0 : Fin 1) i) = aB m c (ix2 (0 : Fin 1) i) :=
  congrArg (aB m c) (place2 t i)
theorem find3 (t : Fin cfg0.N) (k : Fin 2048) (i : Fin 1024) : (iblk m c 3 t : S2048x1024.Idx → EReal) (ix2 k i) = aD m c (ix2 (row t.val k) i) :=
  congrArg (aD m c) (place3 t k i)

/-- One row's part of the gradient: the operand there times the incoming gradient there. -/
def term (x : Fin 16384) (i : Fin 1024) (j : Fin 1024) : EReal :=
  (aX m c (ix2 x i) * aG m c (ix2 (0 : Fin 1) i) + aB m c (ix2 (0 : Fin 1) i)) * aD m c (ix2 x j)

/-- The same, at an index of the result. -/
def termAt (x : Fin 16384) (y : S1024x1024.Idx) : EReal := term m c x (y 0 : Fin 1024) (y 1 : Fin 1024)

theorem pair (y : S1024x1024.Idx) : y = ix2 (y 0 : Fin 1024) (y 1 : Fin 1024) := by funext i; fin_cases i <;> rfl

theorem step_at (n : ℕ) (h : n < cfg0.N) (acc : Vec Ideal S1024x1024 .f32) (y : S1024x1024.Idx) :
    Value.step4 m c n h acc y = acc y + ∑ k : Fin 2048, termAt m c (row n k) y := by
  rw [pair y]
  refine (pay_at _ _ _ _ _ _ _).trans (congrArg (acc _ + ·) (Finset.sum_congr rfl fun k _ => ?_))
  exact congrArg₂ (· * ·) (congrArg₂ (· + ·) (congrArg₂ (· * ·) (find0 m c ⟨n, h⟩ k (y 0 : Fin 1024)) (find1 m c ⟨n, h⟩ (y 0 : Fin 1024))) (find2 m c ⟨n, h⟩ (y 0 : Fin 1024))) (find3 m c ⟨n, h⟩ k (y 1 : Fin 1024))

theorem reset_at (n : ℕ) (h : n < cfg0.N) (y : S1024x1024.Idx) :
    Value.reset4 m c n h y = 0 + ∑ k : Fin 2048, termAt m c (row n k) y := by
  refine (step_at m c n h (k0_pay1 (F := Ideal)) y).trans (congrArg (· + _) ?_)
  rw [pair y]
  exact zero_at _ _

/-- The kernel's result at an index. -/
theorem G_at (i : Fin 1024) (j : Fin 1024) : Value.G4 m c (ix2 i j) = ∑ x : Fin 16384, term m c x i j := by
  have hi := i.isLt
  have hj := j.isLt
  have hr : Value.run4Of (ix2 i j) = 0 := by
    show 1 * (i.val / 1024 - 0) + 1 * (j.val / 1024 - 0) = 0
    omega
  have hN : 8 * Value.run4Of (ix2 i j) + 7 < cfg0.N := by
    rw [hr]; exact lt_of_lt_of_eq (by norm_num) N_0.symm
  have e0 : ((Value.loc4Of (ix2 i j)) 0 : Fin 1024) = i := Fin.ext (Nat.mod_eq_of_lt hi)
  have e1 : ((Value.loc4Of (ix2 i j)) 1 : Fin 1024) = j := Fin.ext (Nat.mod_eq_of_lt hj)
  unfold Value.G4
  rw [dif_pos hN]
  refine (fold_rows _ _ (termAt m c) (reset_at m c) (step_at m c) _ hN _).trans ?_
  exact congrArg₂ (fun a b => ∑ x : Fin 16384, term m c x a b) e0 e1

/-- The reference's result at an index: the same terms, over all rows at once. -/
theorem ref_at (x : FVec Ideal S16384x1024 .f32) (g b : FVec Ideal S1x1024 .f32) (d : FVec Ideal S16384x1024 .bf16) (i : Fin 1024) (j : Fin 1024) :
    (transpose S1024x1024 [1, 0] (Host.dotGeneral Cert.Reference8Ideal.dot_S16384x1024_S16384x1024_S1024x1024_0_0_1_1_n_n none (extf .f32 d Cert.Reference8Ideal.Facts₀.bitsLt_bf16_f32)
      (addf (mulf x (broadcastInDim S16384x1024 ![0, 1] Cert.Reference8Ideal.Facts₀.bcast_S1x1024_S16384x1024_0_1 g)) (broadcastInDim S16384x1024 ![0, 1] Cert.Reference8Ideal.Facts₀.bcast_S1x1024_S16384x1024_0_1 b)))
      Cert.Reference8Ideal.Facts₀.transposes_S1024x1024_S1024x1024_1_0 : FVec Ideal S1024x1024 .f32) (ix2 i j)
      = ∑ t : Fin 16384, d (ix2 t j) * (x (ix2 t i) * g (ix2 (0 : Fin 1) i) + b (ix2 (0 : Fin 1) i)) := by
  pointwise []

end Cert.Kernel8Ideal.Hand

namespace Cert.Proof

open Idealize.ShloMosaic Idealize.ShloMosaic.TcCoe Idealize.SL.Sem

/-- From equal arguments the two programs end with equal gradients. -/
theorem algebraic8 : Cert.algebraic_Kernel8Ideal_Reference8Ideal := fun m g m' g' _ heq => by
  refine ⟨fun c => Cert.Kernel8Ideal.Value.G4 m c, Cert.Kernel8Ideal.Value.run (F := Ideal) m g,
    (θ_run Cert.Reference8Ideal.defs _ _).mono (fun r h c => ⟨(h c).1.trans ?_, (h c).2⟩) (Cert.Reference8Ideal.Value.run (F := Ideal) m' g')⟩
  obtain ⟨e0, e1, e2, e3⟩ := heq c
  rw [e0, e1, e2, e3]
  funext y
  refine (congrArg _ (Cert.Kernel8Ideal.Hand.pair y)).trans (((Cert.Kernel8Ideal.Hand.ref_at _ _ _ _ _ _).trans ?_).trans (congrArg (Cert.Kernel8Ideal.Value.G4 m c) (Cert.Kernel8Ideal.Hand.pair y)).symm)
  refine Eq.trans ?_ (Cert.Kernel8Ideal.Hand.G_at m c _ _).symm
  exact Finset.sum_congr rfl fun t _ => mul_comm _ _

end Cert.Proof

end
-- ==== Proof.DwPle.lean ====
/-
  The gradient of the embedding's projection: the kernel's eight partial products, one to a
  block of rows, add up to the reference's one product.
-/
module

public import proofs.«01_k».proof.Defs
public import proofs.«01_k».proof.Proof.Gen.Kernel9Ideal.Value
public import proofs.«01_k».proof.Proof.Gen.Reference9Ideal
public import proofs.«01_k».proof.Proof.Gen.Reference9Ideal.Run
public import proofs.«01_k».proof.Proof.Rows

@[expose] public section

set_option maxRecDepth 16384

noncomputable section

namespace Cert.Kernel9Ideal.Hand

open Cert.Kernel9Ideal Cert.Kernel9Ideal.Gen Cert.Rows
open Idealize.ShloMosaic Idealize.ShloMosaic.TcCoe
open scoped BigOperators

/-- One grid point's update: the accumulator plus the product over the block's rows. -/
theorem pay_at (x : Vec Ideal S2048x256 .f32) (acc : Vec Ideal S256x1024 .f32) (d : Vec Ideal S2048x1024 .bf16) (i : Fin 256) (j : Fin 1024) :
    k0_pay2 x acc d (ix2 i j) = acc (ix2 i j) + ∑ k : Fin 2048, x (ix2 k i) * d (ix2 k j) := by
  pointwise [k0_pay2]

theorem zero_at (i : Fin 256) (j : Fin 1024) : k0_pay1 (F := Ideal) (ix2 i j) = 0 := by
  pointwise [k0_pay1]

theorem row_val (n : ℕ) (k : Fin 2048) : (row n k).val = n % 8 * 2048 + k.val := rfl

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![t.val % 8, 0] := (by decide +kernel : ∀ t : Fin grid0.N, win0_1.index t = ![t.val % 8, 0])

theorem place0 (t : Fin cfg0.N) (k : Fin 2048) (i : Fin 256) : ((cfg0.win 0).blk t).view.emb (ix2 k i) = ix2 (row t.val k) i := by
  blk_ext [idx0, row_val]
theorem place1 (t : Fin cfg0.N) (k : Fin 2048) (i : Fin 1024) : ((cfg0.win 1).blk t).view.emb (ix2 k i) = ix2 (row t.val k) i := by
  blk_ext [idx1, row_val]

variable (m : (ℓ : Loc nD τ sig) → Buf (Elt Ideal) ℓ) (c : Dev nD)

abbrev aX : S16384x256.Idx → EReal := m ((c.tc : Thread nD τ).loc main_arg0)
abbrev aD : S16384x1024.Idx → EReal := m ((c.tc : Thread nD τ).loc main_arg1)

theorem find0 (t : Fin cfg0.N) (k : Fin 2048) (i : Fin 256) : (iblk m c 0 t : S2048x256.Idx → EReal) (ix2 k i) = aX m c (ix2 (row t.val k) i) :=
  congrArg (aX m c) (place0 t k i)
theorem find1 (t : Fin cfg0.N) (k : Fin 2048) (i : Fin 1024) : (iblk m c 1 t : S2048x1024.Idx → EReal) (ix2 k i) = aD m c (ix2 (row t.val k) i) :=
  congrArg (aD m c) (place1 t k i)

/-- One row's part of the gradient: the operand there times the incoming gradient there. -/
def term (x : Fin 16384) (i : Fin 256) (j : Fin 1024) : EReal :=
  aX m c (ix2 x i) * aD m c (ix2 x j)

/-- The same, at an index of the result. -/
def termAt (x : Fin 16384) (y : S256x1024.Idx) : EReal := term m c x (y 0 : Fin 256) (y 1 : Fin 1024)

theorem pair (y : S256x1024.Idx) : y = ix2 (y 0 : Fin 256) (y 1 : Fin 1024) := by funext i; fin_cases i <;> rfl

theorem step_at (n : ℕ) (h : n < cfg0.N) (acc : Vec Ideal S256x1024 .f32) (y : S256x1024.Idx) :
    Value.step2 m c n h acc y = acc y + ∑ k : Fin 2048, termAt m c (row n k) y := by
  rw [pair y]
  refine (pay_at _ _ _ _ _).trans (congrArg (acc _ + ·) (Finset.sum_congr rfl fun k _ => ?_))
  exact congrArg₂ (· * ·) (find0 m c ⟨n, h⟩ k (y 0 : Fin 256)) (find1 m c ⟨n, h⟩ k (y 1 : Fin 1024))

theorem reset_at (n : ℕ) (h : n < cfg0.N) (y : S256x1024.Idx) :
    Value.reset2 m c n h y = 0 + ∑ k : Fin 2048, termAt m c (row n k) y := by
  refine (step_at m c n h (k0_pay1 (F := Ideal)) y).trans (congrArg (· + _) ?_)
  rw [pair y]
  exact zero_at _ _

/-- The kernel's result at an index. -/
theorem G_at (i : Fin 256) (j : Fin 1024) : Value.G2 m c (ix2 i j) = ∑ x : Fin 16384, term m c x i j := by
  have hi := i.isLt
  have hj := j.isLt
  have hr : Value.run2Of (ix2 i j) = 0 := by
    show 1 * (i.val / 256 - 0) + 1 * (j.val / 1024 - 0) = 0
    omega
  have hN : 8 * Value.run2Of (ix2 i j) + 7 < cfg0.N := by
    rw [hr]; exact lt_of_lt_of_eq (by norm_num) N_0.symm
  have e0 : ((Value.loc2Of (ix2 i j)) 0 : Fin 256) = i := Fin.ext (Nat.mod_eq_of_lt hi)
  have e1 : ((Value.loc2Of (ix2 i j)) 1 : Fin 1024) = j := Fin.ext (Nat.mod_eq_of_lt hj)
  unfold Value.G2
  rw [dif_pos hN]
  refine (fold_rows _ _ (termAt m c) (reset_at m c) (step_at m c) _ hN _).trans ?_
  exact congrArg₂ (fun a b => ∑ x : Fin 16384, term m c x a b) e0 e1

/-- The reference's result at an index: the same terms, over all rows at once. -/
theorem ref_at (x : FVec Ideal S16384x256 .f32) (d : FVec Ideal S16384x1024 .bf16) (i : Fin 256) (j : Fin 1024) :
    (transpose S256x1024 [1, 0] (Host.dotGeneral Cert.Reference9Ideal.dot_S16384x1024_S16384x256_S1024x256_0_0_1_1_n_n none (extf .f32 d Cert.Reference9Ideal.Facts₀.bitsLt_bf16_f32)
      x)
      Cert.Reference9Ideal.Facts₀.transposes_S1024x256_S256x1024_1_0 : FVec Ideal S256x1024 .f32) (ix2 i j)
      = ∑ t : Fin 16384, d (ix2 t j) * x (ix2 t i) := by
  pointwise []

end Cert.Kernel9Ideal.Hand

namespace Cert.Proof

open Idealize.ShloMosaic Idealize.ShloMosaic.TcCoe Idealize.SL.Sem

/-- From equal arguments the two programs end with equal gradients. -/
theorem algebraic9 : Cert.algebraic_Kernel9Ideal_Reference9Ideal := fun m g m' g' _ heq => by
  refine ⟨fun c => Cert.Kernel9Ideal.Value.G2 m c, Cert.Kernel9Ideal.Value.run (F := Ideal) m g,
    (θ_run Cert.Reference9Ideal.defs _ _).mono (fun r h c => ⟨(h c).1.trans ?_, (h c).2⟩) (Cert.Reference9Ideal.Value.run (F := Ideal) m' g')⟩
  obtain ⟨e0, e1⟩ := heq c
  rw [e0, e1]
  funext y
  refine (congrArg _ (Cert.Kernel9Ideal.Hand.pair y)).trans (((Cert.Kernel9Ideal.Hand.ref_at _ _ _ _).trans ?_).trans (congrArg (Cert.Kernel9Ideal.Value.G2 m c) (Cert.Kernel9Ideal.Hand.pair y)).symm)
  refine Eq.trans ?_ (Cert.Kernel9Ideal.Hand.G_at m c _ _).symm
  exact Finset.sum_congr rfl fun t _ => mul_comm _ _

end Cert.Proof

end
-- ==== Proof.K10At.lean ====
/-
  What each grid point of the mixer's forward call leaves in its three output blocks, as a term of its input blocks, and
  that term at an index: the attention's rows and the convolution's rows, each scaled to unit mean square, side by side;
  and the normed sum of the residual and their product with the output weight.
-/
module

public import proofs.«01_k».proof.Proof.Gen.Kernel10Ideal.Value
public import proofs.«01_k».proof.Proof.K6At
public import Idealize.ShloMosaic.Lib.Pointwise
public import Idealize.ShloMosaic.Lib.Pipeline.ValueKit

@[expose] public section

set_option maxRecDepth 16384

noncomputable section

namespace Cert.Kernel10Ideal.Hand

open Cert.Kernel10Ideal Cert.Kernel10Ideal.Gen Cert.Kernel10Ideal.Value
open Cert.Kernel6Ideal.Hand (hz2 readCov_whole nE cEps)
open Cert.Kernel3Ideal.Hand (cAlpha cWidth)
open Idealize.ShloMosaic Idealize.ShloMosaic.TcCoe
open scoped BigOperators

variable {F : FTy → Type} [FloatOps F]
/-! The point's blocks: `x0` the attention's rows, `x1` the convolution's, `x2` the eight of them before, `x3` the taps. -/

section Terms

variable (i : grid0.Coords) (x0 : Vec F S512x512 .f32) (x1 : Vec F S512x1536 .f32) (x2 : Vec F S8x1536 .f32) (x3 : Vec F S3x512 .f32) (x4 x5 : Vec F S1x512 .f32)
variable (x6 : Vec F S512x1024 .f32) (x7 x8 : Vec F S1x1024 .f32) (x9 : Vec F S1024x1024 .bf16)

/-- The convolution's input rows, after the eight before them. -/
def extv : Vec F S520x512 .f32 :=
  View.canon [⟨Rect.unit ![8, 0] ![512, 512] inb_S520x512_S512x512_8_0, k0_pay8 x1⟩, ⟨Rect.unit ![0, 0] ![8, 512] inb_S520x512_S8x512_0_0, k0_pay7 i x2⟩]

/-- The convolution's half of the merged rows. -/
def cnv : FVec F S512x512 .bf16 :=
  k0_pay9 (k0_pay5 x1) (k0_pay6 x1) (View.ld x3 (Rect.unit ![0, 0] ![1, 512] inb_S3x512_S1x512_0_0))
    (View.ld (extv i x1 x2) (Rect.unit ![6, 0] ![512, 512] inb_S520x512_S512x512_6_0))
    (View.ld x3 (Rect.unit ![1, 0] ![1, 512] inb_S3x512_S1x512_1_0))
    (View.ld (extv i x1 x2) (Rect.unit ![7, 0] ![512, 512] inb_S520x512_S512x512_7_0))
    (View.ld x3 (Rect.unit ![2, 0] ![1, 512] inb_S3x512_S1x512_2_0)) x5

/-- The merged rows. -/
def mgv : Vec F S512x1024 .bf16 :=
  View.canon [⟨Rect.unit ![0, 512] ![512, 512] inb_S512x1024_S512x512_0_512, cnv i x1 x2 x3 x5⟩, ⟨Rect.unit ![0, 0] ![512, 512] inb_S512x1024_S512x512_0_0, k0_pay4 x0 x4⟩]

/-- The normed sum, and its inverse deviation. -/
def xv : FVec F S512x1024 .f32 := k0_pay3 (k0_pay10 x6 x7 x8) (mgv i x0 x1 x2 x3 x4 x5) x9
def rv : FVec F S512x1 .f32 := k0_pay2 (k0_pay10 x6 x7 x8) (mgv i x0 x1 x2 x3 x4 x5) x9

end Terms

section Left

variable (m : (ℓ : Loc nD τ sig) → Buf (Elt F) ℓ) (c : Dev nD)

/-- The point's blocks. -/
abbrev b0 (t : Fin cfg0.N) : Vec F S512x512 .f32 := iblk m c 0 t
abbrev b1 (t : Fin cfg0.N) : Vec F S512x1536 .f32 := iblk m c 1 t
abbrev b2 (t : Fin cfg0.N) : Vec F S8x1536 .f32 := iblk m c 2 t
abbrev b3 (t : Fin cfg0.N) : Vec F S3x512 .f32 := iblk m c 3 t
abbrev b4 (t : Fin cfg0.N) : Vec F S1x512 .f32 := iblk m c 4 t
abbrev b5 (t : Fin cfg0.N) : Vec F S1x512 .f32 := iblk m c 5 t
abbrev b6 (t : Fin cfg0.N) : Vec F S512x1024 .f32 := iblk m c 6 t
abbrev b7 (t : Fin cfg0.N) : Vec F S1x1024 .f32 := iblk m c 7 t
abbrev b8 (t : Fin cfg0.N) : Vec F S1x1024 .f32 := iblk m c 8 t
abbrev b9 (t : Fin cfg0.N) : Vec F S1024x1024 .bf16 := iblk m c 9 t

set_option maxHeartbeats 4000000 in
theorem left10 (t : Fin cfg0.N) : (outsAt0 m c t).1 = mgv (grid0.coords t) (b0 m c t) (b1 m c t) (b2 m c t) (b3 m c t) (b4 m c t) (b5 m c t) := by
  dsimp only [outsAt0]
  unfold out0_A_10
  refine (View.read_writes_eq_canon _ _ _ fun y => cover0_A_10 ..).trans ?_
  unfold kernelRun0_A
  dsimp only
  try sl_unfold_words
  simp only [View.readAt_eq_ld, readCov_whole, View.canon_cons_unit_zero (S := S512x1024) hz2, View.canon_cons_unit_zero (S := S512x1) hz2, Memref.IsWhole.read_unread, View.readCov_eq_canon',
    View.ld_unit_zero (S := S512x512) hz2, View.ld_unit_zero (S := S512x1536) hz2, View.ld_unit_zero (S := S8x1536) hz2, View.ld_unit_zero (S := S1x512) hz2, View.ld_unit_zero (S := S512x1024) hz2,
    View.ld_unit_zero (S := S1x1024) hz2, View.ld_unit_zero (S := S1024x1024) hz2]
  try unfold mgv
  congr 1

set_option maxHeartbeats 4000000 in
theorem left11 (t : Fin cfg0.N) : (outsAt0 m c t).2.1 = xv (grid0.coords t) (b0 m c t) (b1 m c t) (b2 m c t) (b3 m c t) (b4 m c t) (b5 m c t) (b6 m c t) (b7 m c t) (b8 m c t) (b9 m c t) := by
  dsimp only [outsAt0]
  unfold out0_A_11
  refine (View.read_writes_eq_canon _ _ _ fun y => cover0_A_11 ..).trans ?_
  unfold kernelRun0_A
  dsimp only
  try sl_unfold_words
  simp only [View.readAt_eq_ld, readCov_whole, View.canon_cons_unit_zero (S := S512x1024) hz2, View.canon_cons_unit_zero (S := S512x1) hz2, Memref.IsWhole.read_unread, View.readCov_eq_canon',
    View.ld_unit_zero (S := S512x512) hz2, View.ld_unit_zero (S := S512x1536) hz2, View.ld_unit_zero (S := S8x1536) hz2, View.ld_unit_zero (S := S1x512) hz2, View.ld_unit_zero (S := S512x1024) hz2,
    View.ld_unit_zero (S := S1x1024) hz2, View.ld_unit_zero (S := S1024x1024) hz2]
  try unfold xv
  congr 1
  exact View.ld_unit_zero (S := S512x1024) hz2 _ (mgv (grid0.coords t) (b0 m c t) (b1 m c t) (b2 m c t) (b3 m c t) (b4 m c t) (b5 m c t))

set_option maxHeartbeats 4000000 in
theorem left12 (t : Fin cfg0.N) : (outsAt0 m c t).2.2 = rv (grid0.coords t) (b0 m c t) (b1 m c t) (b2 m c t) (b3 m c t) (b4 m c t) (b5 m c t) (b6 m c t) (b7 m c t) (b8 m c t) (b9 m c t) := by
  dsimp only [outsAt0]
  unfold out0_A_12
  refine (View.read_writes_eq_canon _ _ _ fun y => cover0_A_12 ..).trans ?_
  unfold kernelRun0_A
  dsimp only
  try sl_unfold_words
  simp only [View.readAt_eq_ld, readCov_whole, View.canon_cons_unit_zero (S := S512x1024) hz2, View.canon_cons_unit_zero (S := S512x1) hz2, Memref.IsWhole.read_unread, View.readCov_eq_canon',
    View.ld_unit_zero (S := S512x512) hz2, View.ld_unit_zero (S := S512x1536) hz2, View.ld_unit_zero (S := S8x1536) hz2, View.ld_unit_zero (S := S1x512) hz2, View.ld_unit_zero (S := S512x1024) hz2,
    View.ld_unit_zero (S := S1x1024) hz2, View.ld_unit_zero (S := S1024x1024) hz2]
  try unfold rv
  congr 1
  exact View.ld_unit_zero (S := S512x1024) hz2 _ (mgv (grid0.coords t) (b0 m c t) (b1 m c t) (b2 m c t) (b3 m c t) (b4 m c t) (b5 m c t))

end Left

/-! One row. -/

/-- The constants: the head width and the term added under its root. -/
def cHead : EReal := Ideal.ofBits .f32 0x44000000#32
def cTiny : EReal := Ideal.ofBits .f32 0x358637BD#32
/-- A row scaled to unit mean square, times a gain. -/
def rmsE (x g : Fin 512 → EReal) (j : Fin 512) : EReal := x j * Ideal.rsqrt (Ideal.div (∑ e : Fin 512, x e * x e) cHead + cTiny) * g j
/-- The convolution's row: three taps of the product's rows, gated. -/
def cvE (b : Fin 512 → EReal) (w : Fin 3 → Fin 512 → EReal) (p q u : Fin 512 → EReal) (j : Fin 512) : EReal :=
  b j * (w 0 j * p j + w 1 j * q j + w 2 j * u j)
/-- Two half rows side by side. -/
def mgE (a v : Fin 512 → EReal) (k : Fin 1024) : EReal :=
  if h : k.val < 512 then a ⟨k.val, h⟩ else v ⟨k.val - 512, by have := k.isLt; omega⟩
/-- The residual plus the merged row's product with the output weight. -/
def sumE (x M : Fin 1024 → EReal) (W : Fin 1024 → Fin 1024 → EReal) (d : Fin 1024) : EReal := cAlpha * x d + ∑ k : Fin 1024, M k * W k d
/-- A row less its mean, and one over its deviation. -/
def cenE (y : Fin 1024 → EReal) (d : Fin 1024) : EReal := y d - Ideal.div (∑ e : Fin 1024, y e) cWidth
def devE (y : Fin 1024 → EReal) : EReal := Ideal.rsqrt (Ideal.div (∑ e : Fin 1024, cenE y e * cenE y e) cWidth + cEps)

/-- The three stretches of a row of the projection. -/
def q0 (j : Fin 512) : Fin 1536 := ⟨j.val, by have := j.isLt; omega⟩
def q1 (j : Fin 512) : Fin 1536 := ⟨512 + j.val, by have := j.isLt; omega⟩
def q2 (j : Fin 512) : Fin 1536 := ⟨1024 + j.val, by have := j.isLt; omega⟩

theorem pay4_at (v0 : Vec Ideal S512x512 .f32) (v11 : Vec Ideal S1x512 .f32) (r j : Fin 512) :
    (k0_pay4 v0 v11 : S512x512.Idx → EReal) (ix2 r j) = rmsE (fun e => v0 (ix2 r e)) (fun e => v11 (ix2 0 e)) j := by
  pointwise [k0_pay4]
  rfl
theorem pay5_at (v : Vec Ideal S512x1536 .f32) (r j : Fin 512) : (k0_pay5 v : S512x512.Idx → EReal) (ix2 r j) = v (ix2 r (q0 j)) := by
  pointwise [k0_pay5]
  rfl
theorem pay6_at (v : Vec Ideal S512x1536 .f32) (r j : Fin 512) : (k0_pay6 v : S512x512.Idx → EReal) (ix2 r j) = v (ix2 r (q1 j)) * v (ix2 r (q2 j)) := by
  pointwise [k0_pay6]
  rfl
theorem pay8_at (v : Vec Ideal S512x1536 .f32) (r j : Fin 512) : (k0_pay8 v : S512x512.Idx → EReal) (ix2 r j) = v (ix2 r (q1 j)) * v (ix2 r (q2 j)) :=
  (congrFun (shapeCast_self _ _) (ix2 r j)).trans (pay6_at v r j)

theorem first_at : ∀ n : Fin 32, Scalar.cmpi .sgt (BitVec.ofNat 32 n.val) 0#32 = if n.val = 0 then 0#1 else 1#1 := by decide +kernel

theorem pay7_at (i : grid0.Coords) (v : Vec Ideal S8x1536 .f32) (r : Fin 8) (j : Fin 512) :
    (k0_pay7 i v : S8x512.Idx → EReal) (ix2 r j) = if (i 0).val = 0 then 0 else v (ix2 r (q1 j)) * v (ix2 r (q2 j)) := by
  have hf : Scalar.cmpi .sgt (BitVec.ofNat 32 (i 0).val) 0#32 = if (i 0).val = 0 then 0#1 else 1#1 := first_at (i 0)
  unfold k0_pay7
  refine (congrFun (shapeCast_self _ _) (ix2 r j)).trans ?_
  dsimp only
  rw [hf]
  by_cases h : (i 0).val = 0
  · rw [if_pos h, if_pos h]
    pointwise
  · rw [if_neg h, if_neg h]
    pointwise
    rfl

theorem pay9_at (b u : FVec Ideal S512x512 .f32) (w0 w1 w2 g : Vec Ideal S1x512 .f32) (p q : Vec Ideal S512x512 .f32) (r j : Fin 512) :
    (k0_pay9 b u w0 p w1 q w2 g : S512x512.Idx → EReal) (ix2 r j)
      = rmsE (fun e => b (ix2 r e) * (w0 (ix2 0 e) * p (ix2 r e) + w1 (ix2 0 e) * q (ix2 r e) + w2 (ix2 0 e) * u (ix2 r e))) (fun e => g (ix2 0 e)) j := by
  pointwise [k0_pay9]
  rfl
theorem pay10_at (x : Vec Ideal S512x1024 .f32) (g b : Vec Ideal S1x1024 .f32) (r : Fin 512) (d : Fin 1024) :
    (k0_pay10 x g b : S512x1024.Idx → EReal) (ix2 r d) = cAlpha * nE (fun e => x (ix2 r e)) (fun e => g (ix2 0 e)) (fun e => b (ix2 0 e)) d := by
  pointwise [k0_pay10]
  rfl
theorem pay1_at (y : FVec Ideal S512x1024 .f32) (M : Vec Ideal S512x1024 .bf16) (w : Vec Ideal S1024x1024 .bf16) (r : Fin 512) (d : Fin 1024) :
    (k0_pay1 y M w : S512x1024.Idx → EReal) (ix2 r d) = cenE (fun d => y (ix2 r d) + ∑ k : Fin 1024, M (ix2 r k) * w (ix2 k d)) d := by
  pointwise [k0_pay1]
  rfl
theorem pay2_at (y : FVec Ideal S512x1024 .f32) (M : Vec Ideal S512x1024 .bf16) (w : Vec Ideal S1024x1024 .bf16) (r : Fin 512) :
    (k0_pay2 y M w : S512x1.Idx → EReal) (ix2 r 0) = devE (fun d => y (ix2 r d) + ∑ k : Fin 1024, M (ix2 r k) * w (ix2 k d)) := by
  pointwise [k0_pay2]
  simp only [pay1_at]
  rfl
theorem pay3_at (y : FVec Ideal S512x1024 .f32) (M : Vec Ideal S512x1024 .bf16) (w : Vec Ideal S1024x1024 .bf16) (r : Fin 512) (d : Fin 1024) :
    (k0_pay3 y M w : S512x1024.Idx → EReal) (ix2 r d) = (k0_pay1 y M w : S512x1024.Idx → EReal) (ix2 r d) * (k0_pay2 y M w : S512x1.Idx → EReal) (ix2 r 0) := by
  pointwise [k0_pay3]

/-! A block. -/

section Block

variable (i : grid0.Coords) (x0 : Vec Ideal S512x512 .f32) (x1 : Vec Ideal S512x1536 .f32) (x2 : Vec Ideal S8x1536 .f32) (x3 : Vec Ideal S3x512 .f32) (x4 x5 : Vec Ideal S1x512 .f32)
variable (x6 : Vec Ideal S512x1024 .f32) (x7 x8 : Vec Ideal S1x1024 .f32) (x9 : Vec Ideal S1024x1024 .bf16)

/-- Row `k` of the rows and the eight before them. -/
def extE (k : Fin 520) (j : Fin 512) : EReal :=
  if h : 8 ≤ k.val then x1 (ix2 ⟨k.val - 8, by have := k.isLt; omega⟩ (q1 j)) * x1 (ix2 ⟨k.val - 8, by have := k.isLt; omega⟩ (q2 j))
  else if (i 0).val = 0 then 0 else x2 (ix2 ⟨k.val, by omega⟩ (q1 j)) * x2 (ix2 ⟨k.val, by omega⟩ (q2 j))

theorem extv_at (k : Fin 520) (j : Fin 512) : (extv i x1 x2 : S520x512.Idx → EReal) (ix2 k j) = extE i x1 x2 k j := by
  unfold extv
  refine View.canon_eq_of_allAt _ _ _ (View.cover_of_tiledBy _ ![8, 512] (by sl_kernel_rfl) _) (View.allAt_cons_unit _ _ _ _ _ ?_ (View.allAt_cons_unit _ _ _ _ _ ?_ ?_))
  · intro x hx
    have h0 : k.val = 8 + (x 0).val := hx 0
    have h1 : j.val = 0 + (x 1).val := hx 1
    have hy : x = ix2 (x 0 : Fin 512) (x 1 : Fin 512) := by funext a; fin_cases a <;> rfl
    have e1 : j = (x 1 : Fin 512) := Fin.ext (by omega)
    have e0 : (⟨k.val - 8, by have := k.isLt; omega⟩ : Fin 512) = (x 0 : Fin 512) := Fin.ext (show k.val - 8 = _ by omega)
    refine (congrArg (k0_pay8 x1 : S512x512.Idx → EReal) hy).trans ((pay8_at x1 _ _).trans ?_)
    unfold extE
    rw [dif_pos (by omega), e0, e1]
  · intro x hx
    have h0 : k.val = 0 + (x 0).val := hx 0
    have h1 : j.val = 0 + (x 1).val := hx 1
    have h8 : (x 0).val < 8 := (x 0).isLt
    have hy : x = ix2 (x 0 : Fin 8) (x 1 : Fin 512) := by funext a; fin_cases a <;> rfl
    have e1 : j = (x 1 : Fin 512) := Fin.ext (by omega)
    have e0 : (⟨k.val, by omega⟩ : Fin 8) = (x 0 : Fin 8) := Fin.ext (show k.val = _ by omega)
    refine (congrArg (k0_pay7 i x2 : S8x512.Idx → EReal) hy).trans ((pay7_at i x2 _ _).trans ?_)
    unfold extE
    rw [dif_neg (by omega), e0, e1]
  · exact View.allAt_nil _ _

/-- Row `r` of the rows set back by two and by one. -/
def back2 (r : Fin 512) : Fin 520 := ⟨r.val + 6, by have := r.isLt; omega⟩
def back1 (r : Fin 512) : Fin 520 := ⟨r.val + 7, by have := r.isLt; omega⟩

theorem ld2_at (r j : Fin 512) : (View.ld (extv i x1 x2) (Rect.unit ![6, 0] ![512, 512] inb_S520x512_S512x512_6_0) : S512x512.Idx → EReal) (ix2 r j) = extE i x1 x2 (back2 r) j :=
  (congrArg (extv i x1 x2) (funext fun a => by
    fin_cases a
    · exact Fin.ext (show 6 + 1 * r.val = r.val + 6 by omega)
    · exact Fin.ext (show 0 + 1 * j.val = j.val by omega))).trans (extv_at i x1 x2 (back2 r) j)
theorem ld1_at (r j : Fin 512) : (View.ld (extv i x1 x2) (Rect.unit ![7, 0] ![512, 512] inb_S520x512_S512x512_7_0) : S512x512.Idx → EReal) (ix2 r j) = extE i x1 x2 (back1 r) j :=
  (congrArg (extv i x1 x2) (funext fun a => by
    fin_cases a
    · exact Fin.ext (show 7 + 1 * r.val = r.val + 7 by omega)
    · exact Fin.ext (show 0 + 1 * j.val = j.val by omega))).trans (extv_at i x1 x2 (back1 r) j)
theorem tap0_at (j : Fin 512) : (View.ld x3 (Rect.unit ![0, 0] ![1, 512] inb_S3x512_S1x512_0_0) : S1x512.Idx → EReal) (ix2 0 j) = x3 (ix2 0 j) :=
  congrArg x3 (funext fun a => by
    fin_cases a
    · exact Fin.ext (show 0 + 1 * 0 = 0 by omega)
    · exact Fin.ext (show 0 + 1 * j.val = j.val by omega))
theorem tap1_at (j : Fin 512) : (View.ld x3 (Rect.unit ![1, 0] ![1, 512] inb_S3x512_S1x512_1_0) : S1x512.Idx → EReal) (ix2 0 j) = x3 (ix2 1 j) :=
  congrArg x3 (funext fun a => by
    fin_cases a
    · exact Fin.ext (show 1 + 1 * 0 = 1 by omega)
    · exact Fin.ext (show 0 + 1 * j.val = j.val by omega))
theorem tap2_at (j : Fin 512) : (View.ld x3 (Rect.unit ![2, 0] ![1, 512] inb_S3x512_S1x512_2_0) : S1x512.Idx → EReal) (ix2 0 j) = x3 (ix2 2 j) :=
  congrArg x3 (funext fun a => by
    fin_cases a
    · exact Fin.ext (show 2 + 1 * 0 = 2 by omega)
    · exact Fin.ext (show 0 + 1 * j.val = j.val by omega))

/-- Row `r`'s two halves and the whole. -/
def aRow (r : Fin 512) : Fin 512 → EReal := rmsE (fun e => x0 (ix2 r e)) (fun e => x4 (ix2 0 e))
def cRow (r : Fin 512) : Fin 512 → EReal :=
  rmsE (cvE (fun e => x1 (ix2 r (q0 e))) (fun k e => x3 (ix2 k e)) (extE i x1 x2 (back2 r)) (extE i x1 x2 (back1 r)) (fun e => x1 (ix2 r (q1 e)) * x1 (ix2 r (q2 e)))) (fun e => x5 (ix2 0 e))

theorem cnv_at (r j : Fin 512) : (cnv i x1 x2 x3 x5 : S512x512.Idx → EReal) (ix2 r j) = cRow i x1 x2 x3 x5 r j := by
  unfold cnv
  refine (pay9_at _ _ _ _ _ _ _ _ r j).trans ?_
  exact congrFun (congrArg₂ rmsE (funext fun e => congrArg₂ (· * ·) (pay5_at x1 r e)
    (congrArg₂ (· + ·) (congrArg₂ (· + ·) (congrArg₂ (· * ·) (tap0_at x3 e) (ld2_at i x1 x2 r e)) (congrArg₂ (· * ·) (tap1_at x3 e) (ld1_at i x1 x2 r e)))
      (congrArg₂ (· * ·) (tap2_at x3 e) (pay6_at x1 r e)))) rfl) j

theorem mgv_at (r : Fin 512) (k : Fin 1024) :
    (mgv i x0 x1 x2 x3 x4 x5 : S512x1024.Idx → EReal) (ix2 r k) = mgE (aRow x0 x4 r) (cRow i x1 x2 x3 x5 r) k := by
  unfold mgv
  refine View.canon_eq_of_allAt _ _ _ (View.cover_of_tiledBy _ ![512, 512] (by sl_kernel_rfl) _) (View.allAt_cons_unit _ _ _ _ _ ?_ (View.allAt_cons_unit _ _ _ _ _ ?_ ?_))
  · intro x hx
    have h0 : r.val = 0 + (x 0).val := hx 0
    have h1 : k.val = 512 + (x 1).val := hx 1
    have hy : x = ix2 (x 0 : Fin 512) (x 1 : Fin 512) := by funext a; fin_cases a <;> rfl
    have e0 : r = (x 0 : Fin 512) := Fin.ext (by omega)
    have e1 : (⟨k.val - 512, by have := k.isLt; omega⟩ : Fin 512) = (x 1 : Fin 512) := Fin.ext (show k.val - 512 = _ by omega)
    refine (congrArg (cnv i x1 x2 x3 x5 : S512x512.Idx → EReal) hy).trans ((cnv_at i x1 x2 x3 x5 _ _).trans ?_)
    unfold mgE
    rw [dif_neg (by omega), e0, e1]
  · intro x hx
    have h0 : r.val = 0 + (x 0).val := hx 0
    have h1 : k.val = 0 + (x 1).val := hx 1
    have h5 : (x 1).val < 512 := (x 1).isLt
    have hy : x = ix2 (x 0 : Fin 512) (x 1 : Fin 512) := by funext a; fin_cases a <;> rfl
    have e0 : r = (x 0 : Fin 512) := Fin.ext (by omega)
    have e1 : (⟨k.val, by omega⟩ : Fin 512) = (x 1 : Fin 512) := Fin.ext (show k.val = _ by omega)
    refine (congrArg (k0_pay4 x0 x4 : S512x512.Idx → EReal) hy).trans ((pay4_at x0 x4 _ _).trans ?_)
    unfold mgE
    rw [dif_pos (by omega), e0, e1]
    rfl
  · exact View.allAt_nil _ _

/-- Row `r` of the residual, and the output weight. -/
def nRow (r : Fin 512) : Fin 1024 → EReal := nE (fun e => x6 (ix2 r e)) (fun e => x7 (ix2 0 e)) (fun e => x8 (ix2 0 e))
def wMat : Fin 1024 → Fin 1024 → EReal := fun k d => x9 (ix2 k d)

theorem sum_at (r : Fin 512) :
    (fun d => (k0_pay10 x6 x7 x8 : S512x1024.Idx → EReal) (ix2 r d) + ∑ k : Fin 1024, (mgv i x0 x1 x2 x3 x4 x5 : S512x1024.Idx → EReal) (ix2 r k) * x9 (ix2 k d))
      = sumE (nRow x6 x7 x8 r) (mgE (aRow x0 x4 r) (cRow i x1 x2 x3 x5 r)) (wMat x9) := by
  funext d
  simp only [pay10_at, mgv_at]
  rfl

theorem rv_at (r : Fin 512) :
    (rv i x0 x1 x2 x3 x4 x5 x6 x7 x8 x9 : S512x1.Idx → EReal) (ix2 r 0) = devE (sumE (nRow x6 x7 x8 r) (mgE (aRow x0 x4 r) (cRow i x1 x2 x3 x5 r)) (wMat x9)) :=
  (pay2_at _ _ _ r).trans (congrArg devE (sum_at i x0 x1 x2 x3 x4 x5 x6 x7 x8 x9 r))

theorem xv_at (r : Fin 512) (d : Fin 1024) :
    (xv i x0 x1 x2 x3 x4 x5 x6 x7 x8 x9 : S512x1024.Idx → EReal) (ix2 r d)
      = cenE (sumE (nRow x6 x7 x8 r) (mgE (aRow x0 x4 r) (cRow i x1 x2 x3 x5 r)) (wMat x9)) d
        * devE (sumE (nRow x6 x7 x8 r) (mgE (aRow x0 x4 r) (cRow i x1 x2 x3 x5 r)) (wMat x9)) :=
  (pay3_at _ _ _ r d).trans (congrArg₂ (· * ·)
    ((pay1_at _ _ _ r d).trans (congrFun (congrArg cenE (sum_at i x0 x1 x2 x3 x4 x5 x6 x7 x8 x9 r)) d)) (rv_at i x0 x1 x2 x3 x4 x5 x6 x7 x8 x9 r))

end Block

end Cert.Kernel10Ideal.Hand

end
-- ==== Proof.MixFinal.lean ====
/-
  The mixer's forward call's arrays: what each grid point leaves in its blocks, at the arguments, and the whole arrays the
  blocks make up. The eight rows a point takes from before its own hold the convolution's inputs one and two rows back.
-/
module

public import proofs.«01_k».proof.Proof.K10At
public import proofs.«01_k».proof.Proof.FwdFinal
public import Idealize.ShloMosaic.Lib.Pipeline.ValueKit
public import Idealize.ShloMosaic.Lib.StableHlo.RunRead

@[expose] public section

set_option maxRecDepth 16384

noncomputable section

namespace Cert.Kernel10Ideal.Hand

open Cert.Kernel10Ideal Cert.Kernel10Ideal.Gen Cert.Kernel10Ideal.Value
open Cert.Kernel6Ideal.Hand (nE rw512 rw512_val)
open Idealize.ShloMosaic Idealize.ShloMosaic.TcCoe Idealize.ShloMosaic.StableHlo

section Arguments

variable {F : FTy → Type} [FloatOps F]
variable (m : (ℓ : Loc nD τ sig) → Buf (Elt F) ℓ) (c : Dev nD)

abbrev a0 : FVec F S16384x512 .f32 := m ((c.tc : Thread nD τ).loc main_arg0)
abbrev a1 : FVec F S16384x1536 .f32 := m ((c.tc : Thread nD τ).loc main_arg1)
abbrev a2 : FVec F S3x512 .f32 := m ((c.tc : Thread nD τ).loc main_arg2)
abbrev a3 : FVec F S1x512 .f32 := m ((c.tc : Thread nD τ).loc main_arg3)
abbrev a4 : FVec F S1x512 .f32 := m ((c.tc : Thread nD τ).loc main_arg4)
abbrev a5 : FVec F S16384x1024 .f32 := m ((c.tc : Thread nD τ).loc main_arg5)
abbrev a6 : FVec F S1x1024 .f32 := m ((c.tc : Thread nD τ).loc main_arg6)
abbrev a7 : FVec F S1x1024 .f32 := m ((c.tc : Thread nD τ).loc main_arg7)
abbrev a8 : FVec F S1024x1024 .f32 := m ((c.tc : Thread nD τ).loc main_arg8)

theorem V_w : V m c main_v0 = (truncf .bf16 (a8 m c) bitsLt_bf16_f32 : FVec F S1024x1024 .bf16) := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_0 : V m c main_arg0 = a0 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_1 : V m c main_arg1 = a1 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_2 : V m c main_arg2 = a2 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_3 : V m c main_arg3 = a3 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_4 : V m c main_arg4 = a4 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_5 : V m c main_arg5 = a5 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_6 : V m c main_arg6 = a6 m c := by
  unfold V hostOps0
  simp only [List.flatten_cons, List.flatten_nil, List.append_nil, List.cons_append, List.nil_append, TRef.nullary, TRef.ternary, TRef.unary, TRef.toBuf, TRef.ofBuf, cast_eq]
  after_results_simp <;> rfl
theorem V_7 : V m c main_arg7 = a7 m c := by
  unfold V hostOps0
  simp only [List.flatten_cons, List.flatten_nil, List.append_nil, List.cons_append, List.nil_append, TRef.nullary, TRef.ternary, TRef.unary, TRef.toBuf, TRef.ofBuf, cast_eq]
  after_results_simp <;> rfl

end Arguments

/-- Row `k` of the eight before the block of rows that grid point `n` visits (at the first point, of its own first eight). -/
def halo (n : ℕ) (k : Fin 8) : Fin 16384 := ⟨(n % 32 * 64 - 1) * 8 + k.val, by have := k.isLt; omega⟩

theorem halo_val {n : ℕ} (h : n < 32) (k : Fin 8) : (halo n k).val = (n * 64 - 1) * 8 + k.val := by
  show (n % 32 * 64 - 1) * 8 + k.val = _
  rw [Nat.mod_eq_of_lt h]

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val * 64 - 1, 0] := (by decide +kernel : ∀ t : Fin grid0.N, win0_2.index t = ![t.val * 64 - 1, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem coord : ∀ t : Fin cfg0.N, ((grid0.coords t) 0).val = t.val := (by decide +kernel : ∀ t : Fin grid0.N, ((grid0.coords t) 0).val = t.val)

theorem lt32 (t : Fin cfg0.N) : t.val < 32 := t.isLt

theorem place0 (t : Fin cfg0.N) (r : Fin 512) (d : Fin 512) : ((cfg0.win 0).blk t).view.emb (ix2 r d) = ix2 (rw512 t.val r) d := by
  blk_ext [idx0, rw512_val (lt32 t)]
theorem place1 (t : Fin cfg0.N) (r : Fin 512) (d : Fin 1536) : ((cfg0.win 1).blk t).view.emb (ix2 r d) = ix2 (rw512 t.val r) d := by
  blk_ext [idx1, rw512_val (lt32 t)]
theorem place2 (t : Fin cfg0.N) (r : Fin 8) (d : Fin 1536) : ((cfg0.win 2).blk t).view.emb (ix2 r d) = ix2 (halo t.val r) d := by
  blk_ext [idx2, halo_val (lt32 t)]
theorem place3 (t : Fin cfg0.N) (r : Fin 3) (d : Fin 512) : ((cfg0.win 3).blk t).view.emb (ix2 r d) = ix2 r d := by
  blk_ext [idx3]
theorem place4 (t : Fin cfg0.N) (r : Fin 1) (d : Fin 512) : ((cfg0.win 4).blk t).view.emb (ix2 r d) = ix2 r d := by
  blk_ext [idx4]
theorem place5 (t : Fin cfg0.N) (r : Fin 1) (d : Fin 512) : ((cfg0.win 5).blk t).view.emb (ix2 r d) = ix2 r d := by
  blk_ext [idx5]
theorem place6 (t : Fin cfg0.N) (r : Fin 512) (d : Fin 1024) : ((cfg0.win 6).blk t).view.emb (ix2 r d) = ix2 (rw512 t.val r) d := by
  blk_ext [idx6, rw512_val (lt32 t)]
theorem place7 (t : Fin cfg0.N) (r : Fin 1) (d : Fin 1024) : ((cfg0.win 7).blk t).view.emb (ix2 r d) = ix2 r d := by
  blk_ext [idx7]
theorem place8 (t : Fin cfg0.N) (r : Fin 1) (d : Fin 1024) : ((cfg0.win 8).blk t).view.emb (ix2 r d) = ix2 r d := by
  blk_ext [idx8]
theorem place9 (t : Fin cfg0.N) (r : Fin 1024) (d : Fin 1024) : ((cfg0.win 9).blk t).view.emb (ix2 r d) = ix2 r d := by
  blk_ext [idx9]
theorem place10 (t : Fin cfg0.N) (r : Fin 512) (d : Fin 1024) : ((cfg0.win 10).blk t).view.emb (ix2 r d) = ix2 (rw512 t.val r) d := by
  blk_ext [idx10, rw512_val (lt32 t)]
theorem place11 (t : Fin cfg0.N) (r : Fin 512) (d : Fin 1024) : ((cfg0.win 11).blk t).view.emb (ix2 r d) = ix2 (rw512 t.val r) d := by
  blk_ext [idx11, rw512_val (lt32 t)]
theorem place12 (t : Fin cfg0.N) (r : Fin 512) (d : Fin 1) : ((cfg0.win 12).blk t).view.emb (ix2 r d) = ix2 (rw512 t.val r) d := by
  blk_ext [idx12, rw512_val (lt32 t)]

/-! The whole arrays, as functions of the nine arguments. -/

section Arrays

variable (x : S16384x512.Idx → EReal) (p : S16384x1536.Idx → EReal) (w : S3x512.Idx → EReal) (ga gc : S1x512.Idx → EReal)
variable (y : S16384x1024.Idx → EReal) (g b : S1x1024.Idx → EReal) (W : S1024x1024.Idx → EReal)

/-- The convolution's input, and the same `l` rows back: zero before the first row. -/
def uAt (t : Fin 16384) (j : Fin 512) : EReal := p (ix2 t (q1 j)) * p (ix2 t (q2 j))
def lagE (l : ℕ) (t : Fin 16384) (j : Fin 512) : EReal :=
  if h : l ≤ t.val then uAt p ⟨t.val - l, by have := t.isLt; omega⟩ j else 0
/-- Row `t` of the merge's two halves, the merged row, and the sum that is normed. -/
def hA (t : Fin 16384) : Fin 512 → EReal := rmsE (fun e => x (ix2 t e)) (fun e => ga (ix2 0 e))
def hC (t : Fin 16384) : Fin 512 → EReal :=
  rmsE (cvE (fun e => p (ix2 t (q0 e))) (fun k e => w (ix2 k e)) (lagE p 2 t) (lagE p 1 t) (uAt p t)) (fun e => gc (ix2 0 e))
def hM (t : Fin 16384) : Fin 1024 → EReal := mgE (hA x ga t) (hC p w gc t)
def hN (t : Fin 16384) : Fin 1024 → EReal := nE (fun e => y (ix2 t e)) (fun e => g (ix2 0 e)) (fun e => b (ix2 0 e))
def hS (t : Fin 16384) : Fin 1024 → EReal := sumE (hN y g b t) (hM x p w ga gc t) (fun k d => W (ix2 k d))

def rM : S16384x1024.Idx → EReal := fun i => hM x p w ga gc (i 0) (i 1)
def rX : S16384x1024.Idx → EReal := fun i => cenE (hS x p w ga gc y g b W (i 0)) (i 1) * devE (hS x p w ga gc y g b W (i 0))
def rS : S16384x1.Idx → EReal := fun i => devE (hS x p w ga gc y g b W (i 0))

end Arrays

section Values

variable (m : (ℓ : Loc nD τ sig) → Buf (Elt Ideal) ℓ) (c : Dev nD)

theorem find0 (t : Fin cfg0.N) (r : Fin 512) (d : Fin 512) : (b0 m c t (ix2 r d) : EReal) = a0 m c (ix2 (rw512 t.val r) d) :=
  (congrFun (congrArg (((cfg0.win 0).blk t).view.read (Elt Ideal)) (V_0 m c)) (ix2 r d)).trans (congrArg (a0 m c) (place0 t r d))
theorem find1 (t : Fin cfg0.N) (r : Fin 512) (d : Fin 1536) : (b1 m c t (ix2 r d) : EReal) = a1 m c (ix2 (rw512 t.val r) d) :=
  (congrFun (congrArg (((cfg0.win 1).blk t).view.read (Elt Ideal)) (V_1 m c)) (ix2 r d)).trans (congrArg (a1 m c) (place1 t r d))
theorem find2 (t : Fin cfg0.N) (r : Fin 8) (d : Fin 1536) : (b2 m c t (ix2 r d) : EReal) = a1 m c (ix2 (halo t.val r) d) :=
  (congrFun (congrArg (((cfg0.win 2).blk t).view.read (Elt Ideal)) (V_1 m c)) (ix2 r d)).trans (congrArg (a1 m c) (place2 t r d))
theorem find3 (t : Fin cfg0.N) (r : Fin 3) (d : Fin 512) : (b3 m c t (ix2 r d) : EReal) = a2 m c (ix2 r d) :=
  (congrFun (congrArg (((cfg0.win 3).blk t).view.read (Elt Ideal)) (V_2 m c)) (ix2 r d)).trans (congrArg (a2 m c) (place3 t r d))
theorem find4 (t : Fin cfg0.N) (r : Fin 1) (d : Fin 512) : (b4 m c t (ix2 r d) : EReal) = a3 m c (ix2 r d) :=
  (congrFun (congrArg (((cfg0.win 4).blk t).view.read (Elt Ideal)) (V_3 m c)) (ix2 r d)).trans (congrArg (a3 m c) (place4 t r d))
theorem find5 (t : Fin cfg0.N) (r : Fin 1) (d : Fin 512) : (b5 m c t (ix2 r d) : EReal) = a4 m c (ix2 r d) :=
  (congrFun (congrArg (((cfg0.win 5).blk t).view.read (Elt Ideal)) (V_4 m c)) (ix2 r d)).trans (congrArg (a4 m c) (place5 t r d))
theorem find6 (t : Fin cfg0.N) (r : Fin 512) (d : Fin 1024) : (b6 m c t (ix2 r d) : EReal) = a5 m c (ix2 (rw512 t.val r) d) :=
  (congrFun (congrArg (((cfg0.win 6).blk t).view.read (Elt Ideal)) (V_5 m c)) (ix2 r d)).trans (congrArg (a5 m c) (place6 t r d))
theorem find7 (t : Fin cfg0.N) (r : Fin 1) (d : Fin 1024) : (b7 m c t (ix2 r d) : EReal) = a6 m c (ix2 r d) :=
  (congrFun (congrArg (((cfg0.win 7).blk t).view.read (Elt Ideal)) (V_6 m c)) (ix2 r d)).trans (congrArg (a6 m c) (place7 t r d))
theorem find8 (t : Fin cfg0.N) (r : Fin 1) (d : Fin 1024) : (b8 m c t (ix2 r d) : EReal) = a7 m c (ix2 r d) :=
  (congrFun (congrArg (((cfg0.win 8).blk t).view.read (Elt Ideal)) (V_7 m c)) (ix2 r d)).trans (congrArg (a7 m c) (place8 t r d))
theorem find9 (t : Fin cfg0.N) (r : Fin 1024) (d : Fin 1024) : (b9 m c t (ix2 r d) : EReal) = a8 m c (ix2 r d) :=
  (congrFun (congrArg (((cfg0.win 9).blk t).view.read (Elt Ideal)) (V_w m c)) (ix2 r d)).trans (congrArg (a8 m c) (place9 t r d))

/-- The rows set back hold the input one and two rows back. -/
theorem ext_eq (t : Fin cfg0.N) (r : Fin 512) (l : ℕ) (hl : l ≤ 8) (k : Fin 520) (hk : k.val + l = r.val + 8) (j : Fin 512) :
    extE (grid0.coords t) (b1 m c t) (b2 m c t) k j = lagE (a1 m c) l (rw512 t.val r) j := by
  have ht := lt32 t
  have hr := r.isLt
  have hv := rw512_val ht r
  unfold extE lagE
  by_cases h8 : 8 ≤ k.val
  · rw [dif_pos h8, dif_pos (by omega)]
    have e : rw512 t.val ⟨k.val - 8, by have := k.isLt; omega⟩ = ⟨(rw512 t.val r).val - l, by have := (rw512 t.val r).isLt; omega⟩ :=
      Fin.ext ((rw512_val ht _).trans (show t.val * 512 + (k.val - 8) = (rw512 t.val r).val - l by omega))
    refine (congrArg₂ (· * ·) (find1 m c t _ _) (find1 m c t _ _)).trans ?_
    rw [e]
    rfl
  · rw [dif_neg h8, coord t]
    by_cases h0 : t.val = 0
    · rw [if_pos h0, dif_neg (by omega)]
    · rw [if_neg h0, dif_pos (by omega)]
      have e : halo t.val ⟨k.val, by omega⟩ = ⟨(rw512 t.val r).val - l, by have := (rw512 t.val r).isLt; omega⟩ :=
        Fin.ext ((halo_val ht _).trans (show (t.val * 64 - 1) * 8 + k.val = (rw512 t.val r).val - l by omega))
      refine (congrArg₂ (· * ·) (find2 m c t _ _) (find2 m c t _ _)).trans ?_
      rw [e]
      rfl

theorem aRow_eq (t : Fin cfg0.N) (r : Fin 512) : aRow (b0 m c t) (b4 m c t) r = hA (a0 m c) (a3 m c) (rw512 t.val r) :=
  congrArg₂ rmsE (funext fun e => find0 m c t r e) (funext fun e => find4 m c t 0 e)
theorem cRow_eq (t : Fin cfg0.N) (r : Fin 512) :
    cRow (grid0.coords t) (b1 m c t) (b2 m c t) (b3 m c t) (b5 m c t) r = hC (a1 m c) (a2 m c) (a4 m c) (rw512 t.val r) :=
  congrArg₂ rmsE (congr (congr (congr (congrArg₂ cvE (funext fun e => find1 m c t r (q0 e)) (funext fun k => funext fun e => find3 m c t k e))
      (funext fun e => ext_eq m c t r 2 (by norm_num) (back2 r) (show r.val + 6 + 2 = r.val + 8 by omega) e))
      (funext fun e => ext_eq m c t r 1 (by norm_num) (back1 r) (show r.val + 7 + 1 = r.val + 8 by omega) e))
      (funext fun e => congrArg₂ (· * ·) (find1 m c t r (q1 e)) (find1 m c t r (q2 e))))
    (funext fun e => find5 m c t 0 e)
theorem nRow_eq (t : Fin cfg0.N) (r : Fin 512) : nRow (b6 m c t) (b7 m c t) (b8 m c t) r = hN (a5 m c) (a6 m c) (a7 m c) (rw512 t.val r) :=
  congr (congrArg₂ nE (funext fun e => find6 m c t r e) (funext fun e => find7 m c t 0 e)) (funext fun e => find8 m c t 0 e)
theorem wMat_eq (t : Fin cfg0.N) : wMat (b9 m c t) = fun k d => a8 m c (ix2 k d) := funext fun k => funext fun d => find9 m c t k d

/-- What a point leaves in each output's block. -/
abbrev o10 (t : Fin cfg0.N) : S512x1024.Idx → EReal := (outsAt0 m c t).1
abbrev o11 (t : Fin cfg0.N) : S512x1024.Idx → EReal := (outsAt0 m c t).2.1
abbrev o12 (t : Fin cfg0.N) : S512x1.Idx → EReal := (outsAt0 m c t).2.2

abbrev kM : S16384x1024.Idx → EReal := rM (a0 m c) (a1 m c) (a2 m c) (a3 m c) (a4 m c)
abbrev kX : S16384x1024.Idx → EReal := rX (a0 m c) (a1 m c) (a2 m c) (a3 m c) (a4 m c) (a5 m c) (a6 m c) (a7 m c) (a8 m c)
abbrev kS : S16384x1.Idx → EReal := rS (a0 m c) (a1 m c) (a2 m c) (a3 m c) (a4 m c) (a5 m c) (a6 m c) (a7 m c) (a8 m c)

theorem o10_val (t : Fin cfg0.N) (r : Fin 512) (d : Fin 1024) : o10 m c t (ix2 r d) = kM m c (ix2 (rw512 t.val r) d) := by
  refine (congrFun (left10 m c t) _).trans ((mgv_at _ _ _ _ _ _ _ r d).trans ?_)
  rw [aRow_eq, cRow_eq]
  rfl
theorem o11_val (t : Fin cfg0.N) (r : Fin 512) (d : Fin 1024) : o11 m c t (ix2 r d) = kX m c (ix2 (rw512 t.val r) d) := by
  refine (congrFun (left11 m c t) _).trans ((xv_at _ _ _ _ _ _ _ _ _ _ _ r d).trans ?_)
  rw [aRow_eq, cRow_eq, nRow_eq, wMat_eq]
  rfl
theorem o12_val (t : Fin cfg0.N) (r : Fin 512) (z : Fin 1) : o12 m c t (ix2 r z) = kS m c (ix2 (rw512 t.val r) z) := by
  obtain rfl : z = 0 := Subsingleton.elim _ _
  refine (congrFun (left12 m c t) _).trans ((rv_at _ _ _ _ _ _ _ _ _ _ _ r).trans ?_)
  rw [aRow_eq, cRow_eq, nRow_eq, wMat_eq]
  rfl

theorem final10 : (dats m 0 c).arrAt 10 cfg0.N = kM m c := by
  refine (dats m 0 c).arrAt_eq_of_covers 10 _ (by decide +kernel) fun t hf y => ?_
  blk_simp
  rw [after0_10]
  have hy : y = ix2 (y 0 : Fin 512) (y 1 : Fin 1024) := by funext a; fin_cases a <;> rfl
  exact (congrArg (o10 m c t) hy).trans ((o10_val m c t (y 0) (y 1)).trans
    (congrArg (kM m c) ((place10 t (y 0) (y 1)).symm.trans (congrArg ((cfg0.win 10).blk t).view.emb hy.symm))))
theorem final11 : (dats m 0 c).arrAt 11 cfg0.N = kX m c := by
  refine (dats m 0 c).arrAt_eq_of_covers 11 _ (by decide +kernel) fun t hf y => ?_
  blk_simp
  rw [after0_11]
  have hy : y = ix2 (y 0 : Fin 512) (y 1 : Fin 1024) := by funext a; fin_cases a <;> rfl
  exact (congrArg (o11 m c t) hy).trans ((o11_val m c t (y 0) (y 1)).trans
    (congrArg (kX m c) ((place11 t (y 0) (y 1)).symm.trans (congrArg ((cfg0.win 11).blk t).view.emb hy.symm))))
theorem final12 : (dats m 0 c).arrAt 12 cfg0.N = kS m c := by
  refine (dats m 0 c).arrAt_eq_of_covers 12 _ (by decide +kernel) fun t hf y => ?_
  blk_simp
  rw [after0_12]
  have hy : y = ix2 (y 0 : Fin 512) (y 1 : Fin 1) := by funext a; fin_cases a <;> rfl
  exact (congrArg (o12 m c t) hy).trans ((o12_val m c t (y 0) (y 1)).trans
    (congrArg (kS m c) ((place12 t (y 0) (y 1)).symm.trans (congrArg ((cfg0.win 12).blk t).view.emb hy.symm))))

end Values

end Cert.Kernel10Ideal.Hand

end
-- ==== Proof.MixRef.lean ====
/-
  The mixer's forward call and its reference: the reference's composed terms, stage by stage at an index, are the same
  functions of the arguments as the call's arrays, so the two programs end with equal results.
-/
module

public import proofs.«01_k».proof.Defs
public import proofs.«01_k».proof.Proof.MixFinal
public import proofs.«01_k».proof.Proof.FwdRef
public import proofs.«01_k».proof.Proof.Gen.Reference10Ideal.Run
public import Idealize.ShloMosaic.Lib.KernelVsHost

@[expose] public section

set_option maxRecDepth 16384

noncomputable section

namespace Cert.Reference10Ideal.Hand

open Cert.Reference10Ideal Cert.Reference10Ideal.Gen Cert.Reference10Ideal.Value
open Cert.Kernel3Ideal.Hand (cAlpha cWidth)
open Cert.Reference6Ideal.Hand (mR cR dR hR mR_at cR_at dR_at hR_at nR nR_at)
open Cert.Kernel6Ideal.Hand (nE cEps)
open Cert.Kernel10Ideal.Hand (rmsE cvE mgE sumE cenE devE q0 q1 q2 uAt lagE hA hC hM hN hS rM rX rS)
open Idealize.ShloMosaic Idealize.ShloMosaic.TcCoe
open scoped BigOperators

variable (x : FVec Ideal S16384x512 .f32) (p : FVec Ideal S16384x1536 .f32) (w : FVec Ideal S3x512 .f32) (ga gc : FVec Ideal S1x512 .f32)
variable (y : FVec Ideal S16384x1024 .f32) (g b : FVec Ideal S1x1024 .f32) (W : FVec Ideal S1024x1024 .f32)

/-- The convolution's input, and the same after two rows of zeros. -/
def uR : FVec Ideal S16384x512 .f32 :=
  mulf (extractStridedSlice S16384x512 ![0, 512] p slices_S16384x1536_S16384x512_0_512) (extractStridedSlice S16384x512 ![0, 1024] p slices_S16384x1536_S16384x512_0_1024)
def padR : FVec Ideal S16386x512 .f32 :=
  pad S16386x512 ![2, 0] ![0, 0] ![0, 0] (uR p) (sitofp .f32 (constantI S_ 32 0#32)) pads_S16384x512_S16386x512_200_000 h_S_
/-- A tap along the rows. -/
def tapR (v : FVec Ideal S1x512 .f32) : FVec Ideal S16384x512 .f32 :=
  broadcastInDim S16384x512 ![0, 1] bcast_S1x512_S16384x512_0_1 (broadcastInDim S1x512 ![1] bcast_S512_S1x512_1 (shapeCast _ v shapeCasts_S1x512_S512))
/-- The gated convolution. -/
def vR : FVec Ideal S16384x512 .f32 :=
  mulf (extractStridedSlice S16384x512 ![0, 0] p slices_S16384x1536_S16384x512_0_0)
    (addf (addf (mulf (extractStridedSlice S16384x512 ![0, 0] (padR p) slices_S16386x512_S16384x512_0_0) (tapR (extractStridedSlice S1x512 ![0, 0] w slices_S3x512_S1x512_0_0)))
        (mulf (extractStridedSlice S16384x512 ![1, 0] (padR p) slices_S16386x512_S16384x512_1_0) (tapR (extractStridedSlice S1x512 ![1, 0] w slices_S3x512_S1x512_1_0))))
      (mulf (extractStridedSlice S16384x512 ![2, 0] (padR p) slices_S16386x512_S16384x512_2_0) (tapR (extractStridedSlice S1x512 ![2, 0] w slices_S3x512_S1x512_2_0))))
/-- Rows scaled to unit mean square, times a gain. -/
def sqR (x : FVec Ideal S16384x512 .f32) (g : FVec Ideal S1x512 .f32) : FVec Ideal S16384x512 .f32 :=
  mulf (mulf x (broadcastInDim S16384x512 ![0, 1] bcast_S16384x1_S16384x512_0_1
      (Host.rsqrt (addf (Host.divf (broadcastInDim S16384x1 ![0] bcast_S16384_S16384x1_0 (Host.reduceAdd (mulf x x) (constant S_ .f32 0x00000000#32) reducesTo_S16384x512_S16384_d1 h_S_))
        (broadcastInDim S16384x1 ![] bcast_S_S16384x1 (constant S_ .f32 0x44000000#32))) (broadcastInDim S16384x1 ![] bcast_S_S16384x1 (constant S_ .f32 0x358637BD#32))))))
    (broadcastInDim S16384x512 ![0, 1] bcast_S1x512_S16384x512_0_1 g)
/-- The merged rows, and the sum that is normed. -/
def mgR : FVec Ideal S16384x1024 .f32 :=
  concatenate S16384x1024 1 [⟨S16384x512, sqR x ga⟩, ⟨S16384x512, sqR (vR p w) gc⟩] concatenates_S16384x512_S16384x512_S16384x1024_d1
def sumR : FVec Ideal S16384x1024 .f32 :=
  addf (mulf (broadcastInDim S16384x1024 ![] bcast_S_S16384x1024 (constant S_ .f32 0x3F9837F0#32)) (nR y g b))
    (Host.dotGeneral dot_S16384x1024_S1024x1024_S16384x1024_1_0_0_1_n_n none (mgR x p w ga gc) W)

theorem uR_at (t : Fin 16384) (j : Fin 512) : (uR p : S16384x512.Idx → EReal) (ix2 t j) = uAt p t j := by
  pointwise [uR]
  rfl

/-- Row `k` of the rows after two of zeros. -/
theorem padR_at (t : Fin 16384) (l : ℕ) (hl : l ≤ 2) (k : Fin 16386) (hk : k.val + l = t.val + 2) (j : Fin 512) :
    (padR p : S16386x512.Idx → EReal) (ix2 k j) = lagE p l t j := by
  have ht := t.isLt
  have hj := j.isLt
  unfold padR lagE
  by_cases h : l ≤ t.val
  · rw [dif_pos h]
    exact (pad_apply_of_inside _ _ _ _ _ _ _ (ix2 k j) (ix2 (⟨t.val - l, by omega⟩ : Fin 16384) j) (fun a => by
      fin_cases a
      · show k.val = 2 + (t.val - l) * (0 + 1)
        omega
      · show j.val = 0 + j.val * (0 + 1)
        omega)).trans (uR_at p _ j)
  · rw [dif_neg h]
    refine (pad_apply_of_not_inside _ _ _ _ _ _ _ (ix2 k j) 0 (fun hin => ?_)).trans ?_
    · have h2 : 2 ≤ k.val := hin.1
      omega
    · pointwise
      show (((0#32 : BitVec 32).toInt : ℝ) : EReal) = 0
      simp

theorem tapR_at (v : FVec Ideal S1x512 .f32) (t : Fin 16384) (j : Fin 512) : (tapR v : S16384x512.Idx → EReal) (ix2 t j) = v (ix2 0 j) := by
  pointwise [tapR]
theorem set2_at (t : Fin 16384) (j : Fin 512) :
    (extractStridedSlice S16384x512 ![0, 0] (padR p) slices_S16386x512_S16384x512_0_0 : S16384x512.Idx → EReal) (ix2 t j) = lagE p 2 t j := by
  refine Eq.trans ?_ (padR_at p t 2 (by norm_num) ⟨0 + t.val, by have := t.isLt; omega⟩ (show 0 + t.val + 2 = t.val + 2 by omega) j)
  pointwise
theorem set1_at (t : Fin 16384) (j : Fin 512) :
    (extractStridedSlice S16384x512 ![1, 0] (padR p) slices_S16386x512_S16384x512_1_0 : S16384x512.Idx → EReal) (ix2 t j) = lagE p 1 t j := by
  refine Eq.trans ?_ (padR_at p t 1 (by norm_num) ⟨1 + t.val, by have := t.isLt; omega⟩ (show 1 + t.val + 1 = t.val + 2 by omega) j)
  pointwise
theorem set0_at (t : Fin 16384) (j : Fin 512) :
    (extractStridedSlice S16384x512 ![2, 0] (padR p) slices_S16386x512_S16384x512_2_0 : S16384x512.Idx → EReal) (ix2 t j) = lagE p 0 t j := by
  refine Eq.trans ?_ (padR_at p t 0 (by norm_num) ⟨2 + t.val, by have := t.isLt; omega⟩ (show 2 + t.val + 0 = t.val + 2 by omega) j)
  pointwise
theorem row0_at (j : Fin 512) : (extractStridedSlice S1x512 ![0, 0] w slices_S3x512_S1x512_0_0 : S1x512.Idx → EReal) (ix2 0 j) = w (ix2 0 j) := by
  pointwise
theorem row1_at (j : Fin 512) : (extractStridedSlice S1x512 ![1, 0] w slices_S3x512_S1x512_1_0 : S1x512.Idx → EReal) (ix2 0 j) = w (ix2 1 j) := by
  pointwise
theorem row2_at (j : Fin 512) : (extractStridedSlice S1x512 ![2, 0] w slices_S3x512_S1x512_2_0 : S1x512.Idx → EReal) (ix2 0 j) = w (ix2 2 j) := by
  pointwise
theorem gate_at (t : Fin 16384) (j : Fin 512) :
    (extractStridedSlice S16384x512 ![0, 0] p slices_S16384x1536_S16384x512_0_0 : S16384x512.Idx → EReal) (ix2 t j) = p (ix2 t (q0 j)) := by
  pointwise
  rfl

theorem lag0 (t : Fin 16384) (j : Fin 512) : lagE p 0 t j = uAt p t j := by
  unfold lagE
  rw [dif_pos (Nat.zero_le _)]
  rfl

theorem vR_at (t : Fin 16384) (j : Fin 512) :
    (vR p w : S16384x512.Idx → EReal) (ix2 t j) = cvE (fun e => p (ix2 t (q0 e))) (fun k e => w (ix2 k e)) (lagE p 2 t) (lagE p 1 t) (uAt p t) j := by
  refine congrArg₂ (· * ·) (gate_at p t j) (congrArg₂ (· + ·) (congrArg₂ (· + ·) ?_ ?_) ?_)
  · exact (congrArg₂ (· * ·) (set2_at p t j) ((tapR_at _ t j).trans (row0_at w j))).trans (mul_comm _ _)
  · exact (congrArg₂ (· * ·) (set1_at p t j) ((tapR_at _ t j).trans (row1_at w j))).trans (mul_comm _ _)
  · exact (congrArg₂ (· * ·) ((set0_at p t j).trans (lag0 p t j)) ((tapR_at _ t j).trans (row2_at w j))).trans (mul_comm _ _)

theorem sqR_at (x : FVec Ideal S16384x512 .f32) (g : FVec Ideal S1x512 .f32) (t : Fin 16384) (j : Fin 512) :
    (sqR x g : S16384x512.Idx → EReal) (ix2 t j) = rmsE (fun e => x (ix2 t e)) (fun e => g (ix2 0 e)) j := by
  pointwise [sqR]
  rfl
theorem right_at (t : Fin 16384) (j : Fin 512) : (sqR (vR p w) gc : S16384x512.Idx → EReal) (ix2 t j) = hC p w gc t j :=
  (sqR_at (vR p w) gc t j).trans (congrFun (congrArg (rmsE · (fun e => gc (ix2 0 e))) (funext fun e => vR_at p w t e)) j)

theorem mgR_at (t : Fin 16384) (k : Fin 1024) : (mgR x p w ga gc : S16384x1024.Idx → EReal) (ix2 t k) = hM x p w ga gc t k := by
  unfold mgR hM mgE
  have hk := k.isLt
  by_cases h : k.val < 512
  · rw [dif_pos h]
    exact (concatenate_pair_apply_left (t := S16384x1024) (s₁ := S16384x512) (s₂ := S16384x512) 1 _ _ _ (ix2 t k) rfl (ix2 t ⟨k.val, h⟩) (fun a => by fin_cases a <;> rfl)).trans
      (sqR_at x ga t _)
  · rw [dif_neg h]
    exact (concatenate_pair_apply_right (t := S16384x1024) (s₁ := S16384x512) (s₂ := S16384x512) 1 _ _ _ (ix2 t k) rfl rfl (ix2 t ⟨k.val - 512, by omega⟩)
      (fun a ha => by fin_cases a <;> first | rfl | exact absurd rfl ha) (show k.val - 512 + 512 = k.val by omega)).trans (right_at p w gc t _)

theorem sumR_at (t : Fin 16384) (d : Fin 1024) : (sumR x p w ga gc y g b W : S16384x1024.Idx → EReal) (ix2 t d) = hS x p w ga gc y g b W t d := by
  pointwise [sumR]
  simp only [nR_at, mgR_at]
  rfl

theorem centred (t : Fin 16384) (d : Fin 1024) : (cR (sumR x p w ga gc y g b W) : S16384x1024.Idx → EReal) (ix2 t d) = cenE (hS x p w ga gc y g b W t) d := by
  rw [cR_at, mR_at]
  simp only [sumR_at]
  rfl
theorem scaled (t : Fin 16384) : (dR (sumR x p w ga gc y g b W) : S16384x1.Idx → EReal) (ix2 t 0) = devE (hS x p w ga gc y g b W t) := by
  rw [dR_at]
  simp only [centred]
  rfl

theorem res_m : (truncf .bf16 (mgR x p w ga gc) bitsLt_bf16_f32 : S16384x1024.Idx → EReal) = rM x p w ga gc := by
  funext i
  have hi' : i = ix2 (i 0 : Fin 16384) (i 1 : Fin 1024) := by funext a; fin_cases a <;> rfl
  rw [hi']
  exact mgR_at x p w ga gc (i 0) (i 1)
theorem res_x : (hR (sumR x p w ga gc y g b W) : S16384x1024.Idx → EReal) = rX x p w ga gc y g b W := by
  funext i
  have hi' : i = ix2 (i 0 : Fin 16384) (i 1 : Fin 1024) := by funext a; fin_cases a <;> rfl
  rw [hi']
  exact (hR_at _ (i 0) (i 1)).trans (congrArg₂ (· * ·) (centred x p w ga gc y g b W (i 0) (i 1)) (scaled x p w ga gc y g b W (i 0)))
theorem res_s : (dR (sumR x p w ga gc y g b W) : S16384x1.Idx → EReal) = rS x p w ga gc y g b W := by
  funext i
  have hi' : i = ix2 (i 0 : Fin 16384) (0 : Fin 1) := by
    funext a
    fin_cases a
    · rfl
    · exact Subsingleton.elim (α := Fin 1) _ _
  rw [hi']
  exact scaled x p w ga gc y g b W (i 0)

end Cert.Reference10Ideal.Hand

namespace Cert.Proof

open Idealize.ShloMosaic Idealize.ShloMosaic.TcCoe Idealize.SL.Sem
open Cert.Kernel10Ideal.Hand (rM rX rS)

section Kernel

open Cert.Kernel10Ideal Cert.Kernel10Ideal.Hand

variable (m : (ℓ : Loc nD τ sig) → Buf (Elt Ideal) ℓ) (ρ : Dev nD → PrngReg)

theorem kernel10_run :
    θ_run (defs (F := Ideal)) (onTc (τ := τ) (main (F := Ideal))) ⟨m, fun _ => 0, ρ⟩ (fun r => ∀ c : Dev nD,
      r.2.mem ((c.tc : Thread nD τ).loc main_v1_0) = kM m c
      ∧ r.2.mem ((c.tc : Thread nD τ).loc main_v1_1) = kX m c
      ∧ r.2.mem ((c.tc : Thread nD τ).loc main_v1_2) = kS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c).1.trans (final10 m c),
      (h c).2.1.trans (final11 m c),
      (h c).2.2.1.trans (final12 m c),
      (h c).2.2.2⟩)
    (Value.run_blocks (F := Ideal) m ρ)

end Kernel

section Reference

open Cert.Reference10Ideal Cert.Reference10Ideal.Gen Cert.Reference10Ideal.Value Cert.Reference10Ideal.Hand
open Cert.Reference6Ideal.Hand (dR hR)

variable (m : (ℓ : Loc nD τ sig) → Buf (Elt Ideal) ℓ) (ρ : Dev nD → PrngReg) (c : Dev nD)

abbrev ref10_0 : FVec Ideal S16384x512 .f32 := m ((c.tc : Thread nD τ).loc main_arg0)
abbrev ref10_1 : FVec Ideal S16384x1536 .f32 := m ((c.tc : Thread nD τ).loc main_arg1)
abbrev ref10_2 : FVec Ideal S3x512 .f32 := m ((c.tc : Thread nD τ).loc main_arg2)
abbrev ref10_3 : FVec Ideal S1x512 .f32 := m ((c.tc : Thread nD τ).loc main_arg3)
abbrev ref10_4 : FVec Ideal S1x512 .f32 := m ((c.tc : Thread nD τ).loc main_arg4)
abbrev ref10_5 : FVec Ideal S16384x1024 .f32 := m ((c.tc : Thread nD τ).loc main_arg5)
abbrev ref10_6 : FVec Ideal S1x1024 .f32 := m ((c.tc : Thread nD τ).loc main_arg6)
abbrev ref10_7 : FVec Ideal S1x1024 .f32 := m ((c.tc : Thread nD τ).loc main_arg7)
abbrev ref10_8 : FVec Ideal S1024x1024 .f32 := m ((c.tc : Thread nD τ).loc main_arg8)

theorem ref10_m : res_main_v73 m c = (truncf .bf16 (mgR (ref10_0 m c) (ref10_1 m c) (ref10_2 m c) (ref10_3 m c) (ref10_4 m c)) bitsLt_bf16_f32 : FVec Ideal S16384x1024 .bf16) := by
  unfold res_main_v73
  rfl
theorem ref10_x : res_main_v75 m c = hR (sumR (ref10_0 m c) (ref10_1 m c) (ref10_2 m c) (ref10_3 m c) (ref10_4 m c) (ref10_5 m c) (ref10_6 m c) (ref10_7 m c) (ref10_8 m c)) := by
  unfold res_main_v75
  rfl
theorem ref10_s : res_main_v72 m c = dR (sumR (ref10_0 m c) (ref10_1 m c) (ref10_2 m c) (ref10_3 m c) (ref10_4 m c) (ref10_5 m c) (ref10_6 m c) (ref10_7 m c) (ref10_8 m c)) := by
  unfold res_main_v72
  rfl

theorem reference10_run :
    θ_run (defs (F := Ideal)) (onTc (τ := τ) (main (F := Ideal))) ⟨m, fun _ => 0, ρ⟩ (fun r => ∀ c : Dev nD,
      r.2.mem ((c.tc : Thread nD τ).loc main_v73) = rM (ref10_0 m c) (ref10_1 m c) (ref10_2 m c) (ref10_3 m c) (ref10_4 m c)
      ∧ r.2.mem ((c.tc : Thread nD τ).loc main_v75) = rX (ref10_0 m c) (ref10_1 m c) (ref10_2 m c) (ref10_3 m c) (ref10_4 m c) (ref10_5 m c) (ref10_6 m c) (ref10_7 m c) (ref10_8 m c)
      ∧ r.2.mem ((c.tc : Thread nD τ).loc main_v72) = rS (ref10_0 m c) (ref10_1 m c) (ref10_2 m c) (ref10_3 m c) (ref10_4 m c) (ref10_5 m c) (ref10_6 m c) (ref10_7 m c) (ref10_8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c).1.trans ((ref10_m m c).trans (res_m _ _ _ _ _)),
      (h c).2.1.trans ((ref10_x m c).trans (res_x _ _ _ _ _ _ _ _ _)),
      (h c).2.2.1.trans ((ref10_s m c).trans (res_s _ _ _ _ _ _ _ _ _)),
      (h c).2.2.2⟩)
    (Value.run (F := Ideal) m ρ)

end Reference

/-- From equal arguments the two programs end with equal results, whatever the arguments hold. -/
theorem algebraic10 : Cert.algebraic_Kernel10Ideal_Reference10Ideal := fun m g m' g' _ heq => by
  refine ⟨fun c => Cert.Kernel10Ideal.Hand.kM m c, fun c => Cert.Kernel10Ideal.Hand.kX m c, fun c => Cert.Kernel10Ideal.Hand.kS m c,
    kernel10_run m g, (θ_run Cert.Reference10Ideal.defs _ _).mono (fun r h c => ?_) (reference10_run m' g')⟩
  obtain ⟨e0, e1, e2, e3, e4, e5, e6, e7, e8⟩ := heq c
  obtain ⟨h0, h1, h2, hr⟩ := h c
  have f0 : ref10_0 m' c = Cert.Kernel10Ideal.Hand.a0 m c := e0
  have f1 : ref10_1 m' c = Cert.Kernel10Ideal.Hand.a1 m c := e1
  have f2 : ref10_2 m' c = Cert.Kernel10Ideal.Hand.a2 m c := e2
  have f3 : ref10_3 m' c = Cert.Kernel10Ideal.Hand.a3 m c := e3
  have f4 : ref10_4 m' c = Cert.Kernel10Ideal.Hand.a4 m c := e4
  have f5 : ref10_5 m' c = Cert.Kernel10Ideal.Hand.a5 m c := e5
  have f6 : ref10_6 m' c = Cert.Kernel10Ideal.Hand.a6 m c := e6
  have f7 : ref10_7 m' c = Cert.Kernel10Ideal.Hand.a7 m c := e7
  have f8 : ref10_8 m' c = Cert.Kernel10Ideal.Hand.a8 m c := e8
  rw [f0, f1, f2, f3, f4] at h0
  rw [f0, f1, f2, f3, f4, f5, f6, f7, f8] at h1 h2
  exact ⟨h0, h1, h2, hr⟩

end Cert.Proof

end
-- ==== Proof.lean ====
module

public import proofs.«01_k».proof.Defs
public import proofs.«01_k».proof.Proof.Alg
public import proofs.«01_k».proof.Proof.FfnAlg
public import proofs.«01_k».proof.Proof.FfnClaims
public import proofs.«01_k».proof.Proof.DwIn
public import proofs.«01_k».proof.Proof.DwOut
public import proofs.«01_k».proof.Proof.FwdRef
public import proofs.«01_k».proof.Proof.DwClaims
public import proofs.«01_k».proof.Proof.DwMix
public import proofs.«01_k».proof.Proof.DwGate
public import proofs.«01_k».proof.Proof.DwPle
public import proofs.«01_k».proof.Proof.MixRef
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Hand.facts, Cert.Pre_finite3.Hand.facts,
    frame_p, frame_pi, frame_pi_pre, frame_ri, frame_ri_pre,
    frame_p3, frame_pi3, frame_pi3_pre, frame_ri3, frame_ri3_pre,
    frame_p4, frame_pi4, frame_ri4, frame_p5, frame_pi5, frame_ri5, frame_p6, frame_pi6, frame_ri6,
    frame_p7, frame_pi7, frame_ri7, frame_p8, frame_pi8, frame_ri8, frame_p9, frame_pi9, frame_ri9,
    frame_p10, frame_pi10, frame_ri10,
    preserves, algebraic, trivial, algebraic3, trivial, algebraic4, trivial, algebraic5, trivial, algebraic6,
    trivial, algebraic7, trivial, algebraic8, trivial, algebraic9, trivial, algebraic10⟩

end Cert.Proof

end
